-- ==== Defs.lean ====
def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_MemN (m : (ℓ : Loc Cert.MemN.nD Cert.MemN.τ Cert.MemN.sig) → Buf (Elt Bits) ℓ) : Prop :=
  True

def Pre_MemNIdeal (m : (ℓ : Loc Cert.MemNIdeal.nD Cert.MemNIdeal.τ Cert.MemNIdeal.sig) → Buf (Elt Ideal) ℓ) : Prop :=
  True

def Pre_MemNRefIdeal (m : (ℓ : Loc Cert.MemNRefIdeal.nD Cert.MemNRefIdeal.τ Cert.MemNRefIdeal.sig) → Buf (Elt Ideal) ℓ) : Prop :=
  True

def Pre_FlashF (m : (ℓ : Loc Cert.FlashF.nD Cert.FlashF.τ Cert.FlashF.sig) → Buf (Elt Bits) ℓ) : Prop :=
  True

def Pre_FlashFIdeal (m : (ℓ : Loc Cert.FlashFIdeal.nD Cert.FlashFIdeal.τ Cert.FlashFIdeal.sig) → Buf (Elt Ideal) ℓ) : Prop :=
  True

def Pre_FlashFIdeal_flashf_finite [hPre_flashf_finite : Cert.Pre_flashf_finite.Facts] (m : (ℓ : Loc Cert.FlashFIdeal.nD Cert.FlashFIdeal.τ Cert.FlashFIdeal.sig) → Buf (Elt Ideal) ℓ) : Prop :=
  ∀ c : Dev Cert.FlashFIdeal.nD,
    (Cert.Pre_flashf_finite.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).1 = (fun _ => 1#1)
    ∧ (Cert.Pre_flashf_finite.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).2.1 = (fun _ => 1#1)
    ∧ (Cert.Pre_flashf_finite.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).2.2 = (fun _ => 1#1)

def Pre_FlashFRefIdeal (m : (ℓ : Loc Cert.FlashFRefIdeal.nD Cert.FlashFRefIdeal.τ Cert.FlashFRefIdeal.sig) → Buf (Elt Ideal) ℓ) : Prop :=
  True

def Pre_FlashFRefIdeal_flashf_finite [hPre_flashf_finite : Cert.Pre_flashf_finite.Facts] (m : (ℓ : Loc Cert.FlashFRefIdeal.nD Cert.FlashFRefIdeal.τ Cert.FlashFRefIdeal.sig) → Buf (Elt Ideal) ℓ) : Prop :=
  ∀ c : Dev Cert.FlashFRefIdeal.nD,
    (Cert.Pre_flashf_finite.fn (F := Ideal) (m ((c.tc : Thread Cert.FlashFRefIdeal.nD Cert.FlashFRefIdeal.τ).loc Cert.FlashFRefIdeal.main_arg0)) (m ((c.tc : Thread Cert.FlashFRefIdeal.nD Cert.FlashFRefIdeal.τ).loc Cert.FlashFRefIdeal.main_arg1)) (m ((c.tc : Thread Cert.FlashFRefIdeal.nD Cert.FlashFRefIdeal.τ).loc Cert.FlashFRefIdeal.main_arg2))).1 = (fun _ => 1#1)
    ∧ (Cert.Pre_flashf_finite.fn (F := Ideal) (m ((c.tc : Thread Cert.FlashFRefIdeal.nD Cert.FlashFRefIdeal.τ).loc Cert.FlashFRefIdeal.main_arg0)) (m ((c.tc : Thread Cert.FlashFRefIdeal.nD Cert.FlashFRefIdeal.τ).loc Cert.FlashFRefIdeal.main_arg1)) (m ((c.tc : Thread Cert.FlashFRefIdeal.nD Cert.FlashFRefIdeal.τ).loc Cert.FlashFRefIdeal.main_arg2))).2.1 = (fun _ => 1#1)
    ∧ (Cert.Pre_flashf_finite.fn (F := Ideal) (m ((c.tc : Thread Cert.FlashFRefIdeal.nD Cert.FlashFRefIdeal.τ).loc Cert.FlashFRefIdeal.main_arg0)) (m ((c.tc : Thread Cert.FlashFRefIdeal.nD Cert.FlashFRefIdeal.τ).loc Cert.FlashFRefIdeal.main_arg1)) (m ((c.tc : Thread Cert.FlashFRefIdeal.nD Cert.FlashFRefIdeal.τ).loc Cert.FlashFRefIdeal.main_arg2))).2.2 = (fun _ => 1#1)

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_ConvN (m : (ℓ : Loc Cert.ConvN.nD Cert.ConvN.τ Cert.ConvN.sig) → Buf (Elt Bits) ℓ) : Prop :=
  True

def Pre_ConvNIdeal (m : (ℓ : Loc Cert.ConvNIdeal.nD Cert.ConvNIdeal.τ Cert.ConvNIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_LoraN (m : (ℓ : Loc Cert.LoraN.nD Cert.LoraN.τ Cert.LoraN.sig) → Buf (Elt Bits) ℓ) : Prop :=
  True

def Pre_LoraNIdeal (m : (ℓ : Loc Cert.LoraNIdeal.nD Cert.LoraNIdeal.τ Cert.LoraNIdeal.sig) → Buf (Elt Ideal) ℓ) : Prop :=
  True

def Pre_MlaDo (m : (ℓ : Loc Cert.MlaDo.nD Cert.MlaDo.τ Cert.MlaDo.sig) → Buf (Elt Bits) ℓ) : Prop :=
  True

def Pre_MlaDoIdeal (m : (ℓ : Loc Cert.MlaDoIdeal.nD Cert.MlaDoIdeal.τ Cert.MlaDoIdeal.sig) → Buf (Elt Ideal) ℓ) : Prop :=
  True

def Pre_MlpDx (m : (ℓ : Loc Cert.MlpDx.nD Cert.MlpDx.τ Cert.MlpDx.sig) → Buf (Elt Bits) ℓ) : Prop :=
  True

def Pre_MlpDxIdeal (m : (ℓ : Loc Cert.MlpDxIdeal.nD Cert.MlpDxIdeal.τ Cert.MlpDxIdeal.sig) → Buf (Elt Ideal) ℓ) : Prop :=
  True

def Pre_XqDx (m : (ℓ : Loc Cert.XqDx.nD Cert.XqDx.τ Cert.XqDx.sig) → Buf (Elt Bits) ℓ) : Prop :=
  True

def Pre_XqDxIdeal (m : (ℓ : Loc Cert.XqDxIdeal.nD Cert.XqDxIdeal.τ Cert.XqDxIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_MemF (m : (ℓ : Loc Cert.MemF.nD Cert.MemF.τ Cert.MemF.sig) → Buf (Elt Bits) ℓ) : Prop :=
  True

def Pre_MemFIdeal (m : (ℓ : Loc Cert.MemFIdeal.nD Cert.MemFIdeal.τ Cert.MemFIdeal.sig) → Buf (Elt Ideal) ℓ) : Prop :=
  True

def Pre_MemFRefIdeal (m : (ℓ : Loc Cert.MemFRefIdeal.nD Cert.MemFRefIdeal.τ Cert.MemFRefIdeal.sig) → Buf (Elt Ideal) ℓ) : Prop :=
  True

def Pre_LoraF (m : (ℓ : Loc Cert.LoraF.nD Cert.LoraF.τ Cert.LoraF.sig) → Buf (Elt Bits) ℓ) : Prop :=
  True

def Pre_LoraFIdeal (m : (ℓ : Loc Cert.LoraFIdeal.nD Cert.LoraFIdeal.τ Cert.LoraFIdeal.sig) → Buf (Elt Ideal) ℓ) : Prop :=
  True

def Pre_LoraFRefIdeal (m : (ℓ : Loc Cert.LoraFRefIdeal.nD Cert.LoraFRefIdeal.τ Cert.LoraFRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_XOut (m : (ℓ : Loc Cert.XOut.nD Cert.XOut.τ Cert.XOut.sig) → Buf (Elt Bits) ℓ) : Prop :=
  True

def Pre_XOutIdeal (m : (ℓ : Loc Cert.XOutIdeal.nD Cert.XOutIdeal.τ Cert.XOutIdeal.sig) → Buf (Elt Ideal) ℓ) : Prop :=
  True

def Pre_XOutRefIdeal (m : (ℓ : Loc Cert.XOutRefIdeal.nD Cert.XOutRefIdeal.τ Cert.XOutRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_XqF (m : (ℓ : Loc Cert.XqF.nD Cert.XqF.τ Cert.XqF.sig) → Buf (Elt Bits) ℓ) : Prop :=
  True

def Pre_XqFIdeal (m : (ℓ : Loc Cert.XqFIdeal.nD Cert.XqFIdeal.τ Cert.XqFIdeal.sig) → Buf (Elt Ideal) ℓ) : Prop :=
  True

def Pre_XqFRefIdeal (m : (ℓ : Loc Cert.XqFRefIdeal.nD Cert.XqFRefIdeal.τ Cert.XqFRefIdeal.sig) → Buf (Elt Ideal) ℓ) : Prop :=
  True

def Pre_XattnF (m : (ℓ : Loc Cert.XattnF.nD Cert.XattnF.τ Cert.XattnF.sig) → Buf (Elt Bits) ℓ) : Prop :=
  True

def Pre_XattnFIdeal (m : (ℓ : Loc Cert.XattnFIdeal.nD Cert.XattnFIdeal.τ Cert.XattnFIdeal.sig) → Buf (Elt Ideal) ℓ) : Prop :=
  True

def Pre_XattnFRefIdeal (m : (ℓ : Loc Cert.XattnFRefIdeal.nD Cert.XattnFRefIdeal.τ Cert.XattnFRefIdeal.sig) → Buf (Elt Ideal) ℓ) : Prop :=
  True

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2))
      ∧ r.2.sem = fun _ => 0)

def quiescent_MemN [hMemN : Cert.MemN.Facts] : Prop :=
  ∀ (m : (ℓ : Loc Cert.MemN.nD Cert.MemN.τ Cert.MemN.sig) → Buf (Elt Bits) ℓ) (g : Dev Cert.MemN.nD → PrngReg), Pre_MemN m →
    θ_run (Cert.MemN.defs (F := Bits)) (onTc (τ := Cert.MemN.τ) (Cert.MemN.main (F := Bits))) ⟨m, fun _ => 0, g⟩ (fun r => (∀ c : Dev Cert.MemN.nD,
      r.2.mem ((c.tc : Thread Cert.MemN.nD Cert.MemN.τ).loc Cert.MemN.main_arg0) = m ((c.tc : Thread Cert.MemN.nD Cert.MemN.τ).loc Cert.MemN.main_arg0)
      ∧ r.2.mem ((c.tc : Thread Cert.MemN.nD Cert.MemN.τ).loc Cert.MemN.main_arg1) = m ((c.tc : Thread Cert.MemN.nD Cert.MemN.τ).loc Cert.MemN.main_arg1)
      ∧ r.2.mem ((c.tc : Thread Cert.MemN.nD Cert.MemN.τ).loc Cert.MemN.main_arg2) = m ((c.tc : Thread Cert.MemN.nD Cert.MemN.τ).loc Cert.MemN.main_arg2))
      ∧ r.2.sem = fun _ => 0)

def quiescent_MemNIdeal [hMemNIdeal : Cert.MemNIdeal.Facts] : Prop :=
  ∀ (m : (ℓ : Loc Cert.MemNIdeal.nD Cert.MemNIdeal.τ Cert.MemNIdeal.sig) → Buf (Elt Ideal) ℓ) (g : Dev Cert.MemNIdeal.nD → PrngReg), Pre_MemNIdeal m →
    θ_run (Cert.MemNIdeal.defs (F := Ideal)) (onTc (τ := Cert.MemNIdeal.τ) (Cert.MemNIdeal.main (F := Ideal))) ⟨m, fun _ => 0, g⟩ (fun r => (∀ c : Dev Cert.MemNIdeal.nD,
      r.2.mem ((c.tc : Thread Cert.MemNIdeal.nD Cert.MemNIdeal.τ).loc Cert.MemNIdeal.main_arg0) = m ((c.tc : Thread Cert.MemNIdeal.nD Cert.MemNIdeal.τ).loc Cert.MemNIdeal.main_arg0)
      ∧ r.2.mem ((c.tc : Thread Cert.MemNIdeal.nD Cert.MemNIdeal.τ).loc Cert.MemNIdeal.main_arg1) = m ((c.tc : Thread Cert.MemNIdeal.nD Cert.MemNIdeal.τ).loc Cert.MemNIdeal.main_arg1)
      ∧ r.2.mem ((c.tc : Thread Cert.MemNIdeal.nD Cert.MemNIdeal.τ).loc Cert.MemNIdeal.main_arg2) = m ((c.tc : Thread Cert.MemNIdeal.nD Cert.MemNIdeal.τ).loc Cert.MemNIdeal.main_arg2))
      ∧ r.2.sem = fun _ => 0)

def quiescent_MemNRefIdeal [hMemNRefIdeal : Cert.MemNRefIdeal.Facts] : Prop :=
  ∀ (m : (ℓ : Loc Cert.MemNRefIdeal.nD Cert.MemNRefIdeal.τ Cert.MemNRefIdeal.sig) → Buf (Elt Ideal) ℓ) (g : Dev Cert.MemNRefIdeal.nD → PrngReg), Pre_MemNRefIdeal m →
    θ_run (Cert.MemNRefIdeal.defs (F := Ideal)) (onTc (τ := Cert.MemNRefIdeal.τ) (Cert.MemNRefIdeal.main (F := Ideal))) ⟨m, fun _ => 0, g⟩ (fun r => (∀ c : Dev Cert.MemNRefIdeal.nD,
      r.2.mem ((c.tc : Thread Cert.MemNRefIdeal.nD Cert.MemNRefIdeal.τ).loc Cert.MemNRefIdeal.main_arg0) = m ((c.tc : Thread Cert.MemNRefIdeal.nD Cert.MemNRefIdeal.τ).loc Cert.MemNRefIdeal.main_arg0)
      ∧ r.2.mem ((c.tc : Thread Cert.MemNRefIdeal.nD Cert.MemNRefIdeal.τ).loc Cert.MemNRefIdeal.main_arg1) = m ((c.tc : Thread Cert.MemNRefIdeal.nD Cert.MemNRefIdeal.τ).loc Cert.MemNRefIdeal.main_arg1)
      ∧ r.2.mem ((c.tc : Thread Cert.MemNRefIdeal.nD Cert.MemNRefIdeal.τ).loc Cert.MemNRefIdeal.main_arg2) = m ((c.tc : Thread Cert.MemNRefIdeal.nD Cert.MemNRefIdeal.τ).loc Cert.MemNRefIdeal.main_arg2))
      ∧ r.2.sem = fun _ => 0)

def quiescent_FlashF [hFlashF : Cert.FlashF.Facts] : Prop :=
  ∀ (m : (ℓ : Loc Cert.FlashF.nD Cert.FlashF.τ Cert.FlashF.sig) → Buf (Elt Bits) ℓ) (g : Dev Cert.FlashF.nD → PrngReg), Pre_FlashF m →
    θ_run (Cert.FlashF.defs (F := Bits)) (onTc (τ := Cert.FlashF.τ) (Cert.FlashF.main (F := Bits))) ⟨m, fun _ => 0, g⟩ (fun r => (∀ c : Dev Cert.FlashF.nD,
      r.2.mem ((c.tc : Thread Cert.FlashF.nD Cert.FlashF.τ).loc Cert.FlashF.main_arg0) = m ((c.tc : Thread Cert.FlashF.nD Cert.FlashF.τ).loc Cert.FlashF.main_arg0)
      ∧ r.2.mem ((c.tc : Thread Cert.FlashF.nD Cert.FlashF.τ).loc Cert.FlashF.main_arg1) = m ((c.tc : Thread Cert.FlashF.nD Cert.FlashF.τ).loc Cert.FlashF.main_arg1)
      ∧ r.2.mem ((c.tc : Thread Cert.FlashF.nD Cert.FlashF.τ).loc Cert.FlashF.main_arg2) = m ((c.tc : Thread Cert.FlashF.nD Cert.FlashF.τ).loc Cert.FlashF.main_arg2))
      ∧ r.2.sem = fun _ => 0)

def quiescent_FlashFIdeal [hFlashFIdeal : Cert.FlashFIdeal.Facts] : Prop :=
  ∀ (m : (ℓ : Loc Cert.FlashFIdeal.nD Cert.FlashFIdeal.τ Cert.FlashFIdeal.sig) → Buf (Elt Ideal) ℓ) (g : Dev Cert.FlashFIdeal.nD → PrngReg), Pre_FlashFIdeal m →
    θ_run (Cert.FlashFIdeal.defs (F := Ideal)) (onTc (τ := Cert.FlashFIdeal.τ) (Cert.FlashFIdeal.main (F := Ideal))) ⟨m, fun _ => 0, g⟩ (fun r => (∀ c : Dev Cert.FlashFIdeal.nD,
      r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
      ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
      ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ r.2.sem = fun _ => 0)

def quiescent_FlashFIdeal_pre_flashf_finite [hFlashFIdeal : Cert.FlashFIdeal.Facts] [hPre_flashf_finite : Cert.Pre_flashf_finite.Facts] : Prop :=
  ∀ (m : (ℓ : Loc Cert.FlashFIdeal.nD Cert.FlashFIdeal.τ Cert.FlashFIdeal.sig) → Buf (Elt Ideal) ℓ) (g : Dev Cert.FlashFIdeal.nD → PrngReg), Pre_FlashFIdeal_flashf_finite m →
    θ_run (Cert.FlashFIdeal.defs (F := Ideal)) (onTc (τ := Cert.FlashFIdeal.τ) (Cert.FlashFIdeal.main (F := Ideal))) ⟨m, fun _ => 0, g⟩ (fun r => (∀ c : Dev Cert.FlashFIdeal.nD,
      r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
      ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
      ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ r.2.sem = fun _ => 0)

def quiescent_FlashFRefIdeal [hFlashFRefIdeal : Cert.FlashFRefIdeal.Facts] : Prop :=
  ∀ (m : (ℓ : Loc Cert.FlashFRefIdeal.nD Cert.FlashFRefIdeal.τ Cert.FlashFRefIdeal.sig) → Buf (Elt Ideal) ℓ) (g : Dev Cert.FlashFRefIdeal.nD → PrngReg), Pre_FlashFRefIdeal m →
    θ_run (Cert.FlashFRefIdeal.defs (F := Ideal)) (onTc (τ := Cert.FlashFRefIdeal.τ) (Cert.FlashFRefIdeal.main (F := Ideal))) ⟨m, fun _ => 0, g⟩ (fun r => (∀ c : Dev Cert.FlashFRefIdeal.nD,
      r.2.mem ((c.tc : Thread Cert.FlashFRefIdeal.nD Cert.FlashFRefIdeal.τ).loc Cert.FlashFRefIdeal.main_arg0) = m ((c.tc : Thread Cert.FlashFRefIdeal.nD Cert.FlashFRefIdeal.τ).loc Cert.FlashFRefIdeal.main_arg0)
      ∧ r.2.mem ((c.tc : Thread Cert.FlashFRefIdeal.nD Cert.FlashFRefIdeal.τ).loc Cert.FlashFRefIdeal.main_arg1) = m ((c.tc : Thread Cert.FlashFRefIdeal.nD Cert.FlashFRefIdeal.τ).loc Cert.FlashFRefIdeal.main_arg1)
      ∧ r.2.mem ((c.tc : Thread Cert.FlashFRefIdeal.nD Cert.FlashFRefIdeal.τ).loc Cert.FlashFRefIdeal.main_arg2) = m ((c.tc : Thread Cert.FlashFRefIdeal.nD Cert.FlashFRefIdeal.τ).loc Cert.FlashFRefIdeal.main_arg2))
      ∧ r.2.sem = fun _ => 0)

def quiescent_FlashFRefIdeal_pre_flashf_finite [hFlashFRefIdeal : Cert.FlashFRefIdeal.Facts] [hPre_flashf_finite : Cert.Pre_flashf_finite.Facts] : Prop :=
  ∀ (m : (ℓ : Loc Cert.FlashFRefIdeal.nD Cert.FlashFRefIdeal.τ Cert.FlashFRefIdeal.sig) → Buf (Elt Ideal) ℓ) (g : Dev Cert.FlashFRefIdeal.nD → PrngReg), Pre_FlashFRefIdeal_flashf_finite m →
    θ_run (Cert.FlashFRefIdeal.defs (F := Ideal)) (onTc (τ := Cert.FlashFRefIdeal.τ) (Cert.FlashFRefIdeal.main (F := Ideal))) ⟨m, fun _ => 0, g⟩ (fun r => (∀ c : Dev Cert.FlashFRefIdeal.nD,
      r.2.mem ((c.tc : Thread Cert.FlashFRefIdeal.nD Cert.FlashFRefIdeal.τ).loc Cert.FlashFRefIdeal.main_arg0) = m ((c.tc : Thread Cert.FlashFRefIdeal.nD Cert.FlashFRefIdeal.τ).loc Cert.FlashFRefIdeal.main_arg0)
      ∧ r.2.mem ((c.tc : Thread Cert.FlashFRefIdeal.nD Cert.FlashFRefIdeal.τ).loc Cert.FlashFRefIdeal.main_arg1) = m ((c.tc : Thread Cert.FlashFRefIdeal.nD Cert.FlashFRefIdeal.τ).loc Cert.FlashFRefIdeal.main_arg1)
      ∧ r.2.mem ((c.tc : Thread Cert.FlashFRefIdeal.nD Cert.FlashFRefIdeal.τ).loc Cert.FlashFRefIdeal.main_arg2) = m ((c.tc : Thread Cert.FlashFRefIdeal.nD Cert.FlashFRefIdeal.τ).loc Cert.FlashFRefIdeal.main_arg2))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2)
      ∧ r.2.mem ((c.tc : Thread Cert.Taps.nD Cert.Taps.τ).loc Cert.Taps.main_arg3) = m ((c.tc : Thread Cert.Taps.nD Cert.Taps.τ).loc Cert.Taps.main_arg3))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3))
      ∧ r.2.sem = fun _ => 0)

def quiescent_ConvN [hConvN : Cert.ConvN.Facts] : Prop :=
  ∀ (m : (ℓ : Loc Cert.ConvN.nD Cert.ConvN.τ Cert.ConvN.sig) → Buf (Elt Bits) ℓ) (g : Dev Cert.ConvN.nD → PrngReg), Pre_ConvN m →
    θ_run (Cert.ConvN.defs (F := Bits)) (onTc (τ := Cert.ConvN.τ) (Cert.ConvN.main (F := Bits))) ⟨m, fun _ => 0, g⟩ (fun r => (∀ c : Dev Cert.ConvN.nD,
      r.2.mem ((c.tc : Thread Cert.ConvN.nD Cert.ConvN.τ).loc Cert.ConvN.main_arg0) = m ((c.tc : Thread Cert.ConvN.nD Cert.ConvN.τ).loc Cert.ConvN.main_arg0)
      ∧ r.2.mem ((c.tc : Thread Cert.ConvN.nD Cert.ConvN.τ).loc Cert.ConvN.main_arg1) = m ((c.tc : Thread Cert.ConvN.nD Cert.ConvN.τ).loc Cert.ConvN.main_arg1)
      ∧ r.2.mem ((c.tc : Thread Cert.ConvN.nD Cert.ConvN.τ).loc Cert.ConvN.main_arg2) = m ((c.tc : Thread Cert.ConvN.nD Cert.ConvN.τ).loc Cert.ConvN.main_arg2)
      ∧ r.2.mem ((c.tc : Thread Cert.ConvN.nD Cert.ConvN.τ).loc Cert.ConvN.main_arg3) = m ((c.tc : Thread Cert.ConvN.nD Cert.ConvN.τ).loc Cert.ConvN.main_arg3)
      ∧ r.2.mem ((c.tc : Thread Cert.ConvN.nD Cert.ConvN.τ).loc Cert.ConvN.main_arg4) = m ((c.tc : Thread Cert.ConvN.nD Cert.ConvN.τ).loc Cert.ConvN.main_arg4)
      ∧ r.2.mem ((c.tc : Thread Cert.ConvN.nD Cert.ConvN.τ).loc Cert.ConvN.main_arg5) = m ((c.tc : Thread Cert.ConvN.nD Cert.ConvN.τ).loc Cert.ConvN.main_arg5))
      ∧ r.2.sem = fun _ => 0)

def quiescent_ConvNIdeal [hConvNIdeal : Cert.ConvNIdeal.Facts] : Prop :=
  ∀ (m : (ℓ : Loc Cert.ConvNIdeal.nD Cert.ConvNIdeal.τ Cert.ConvNIdeal.sig) → Buf (Elt Ideal) ℓ) (g : Dev Cert.ConvNIdeal.nD → PrngReg), Pre_ConvNIdeal m →
    θ_run (Cert.ConvNIdeal.defs (F := Ideal)) (onTc (τ := Cert.ConvNIdeal.τ) (Cert.ConvNIdeal.main (F := Ideal))) ⟨m, fun _ => 0, g⟩ (fun r => (∀ c : Dev Cert.ConvNIdeal.nD,
      r.2.mem ((c.tc : Thread Cert.ConvNIdeal.nD Cert.ConvNIdeal.τ).loc Cert.ConvNIdeal.main_arg0) = m ((c.tc : Thread Cert.ConvNIdeal.nD Cert.ConvNIdeal.τ).loc Cert.ConvNIdeal.main_arg0)
      ∧ r.2.mem ((c.tc : Thread Cert.ConvNIdeal.nD Cert.ConvNIdeal.τ).loc Cert.ConvNIdeal.main_arg1) = m ((c.tc : Thread Cert.ConvNIdeal.nD Cert.ConvNIdeal.τ).loc Cert.ConvNIdeal.main_arg1)
      ∧ r.2.mem ((c.tc : Thread Cert.ConvNIdeal.nD Cert.ConvNIdeal.τ).loc Cert.ConvNIdeal.main_arg2) = m ((c.tc : Thread Cert.ConvNIdeal.nD Cert.ConvNIdeal.τ).loc Cert.ConvNIdeal.main_arg2)
      ∧ r.2.mem ((c.tc : Thread Cert.ConvNIdeal.nD Cert.ConvNIdeal.τ).loc Cert.ConvNIdeal.main_arg3) = m ((c.tc : Thread Cert.ConvNIdeal.nD Cert.ConvNIdeal.τ).loc Cert.ConvNIdeal.main_arg3)
      ∧ r.2.mem ((c.tc : Thread Cert.ConvNIdeal.nD Cert.ConvNIdeal.τ).loc Cert.ConvNIdeal.main_arg4) = m ((c.tc : Thread Cert.ConvNIdeal.nD Cert.ConvNIdeal.τ).loc Cert.ConvNIdeal.main_arg4)
      ∧ r.2.mem ((c.tc : Thread Cert.ConvNIdeal.nD Cert.ConvNIdeal.τ).loc Cert.ConvNIdeal.main_arg5) = m ((c.tc : Thread Cert.ConvNIdeal.nD Cert.ConvNIdeal.τ).loc Cert.ConvNIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_LoraN [hLoraN : Cert.LoraN.Facts] : Prop :=
  ∀ (m : (ℓ : Loc Cert.LoraN.nD Cert.LoraN.τ Cert.LoraN.sig) → Buf (Elt Bits) ℓ) (g : Dev Cert.LoraN.nD → PrngReg), Pre_LoraN m →
    θ_run (Cert.LoraN.defs (F := Bits)) (onTc (τ := Cert.LoraN.τ) (Cert.LoraN.main (F := Bits))) ⟨m, fun _ => 0, g⟩ (fun r => (∀ c : Dev Cert.LoraN.nD,
      r.2.mem ((c.tc : Thread Cert.LoraN.nD Cert.LoraN.τ).loc Cert.LoraN.main_arg0) = m ((c.tc : Thread Cert.LoraN.nD Cert.LoraN.τ).loc Cert.LoraN.main_arg0)
      ∧ r.2.mem ((c.tc : Thread Cert.LoraN.nD Cert.LoraN.τ).loc Cert.LoraN.main_arg1) = m ((c.tc : Thread Cert.LoraN.nD Cert.LoraN.τ).loc Cert.LoraN.main_arg1)
      ∧ r.2.mem ((c.tc : Thread Cert.LoraN.nD Cert.LoraN.τ).loc Cert.LoraN.main_arg2) = m ((c.tc : Thread Cert.LoraN.nD Cert.LoraN.τ).loc Cert.LoraN.main_arg2)
      ∧ r.2.mem ((c.tc : Thread Cert.LoraN.nD Cert.LoraN.τ).loc Cert.LoraN.main_arg3) = m ((c.tc : Thread Cert.LoraN.nD Cert.LoraN.τ).loc Cert.LoraN.main_arg3)
      ∧ r.2.mem ((c.tc : Thread Cert.LoraN.nD Cert.LoraN.τ).loc Cert.LoraN.main_arg4) = m ((c.tc : Thread Cert.LoraN.nD Cert.LoraN.τ).loc Cert.LoraN.main_arg4)
      ∧ r.2.mem ((c.tc : Thread Cert.LoraN.nD Cert.LoraN.τ).loc Cert.LoraN.main_arg5) = m ((c.tc : Thread Cert.LoraN.nD Cert.LoraN.τ).loc Cert.LoraN.main_arg5)
      ∧ r.2.mem ((c.tc : Thread Cert.LoraN.nD Cert.LoraN.τ).loc Cert.LoraN.main_arg6) = m ((c.tc : Thread Cert.LoraN.nD Cert.LoraN.τ).loc Cert.LoraN.main_arg6)
      ∧ r.2.mem ((c.tc : Thread Cert.LoraN.nD Cert.LoraN.τ).loc Cert.LoraN.main_arg7) = m ((c.tc : Thread Cert.LoraN.nD Cert.LoraN.τ).loc Cert.LoraN.main_arg7))
      ∧ r.2.sem = fun _ => 0)

def quiescent_LoraNIdeal [hLoraNIdeal : Cert.LoraNIdeal.Facts] : Prop :=
  ∀ (m : (ℓ : Loc Cert.LoraNIdeal.nD Cert.LoraNIdeal.τ Cert.LoraNIdeal.sig) → Buf (Elt Ideal) ℓ) (g : Dev Cert.LoraNIdeal.nD → PrngReg), Pre_LoraNIdeal m →
    θ_run (Cert.LoraNIdeal.defs (F := Ideal)) (onTc (τ := Cert.LoraNIdeal.τ) (Cert.LoraNIdeal.main (F := Ideal))) ⟨m, fun _ => 0, g⟩ (fun r => (∀ c : Dev Cert.LoraNIdeal.nD,
      r.2.mem ((c.tc : Thread Cert.LoraNIdeal.nD Cert.LoraNIdeal.τ).loc Cert.LoraNIdeal.main_arg0) = m ((c.tc : Thread Cert.LoraNIdeal.nD Cert.LoraNIdeal.τ).loc Cert.LoraNIdeal.main_arg0)
      ∧ r.2.mem ((c.tc : Thread Cert.LoraNIdeal.nD Cert.LoraNIdeal.τ).loc Cert.LoraNIdeal.main_arg1) = m ((c.tc : Thread Cert.LoraNIdeal.nD Cert.LoraNIdeal.τ).loc Cert.LoraNIdeal.main_arg1)
      ∧ r.2.mem ((c.tc : Thread Cert.LoraNIdeal.nD Cert.LoraNIdeal.τ).loc Cert.LoraNIdeal.main_arg2) = m ((c.tc : Thread Cert.LoraNIdeal.nD Cert.LoraNIdeal.τ).loc Cert.LoraNIdeal.main_arg2)
      ∧ r.2.mem ((c.tc : Thread Cert.LoraNIdeal.nD Cert.LoraNIdeal.τ).loc Cert.LoraNIdeal.main_arg3) = m ((c.tc : Thread Cert.LoraNIdeal.nD Cert.LoraNIdeal.τ).loc Cert.LoraNIdeal.main_arg3)
      ∧ r.2.mem ((c.tc : Thread Cert.LoraNIdeal.nD Cert.LoraNIdeal.τ).loc Cert.LoraNIdeal.main_arg4) = m ((c.tc : Thread Cert.LoraNIdeal.nD Cert.LoraNIdeal.τ).loc Cert.LoraNIdeal.main_arg4)
      ∧ r.2.mem ((c.tc : Thread Cert.LoraNIdeal.nD Cert.LoraNIdeal.τ).loc Cert.LoraNIdeal.main_arg5) = m ((c.tc : Thread Cert.LoraNIdeal.nD Cert.LoraNIdeal.τ).loc Cert.LoraNIdeal.main_arg5)
      ∧ r.2.mem ((c.tc : Thread Cert.LoraNIdeal.nD Cert.LoraNIdeal.τ).loc Cert.LoraNIdeal.main_arg6) = m ((c.tc : Thread Cert.LoraNIdeal.nD Cert.LoraNIdeal.τ).loc Cert.LoraNIdeal.main_arg6)
      ∧ r.2.mem ((c.tc : Thread Cert.LoraNIdeal.nD Cert.LoraNIdeal.τ).loc Cert.LoraNIdeal.main_arg7) = m ((c.tc : Thread Cert.LoraNIdeal.nD Cert.LoraNIdeal.τ).loc Cert.LoraNIdeal.main_arg7))
      ∧ r.2.sem = fun _ => 0)

def quiescent_MlaDo [hMlaDo : Cert.MlaDo.Facts] : Prop :=
  ∀ (m : (ℓ : Loc Cert.MlaDo.nD Cert.MlaDo.τ Cert.MlaDo.sig) → Buf (Elt Bits) ℓ) (g : Dev Cert.MlaDo.nD → PrngReg), Pre_MlaDo m →
    θ_run (Cert.MlaDo.defs (F := Bits)) (onTc (τ := Cert.MlaDo.τ) (Cert.MlaDo.main (F := Bits))) ⟨m, fun _ => 0, g⟩ (fun r => (∀ c : Dev Cert.MlaDo.nD,
      r.2.mem ((c.tc : Thread Cert.MlaDo.nD Cert.MlaDo.τ).loc Cert.MlaDo.main_arg0) = m ((c.tc : Thread Cert.MlaDo.nD Cert.MlaDo.τ).loc Cert.MlaDo.main_arg0)
      ∧ r.2.mem ((c.tc : Thread Cert.MlaDo.nD Cert.MlaDo.τ).loc Cert.MlaDo.main_arg1) = m ((c.tc : Thread Cert.MlaDo.nD Cert.MlaDo.τ).loc Cert.MlaDo.main_arg1)
      ∧ r.2.mem ((c.tc : Thread Cert.MlaDo.nD Cert.MlaDo.τ).loc Cert.MlaDo.main_arg2) = m ((c.tc : Thread Cert.MlaDo.nD Cert.MlaDo.τ).loc Cert.MlaDo.main_arg2))
      ∧ r.2.sem = fun _ => 0)

def quiescent_MlaDoIdeal [hMlaDoIdeal : Cert.MlaDoIdeal.Facts] : Prop :=
  ∀ (m : (ℓ : Loc Cert.MlaDoIdeal.nD Cert.MlaDoIdeal.τ Cert.MlaDoIdeal.sig) → Buf (Elt Ideal) ℓ) (g : Dev Cert.MlaDoIdeal.nD → PrngReg), Pre_MlaDoIdeal m →
    θ_run (Cert.MlaDoIdeal.defs (F := Ideal)) (onTc (τ := Cert.MlaDoIdeal.τ) (Cert.MlaDoIdeal.main (F := Ideal))) ⟨m, fun _ => 0, g⟩ (fun r => (∀ c : Dev Cert.MlaDoIdeal.nD,
      r.2.mem ((c.tc : Thread Cert.MlaDoIdeal.nD Cert.MlaDoIdeal.τ).loc Cert.MlaDoIdeal.main_arg0) = m ((c.tc : Thread Cert.MlaDoIdeal.nD Cert.MlaDoIdeal.τ).loc Cert.MlaDoIdeal.main_arg0)
      ∧ r.2.mem ((c.tc : Thread Cert.MlaDoIdeal.nD Cert.MlaDoIdeal.τ).loc Cert.MlaDoIdeal.main_arg1) = m ((c.tc : Thread Cert.MlaDoIdeal.nD Cert.MlaDoIdeal.τ).loc Cert.MlaDoIdeal.main_arg1)
      ∧ r.2.mem ((c.tc : Thread Cert.MlaDoIdeal.nD Cert.MlaDoIdeal.τ).loc Cert.MlaDoIdeal.main_arg2) = m ((c.tc : Thread Cert.MlaDoIdeal.nD Cert.MlaDoIdeal.τ).loc Cert.MlaDoIdeal.main_arg2))
      ∧ r.2.sem = fun _ => 0)

def quiescent_MlpDx [hMlpDx : Cert.MlpDx.Facts] : Prop :=
  ∀ (m : (ℓ : Loc Cert.MlpDx.nD Cert.MlpDx.τ Cert.MlpDx.sig) → Buf (Elt Bits) ℓ) (g : Dev Cert.MlpDx.nD → PrngReg), Pre_MlpDx m →
    θ_run (Cert.MlpDx.defs (F := Bits)) (onTc (τ := Cert.MlpDx.τ) (Cert.MlpDx.main (F := Bits))) ⟨m, fun _ => 0, g⟩ (fun r => (∀ c : Dev Cert.MlpDx.nD,
      r.2.mem ((c.tc : Thread Cert.MlpDx.nD Cert.MlpDx.τ).loc Cert.MlpDx.main_arg0) = m ((c.tc : Thread Cert.MlpDx.nD Cert.MlpDx.τ).loc Cert.MlpDx.main_arg0)
      ∧ r.2.mem ((c.tc : Thread Cert.MlpDx.nD Cert.MlpDx.τ).loc Cert.MlpDx.main_arg1) = m ((c.tc : Thread Cert.MlpDx.nD Cert.MlpDx.τ).loc Cert.MlpDx.main_arg1)
      ∧ r.2.mem ((c.tc : Thread Cert.MlpDx.nD Cert.MlpDx.τ).loc Cert.MlpDx.main_arg2) = m ((c.tc : Thread Cert.MlpDx.nD Cert.MlpDx.τ).loc Cert.MlpDx.main_arg2)
      ∧ r.2.mem ((c.tc : Thread Cert.MlpDx.nD Cert.MlpDx.τ).loc Cert.MlpDx.main_arg3) = m ((c.tc : Thread Cert.MlpDx.nD Cert.MlpDx.τ).loc Cert.MlpDx.main_arg3)
      ∧ r.2.mem ((c.tc : Thread Cert.MlpDx.nD Cert.MlpDx.τ).loc Cert.MlpDx.main_arg4) = m ((c.tc : Thread Cert.MlpDx.nD Cert.MlpDx.τ).loc Cert.MlpDx.main_arg4))
      ∧ r.2.sem = fun _ => 0)

def quiescent_MlpDxIdeal [hMlpDxIdeal : Cert.MlpDxIdeal.Facts] : Prop :=
  ∀ (m : (ℓ : Loc Cert.MlpDxIdeal.nD Cert.MlpDxIdeal.τ Cert.MlpDxIdeal.sig) → Buf (Elt Ideal) ℓ) (g : Dev Cert.MlpDxIdeal.nD → PrngReg), Pre_MlpDxIdeal m →
    θ_run (Cert.MlpDxIdeal.defs (F := Ideal)) (onTc (τ := Cert.MlpDxIdeal.τ) (Cert.MlpDxIdeal.main (F := Ideal))) ⟨m, fun _ => 0, g⟩ (fun r => (∀ c : Dev Cert.MlpDxIdeal.nD,
      r.2.mem ((c.tc : Thread Cert.MlpDxIdeal.nD Cert.MlpDxIdeal.τ).loc Cert.MlpDxIdeal.main_arg0) = m ((c.tc : Thread Cert.MlpDxIdeal.nD Cert.MlpDxIdeal.τ).loc Cert.MlpDxIdeal.main_arg0)
      ∧ r.2.mem ((c.tc : Thread Cert.MlpDxIdeal.nD Cert.MlpDxIdeal.τ).loc Cert.MlpDxIdeal.main_arg1) = m ((c.tc : Thread Cert.MlpDxIdeal.nD Cert.MlpDxIdeal.τ).loc Cert.MlpDxIdeal.main_arg1)
      ∧ r.2.mem ((c.tc : Thread Cert.MlpDxIdeal.nD Cert.MlpDxIdeal.τ).loc Cert.MlpDxIdeal.main_arg2) = m ((c.tc : Thread Cert.MlpDxIdeal.nD Cert.MlpDxIdeal.τ).loc Cert.MlpDxIdeal.main_arg2)
      ∧ r.2.mem ((c.tc : Thread Cert.MlpDxIdeal.nD Cert.MlpDxIdeal.τ).loc Cert.MlpDxIdeal.main_arg3) = m ((c.tc : Thread Cert.MlpDxIdeal.nD Cert.MlpDxIdeal.τ).loc Cert.MlpDxIdeal.main_arg3)
      ∧ r.2.mem ((c.tc : Thread Cert.MlpDxIdeal.nD Cert.MlpDxIdeal.τ).loc Cert.MlpDxIdeal.main_arg4) = m ((c.tc : Thread Cert.MlpDxIdeal.nD Cert.MlpDxIdeal.τ).loc Cert.MlpDxIdeal.main_arg4))
      ∧ r.2.sem = fun _ => 0)

def quiescent_XqDx [hXqDx : Cert.XqDx.Facts] : Prop :=
  ∀ (m : (ℓ : Loc Cert.XqDx.nD Cert.XqDx.τ Cert.XqDx.sig) → Buf (Elt Bits) ℓ) (g : Dev Cert.XqDx.nD → PrngReg), Pre_XqDx m →
    θ_run (Cert.XqDx.defs (F := Bits)) (onTc (τ := Cert.XqDx.τ) (Cert.XqDx.main (F := Bits))) ⟨m, fun _ => 0, g⟩ (fun r => (∀ c : Dev Cert.XqDx.nD,
      r.2.mem ((c.tc : Thread Cert.XqDx.nD Cert.XqDx.τ).loc Cert.XqDx.main_arg0) = m ((c.tc : Thread Cert.XqDx.nD Cert.XqDx.τ).loc Cert.XqDx.main_arg0)
      ∧ r.2.mem ((c.tc : Thread Cert.XqDx.nD Cert.XqDx.τ).loc Cert.XqDx.main_arg1) = m ((c.tc : Thread Cert.XqDx.nD Cert.XqDx.τ).loc Cert.XqDx.main_arg1)
      ∧ r.2.mem ((c.tc : Thread Cert.XqDx.nD Cert.XqDx.τ).loc Cert.XqDx.main_arg2) = m ((c.tc : Thread Cert.XqDx.nD Cert.XqDx.τ).loc Cert.XqDx.main_arg2)
      ∧ r.2.mem ((c.tc : Thread Cert.XqDx.nD Cert.XqDx.τ).loc Cert.XqDx.main_arg3) = m ((c.tc : Thread Cert.XqDx.nD Cert.XqDx.τ).loc Cert.XqDx.main_arg3)
      ∧ r.2.mem ((c.tc : Thread Cert.XqDx.nD Cert.XqDx.τ).loc Cert.XqDx.main_arg4) = m ((c.tc : Thread Cert.XqDx.nD Cert.XqDx.τ).loc Cert.XqDx.main_arg4))
      ∧ r.2.sem = fun _ => 0)

def quiescent_XqDxIdeal [hXqDxIdeal : Cert.XqDxIdeal.Facts] : Prop :=
  ∀ (m : (ℓ : Loc Cert.XqDxIdeal.nD Cert.XqDxIdeal.τ Cert.XqDxIdeal.sig) → Buf (Elt Ideal) ℓ) (g : Dev Cert.XqDxIdeal.nD → PrngReg), Pre_XqDxIdeal m →
    θ_run (Cert.XqDxIdeal.defs (F := Ideal)) (onTc (τ := Cert.XqDxIdeal.τ) (Cert.XqDxIdeal.main (F := Ideal))) ⟨m, fun _ => 0, g⟩ (fun r => (∀ c : Dev Cert.XqDxIdeal.nD,
      r.2.mem ((c.tc : Thread Cert.XqDxIdeal.nD Cert.XqDxIdeal.τ).loc Cert.XqDxIdeal.main_arg0) = m ((c.tc : Thread Cert.XqDxIdeal.nD Cert.XqDxIdeal.τ).loc Cert.XqDxIdeal.main_arg0)
      ∧ r.2.mem ((c.tc : Thread Cert.XqDxIdeal.nD Cert.XqDxIdeal.τ).loc Cert.XqDxIdeal.main_arg1) = m ((c.tc : Thread Cert.XqDxIdeal.nD Cert.XqDxIdeal.τ).loc Cert.XqDxIdeal.main_arg1)
      ∧ r.2.mem ((c.tc : Thread Cert.XqDxIdeal.nD Cert.XqDxIdeal.τ).loc Cert.XqDxIdeal.main_arg2) = m ((c.tc : Thread Cert.XqDxIdeal.nD Cert.XqDxIdeal.τ).loc Cert.XqDxIdeal.main_arg2)
      ∧ r.2.mem ((c.tc : Thread Cert.XqDxIdeal.nD Cert.XqDxIdeal.τ).loc Cert.XqDxIdeal.main_arg3) = m ((c.tc : Thread Cert.XqDxIdeal.nD Cert.XqDxIdeal.τ).loc Cert.XqDxIdeal.main_arg3)
      ∧ r.2.mem ((c.tc : Thread Cert.XqDxIdeal.nD Cert.XqDxIdeal.τ).loc Cert.XqDxIdeal.main_arg4) = m ((c.tc : Thread Cert.XqDxIdeal.nD Cert.XqDxIdeal.τ).loc Cert.XqDxIdeal.main_arg4))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1))
      ∧ r.2.sem = fun _ => 0)

def quiescent_MemF [hMemF : Cert.MemF.Facts] : Prop :=
  ∀ (m : (ℓ : Loc Cert.MemF.nD Cert.MemF.τ Cert.MemF.sig) → Buf (Elt Bits) ℓ) (g : Dev Cert.MemF.nD → PrngReg), Pre_MemF m →
    θ_run (Cert.MemF.defs (F := Bits)) (onTc (τ := Cert.MemF.τ) (Cert.MemF.main (F := Bits))) ⟨m, fun _ => 0, g⟩ (fun r => (∀ c : Dev Cert.MemF.nD,
      r.2.mem ((c.tc : Thread Cert.MemF.nD Cert.MemF.τ).loc Cert.MemF.main_arg0) = m ((c.tc : Thread Cert.MemF.nD Cert.MemF.τ).loc Cert.MemF.main_arg0)
      ∧ r.2.mem ((c.tc : Thread Cert.MemF.nD Cert.MemF.τ).loc Cert.MemF.main_arg1) = m ((c.tc : Thread Cert.MemF.nD Cert.MemF.τ).loc Cert.MemF.main_arg1))
      ∧ r.2.sem = fun _ => 0)

def quiescent_MemFIdeal [hMemFIdeal : Cert.MemFIdeal.Facts] : Prop :=
  ∀ (m : (ℓ : Loc Cert.MemFIdeal.nD Cert.MemFIdeal.τ Cert.MemFIdeal.sig) → Buf (Elt Ideal) ℓ) (g : Dev Cert.MemFIdeal.nD → PrngReg), Pre_MemFIdeal m →
    θ_run (Cert.MemFIdeal.defs (F := Ideal)) (onTc (τ := Cert.MemFIdeal.τ) (Cert.MemFIdeal.main (F := Ideal))) ⟨m, fun _ => 0, g⟩ (fun r => (∀ c : Dev Cert.MemFIdeal.nD,
      r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
      ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ r.2.sem = fun _ => 0)

def quiescent_MemFRefIdeal [hMemFRefIdeal : Cert.MemFRefIdeal.Facts] : Prop :=
  ∀ (m : (ℓ : Loc Cert.MemFRefIdeal.nD Cert.MemFRefIdeal.τ Cert.MemFRefIdeal.sig) → Buf (Elt Ideal) ℓ) (g : Dev Cert.MemFRefIdeal.nD → PrngReg), Pre_MemFRefIdeal m →
    θ_run (Cert.MemFRefIdeal.defs (F := Ideal)) (onTc (τ := Cert.MemFRefIdeal.τ) (Cert.MemFRefIdeal.main (F := Ideal))) ⟨m, fun _ => 0, g⟩ (fun r => (∀ c : Dev Cert.MemFRefIdeal.nD,
      r.2.mem ((c.tc : Thread Cert.MemFRefIdeal.nD Cert.MemFRefIdeal.τ).loc Cert.MemFRefIdeal.main_arg0) = m ((c.tc : Thread Cert.MemFRefIdeal.nD Cert.MemFRefIdeal.τ).loc Cert.MemFRefIdeal.main_arg0)
      ∧ r.2.mem ((c.tc : Thread Cert.MemFRefIdeal.nD Cert.MemFRefIdeal.τ).loc Cert.MemFRefIdeal.main_arg1) = m ((c.tc : Thread Cert.MemFRefIdeal.nD Cert.MemFRefIdeal.τ).loc Cert.MemFRefIdeal.main_arg1))
      ∧ r.2.sem = fun _ => 0)

def quiescent_LoraF [hLoraF : Cert.LoraF.Facts] : Prop :=
  ∀ (m : (ℓ : Loc Cert.LoraF.nD Cert.LoraF.τ Cert.LoraF.sig) → Buf (Elt Bits) ℓ) (g : Dev Cert.LoraF.nD → PrngReg), Pre_LoraF m →
    θ_run (Cert.LoraF.defs (F := Bits)) (onTc (τ := Cert.LoraF.τ) (Cert.LoraF.main (F := Bits))) ⟨m, fun _ => 0, g⟩ (fun r => (∀ c : Dev Cert.LoraF.nD,
      r.2.mem ((c.tc : Thread Cert.LoraF.nD Cert.LoraF.τ).loc Cert.LoraF.main_arg0) = m ((c.tc : Thread Cert.LoraF.nD Cert.LoraF.τ).loc Cert.LoraF.main_arg0)
      ∧ r.2.mem ((c.tc : Thread Cert.LoraF.nD Cert.LoraF.τ).loc Cert.LoraF.main_arg1) = m ((c.tc : Thread Cert.LoraF.nD Cert.LoraF.τ).loc Cert.LoraF.main_arg1)
      ∧ r.2.mem ((c.tc : Thread Cert.LoraF.nD Cert.LoraF.τ).loc Cert.LoraF.main_arg2) = m ((c.tc : Thread Cert.LoraF.nD Cert.LoraF.τ).loc Cert.LoraF.main_arg2)
      ∧ r.2.mem ((c.tc : Thread Cert.LoraF.nD Cert.LoraF.τ).loc Cert.LoraF.main_arg3) = m ((c.tc : Thread Cert.LoraF.nD Cert.LoraF.τ).loc Cert.LoraF.main_arg3))
      ∧ r.2.sem = fun _ => 0)

def quiescent_LoraFIdeal [hLoraFIdeal : Cert.LoraFIdeal.Facts] : Prop :=
  ∀ (m : (ℓ : Loc Cert.LoraFIdeal.nD Cert.LoraFIdeal.τ Cert.LoraFIdeal.sig) → Buf (Elt Ideal) ℓ) (g : Dev Cert.LoraFIdeal.nD → PrngReg), Pre_LoraFIdeal m →
    θ_run (Cert.LoraFIdeal.defs (F := Ideal)) (onTc (τ := Cert.LoraFIdeal.τ) (Cert.LoraFIdeal.main (F := Ideal))) ⟨m, fun _ => 0, g⟩ (fun r => (∀ c : Dev Cert.LoraFIdeal.nD,
      r.2.mem ((c.tc : Thread Cert.LoraFIdeal.nD Cert.LoraFIdeal.τ).loc Cert.LoraFIdeal.main_arg0) = m ((c.tc : Thread Cert.LoraFIdeal.nD Cert.LoraFIdeal.τ).loc Cert.LoraFIdeal.main_arg0)
      ∧ r.2.mem ((c.tc : Thread Cert.LoraFIdeal.nD Cert.LoraFIdeal.τ).loc Cert.LoraFIdeal.main_arg1) = m ((c.tc : Thread Cert.LoraFIdeal.nD Cert.LoraFIdeal.τ).loc Cert.LoraFIdeal.main_arg1)
      ∧ r.2.mem ((c.tc : Thread Cert.LoraFIdeal.nD Cert.LoraFIdeal.τ).loc Cert.LoraFIdeal.main_arg2) = m ((c.tc : Thread Cert.LoraFIdeal.nD Cert.LoraFIdeal.τ).loc Cert.LoraFIdeal.main_arg2)
      ∧ r.2.mem ((c.tc : Thread Cert.LoraFIdeal.nD Cert.LoraFIdeal.τ).loc Cert.LoraFIdeal.main_arg3) = m ((c.tc : Thread Cert.LoraFIdeal.nD Cert.LoraFIdeal.τ).loc Cert.LoraFIdeal.main_arg3))
      ∧ r.2.sem = fun _ => 0)

def quiescent_LoraFRefIdeal [hLoraFRefIdeal : Cert.LoraFRefIdeal.Facts] : Prop :=
  ∀ (m : (ℓ : Loc Cert.LoraFRefIdeal.nD Cert.LoraFRefIdeal.τ Cert.LoraFRefIdeal.sig) → Buf (Elt Ideal) ℓ) (g : Dev Cert.LoraFRefIdeal.nD → PrngReg), Pre_LoraFRefIdeal m →
    θ_run (Cert.LoraFRefIdeal.defs (F := Ideal)) (onTc (τ := Cert.LoraFRefIdeal.τ) (Cert.LoraFRefIdeal.main (F := Ideal))) ⟨m, fun _ => 0, g⟩ (fun r => (∀ c : Dev Cert.LoraFRefIdeal.nD,
      r.2.mem ((c.tc : Thread Cert.LoraFRefIdeal.nD Cert.LoraFRefIdeal.τ).loc Cert.LoraFRefIdeal.main_arg0) = m ((c.tc : Thread Cert.LoraFRefIdeal.nD Cert.LoraFRefIdeal.τ).loc Cert.LoraFRefIdeal.main_arg0)
      ∧ r.2.mem ((c.tc : Thread Cert.LoraFRefIdeal.nD Cert.LoraFRefIdeal.τ).loc Cert.LoraFRefIdeal.main_arg1) = m ((c.tc : Thread Cert.LoraFRefIdeal.nD Cert.LoraFRefIdeal.τ).loc Cert.LoraFRefIdeal.main_arg1)
      ∧ r.2.mem ((c.tc : Thread Cert.LoraFRefIdeal.nD Cert.LoraFRefIdeal.τ).loc Cert.LoraFRefIdeal.main_arg2) = m ((c.tc : Thread Cert.LoraFRefIdeal.nD Cert.LoraFRefIdeal.τ).loc Cert.LoraFRefIdeal.main_arg2)
      ∧ r.2.mem ((c.tc : Thread Cert.LoraFRefIdeal.nD Cert.LoraFRefIdeal.τ).loc Cert.LoraFRefIdeal.main_arg3) = m ((c.tc : Thread Cert.LoraFRefIdeal.nD Cert.LoraFRefIdeal.τ).loc Cert.LoraFRefIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_XOut [hXOut : Cert.XOut.Facts] : Prop :=
  ∀ (m : (ℓ : Loc Cert.XOut.nD Cert.XOut.τ Cert.XOut.sig) → Buf (Elt Bits) ℓ) (g : Dev Cert.XOut.nD → PrngReg), Pre_XOut m →
    θ_run (Cert.XOut.defs (F := Bits)) (onTc (τ := Cert.XOut.τ) (Cert.XOut.main (F := Bits))) ⟨m, fun _ => 0, g⟩ (fun r => (∀ c : Dev Cert.XOut.nD,
      r.2.mem ((c.tc : Thread Cert.XOut.nD Cert.XOut.τ).loc Cert.XOut.main_arg0) = m ((c.tc : Thread Cert.XOut.nD Cert.XOut.τ).loc Cert.XOut.main_arg0)
      ∧ r.2.mem ((c.tc : Thread Cert.XOut.nD Cert.XOut.τ).loc Cert.XOut.main_arg1) = m ((c.tc : Thread Cert.XOut.nD Cert.XOut.τ).loc Cert.XOut.main_arg1)
      ∧ r.2.mem ((c.tc : Thread Cert.XOut.nD Cert.XOut.τ).loc Cert.XOut.main_arg2) = m ((c.tc : Thread Cert.XOut.nD Cert.XOut.τ).loc Cert.XOut.main_arg2)
      ∧ r.2.mem ((c.tc : Thread Cert.XOut.nD Cert.XOut.τ).loc Cert.XOut.main_arg3) = m ((c.tc : Thread Cert.XOut.nD Cert.XOut.τ).loc Cert.XOut.main_arg3))
      ∧ r.2.sem = fun _ => 0)

def quiescent_XOutIdeal [hXOutIdeal : Cert.XOutIdeal.Facts] : Prop :=
  ∀ (m : (ℓ : Loc Cert.XOutIdeal.nD Cert.XOutIdeal.τ Cert.XOutIdeal.sig) → Buf (Elt Ideal) ℓ) (g : Dev Cert.XOutIdeal.nD → PrngReg), Pre_XOutIdeal m →
    θ_run (Cert.XOutIdeal.defs (F := Ideal)) (onTc (τ := Cert.XOutIdeal.τ) (Cert.XOutIdeal.main (F := Ideal))) ⟨m, fun _ => 0, g⟩ (fun r => (∀ c : Dev Cert.XOutIdeal.nD,
      r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
      ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
      ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2)
      ∧ r.2.mem ((c.tc : Thread Cert.XOutIdeal.nD Cert.XOutIdeal.τ).loc Cert.XOutIdeal.main_arg3) = m ((c.tc : Thread Cert.XOutIdeal.nD Cert.XOutIdeal.τ).loc Cert.XOutIdeal.main_arg3))
      ∧ r.2.sem = fun _ => 0)

def quiescent_XOutRefIdeal [hXOutRefIdeal : Cert.XOutRefIdeal.Facts] : Prop :=
  ∀ (m : (ℓ : Loc Cert.XOutRefIdeal.nD Cert.XOutRefIdeal.τ Cert.XOutRefIdeal.sig) → Buf (Elt Ideal) ℓ) (g : Dev Cert.XOutRefIdeal.nD → PrngReg), Pre_XOutRefIdeal m →
    θ_run (Cert.XOutRefIdeal.defs (F := Ideal)) (onTc (τ := Cert.XOutRefIdeal.τ) (Cert.XOutRefIdeal.main (F := Ideal))) ⟨m, fun _ => 0, g⟩ (fun r => (∀ c : Dev Cert.XOutRefIdeal.nD,
      r.2.mem ((c.tc : Thread Cert.XOutRefIdeal.nD Cert.XOutRefIdeal.τ).loc Cert.XOutRefIdeal.main_arg0) = m ((c.tc : Thread Cert.XOutRefIdeal.nD Cert.XOutRefIdeal.τ).loc Cert.XOutRefIdeal.main_arg0)
      ∧ r.2.mem ((c.tc : Thread Cert.XOutRefIdeal.nD Cert.XOutRefIdeal.τ).loc Cert.XOutRefIdeal.main_arg1) = m ((c.tc : Thread Cert.XOutRefIdeal.nD Cert.XOutRefIdeal.τ).loc Cert.XOutRefIdeal.main_arg1)
      ∧ r.2.mem ((c.tc : Thread Cert.XOutRefIdeal.nD Cert.XOutRefIdeal.τ).loc Cert.XOutRefIdeal.main_arg2) = m ((c.tc : Thread Cert.XOutRefIdeal.nD Cert.XOutRefIdeal.τ).loc Cert.XOutRefIdeal.main_arg2)
      ∧ r.2.mem ((c.tc : Thread Cert.XOutRefIdeal.nD Cert.XOutRefIdeal.τ).loc Cert.XOutRefIdeal.main_arg3) = m ((c.tc : Thread Cert.XOutRefIdeal.nD Cert.XOutRefIdeal.τ).loc Cert.XOutRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_XqF [hXqF : Cert.XqF.Facts] : Prop :=
  ∀ (m : (ℓ : Loc Cert.XqF.nD Cert.XqF.τ Cert.XqF.sig) → Buf (Elt Bits) ℓ) (g : Dev Cert.XqF.nD → PrngReg), Pre_XqF m →
    θ_run (Cert.XqF.defs (F := Bits)) (onTc (τ := Cert.XqF.τ) (Cert.XqF.main (F := Bits))) ⟨m, fun _ => 0, g⟩ (fun r => (∀ c : Dev Cert.XqF.nD,
      r.2.mem ((c.tc : Thread Cert.XqF.nD Cert.XqF.τ).loc Cert.XqF.main_arg0) = m ((c.tc : Thread Cert.XqF.nD Cert.XqF.τ).loc Cert.XqF.main_arg0)
      ∧ r.2.mem ((c.tc : Thread Cert.XqF.nD Cert.XqF.τ).loc Cert.XqF.main_arg1) = m ((c.tc : Thread Cert.XqF.nD Cert.XqF.τ).loc Cert.XqF.main_arg1))
      ∧ r.2.sem = fun _ => 0)

def quiescent_XqFIdeal [hXqFIdeal : Cert.XqFIdeal.Facts] : Prop :=
  ∀ (m : (ℓ : Loc Cert.XqFIdeal.nD Cert.XqFIdeal.τ Cert.XqFIdeal.sig) → Buf (Elt Ideal) ℓ) (g : Dev Cert.XqFIdeal.nD → PrngReg), Pre_XqFIdeal m →
    θ_run (Cert.XqFIdeal.defs (F := Ideal)) (onTc (τ := Cert.XqFIdeal.τ) (Cert.XqFIdeal.main (F := Ideal))) ⟨m, fun _ => 0, g⟩ (fun r => (∀ c : Dev Cert.XqFIdeal.nD,
      r.2.mem ((c.tc : Thread Cert.XqFIdeal.nD Cert.XqFIdeal.τ).loc Cert.XqFIdeal.main_arg0) = m ((c.tc : Thread Cert.XqFIdeal.nD Cert.XqFIdeal.τ).loc Cert.XqFIdeal.main_arg0)
      ∧ r.2.mem ((c.tc : Thread Cert.XqFIdeal.nD Cert.XqFIdeal.τ).loc Cert.XqFIdeal.main_arg1) = m ((c.tc : Thread Cert.XqFIdeal.nD Cert.XqFIdeal.τ).loc Cert.XqFIdeal.main_arg1))
      ∧ r.2.sem = fun _ => 0)

def quiescent_XqFRefIdeal [hXqFRefIdeal : Cert.XqFRefIdeal.Facts] : Prop :=
  ∀ (m : (ℓ : Loc Cert.XqFRefIdeal.nD Cert.XqFRefIdeal.τ Cert.XqFRefIdeal.sig) → Buf (Elt Ideal) ℓ) (g : Dev Cert.XqFRefIdeal.nD → PrngReg), Pre_XqFRefIdeal m →
    θ_run (Cert.XqFRefIdeal.defs (F := Ideal)) (onTc (τ := Cert.XqFRefIdeal.τ) (Cert.XqFRefIdeal.main (F := Ideal))) ⟨m, fun _ => 0, g⟩ (fun r => (∀ c : Dev Cert.XqFRefIdeal.nD,
      r.2.mem ((c.tc : Thread Cert.XqFRefIdeal.nD Cert.XqFRefIdeal.τ).loc Cert.XqFRefIdeal.main_arg0) = m ((c.tc : Thread Cert.XqFRefIdeal.nD Cert.XqFRefIdeal.τ).loc Cert.XqFRefIdeal.main_arg0)
      ∧ r.2.mem ((c.tc : Thread Cert.XqFRefIdeal.nD Cert.XqFRefIdeal.τ).loc Cert.XqFRefIdeal.main_arg1) = m ((c.tc : Thread Cert.XqFRefIdeal.nD Cert.XqFRefIdeal.τ).loc Cert.XqFRefIdeal.main_arg1))
      ∧ r.2.sem = fun _ => 0)

def quiescent_XattnF [hXattnF : Cert.XattnF.Facts] : Prop :=
  ∀ (m : (ℓ : Loc Cert.XattnF.nD Cert.XattnF.τ Cert.XattnF.sig) → Buf (Elt Bits) ℓ) (g : Dev Cert.XattnF.nD → PrngReg), Pre_XattnF m →
    θ_run (Cert.XattnF.defs (F := Bits)) (onTc (τ := Cert.XattnF.τ) (Cert.XattnF.main (F := Bits))) ⟨m, fun _ => 0, g⟩ (fun r => (∀ c : Dev Cert.XattnF.nD,
      r.2.mem ((c.tc : Thread Cert.XattnF.nD Cert.XattnF.τ).loc Cert.XattnF.main_arg0) = m ((c.tc : Thread Cert.XattnF.nD Cert.XattnF.τ).loc Cert.XattnF.main_arg0)
      ∧ r.2.mem ((c.tc : Thread Cert.XattnF.nD Cert.XattnF.τ).loc Cert.XattnF.main_arg1) = m ((c.tc : Thread Cert.XattnF.nD Cert.XattnF.τ).loc Cert.XattnF.main_arg1))
      ∧ r.2.sem = fun _ => 0)

def quiescent_XattnFIdeal [hXattnFIdeal : Cert.XattnFIdeal.Facts] : Prop :=
  ∀ (m : (ℓ : Loc Cert.XattnFIdeal.nD Cert.XattnFIdeal.τ Cert.XattnFIdeal.sig) → Buf (Elt Ideal) ℓ) (g : Dev Cert.XattnFIdeal.nD → PrngReg), Pre_XattnFIdeal m →
    θ_run (Cert.XattnFIdeal.defs (F := Ideal)) (onTc (τ := Cert.XattnFIdeal.τ) (Cert.XattnFIdeal.main (F := Ideal))) ⟨m, fun _ => 0, g⟩ (fun r => (∀ c : Dev Cert.XattnFIdeal.nD,
      r.2.mem ((c.tc : Thread Cert.XattnFIdeal.nD Cert.XattnFIdeal.τ).loc Cert.XattnFIdeal.main_arg0) = m ((c.tc : Thread Cert.XattnFIdeal.nD Cert.XattnFIdeal.τ).loc Cert.XattnFIdeal.main_arg0)
      ∧ r.2.mem ((c.tc : Thread Cert.XattnFIdeal.nD Cert.XattnFIdeal.τ).loc Cert.XattnFIdeal.main_arg1) = m ((c.tc : Thread Cert.XattnFIdeal.nD Cert.XattnFIdeal.τ).loc Cert.XattnFIdeal.main_arg1))
      ∧ r.2.sem = fun _ => 0)

def quiescent_XattnFRefIdeal [hXattnFRefIdeal : Cert.XattnFRefIdeal.Facts] : Prop :=
  ∀ (m : (ℓ : Loc Cert.XattnFRefIdeal.nD Cert.XattnFRefIdeal.τ Cert.XattnFRefIdeal.sig) → Buf (Elt Ideal) ℓ) (g : Dev Cert.XattnFRefIdeal.nD → PrngReg), Pre_XattnFRefIdeal m →
    θ_run (Cert.XattnFRefIdeal.defs (F := Ideal)) (onTc (τ := Cert.XattnFRefIdeal.τ) (Cert.XattnFRefIdeal.main (F := Ideal))) ⟨m, fun _ => 0, g⟩ (fun r => (∀ c : Dev Cert.XattnFRefIdeal.nD,
      r.2.mem ((c.tc : Thread Cert.XattnFRefIdeal.nD Cert.XattnFRefIdeal.τ).loc Cert.XattnFRefIdeal.main_arg0) = m ((c.tc : Thread Cert.XattnFRefIdeal.nD Cert.XattnFRefIdeal.τ).loc Cert.XattnFRefIdeal.main_arg0)
      ∧ r.2.mem ((c.tc : Thread Cert.XattnFRefIdeal.nD Cert.XattnFRefIdeal.τ).loc Cert.XattnFRefIdeal.main_arg1) = m ((c.tc : Thread Cert.XattnFRefIdeal.nD Cert.XattnFRefIdeal.τ).loc Cert.XattnFRefIdeal.main_arg1))
      ∧ r.2.sem = fun _ => 0)

def preserves_Flash_FlashIdeal : Prop :=
  IdealRules.named_const.Statement Cert.FlashIdeal.κ "mask" .f32 0xF149F2CA#32 ⊥

def algebraic_FlashIdeal_FlashRefIdeal_on_flash_on_pre_flash_finite [hFlashIdeal : Cert.FlashIdeal.Facts] [hFlashRefIdeal : Cert.FlashRefIdeal.Facts] [hPre_flash_finite : Cert.Pre_flash_finite.Facts] [hOn_flash_on : Cert.On_flash_on.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v60_0)) (v1 : (c : Dev Cert.FlashIdeal.nD) → Buf (Elt Ideal) ((c.tc : Thread Cert.FlashIdeal.nD Cert.FlashIdeal.τ).loc Cert.FlashIdeal.main_v60_1)) (v2 : (c : Dev Cert.FlashIdeal.nD) → Buf (Elt Ideal) ((c.tc : Thread Cert.FlashIdeal.nD Cert.FlashIdeal.τ).loc Cert.FlashIdeal.main_v60_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          (∀ i : (⟨2, ![8192, 1024]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 i = 1#1 → r.2.mem ((c.tc : Thread Cert.FlashIdeal.nD Cert.FlashIdeal.τ).loc Cert.FlashIdeal.main_v60_0) i = v0 c i)
          ∧ (∀ i : (⟨2, ![8192, 1024]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 i = 1#1 → r.2.mem ((c.tc : Thread Cert.FlashIdeal.nD Cert.FlashIdeal.τ).loc Cert.FlashIdeal.main_v60_1) i = v1 c i)
          ∧ (∀ i : (⟨2, ![8192, 2048]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2 i = 1#1 → r.2.mem ((c.tc : Thread Cert.FlashIdeal.nD Cert.FlashIdeal.τ).loc Cert.FlashIdeal.main_v60_2) i = v2 c i)
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          (∀ i : (⟨2, ![8192, 1024]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 i = 1#1 → r.2.mem ((c.tc : Thread Cert.FlashRefIdeal.nD Cert.FlashRefIdeal.τ).loc Cert.FlashRefIdeal.main_v62) i = v0 c i)
          ∧ (∀ i : (⟨2, ![8192, 1024]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 i = 1#1 → r.2.mem ((c.tc : Thread Cert.FlashRefIdeal.nD Cert.FlashRefIdeal.τ).loc Cert.FlashRefIdeal.main_v66) i = v1 c i)
          ∧ (∀ i : (⟨2, ![8192, 2048]⟩ : Shape).Idx, (Cert.On_flash_on.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2 i = 1#1 → r.2.mem ((c.tc : Thread Cert.FlashRefIdeal.nD Cert.FlashRefIdeal.τ).loc Cert.FlashRefIdeal.main_v70) i = v2 c i)
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Merge_MergeIdeal : Prop :=
  True

def algebraic_MergeIdeal_MergeRefIdeal_on_merge_on [hMergeIdeal : Cert.MergeIdeal.Facts] [hMergeRefIdeal : Cert.MergeRefIdeal.Facts] [hOn_merge_on : Cert.On_merge_on.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)) (v2 : (c : Dev Cert.MergeIdeal.nD) → Buf (Elt Ideal) ((c.tc : Thread Cert.MergeIdeal.nD Cert.MergeIdeal.τ).loc Cert.MergeIdeal.main_v10_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          (∀ i : (⟨2, ![8192, 1024]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).1 i = 1#1 → r.2.mem ((c.tc : Thread Cert.MergeIdeal.nD Cert.MergeIdeal.τ).loc Cert.MergeIdeal.main_v10_0) i = v0 c i)
          ∧ (∀ i : (⟨2, ![8192, 1024]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.1 i = 1#1 → r.2.mem ((c.tc : Thread Cert.MergeIdeal.nD Cert.MergeIdeal.τ).loc Cert.MergeIdeal.main_v10_1) i = v1 c i)
          ∧ (∀ i : (⟨2, ![8192, 3840]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.2 i = 1#1 → r.2.mem ((c.tc : Thread Cert.MergeIdeal.nD Cert.MergeIdeal.τ).loc Cert.MergeIdeal.main_v10_2) i = v2 c i)
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          (∀ i : (⟨2, ![8192, 1024]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).1 i = 1#1 → r.2.mem ((c.tc : Thread Cert.MergeRefIdeal.nD Cert.MergeRefIdeal.τ).loc Cert.MergeRefIdeal.main_v31) i = v0 c i)
          ∧ (∀ i : (⟨2, ![8192, 1024]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.1 i = 1#1 → r.2.mem ((c.tc : Thread Cert.MergeRefIdeal.nD Cert.MergeRefIdeal.τ).loc Cert.MergeRefIdeal.main_v32) i = v1 c i)
          ∧ (∀ i : (⟨2, ![8192, 3840]⟩ : Shape).Idx, (Cert.On_merge_on.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3))).2.2 i = 1#1 → r.2.mem ((c.tc : Thread Cert.MergeRefIdeal.nD Cert.MergeRefIdeal.τ).loc Cert.MergeRefIdeal.main_v33) i = v2 c i)
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)) →
    ∃ (v0 : (c : Dev Cert.ReluIdeal.nD) → Buf (Elt Ideal) ((c.tc : Thread Cert.ReluIdeal.nD Cert.ReluIdeal.τ).loc Cert.ReluIdeal.main_v5)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v5) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v12) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2))

def preserves_MemN_MemNIdeal : Prop :=
  True

def algebraic_MemNIdeal_MemNRefIdeal [hMemNIdeal : Cert.MemNIdeal.Facts] [hMemNRefIdeal : Cert.MemNRefIdeal.Facts] : Prop :=
  ∀ (m : (ℓ : Loc Cert.MemNIdeal.nD Cert.MemNIdeal.τ Cert.MemNIdeal.sig) → Buf (Elt Ideal) ℓ) (g : Dev Cert.MemNIdeal.nD → PrngReg)
    (m' : (ℓ : Loc Cert.MemNRefIdeal.nD Cert.MemNRefIdeal.τ Cert.MemNRefIdeal.sig) → Buf (Elt Ideal) ℓ) (g' : Dev Cert.MemNRefIdeal.nD → PrngReg), Pre_MemNIdeal m →
    (∀ c : Dev Cert.MemNIdeal.nD,
      m' ((c.tc : Thread Cert.MemNRefIdeal.nD Cert.MemNRefIdeal.τ).loc Cert.MemNRefIdeal.main_arg0) = m ((c.tc : Thread Cert.MemNIdeal.nD Cert.MemNIdeal.τ).loc Cert.MemNIdeal.main_arg0)
      ∧ m' ((c.tc : Thread Cert.MemNRefIdeal.nD Cert.MemNRefIdeal.τ).loc Cert.MemNRefIdeal.main_arg1) = m ((c.tc : Thread Cert.MemNIdeal.nD Cert.MemNIdeal.τ).loc Cert.MemNIdeal.main_arg1)
      ∧ m' ((c.tc : Thread Cert.MemNRefIdeal.nD Cert.MemNRefIdeal.τ).loc Cert.MemNRefIdeal.main_arg2) = m ((c.tc : Thread Cert.MemNIdeal.nD Cert.MemNIdeal.τ).loc Cert.MemNIdeal.main_arg2)) →
    ∃ (v0 : (c : Dev Cert.MemNIdeal.nD) → Buf (Elt Ideal) ((c.tc : Thread Cert.MemNIdeal.nD Cert.MemNIdeal.τ).loc Cert.MemNIdeal.main_v0)),
      θ_run (Cert.MemNIdeal.defs (F := Ideal)) (onTc (τ := Cert.MemNIdeal.τ) (Cert.MemNIdeal.main (F := Ideal))) ⟨m, fun _ => 0, g⟩ (fun r => ∀ c : Dev Cert.MemNIdeal.nD,
          r.2.mem ((c.tc : Thread Cert.MemNIdeal.nD Cert.MemNIdeal.τ).loc Cert.MemNIdeal.main_v0) = v0 c
          ∧ r.2.mem ((c.tc : Thread Cert.MemNIdeal.nD Cert.MemNIdeal.τ).loc Cert.MemNIdeal.main_arg0) = m ((c.tc : Thread Cert.MemNIdeal.nD Cert.MemNIdeal.τ).loc Cert.MemNIdeal.main_arg0)
          ∧ r.2.mem ((c.tc : Thread Cert.MemNIdeal.nD Cert.MemNIdeal.τ).loc Cert.MemNIdeal.main_arg1) = m ((c.tc : Thread Cert.MemNIdeal.nD Cert.MemNIdeal.τ).loc Cert.MemNIdeal.main_arg1)
          ∧ r.2.mem ((c.tc : Thread Cert.MemNIdeal.nD Cert.MemNIdeal.τ).loc Cert.MemNIdeal.main_arg2) = m ((c.tc : Thread Cert.MemNIdeal.nD Cert.MemNIdeal.τ).loc Cert.MemNIdeal.main_arg2))
      ∧ θ_run (Cert.MemNRefIdeal.defs (F := Ideal)) (onTc (τ := Cert.MemNRefIdeal.τ) (Cert.MemNRefIdeal.main (F := Ideal))) ⟨m', fun _ => 0, g'⟩ (fun r => ∀ c : Dev Cert.MemNRefIdeal.nD,
          r.2.mem ((c.tc : Thread Cert.MemNRefIdeal.nD Cert.MemNRefIdeal.τ).loc Cert.MemNRefIdeal.main_v14) = v0 c
          ∧ r.2.mem ((c.tc : Thread Cert.MemNRefIdeal.nD Cert.MemNRefIdeal.τ).loc Cert.MemNRefIdeal.main_arg0) = m' ((c.tc : Thread Cert.MemNRefIdeal.nD Cert.MemNRefIdeal.τ).loc Cert.MemNRefIdeal.main_arg0)
          ∧ r.2.mem ((c.tc : Thread Cert.MemNRefIdeal.nD Cert.MemNRefIdeal.τ).loc Cert.MemNRefIdeal.main_arg1) = m' ((c.tc : Thread Cert.MemNRefIdeal.nD Cert.MemNRefIdeal.τ).loc Cert.MemNRefIdeal.main_arg1)
          ∧ r.2.mem ((c.tc : Thread Cert.MemNRefIdeal.nD Cert.MemNRefIdeal.τ).loc Cert.MemNRefIdeal.main_arg2) = m' ((c.tc : Thread Cert.MemNRefIdeal.nD Cert.MemNRefIdeal.τ).loc Cert.MemNRefIdeal.main_arg2))

def preserves_FlashF_FlashFIdeal : Prop :=
  IdealRules.named_const.Statement Cert.FlashFIdeal.κ "mask" .f32 0xF149F2CA#32 ⊥

def algebraic_FlashFIdeal_FlashFRefIdeal_on_flashf_on_pre_flashf_finite [hFlashFIdeal : Cert.FlashFIdeal.Facts] [hFlashFRefIdeal : Cert.FlashFRefIdeal.Facts] [hPre_flashf_finite : Cert.Pre_flashf_finite.Facts] [hOn_flashf_on : Cert.On_flashf_on.Facts] : Prop :=
  ∀ (m : (ℓ : Loc Cert.FlashFIdeal.nD Cert.FlashFIdeal.τ Cert.FlashFIdeal.sig) → Buf (Elt Ideal) ℓ) (g : Dev Cert.FlashFIdeal.nD → PrngReg)
    (m' : (ℓ : Loc Cert.FlashFRefIdeal.nD Cert.FlashFRefIdeal.τ Cert.FlashFRefIdeal.sig) → Buf (Elt Ideal) ℓ) (g' : Dev Cert.FlashFRefIdeal.nD → PrngReg), Pre_FlashFIdeal_flashf_finite m →
    (∀ c : Dev Cert.FlashFIdeal.nD,
      m' ((c.tc : Thread Cert.FlashFRefIdeal.nD Cert.FlashFRefIdeal.τ).loc Cert.FlashFRefIdeal.main_arg0) = m ((c.tc : Thread Cert.FlashFIdeal.nD Cert.FlashFIdeal.τ).loc Cert.FlashFIdeal.main_arg0)
      ∧ m' ((c.tc : Thread Cert.FlashFRefIdeal.nD Cert.FlashFRefIdeal.τ).loc Cert.FlashFRefIdeal.main_arg1) = m ((c.tc : Thread Cert.FlashFIdeal.nD Cert.FlashFIdeal.τ).loc Cert.FlashFIdeal.main_arg1)
      ∧ m' ((c.tc : Thread Cert.FlashFRefIdeal.nD Cert.FlashFRefIdeal.τ).loc Cert.FlashFRefIdeal.main_arg2) = m ((c.tc : Thread Cert.FlashFIdeal.nD Cert.FlashFIdeal.τ).loc Cert.FlashFIdeal.main_arg2)) →
    ∃ (v0 : (c : Dev Cert.FlashFIdeal.nD) → Buf (Elt Ideal) ((c.tc : Thread Cert.FlashFIdeal.nD Cert.FlashFIdeal.τ).loc Cert.FlashFIdeal.main_v13_0)) (v1 : (c : Dev Cert.FlashFIdeal.nD) → Buf (Elt Ideal) ((c.tc : Thread Cert.FlashFIdeal.nD Cert.FlashFIdeal.τ).loc Cert.FlashFIdeal.main_v13_1)),
      θ_run (Cert.FlashFIdeal.defs (F := Ideal)) (onTc (τ := Cert.FlashFIdeal.τ) (Cert.FlashFIdeal.main (F := Ideal))) ⟨m, fun _ => 0, g⟩ (fun r => ∀ c : Dev Cert.FlashFIdeal.nD,
          (∀ i : (⟨2, ![8192, 1024]⟩ : Shape).Idx, (Cert.On_flashf_on.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).1 i = 1#1 → r.2.mem ((c.tc : Thread Cert.FlashFIdeal.nD Cert.FlashFIdeal.τ).loc Cert.FlashFIdeal.main_v13_0) i = v0 c i)
          ∧ (∀ i : (⟨2, ![8192, 1024]⟩ : Shape).Idx, (Cert.On_flashf_on.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).2 i = 1#1 → r.2.mem ((c.tc : Thread Cert.FlashFIdeal.nD Cert.FlashFIdeal.τ).loc Cert.FlashFIdeal.main_v13_1) i = v1 c i)
          ∧ r.2.mem ((c.tc : Thread Cert.FlashFIdeal.nD Cert.FlashFIdeal.τ).loc Cert.FlashFIdeal.main_arg0) = m ((c.tc : Thread Cert.FlashFIdeal.nD Cert.FlashFIdeal.τ).loc Cert.FlashFIdeal.main_arg0)
          ∧ r.2.mem ((c.tc : Thread Cert.FlashFIdeal.nD Cert.FlashFIdeal.τ).loc Cert.FlashFIdeal.main_arg1) = m ((c.tc : Thread Cert.FlashFIdeal.nD Cert.FlashFIdeal.τ).loc Cert.FlashFIdeal.main_arg1)
          ∧ r.2.mem ((c.tc : Thread Cert.FlashFIdeal.nD Cert.FlashFIdeal.τ).loc Cert.FlashFIdeal.main_arg2) = m ((c.tc : Thread Cert.FlashFIdeal.nD Cert.FlashFIdeal.τ).loc Cert.FlashFIdeal.main_arg2))
      ∧ θ_run (Cert.FlashFRefIdeal.defs (F := Ideal)) (onTc (τ := Cert.FlashFRefIdeal.τ) (Cert.FlashFRefIdeal.main (F := Ideal))) ⟨m', fun _ => 0, g'⟩ (fun r => ∀ c : Dev Cert.FlashFRefIdeal.nD,
          (∀ i : (⟨2, ![8192, 1024]⟩ : Shape).Idx, (Cert.On_flashf_on.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).1 i = 1#1 → r.2.mem ((c.tc : Thread Cert.FlashFRefIdeal.nD Cert.FlashFRefIdeal.τ).loc Cert.FlashFRefIdeal.main_v37) i = v0 c i)
          ∧ (∀ i : (⟨2, ![8192, 1024]⟩ : Shape).Idx, (Cert.On_flashf_on.fn (F := Ideal) (m ((c.tc : Thread Cert.FlashFIdeal.nD Cert.FlashFIdeal.τ).loc Cert.FlashFIdeal.main_arg0)) (m ((c.tc : Thread Cert.FlashFIdeal.nD Cert.FlashFIdeal.τ).loc Cert.FlashFIdeal.main_arg1)) (m ((c.tc : Thread Cert.FlashFIdeal.nD Cert.FlashFIdeal.τ).loc Cert.FlashFIdeal.main_arg2))).2 i = 1#1 → r.2.mem ((c.tc : Thread Cert.FlashFRefIdeal.nD Cert.FlashFRefIdeal.τ).loc Cert.FlashFRefIdeal.main_v38) i = v1 c i)
          ∧ r.2.mem ((c.tc : Thread Cert.FlashFRefIdeal.nD Cert.FlashFRefIdeal.τ).loc Cert.FlashFRefIdeal.main_arg0) = m' ((c.tc : Thread Cert.FlashFRefIdeal.nD Cert.FlashFRefIdeal.τ).loc Cert.FlashFRefIdeal.main_arg0)
          ∧ r.2.mem ((c.tc : Thread Cert.FlashFRefIdeal.nD Cert.FlashFRefIdeal.τ).loc Cert.FlashFRefIdeal.main_arg1) = m' ((c.tc : Thread Cert.FlashFRefIdeal.nD Cert.FlashFRefIdeal.τ).loc Cert.FlashFRefIdeal.main_arg1)
          ∧ r.2.mem ((c.tc : Thread Cert.FlashFRefIdeal.nD Cert.FlashFRefIdeal.τ).loc Cert.FlashFRefIdeal.main_arg2) = m' ((c.tc : Thread Cert.FlashFRefIdeal.nD Cert.FlashFRefIdeal.τ).loc Cert.FlashFRefIdeal.main_arg2))

def preserves_Xattn_XattnIdeal : Prop :=
  True

def preserves_Taps_TapsIdeal : Prop :=
  True

def preserves_ConvN_ConvNIdeal : Prop :=
  True

def preserves_Rope_RopeIdeal : Prop :=
  True

def preserves_LoraN_LoraNIdeal : Prop :=
  True

def preserves_MlaDo_MlaDoIdeal : Prop :=
  True

def preserves_MlpDx_MlpDxIdeal : Prop :=
  True

def preserves_XqDx_XqDxIdeal : Prop :=
  True

def preserves_ProjDx_ProjDxIdeal : Prop :=
  True

def preserves_Loss_LossIdeal : Prop :=
  True

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)) →
    ∃ (v0 : (c : Dev Cert.RmsMixIdeal.nD) → Buf (Elt Ideal) ((c.tc : Thread Cert.RmsMixIdeal.nD Cert.RmsMixIdeal.τ).loc Cert.RmsMixIdeal.main_v0)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v0) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v12) = v0 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1))

def preserves_MemF_MemFIdeal : Prop :=
  True

def algebraic_MemFIdeal_MemFRefIdeal [hMemFIdeal : Cert.MemFIdeal.Facts] [hMemFRefIdeal : Cert.MemFRefIdeal.Facts] : Prop :=
  ∀ (m : (ℓ : Loc Cert.MemFIdeal.nD Cert.MemFIdeal.τ Cert.MemFIdeal.sig) → Buf (Elt Ideal) ℓ) (g : Dev Cert.MemFIdeal.nD → PrngReg)
    (m' : (ℓ : Loc Cert.MemFRefIdeal.nD Cert.MemFRefIdeal.τ Cert.MemFRefIdeal.sig) → Buf (Elt Ideal) ℓ) (g' : Dev Cert.MemFRefIdeal.nD → PrngReg), Pre_MemFIdeal m →
    (∀ c : Dev Cert.MemFIdeal.nD,
      m' ((c.tc : Thread Cert.MemFRefIdeal.nD Cert.MemFRefIdeal.τ).loc Cert.MemFRefIdeal.main_arg0) = m ((c.tc : Thread Cert.MemFIdeal.nD Cert.MemFIdeal.τ).loc Cert.MemFIdeal.main_arg0)
      ∧ m' ((c.tc : Thread Cert.MemFRefIdeal.nD Cert.MemFRefIdeal.τ).loc Cert.MemFRefIdeal.main_arg1) = m ((c.tc : Thread Cert.MemFIdeal.nD Cert.MemFIdeal.τ).loc Cert.MemFIdeal.main_arg1)) →
    ∃ (v0 : (c : Dev Cert.MemFIdeal.nD) → Buf (Elt Ideal) ((c.tc : Thread Cert.MemFIdeal.nD Cert.MemFIdeal.τ).loc Cert.MemFIdeal.main_v0)),
      θ_run (Cert.MemFIdeal.defs (F := Ideal)) (onTc (τ := Cert.MemFIdeal.τ) (Cert.MemFIdeal.main (F := Ideal))) ⟨m, fun _ => 0, g⟩ (fun r => ∀ c : Dev Cert.MemFIdeal.nD,
          r.2.mem ((c.tc : Thread Cert.MemFIdeal.nD Cert.MemFIdeal.τ).loc Cert.MemFIdeal.main_v0) = v0 c
          ∧ r.2.mem ((c.tc : Thread Cert.MemFIdeal.nD Cert.MemFIdeal.τ).loc Cert.MemFIdeal.main_arg0) = m ((c.tc : Thread Cert.MemFIdeal.nD Cert.MemFIdeal.τ).loc Cert.MemFIdeal.main_arg0)
          ∧ r.2.mem ((c.tc : Thread Cert.MemFIdeal.nD Cert.MemFIdeal.τ).loc Cert.MemFIdeal.main_arg1) = m ((c.tc : Thread Cert.MemFIdeal.nD Cert.MemFIdeal.τ).loc Cert.MemFIdeal.main_arg1))
      ∧ θ_run (Cert.MemFRefIdeal.defs (F := Ideal)) (onTc (τ := Cert.MemFRefIdeal.τ) (Cert.MemFRefIdeal.main (F := Ideal))) ⟨m', fun _ => 0, g'⟩ (fun r => ∀ c : Dev Cert.MemFRefIdeal.nD,
          r.2.mem ((c.tc : Thread Cert.MemFRefIdeal.nD Cert.MemFRefIdeal.τ).loc Cert.MemFRefIdeal.main_v12) = v0 c
          ∧ r.2.mem ((c.tc : Thread Cert.MemFRefIdeal.nD Cert.MemFRefIdeal.τ).loc Cert.MemFRefIdeal.main_arg0) = m' ((c.tc : Thread Cert.MemFRefIdeal.nD Cert.MemFRefIdeal.τ).loc Cert.MemFRefIdeal.main_arg0)
          ∧ r.2.mem ((c.tc : Thread Cert.MemFRefIdeal.nD Cert.MemFRefIdeal.τ).loc Cert.MemFRefIdeal.main_arg1) = m' ((c.tc : Thread Cert.MemFRefIdeal.nD Cert.MemFRefIdeal.τ).loc Cert.MemFRefIdeal.main_arg1))

def preserves_LoraF_LoraFIdeal : Prop :=
  True

def algebraic_LoraFIdeal_LoraFRefIdeal [hLoraFIdeal : Cert.LoraFIdeal.Facts] [hLoraFRefIdeal : Cert.LoraFRefIdeal.Facts] : Prop :=
  ∀ (m : (ℓ : Loc Cert.LoraFIdeal.nD Cert.LoraFIdeal.τ Cert.LoraFIdeal.sig) → Buf (Elt Ideal) ℓ) (g : Dev Cert.LoraFIdeal.nD → PrngReg)
    (m' : (ℓ : Loc Cert.LoraFRefIdeal.nD Cert.LoraFRefIdeal.τ Cert.LoraFRefIdeal.sig) → Buf (Elt Ideal) ℓ) (g' : Dev Cert.LoraFRefIdeal.nD → PrngReg), Pre_LoraFIdeal m →
    (∀ c : Dev Cert.LoraFIdeal.nD,
      m' ((c.tc : Thread Cert.LoraFRefIdeal.nD Cert.LoraFRefIdeal.τ).loc Cert.LoraFRefIdeal.main_arg0) = m ((c.tc : Thread Cert.LoraFIdeal.nD Cert.LoraFIdeal.τ).loc Cert.LoraFIdeal.main_arg0)
      ∧ m' ((c.tc : Thread Cert.LoraFRefIdeal.nD Cert.LoraFRefIdeal.τ).loc Cert.LoraFRefIdeal.main_arg1) = m ((c.tc : Thread Cert.LoraFIdeal.nD Cert.LoraFIdeal.τ).loc Cert.LoraFIdeal.main_arg1)
      ∧ m' ((c.tc : Thread Cert.LoraFRefIdeal.nD Cert.LoraFRefIdeal.τ).loc Cert.LoraFRefIdeal.main_arg2) = m ((c.tc : Thread Cert.LoraFIdeal.nD Cert.LoraFIdeal.τ).loc Cert.LoraFIdeal.main_arg2)
      ∧ m' ((c.tc : Thread Cert.LoraFRefIdeal.nD Cert.LoraFRefIdeal.τ).loc Cert.LoraFRefIdeal.main_arg3) = m ((c.tc : Thread Cert.LoraFIdeal.nD Cert.LoraFIdeal.τ).loc Cert.LoraFIdeal.main_arg3)) →
    ∃ (v0 : (c : Dev Cert.LoraFIdeal.nD) → Buf (Elt Ideal) ((c.tc : Thread Cert.LoraFIdeal.nD Cert.LoraFIdeal.τ).loc Cert.LoraFIdeal.main_v2_0)) (v1 : (c : Dev Cert.LoraFIdeal.nD) → Buf (Elt Ideal) ((c.tc : Thread Cert.LoraFIdeal.nD Cert.LoraFIdeal.τ).loc Cert.LoraFIdeal.main_v2_1)),
      θ_run (Cert.LoraFIdeal.defs (F := Ideal)) (onTc (τ := Cert.LoraFIdeal.τ) (Cert.LoraFIdeal.main (F := Ideal))) ⟨m, fun _ => 0, g⟩ (fun r => ∀ c : Dev Cert.LoraFIdeal.nD,
          r.2.mem ((c.tc : Thread Cert.LoraFIdeal.nD Cert.LoraFIdeal.τ).loc Cert.LoraFIdeal.main_v2_0) = v0 c
          ∧ r.2.mem ((c.tc : Thread Cert.LoraFIdeal.nD Cert.LoraFIdeal.τ).loc Cert.LoraFIdeal.main_v2_1) = v1 c
          ∧ r.2.mem ((c.tc : Thread Cert.LoraFIdeal.nD Cert.LoraFIdeal.τ).loc Cert.LoraFIdeal.main_arg0) = m ((c.tc : Thread Cert.LoraFIdeal.nD Cert.LoraFIdeal.τ).loc Cert.LoraFIdeal.main_arg0)
          ∧ r.2.mem ((c.tc : Thread Cert.LoraFIdeal.nD Cert.LoraFIdeal.τ).loc Cert.LoraFIdeal.main_arg1) = m ((c.tc : Thread Cert.LoraFIdeal.nD Cert.LoraFIdeal.τ).loc Cert.LoraFIdeal.main_arg1)
          ∧ r.2.mem ((c.tc : Thread Cert.LoraFIdeal.nD Cert.LoraFIdeal.τ).loc Cert.LoraFIdeal.main_arg2) = m ((c.tc : Thread Cert.LoraFIdeal.nD Cert.LoraFIdeal.τ).loc Cert.LoraFIdeal.main_arg2)
          ∧ r.2.mem ((c.tc : Thread Cert.LoraFIdeal.nD Cert.LoraFIdeal.τ).loc Cert.LoraFIdeal.main_arg3) = m ((c.tc : Thread Cert.LoraFIdeal.nD Cert.LoraFIdeal.τ).loc Cert.LoraFIdeal.main_arg3))
      ∧ θ_run (Cert.LoraFRefIdeal.defs (F := Ideal)) (onTc (τ := Cert.LoraFRefIdeal.τ) (Cert.LoraFRefIdeal.main (F := Ideal))) ⟨m', fun _ => 0, g'⟩ (fun r => ∀ c : Dev Cert.LoraFRefIdeal.nD,
          r.2.mem ((c.tc : Thread Cert.LoraFRefIdeal.nD Cert.LoraFRefIdeal.τ).loc Cert.LoraFRefIdeal.main_v12) = v0 c
          ∧ r.2.mem ((c.tc : Thread Cert.LoraFRefIdeal.nD Cert.LoraFRefIdeal.τ).loc Cert.LoraFRefIdeal.main_v25) = v1 c
          ∧ r.2.mem ((c.tc : Thread Cert.LoraFRefIdeal.nD Cert.LoraFRefIdeal.τ).loc Cert.LoraFRefIdeal.main_arg0) = m' ((c.tc : Thread Cert.LoraFRefIdeal.nD Cert.LoraFRefIdeal.τ).loc Cert.LoraFRefIdeal.main_arg0)
          ∧ r.2.mem ((c.tc : Thread Cert.LoraFRefIdeal.nD Cert.LoraFRefIdeal.τ).loc Cert.LoraFRefIdeal.main_arg1) = m' ((c.tc : Thread Cert.LoraFRefIdeal.nD Cert.LoraFRefIdeal.τ).loc Cert.LoraFRefIdeal.main_arg1)
          ∧ r.2.mem ((c.tc : Thread Cert.LoraFRefIdeal.nD Cert.LoraFRefIdeal.τ).loc Cert.LoraFRefIdeal.main_arg2) = m' ((c.tc : Thread Cert.LoraFRefIdeal.nD Cert.LoraFRefIdeal.τ).loc Cert.LoraFRefIdeal.main_arg2)
          ∧ r.2.mem ((c.tc : Thread Cert.LoraFRefIdeal.nD Cert.LoraFRefIdeal.τ).loc Cert.LoraFRefIdeal.main_arg3) = m' ((c.tc : Thread Cert.LoraFRefIdeal.nD Cert.LoraFRefIdeal.τ).loc Cert.LoraFRefIdeal.main_arg3))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v2_0)) (v1 : (c : Dev Cert.MixOutIdeal.nD) → Buf (Elt Ideal) ((c.tc : Thread Cert.MixOutIdeal.nD Cert.MixOutIdeal.τ).loc Cert.MixOutIdeal.main_v2_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2_0) = v0 c
          ∧ r.2.mem ((c.tc : Thread Cert.MixOutIdeal.nD Cert.MixOutIdeal.τ).loc Cert.MixOutIdeal.main_v2_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_v14) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_XOut_XOutIdeal : Prop :=
  True

def algebraic_XOutIdeal_XOutRefIdeal [hXOutIdeal : Cert.XOutIdeal.Facts] [hXOutRefIdeal : Cert.XOutRefIdeal.Facts] : Prop :=
  ∀ (m : (ℓ : Loc Cert.XOutIdeal.nD Cert.XOutIdeal.τ Cert.XOutIdeal.sig) → Buf (Elt Ideal) ℓ) (g : Dev Cert.XOutIdeal.nD → PrngReg)
    (m' : (ℓ : Loc Cert.XOutRefIdeal.nD Cert.XOutRefIdeal.τ Cert.XOutRefIdeal.sig) → Buf (Elt Ideal) ℓ) (g' : Dev Cert.XOutRefIdeal.nD → PrngReg), Pre_XOutIdeal m →
    (∀ c : Dev Cert.XOutIdeal.nD,
      m' ((c.tc : Thread Cert.XOutRefIdeal.nD Cert.XOutRefIdeal.τ).loc Cert.XOutRefIdeal.main_arg0) = m ((c.tc : Thread Cert.XOutIdeal.nD Cert.XOutIdeal.τ).loc Cert.XOutIdeal.main_arg0)
      ∧ m' ((c.tc : Thread Cert.XOutRefIdeal.nD Cert.XOutRefIdeal.τ).loc Cert.XOutRefIdeal.main_arg1) = m ((c.tc : Thread Cert.XOutIdeal.nD Cert.XOutIdeal.τ).loc Cert.XOutIdeal.main_arg1)
      ∧ m' ((c.tc : Thread Cert.XOutRefIdeal.nD Cert.XOutRefIdeal.τ).loc Cert.XOutRefIdeal.main_arg2) = m ((c.tc : Thread Cert.XOutIdeal.nD Cert.XOutIdeal.τ).loc Cert.XOutIdeal.main_arg2)
      ∧ m' ((c.tc : Thread Cert.XOutRefIdeal.nD Cert.XOutRefIdeal.τ).loc Cert.XOutRefIdeal.main_arg3) = m ((c.tc : Thread Cert.XOutIdeal.nD Cert.XOutIdeal.τ).loc Cert.XOutIdeal.main_arg3)) →
    ∃ (v0 : (c : Dev Cert.XOutIdeal.nD) → Buf (Elt Ideal) ((c.tc : Thread Cert.XOutIdeal.nD Cert.XOutIdeal.τ).loc Cert.XOutIdeal.main_v2_0)) (v1 : (c : Dev Cert.XOutIdeal.nD) → Buf (Elt Ideal) ((c.tc : Thread Cert.XOutIdeal.nD Cert.XOutIdeal.τ).loc Cert.XOutIdeal.main_v2_1)),
      θ_run (Cert.XOutIdeal.defs (F := Ideal)) (onTc (τ := Cert.XOutIdeal.τ) (Cert.XOutIdeal.main (F := Ideal))) ⟨m, fun _ => 0, g⟩ (fun r => ∀ c : Dev Cert.XOutIdeal.nD,
          r.2.mem ((c.tc : Thread Cert.XOutIdeal.nD Cert.XOutIdeal.τ).loc Cert.XOutIdeal.main_v2_0) = v0 c
          ∧ r.2.mem ((c.tc : Thread Cert.XOutIdeal.nD Cert.XOutIdeal.τ).loc Cert.XOutIdeal.main_v2_1) = v1 c
          ∧ r.2.mem ((c.tc : Thread Cert.XOutIdeal.nD Cert.XOutIdeal.τ).loc Cert.XOutIdeal.main_arg0) = m ((c.tc : Thread Cert.XOutIdeal.nD Cert.XOutIdeal.τ).loc Cert.XOutIdeal.main_arg0)
          ∧ r.2.mem ((c.tc : Thread Cert.XOutIdeal.nD Cert.XOutIdeal.τ).loc Cert.XOutIdeal.main_arg1) = m ((c.tc : Thread Cert.XOutIdeal.nD Cert.XOutIdeal.τ).loc Cert.XOutIdeal.main_arg1)
          ∧ r.2.mem ((c.tc : Thread Cert.XOutIdeal.nD Cert.XOutIdeal.τ).loc Cert.XOutIdeal.main_arg2) = m ((c.tc : Thread Cert.XOutIdeal.nD Cert.XOutIdeal.τ).loc Cert.XOutIdeal.main_arg2)
          ∧ r.2.mem ((c.tc : Thread Cert.XOutIdeal.nD Cert.XOutIdeal.τ).loc Cert.XOutIdeal.main_arg3) = m ((c.tc : Thread Cert.XOutIdeal.nD Cert.XOutIdeal.τ).loc Cert.XOutIdeal.main_arg3))
      ∧ θ_run (Cert.XOutRefIdeal.defs (F := Ideal)) (onTc (τ := Cert.XOutRefIdeal.τ) (Cert.XOutRefIdeal.main (F := Ideal))) ⟨m', fun _ => 0, g'⟩ (fun r => ∀ c : Dev Cert.XOutRefIdeal.nD,
          r.2.mem ((c.tc : Thread Cert.XOutRefIdeal.nD Cert.XOutRefIdeal.τ).loc Cert.XOutRefIdeal.main_v1) = v0 c
          ∧ r.2.mem ((c.tc : Thread Cert.XOutRefIdeal.nD Cert.XOutRefIdeal.τ).loc Cert.XOutRefIdeal.main_v14) = v1 c
          ∧ r.2.mem ((c.tc : Thread Cert.XOutRefIdeal.nD Cert.XOutRefIdeal.τ).loc Cert.XOutRefIdeal.main_arg0) = m' ((c.tc : Thread Cert.XOutRefIdeal.nD Cert.XOutRefIdeal.τ).loc Cert.XOutRefIdeal.main_arg0)
          ∧ r.2.mem ((c.tc : Thread Cert.XOutRefIdeal.nD Cert.XOutRefIdeal.τ).loc Cert.XOutRefIdeal.main_arg1) = m' ((c.tc : Thread Cert.XOutRefIdeal.nD Cert.XOutRefIdeal.τ).loc Cert.XOutRefIdeal.main_arg1)
          ∧ r.2.mem ((c.tc : Thread Cert.XOutRefIdeal.nD Cert.XOutRefIdeal.τ).loc Cert.XOutRefIdeal.main_arg2) = m' ((c.tc : Thread Cert.XOutRefIdeal.nD Cert.XOutRefIdeal.τ).loc Cert.XOutRefIdeal.main_arg2)
          ∧ r.2.mem ((c.tc : Thread Cert.XOutRefIdeal.nD Cert.XOutRefIdeal.τ).loc Cert.XOutRefIdeal.main_arg3) = m' ((c.tc : Thread Cert.XOutRefIdeal.nD Cert.XOutRefIdeal.τ).loc Cert.XOutRefIdeal.main_arg3))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v9)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v9) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v8) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v9_0)) (v1 : (c : Dev Cert.GluIdeal.nD) → Buf (Elt Ideal) ((c.tc : Thread Cert.GluIdeal.nD Cert.GluIdeal.τ).loc Cert.GluIdeal.main_v9_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v9_0) = v0 c
          ∧ r.2.mem ((c.tc : Thread Cert.GluIdeal.nD Cert.GluIdeal.τ).loc Cert.GluIdeal.main_v9_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v4) = v0 c
          ∧ r.2.mem ((c.tc : Thread Cert.GluRefIdeal.nD Cert.GluRefIdeal.τ).loc Cert.GluRefIdeal.main_v12) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_XqF_XqFIdeal : Prop :=
  True

def algebraic_XqFIdeal_XqFRefIdeal [hXqFIdeal : Cert.XqFIdeal.Facts] [hXqFRefIdeal : Cert.XqFRefIdeal.Facts] : Prop :=
  ∀ (m : (ℓ : Loc Cert.XqFIdeal.nD Cert.XqFIdeal.τ Cert.XqFIdeal.sig) → Buf (Elt Ideal) ℓ) (g : Dev Cert.XqFIdeal.nD → PrngReg)
    (m' : (ℓ : Loc Cert.XqFRefIdeal.nD Cert.XqFRefIdeal.τ Cert.XqFRefIdeal.sig) → Buf (Elt Ideal) ℓ) (g' : Dev Cert.XqFRefIdeal.nD → PrngReg), Pre_XqFIdeal m →
    (∀ c : Dev Cert.XqFIdeal.nD,
      m' ((c.tc : Thread Cert.XqFRefIdeal.nD Cert.XqFRefIdeal.τ).loc Cert.XqFRefIdeal.main_arg0) = m ((c.tc : Thread Cert.XqFIdeal.nD Cert.XqFIdeal.τ).loc Cert.XqFIdeal.main_arg0)
      ∧ m' ((c.tc : Thread Cert.XqFRefIdeal.nD Cert.XqFRefIdeal.τ).loc Cert.XqFRefIdeal.main_arg1) = m ((c.tc : Thread Cert.XqFIdeal.nD Cert.XqFIdeal.τ).loc Cert.XqFIdeal.main_arg1)) →
    ∃ (v0 : (c : Dev Cert.XqFIdeal.nD) → Buf (Elt Ideal) ((c.tc : Thread Cert.XqFIdeal.nD Cert.XqFIdeal.τ).loc Cert.XqFIdeal.main_v2)),
      θ_run (Cert.XqFIdeal.defs (F := Ideal)) (onTc (τ := Cert.XqFIdeal.τ) (Cert.XqFIdeal.main (F := Ideal))) ⟨m, fun _ => 0, g⟩ (fun r => ∀ c : Dev Cert.XqFIdeal.nD,
          r.2.mem ((c.tc : Thread Cert.XqFIdeal.nD Cert.XqFIdeal.τ).loc Cert.XqFIdeal.main_v2) = v0 c
          ∧ r.2.mem ((c.tc : Thread Cert.XqFIdeal.nD Cert.XqFIdeal.τ).loc Cert.XqFIdeal.main_arg0) = m ((c.tc : Thread Cert.XqFIdeal.nD Cert.XqFIdeal.τ).loc Cert.XqFIdeal.main_arg0)
          ∧ r.2.mem ((c.tc : Thread Cert.XqFIdeal.nD Cert.XqFIdeal.τ).loc Cert.XqFIdeal.main_arg1) = m ((c.tc : Thread Cert.XqFIdeal.nD Cert.XqFIdeal.τ).loc Cert.XqFIdeal.main_arg1))
      ∧ θ_run (Cert.XqFRefIdeal.defs (F := Ideal)) (onTc (τ := Cert.XqFRefIdeal.τ) (Cert.XqFRefIdeal.main (F := Ideal))) ⟨m', fun _ => 0, g'⟩ (fun r => ∀ c : Dev Cert.XqFRefIdeal.nD,
          r.2.mem ((c.tc : Thread Cert.XqFRefIdeal.nD Cert.XqFRefIdeal.τ).loc Cert.XqFRefIdeal.main_v3) = v0 c
          ∧ r.2.mem ((c.tc : Thread Cert.XqFRefIdeal.nD Cert.XqFRefIdeal.τ).loc Cert.XqFRefIdeal.main_arg0) = m' ((c.tc : Thread Cert.XqFRefIdeal.nD Cert.XqFRefIdeal.τ).loc Cert.XqFRefIdeal.main_arg0)
          ∧ r.2.mem ((c.tc : Thread Cert.XqFRefIdeal.nD Cert.XqFRefIdeal.τ).loc Cert.XqFRefIdeal.main_arg1) = m' ((c.tc : Thread Cert.XqFRefIdeal.nD Cert.XqFRefIdeal.τ).loc Cert.XqFRefIdeal.main_arg1))

def preserves_XattnF_XattnFIdeal : Prop :=
  True

def algebraic_XattnFIdeal_XattnFRefIdeal [hXattnFIdeal : Cert.XattnFIdeal.Facts] [hXattnFRefIdeal : Cert.XattnFRefIdeal.Facts] : Prop :=
  ∀ (m : (ℓ : Loc Cert.XattnFIdeal.nD Cert.XattnFIdeal.τ Cert.XattnFIdeal.sig) → Buf (Elt Ideal) ℓ) (g : Dev Cert.XattnFIdeal.nD → PrngReg)
    (m' : (ℓ : Loc Cert.XattnFRefIdeal.nD Cert.XattnFRefIdeal.τ Cert.XattnFRefIdeal.sig) → Buf (Elt Ideal) ℓ) (g' : Dev Cert.XattnFRefIdeal.nD → PrngReg), Pre_XattnFIdeal m →
    (∀ c : Dev Cert.XattnFIdeal.nD,
      m' ((c.tc : Thread Cert.XattnFRefIdeal.nD Cert.XattnFRefIdeal.τ).loc Cert.XattnFRefIdeal.main_arg0) = m ((c.tc : Thread Cert.XattnFIdeal.nD Cert.XattnFIdeal.τ).loc Cert.XattnFIdeal.main_arg0)
      ∧ m' ((c.tc : Thread Cert.XattnFRefIdeal.nD Cert.XattnFRefIdeal.τ).loc Cert.XattnFRefIdeal.main_arg1) = m ((c.tc : Thread Cert.XattnFIdeal.nD Cert.XattnFIdeal.τ).loc Cert.XattnFIdeal.main_arg1)) →
    ∃ (v0 : (c : Dev Cert.XattnFIdeal.nD) → Buf (Elt Ideal) ((c.tc : Thread Cert.XattnFIdeal.nD Cert.XattnFIdeal.τ).loc Cert.XattnFIdeal.main_v4)),
      θ_run (Cert.XattnFIdeal.defs (F := Ideal)) (onTc (τ := Cert.XattnFIdeal.τ) (Cert.XattnFIdeal.main (F := Ideal))) ⟨m, fun _ => 0, g⟩ (fun r => ∀ c : Dev Cert.XattnFIdeal.nD,
          r.2.mem ((c.tc : Thread Cert.XattnFIdeal.nD Cert.XattnFIdeal.τ).loc Cert.XattnFIdeal.main_v4) = v0 c
          ∧ r.2.mem ((c.tc : Thread Cert.XattnFIdeal.nD Cert.XattnFIdeal.τ).loc Cert.XattnFIdeal.main_arg0) = m ((c.tc : Thread Cert.XattnFIdeal.nD Cert.XattnFIdeal.τ).loc Cert.XattnFIdeal.main_arg0)
          ∧ r.2.mem ((c.tc : Thread Cert.XattnFIdeal.nD Cert.XattnFIdeal.τ).loc Cert.XattnFIdeal.main_arg1) = m ((c.tc : Thread Cert.XattnFIdeal.nD Cert.XattnFIdeal.τ).loc Cert.XattnFIdeal.main_arg1))
      ∧ θ_run (Cert.XattnFRefIdeal.defs (F := Ideal)) (onTc (τ := Cert.XattnFRefIdeal.τ) (Cert.XattnFRefIdeal.main (F := Ideal))) ⟨m', fun _ => 0, g'⟩ (fun r => ∀ c : Dev Cert.XattnFRefIdeal.nD,
          r.2.mem ((c.tc : Thread Cert.XattnFRefIdeal.nD Cert.XattnFRefIdeal.τ).loc Cert.XattnFRefIdeal.main_v23) = v0 c
          ∧ r.2.mem ((c.tc : Thread Cert.XattnFRefIdeal.nD Cert.XattnFRefIdeal.τ).loc Cert.XattnFRefIdeal.main_arg0) = m' ((c.tc : Thread Cert.XattnFRefIdeal.nD Cert.XattnFRefIdeal.τ).loc Cert.XattnFRefIdeal.main_arg0)
          ∧ r.2.mem ((c.tc : Thread Cert.XattnFRefIdeal.nD Cert.XattnFRefIdeal.τ).loc Cert.XattnFRefIdeal.main_arg1) = m' ((c.tc : Thread Cert.XattnFRefIdeal.nD Cert.XattnFRefIdeal.τ).loc Cert.XattnFRefIdeal.main_arg1))

def Claim : Prop :=
  ∃ (hFlash : Cert.Flash.Facts) (hFlashIdeal : Cert.FlashIdeal.Facts) (hFlashRefIdeal : Cert.FlashRefIdeal.Facts) (hMerge : Cert.Merge.Facts) (hMergeIdeal : Cert.MergeIdeal.Facts) (hMergeRefIdeal : Cert.MergeRefIdeal.Facts) (hRelu : Cert.Relu.Facts) (hReluIdeal : Cert.ReluIdeal.Facts) (hReluRefIdeal : Cert.ReluRefIdeal.Facts) (hMemN : Cert.MemN.Facts) (hMemNIdeal : Cert.MemNIdeal.Facts) (hMemNRefIdeal : Cert.MemNRefIdeal.Facts) (hFlashF : Cert.FlashF.Facts) (hFlashFIdeal : Cert.FlashFIdeal.Facts) (hFlashFRefIdeal : Cert.FlashFRefIdeal.Facts) (hXattn : Cert.Xattn.Facts) (hXattnIdeal : Cert.XattnIdeal.Facts) (hTaps : Cert.Taps.Facts) (hTapsIdeal : Cert.TapsIdeal.Facts) (hConvN : Cert.ConvN.Facts) (hConvNIdeal : Cert.ConvNIdeal.Facts) (hRope : Cert.Rope.Facts) (hRopeIdeal : Cert.RopeIdeal.Facts) (hLoraN : Cert.LoraN.Facts) (hLoraNIdeal : Cert.LoraNIdeal.Facts) (hMlaDo : Cert.MlaDo.Facts) (hMlaDoIdeal : Cert.MlaDoIdeal.Facts) (hMlpDx : Cert.MlpDx.Facts) (hMlpDxIdeal : Cert.MlpDxIdeal.Facts) (hXqDx : Cert.XqDx.Facts) (hXqDxIdeal : Cert.XqDxIdeal.Facts) (hProjDx : Cert.ProjDx.Facts) (hProjDxIdeal : Cert.ProjDxIdeal.Facts) (hLoss : Cert.Loss.Facts) (hLossIdeal : Cert.LossIdeal.Facts) (hRmsMix : Cert.RmsMix.Facts) (hRmsMixIdeal : Cert.RmsMixIdeal.Facts) (hRmsMixRefIdeal : Cert.RmsMixRefIdeal.Facts) (hMemF : Cert.MemF.Facts) (hMemFIdeal : Cert.MemFIdeal.Facts) (hMemFRefIdeal : Cert.MemFRefIdeal.Facts) (hLoraF : Cert.LoraF.Facts) (hLoraFIdeal : Cert.LoraFIdeal.Facts) (hLoraFRefIdeal : Cert.LoraFRefIdeal.Facts) (hMlpUp : Cert.MlpUp.Facts) (hMlpUpIdeal : Cert.MlpUpIdeal.Facts) (hMlpUpRefIdeal : Cert.MlpUpRefIdeal.Facts) (hMixOut : Cert.MixOut.Facts) (hMixOutIdeal : Cert.MixOutIdeal.Facts) (hMixOutRefIdeal : Cert.MixOutRefIdeal.Facts) (hXOut : Cert.XOut.Facts) (hXOutIdeal : Cert.XOutIdeal.Facts) (hXOutRefIdeal : Cert.XOutRefIdeal.Facts) (hGates : Cert.Gates.Facts) (hGatesIdeal : Cert.GatesIdeal.Facts) (hGatesRefIdeal : Cert.GatesRefIdeal.Facts) (hGlu : Cert.Glu.Facts) (hGluIdeal : Cert.GluIdeal.Facts) (hGluRefIdeal : Cert.GluRefIdeal.Facts) (hXqF : Cert.XqF.Facts) (hXqFIdeal : Cert.XqFIdeal.Facts) (hXqFRefIdeal : Cert.XqFRefIdeal.Facts) (hXattnF : Cert.XattnF.Facts) (hXattnFIdeal : Cert.XattnFIdeal.Facts) (hXattnFRefIdeal : Cert.XattnFRefIdeal.Facts) (hPre_flash_finite : Cert.Pre_flash_finite.Facts) (hPre_flashf_finite : Cert.Pre_flashf_finite.Facts) (hOn_flash_on : Cert.On_flash_on.Facts) (hOn_merge_on : Cert.On_merge_on.Facts) (hOn_flashf_on : Cert.On_flashf_on.Facts),
    quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Merge (hMerge := hMerge)
    ∧ quiescent_MergeIdeal (hMergeIdeal := hMergeIdeal)
    ∧ quiescent_MergeRefIdeal (hMergeRefIdeal := hMergeRefIdeal)
    ∧ quiescent_Relu (hRelu := hRelu)
    ∧ quiescent_ReluIdeal (hReluIdeal := hReluIdeal)
    ∧ quiescent_ReluRefIdeal (hReluRefIdeal := hReluRefIdeal)
    ∧ quiescent_MemN (hMemN := hMemN)
    ∧ quiescent_MemNIdeal (hMemNIdeal := hMemNIdeal)
    ∧ quiescent_MemNRefIdeal (hMemNRefIdeal := hMemNRefIdeal)
    ∧ quiescent_FlashF (hFlashF := hFlashF)
    ∧ quiescent_FlashFIdeal (hFlashFIdeal := hFlashFIdeal)
    ∧ quiescent_FlashFIdeal_pre_flashf_finite (hFlashFIdeal := hFlashFIdeal) (hPre_flashf_finite := hPre_flashf_finite)
    ∧ quiescent_FlashFRefIdeal (hFlashFRefIdeal := hFlashFRefIdeal)
    ∧ quiescent_FlashFRefIdeal_pre_flashf_finite (hFlashFRefIdeal := hFlashFRefIdeal) (hPre_flashf_finite := hPre_flashf_finite)
    ∧ quiescent_Xattn (hXattn := hXattn)
    ∧ quiescent_XattnIdeal (hXattnIdeal := hXattnIdeal)
    ∧ quiescent_Taps (hTaps := hTaps)
    ∧ quiescent_TapsIdeal (hTapsIdeal := hTapsIdeal)
    ∧ quiescent_ConvN (hConvN := hConvN)
    ∧ quiescent_ConvNIdeal (hConvNIdeal := hConvNIdeal)
    ∧ quiescent_Rope (hRope := hRope)
    ∧ quiescent_RopeIdeal (hRopeIdeal := hRopeIdeal)
    ∧ quiescent_LoraN (hLoraN := hLoraN)
    ∧ quiescent_LoraNIdeal (hLoraNIdeal := hLoraNIdeal)
    ∧ quiescent_MlaDo (hMlaDo := hMlaDo)
    ∧ quiescent_MlaDoIdeal (hMlaDoIdeal := hMlaDoIdeal)
    ∧ quiescent_MlpDx (hMlpDx := hMlpDx)
    ∧ quiescent_MlpDxIdeal (hMlpDxIdeal := hMlpDxIdeal)
    ∧ quiescent_XqDx (hXqDx := hXqDx)
    ∧ quiescent_XqDxIdeal (hXqDxIdeal := hXqDxIdeal)
    ∧ quiescent_ProjDx (hProjDx := hProjDx)
    ∧ quiescent_ProjDxIdeal (hProjDxIdeal := hProjDxIdeal)
    ∧ quiescent_Loss (hLoss := hLoss)
    ∧ quiescent_LossIdeal (hLossIdeal := hLossIdeal)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_MemF (hMemF := hMemF)
    ∧ quiescent_MemFIdeal (hMemFIdeal := hMemFIdeal)
    ∧ quiescent_MemFRefIdeal (hMemFRefIdeal := hMemFRefIdeal)
    ∧ quiescent_LoraF (hLoraF := hLoraF)
    ∧ quiescent_LoraFIdeal (hLoraFIdeal := hLoraFIdeal)
    ∧ quiescent_LoraFRefIdeal (hLoraFRefIdeal := hLoraFRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_XOut (hXOut := hXOut)
    ∧ quiescent_XOutIdeal (hXOutIdeal := hXOutIdeal)
    ∧ quiescent_XOutRefIdeal (hXOutRefIdeal := hXOutRefIdeal)
    ∧ quiescent_Gates (hGates := hGates)
    ∧ quiescent_GatesIdeal (hGatesIdeal := hGatesIdeal)
    ∧ quiescent_GatesRefIdeal (hGatesRefIdeal := hGatesRefIdeal)
    ∧ quiescent_Glu (hGlu := hGlu)
    ∧ quiescent_GluIdeal (hGluIdeal := hGluIdeal)
    ∧ quiescent_GluRefIdeal (hGluRefIdeal := hGluRefIdeal)
    ∧ quiescent_XqF (hXqF := hXqF)
    ∧ quiescent_XqFIdeal (hXqFIdeal := hXqFIdeal)
    ∧ quiescent_XqFRefIdeal (hXqFRefIdeal := hXqFRefIdeal)
    ∧ quiescent_XattnF (hXattnF := hXattnF)
    ∧ quiescent_XattnFIdeal (hXattnFIdeal := hXattnFIdeal)
    ∧ quiescent_XattnFRefIdeal (hXattnFRefIdeal := hXattnFRefIdeal)
    ∧ preserves_Flash_FlashIdeal
    ∧ algebraic_FlashIdeal_FlashRefIdeal_on_flash_on_pre_flash_finite (hFlashIdeal := hFlashIdeal) (hFlashRefIdeal := hFlashRefIdeal) (hPre_flash_finite := hPre_flash_finite) (hOn_flash_on := hOn_flash_on)
    ∧ preserves_Merge_MergeIdeal
    ∧ algebraic_MergeIdeal_MergeRefIdeal_on_merge_on (hMergeIdeal := hMergeIdeal) (hMergeRefIdeal := hMergeRefIdeal) (hOn_merge_on := hOn_merge_on)
    ∧ preserves_Relu_ReluIdeal
    ∧ algebraic_ReluIdeal_ReluRefIdeal (hReluIdeal := hReluIdeal) (hReluRefIdeal := hReluRefIdeal)
    ∧ preserves_MemN_MemNIdeal
    ∧ algebraic_MemNIdeal_MemNRefIdeal (hMemNIdeal := hMemNIdeal) (hMemNRefIdeal := hMemNRefIdeal)
    ∧ preserves_FlashF_FlashFIdeal
    ∧ algebraic_FlashFIdeal_FlashFRefIdeal_on_flashf_on_pre_flashf_finite (hFlashFIdeal := hFlashFIdeal) (hFlashFRefIdeal := hFlashFRefIdeal) (hPre_flashf_finite := hPre_flashf_finite) (hOn_flashf_on := hOn_flashf_on)
    ∧ preserves_Xattn_XattnIdeal
    ∧ preserves_Taps_TapsIdeal
    ∧ preserves_ConvN_ConvNIdeal
    ∧ preserves_Rope_RopeIdeal
    ∧ preserves_LoraN_LoraNIdeal
    ∧ preserves_MlaDo_MlaDoIdeal
    ∧ preserves_MlpDx_MlpDxIdeal
    ∧ preserves_XqDx_XqDxIdeal
    ∧ preserves_ProjDx_ProjDxIdeal
    ∧ preserves_Loss_LossIdeal
    ∧ preserves_RmsMix_RmsMixIdeal
    ∧ algebraic_RmsMixIdeal_RmsMixRefIdeal (hRmsMixIdeal := hRmsMixIdeal) (hRmsMixRefIdeal := hRmsMixRefIdeal)
    ∧ preserves_MemF_MemFIdeal
    ∧ algebraic_MemFIdeal_MemFRefIdeal (hMemFIdeal := hMemFIdeal) (hMemFRefIdeal := hMemFRefIdeal)
    ∧ preserves_LoraF_LoraFIdeal
    ∧ algebraic_LoraFIdeal_LoraFRefIdeal (hLoraFIdeal := hLoraFIdeal) (hLoraFRefIdeal := hLoraFRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MixOut_MixOutIdeal
    ∧ algebraic_MixOutIdeal_MixOutRefIdeal (hMixOutIdeal := hMixOutIdeal) (hMixOutRefIdeal := hMixOutRefIdeal)
    ∧ preserves_XOut_XOutIdeal
    ∧ algebraic_XOutIdeal_XOutRefIdeal (hXOutIdeal := hXOutIdeal) (hXOutRefIdeal := hXOutRefIdeal)
    ∧ preserves_Gates_GatesIdeal
    ∧ algebraic_GatesIdeal_GatesRefIdeal (hGatesIdeal := hGatesIdeal) (hGatesRefIdeal := hGatesRefIdeal)
    ∧ preserves_Glu_GluIdeal
    ∧ algebraic_GluIdeal_GluRefIdeal (hGluIdeal := hGluIdeal) (hGluRefIdeal := hGluRefIdeal)
    ∧ preserves_XqF_XqFIdeal
    ∧ algebraic_XqFIdeal_XqFRefIdeal (hXqFIdeal := hXqFIdeal) (hXqFRefIdeal := hXqFRefIdeal)
    ∧ preserves_XattnF_XattnFIdeal
    ∧ algebraic_XattnFIdeal_XattnFRefIdeal (hXattnFIdeal := hXattnFIdeal) (hXattnFRefIdeal := hXattnFRefIdeal)
-- ==== On_flash_on.lean ====
abbrev S8192x8x96 : Shape := ⟨3, ![8192, 8, 96]⟩
abbrev S8192x8x64 : Shape := ⟨3, ![8192, 8, 64]⟩
abbrev S8192x1024 : Shape := ⟨2, ![8192, 1024]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  bcast_S_S8192x2048 : S_.BroadcastsInDim S8192x2048 (![] : Fin 0 → Fin S8192x2048.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x1024 1 × IVec S8192x1024 1 × IVec S8192x2048 1 :=
  let main_v0 : IVec S8192x1024 32 := iotaInDim S8192x1024 32 1
  let main_v1 : IVec S8192x2048 32 := iotaInDim S8192x2048 32 1
  let main_c : IVec S_ 32 := constantI S_ 32 127#32
  let main_v2 : IVec S8192x1024 32 := broadcastInDim S8192x1024 ![] bcast_S_S8192x1024 main_c
  let main_v3 : IVec S8192x1024 32 := andi main_v0 main_v2
  let main_c_0 : IVec S_ 32 := constantI S_ 32 96#32
  let main_v4 : IVec S8192x1024 32 := broadcastInDim S8192x1024 ![] bcast_S_S8192x1024 main_c_0
  let main_v5 : IVec S8192x1024 1 := cmpi .slt main_v3 main_v4
  let main_c_1 : IVec S_ 32 := constantI S_ 32 127#32
  let main_v6 : IVec S8192x1024 32 := broadcastInDim S8192x1024 ![] bcast_S_S8192x1024 main_c_1
  let main_v7 : IVec S8192x1024 32 := andi main_v0 main_v6
  let main_c_2 : IVec S_ 32 := constantI S_ 32 96#32
  let main_v8 : IVec S8192x1024 32 := broadcastInDim S8192x1024 ![] bcast_S_S8192x1024 main_c_2
  let main_v9 : IVec S8192x1024 1 := cmpi .slt main_v7 main_v8
  let main_c_3 : IVec S_ 32 := constantI S_ 32 1024#32
  let main_v10 : IVec S8192x2048 32 := broadcastInDim S8192x2048 ![] bcast_S_S8192x2048 main_c_3
  let main_v11 : IVec S8192x2048 1 := cmpi .sge main_v1 main_v10
  let main_c_4 : IVec S_ 32 := constantI S_ 32 127#32
  let main_v12 : IVec S8192x2048 32 := broadcastInDim S8192x2048 ![] bcast_S_S8192x2048 main_c_4
  let main_v13 : IVec S8192x2048 32 := andi main_v1 main_v12
  let main_c_5 : IVec S_ 32 := constantI S_ 32 64#32
  let main_v14 : IVec S8192x2048 32 := broadcastInDim S8192x2048 ![] bcast_S_S8192x2048 main_c_5
  let main_v15 : IVec S8192x2048 1 := cmpi .slt main_v13 main_v14
  let main_v16 : IVec S8192x2048 1 := andi main_v11 main_v15
  (main_v5, main_v9, main_v16)
-- ==== On_flashf_on.lean ====
abbrev S8192x8x96 : Shape := ⟨3, ![8192, 8, 96]⟩
abbrev S8192x8x64 : Shape := ⟨3, ![8192, 8, 64]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x8x96 .f32) (main_arg1 : FVec F S8192x8x96 .f32) (main_arg2 : FVec F S8192x8x64 .f32) : IVec S8192x1024 1 × IVec S8192x1024 1 :=
  let main_v0 : IVec S8192x1024 32 := iotaInDim S8192x1024 32 1
  let main_c : IVec S_ 32 := constantI S_ 32 127#32
  let main_v1 : IVec S8192x1024 32 := broadcastInDim S8192x1024 ![] bcast_S_S8192x1024 main_c
  let main_v2 : IVec S8192x1024 32 := andi main_v0 main_v1
  let main_c_0 : IVec S_ 32 := constantI S_ 32 64#32
  let main_v3 : IVec S8192x1024 32 := broadcastInDim S8192x1024 ![] bcast_S_S8192x1024 main_c_0
  let main_v4 : IVec S8192x1024 1 := cmpi .slt main_v2 main_v3
  let main_c_1 : IVec S_ 32 := constantI S_ 32 0#32
  let main_v5 : IVec S8192x1024 32 := broadcastInDim S8192x1024 ![] bcast_S_S8192x1024 main_c_1
  let main_v6 : IVec S8192x1024 1 := cmpi .sge main_v0 main_v5
  (main_v4, main_v6)
-- ==== On_merge_on.lean ====
abbrev S8192x2048 : Shape := ⟨2, ![8192, 2048]⟩
abbrev S8192x1024 : Shape := ⟨2, ![8192, 1024]⟩
abbrev S_ : Shape := ⟨0, ![]⟩
abbrev S8192x3840 : Shape := ⟨2, ![8192, 3840]⟩

class Facts : Prop where
  bcast_S_S8192x1024 : S_.BroadcastsInDim S8192x1024 (![] : Fin 0 → Fin S8192x1024.rank)
  bcast_S_S8192x3840 : S_.BroadcastsInDim S8192x3840 (![] : Fin 0 → Fin S8192x3840.rank)

variable [Facts]

def fn {F : FTy → Type} [FloatOps F] (main_arg0 : FVec F S8192x2048 .f32) (main_arg1 : FVec F S8192x1024 .f32) (main_arg2 : FVec F S8192x1024 .f32) (main_arg3 : FVec F S8192x1024 .f32) : IVec S8192x1024 1 × IVec S8192x1024 1 × IVec S8192x3840 1 :=
  let main_c : IVec S_ 1 := constantI S_ 1 1#1
  let main_v0 : IVec S8192x1024 1 := broadcastInDim S8192x1024 ![] bcast_S_S8192x1024 main_c
  let main_v1 : IVec S8192x3840 32 := iotaInDim S8192x3840 32 1
  let main_c_0 : IVec S_ 32 := constantI S_ 32 2048#32
  let main_v2 : IVec S8192x3840 32 := broadcastInDim S8192x3840 ![] bcast_S_S8192x3840 main_c_0
  let main_v3 : IVec S8192x3840 1 := cmpi .slt main_v1 main_v2
  (main_v0, main_v0, main_v3)
-- ==== Pre_flash_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) (main_arg3 : FVec F S8192x8x64 .f32) : IVec S8192x8x96 1 × IVec S8192x8x96 1 × IVec S8192x8x64 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8x64 .f32 := Host.absf main_arg3
  let main_cst_2 : FVec F S_ .f32 := constant S_ .f32 0x7F800000#32
  let main_v10 : FVec F S8192x8x64 .f32 := broadcastInDim S8192x8x64 ![] bcast_S_S8192x8x64 main_cst_2
  let main_v11 : IVec S8192x8x64 1 := cmpf .olt main_v9 main_v10
  (main_v2, main_v5, main_v8, main_v11)
-- ==== Pre_flashf_finite.lean ====
abbrev S8192x8x96 : Shape := ⟨3, ![8192, 8, 96]⟩
abbrev S8192x8x64 : Shape := ⟨3, ![8192, 8, 64]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)

variable [Facts]

def fn {F : FTy → Type} [FloatOps F] (main_arg0 : FVec F S8192x8x96 .f32) (main_arg1 : FVec F S8192x8x96 .f32) (main_arg2 : FVec F S8192x8x64 .f32) : IVec S8192x8x96 1 × IVec S8192x8x96 1 × IVec S8192x8x64 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  (main_v2, main_v5, main_v8)
-- ==== Flash.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8 : Shape := ⟨2, ![8192, 8]⟩
abbrev S8192x8x1 : Shape := ⟨3, ![8192, 8, 1]⟩
abbrev S8192x8x99 : Shape := ⟨3, ![8192, 8, 99]⟩
abbrev S8192x8x128 : Shape := ⟨3, ![8192, 8, 128]⟩
abbrev S8192x1024 : Shape := ⟨2, ![8192, 1024]⟩
abbrev S8192x8x3 : Shape := ⟨3, ![8192, 8, 3]⟩
abbrev S8192x8x67 : Shape := ⟨3, ![8192, 8, 67]⟩
abbrev S8192x2048 : Shape := ⟨2, ![8192, 2048]⟩
abbrev S8192x256 : Shape := ⟨2, ![8192, 256]⟩
abbrev S1024x256 : Shape := ⟨2, ![1024, 256]⟩
abbrev S512x128 : Shape := ⟨2, ![512, 128]⟩
abbrev S512x512 : Shape := ⟨2, ![512, 512]⟩
abbrev S1024x128 : Shape := ⟨2, ![1024, 128]⟩
abbrev S1024x1024 : Shape := ⟨2, ![1024, 1024]⟩

abbrev nBuf : Space → Nat
  | .hbm => 84
  | .vmem => 16
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192x8192, .i1⟩
  | .hbm, ⟨12, _⟩ => ⟨S_, .f32⟩
  | .hbm, ⟨13, _⟩ => ⟨S_, .f32⟩
  | .hbm, ⟨14, _⟩ => ⟨S8x8192x8192, .i1⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .f32⟩
  | .hbm, ⟨27, _⟩ => ⟨S8x8192x8192, .f32⟩
  | .hbm, ⟨28, _⟩ => ⟨S8x64x8192, .f32⟩
  | .hbm, ⟨29, _⟩ => ⟨S8192x8x64, .f32⟩
  | .hbm, ⟨30, _⟩ => ⟨S8x8192x1, .f32⟩
  | .hbm, ⟨31, _⟩ => ⟨S8x8192x1, .f32⟩
  | .hbm, ⟨32, _⟩ => ⟨S8x8192, .f32⟩
  | .hbm, ⟨33, _⟩ => ⟨S8192x8, .f32⟩
  | .hbm, ⟨34, _⟩ => ⟨S8192x8x1, .f32⟩
  | .hbm, ⟨35, _⟩ => ⟨S8192x8x64, .f32⟩
  | .hbm, ⟨36, _⟩ => ⟨S_, .f32⟩
  | .hbm, ⟨37, _⟩ => ⟨S8192x8, .f32⟩
  | .hbm, ⟨38, _⟩ => ⟨S8192x8x1, .f32⟩
  | .hbm, ⟨39, _⟩ => ⟨S8192x8x1, .bf16⟩
  | .hbm, ⟨40, _⟩ => ⟨S8192x8x1, .f32⟩
  | .hbm, ⟨41, _⟩ => ⟨S8192x8x1, .f32⟩
  | .hbm, ⟨42, _⟩ => ⟨S8192x8x1, .bf16⟩
  | .hbm, ⟨43, _⟩ => ⟨S8192x8x1, .f32⟩
  | .hbm, ⟨44, _⟩ => ⟨S8192x8x1, .f32⟩
  | .hbm, ⟨45, _⟩ => ⟨S8192x8x1, .bf16⟩
  | .hbm, ⟨46, _⟩ => ⟨S8192x8x96, .bf16⟩
  | .hbm, ⟨47, _⟩ => ⟨S8192x8x99, .bf16⟩
  | .hbm, ⟨48, _⟩ => ⟨S_, .i32⟩
  | .hbm, ⟨49, _⟩ => ⟨S_, .bf16⟩
  | .hbm, ⟨50, _⟩ => ⟨S8192x8x128, .bf16⟩
  | .hbm, ⟨51, _⟩ => ⟨S8192x1024, .bf16⟩
  | .hbm, ⟨52, _⟩ => ⟨S_, .f32⟩
  | .hbm, ⟨53, _⟩ => ⟨S8192x8x3, .f32⟩
  | .hbm, ⟨54, _⟩ => ⟨S8192x8x99, .f32⟩
  | .hbm, ⟨55, _⟩ => ⟨S_, .i32⟩
  | .hbm, ⟨56, _⟩ => ⟨S_, .f32⟩
  | .hbm, ⟨57, _⟩ => ⟨S8192x8x128, .f32⟩
  | .hbm, ⟨58, _⟩ => ⟨S8192x1024, .f32⟩
  | .hbm, ⟨59, _⟩ => ⟨S8192x1024, .bf16⟩
  | .hbm, ⟨60, _⟩ => ⟨S_, .f32⟩
  | .hbm, ⟨61, _⟩ => ⟨S8192x8x3, .f32⟩
  | .hbm, ⟨62, _⟩ => ⟨S8192x8x67, .f32⟩
  | .hbm, ⟨63, _⟩ => ⟨S_, .i32⟩
  | .hbm, ⟨64, _⟩ => ⟨S_, .f32⟩
  | .hbm, ⟨65, _⟩ => ⟨S8192x8x128, .f32⟩
  | .hbm, ⟨66, _⟩ => ⟨S8192x1024, .f32⟩
  | .hbm, ⟨67, _⟩ => ⟨S8192x1024, .bf16⟩
  | .hbm, ⟨68, _⟩ => ⟨S8192x8x1, .bf16⟩
  | .hbm, ⟨69, _⟩ => ⟨S8192x8x1, .f32⟩
  | .hbm, ⟨70, _⟩ => ⟨S8192x8x1, .f32⟩
  | .hbm, ⟨71, _⟩ => ⟨S8192x8x1, .bf16⟩
  | .hbm, ⟨72, _⟩ => ⟨S8192x8x1, .f32⟩
  | .hbm, ⟨73, _⟩ => ⟨S8192x8x1, .f32⟩
  | .hbm, ⟨74, _⟩ => ⟨S8192x8x1, .bf16⟩
  | .hbm, ⟨75, _⟩ => ⟨S8192x8x64, .bf16⟩
  | .hbm, ⟨76, _⟩ => ⟨S8192x8x67, .bf16⟩
  | .hbm, ⟨77, _⟩ => ⟨S_, .i32⟩
  | .hbm, ⟨78, _⟩ => ⟨S_, .bf16⟩
  | .hbm, ⟨79, _⟩ => ⟨S8192x8x128, .bf16⟩
  | .hbm, ⟨80, _⟩ => ⟨S8192x1024, .bf16⟩
  | .hbm, ⟨81, _⟩ => ⟨S8192x1024, .f32⟩
  | .hbm, ⟨82, _⟩ => ⟨S8192x1024, .bf16⟩
  | .hbm, ⟨83, _⟩ => ⟨S8192x2048, .bf16⟩
  | .local _ .vmem, ⟨0, _⟩ => ⟨S8192x256, .bf16⟩
  | .local _ .vmem, ⟨1, _⟩ => ⟨S8192x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .f32⟩
  | .local _ .vmem, ⟨9, _⟩ => ⟨S8192x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .f32⟩
  | .local _ .vmem, ⟨15, _⟩ => ⟨S1024x256, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c : Ref sig .tc := ⟨.hbm, 48, rfl⟩
abbrev main_call1_v0 : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_c_4 : Ref sig .tc := ⟨.hbm, 55, rfl⟩
abbrev main_call2_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_call3_v0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_7 : Ref sig .tc := ⟨.hbm, 77, rfl⟩
abbrev main_call4_v0 : Ref sig .tc := ⟨.hbm, 78, rfl⟩
abbrev main_v58 : Ref sig .tc := ⟨.hbm, 79, rfl⟩
abbrev main_v59 : Ref sig .tc := ⟨.hbm, 80, rfl⟩
abbrev main_v60_0 : Ref sig .tc := ⟨.hbm, 81, rfl⟩
abbrev main_v60_1 : Ref sig .tc := ⟨.hbm, 82, rfl⟩
abbrev main_v60_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_5 : Index := 0#32
  ![v13.toNat, 0]
def k0_off2 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v53 : Index := Scalar.indexCast v12
  let c128 : Index := 128#32
  ![v53.toNat, 128]
def k0_mult2 (i : grid0.Coords) : BitVec 32 :=
  let arg1 : BitVec 32 := BitVec.ofNat 32 (i 1).val
  let c1024_i32_48 : BitVec 32 := 1024#32
  let v93 : BitVec 32 := Scalar.muli arg1 c1024_i32_48
  let c512_i32 : BitVec 32 := 512#32
  let v94 : BitVec 32 := Scalar.addi v93 c512_i32
  v94
def k0_off3 (i : grid0.Coords) : Fin 2 → Nat :=
  let arg1 : BitVec 32 := BitVec.ofNat 32 (i 1).val
  let c1024_i32_48 : BitVec 32 := 1024#32
  let v93 : BitVec 32 := Scalar.muli arg1 c1024_i32_48
  let c512_i32 : BitVec 32 := 512#32
  let v94 : BitVec 32 := Scalar.addi v93 c512_i32
  let v95 : BitVec 32 := v94
  let v96 : Index := Scalar.indexCast v95
  let c0_49 : Index := 0#32
  ![v96.toNat, 0]
def k0_off4 (i : grid0.Coords) : Fin 2 → Nat :=
  let arg1 : BitVec 32 := BitVec.ofNat 32 (i 1).val
  let c1024_i32_48 : BitVec 32 := 1024#32
  let v93 : BitVec 32 := Scalar.muli arg1 c1024_i32_48
  let c512_i32 : BitVec 32 := 512#32
  let v94 : BitVec 32 := Scalar.addi v93 c512_i32
  let v95 : BitVec 32 := v94
  let v131 : Index := Scalar.indexCast v95
  let c128_70 : Index := 128#32
  ![v131.toNat, 128]
def k0_mult3 (i : grid0.Coords) : BitVec 32 :=
  let arg1 : BitVec 32 := BitVec.ofNat 32 (i 1).val
  let c1024_i32_91 : BitVec 32 := 1024#32
  let v166 : BitVec 32 := Scalar.muli arg1 c1024_i32_91
  let c512_i32_92 : BitVec 32 := 512#32
  let v167 : BitVec 32 := Scalar.addi v166 c512_i32_92
  v167
@[reducible] def k0_t1_loop (i : grid0.Coords) : Scf.Loop 32 :=
  let arg1 : BitVec 32 := BitVec.ofNat 32 (i 1).val
  let c1_i32 : BitVec 32 := 1#32
  let v249 : BitVec 32 := Scalar.addi arg1 c1_i32
  let c8_i32 : BitVec 32 := 8#32
  let v250 : BitVec 32 := Scalar.subi c8_i32 v249
  let c1_i32_137 : BitVec 32 := 1#32
  let v252 : BitVec 32 := Scalar.divsi v250 c1_i32_137
  let v253 : BitVec 32 := Scalar.muli v252 c1_i32_137
  let v254 : BitVec 32 := Scalar.addi v249 v253
  let c1_i32_138 : BitVec 32 := 1#32
  ⟨v249, v254, c1_i32_138⟩
def k0_mult4 (i : grid0.Coords) (k0_t1 : Fin (k0_t1_loop i).trips) : BitVec 32 :=
  let arg1 : BitVec 32 := BitVec.ofNat 32 (i 1).val
  let c1_i32 : BitVec 32 := 1#32
  let v249 : BitVec 32 := Scalar.addi arg1 c1_i32
  let c1_i32_138 : BitVec 32 := 1#32
  let arg11 : BitVec 32 := Scf.iv v249 c1_i32_138 k0_t1
  let c1024_i32_148 : BitVec 32 := 1024#32
  let v261 : BitVec 32 := Scalar.muli arg11 c1024_i32_148
  v261
def k0_off5 (i : grid0.Coords) (k0_t1 : Fin (k0_t1_loop i).trips) : Fin 2 → Nat :=
  let arg1 : BitVec 32 := BitVec.ofNat 32 (i 1).val
  let c1_i32 : BitVec 32 := 1#32
  let v249 : BitVec 32 := Scalar.addi arg1 c1_i32
  let c1_i32_138 : BitVec 32 := 1#32
  let arg11 : BitVec 32 := Scf.iv v249 c1_i32_138 k0_t1
  let c1024_i32_148 : BitVec 32 := 1024#32
  let v261 : BitVec 32 := Scalar.muli arg11 c1024_i32_148
  let v262 : BitVec 32 := v261
  let v263 : Index := Scalar.indexCast v262
  let c0_149 : Index := 0#32
  ![v263.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v249 : BitVec 32 := Scalar.addi arg1 c1_i32
  let c1_i32_138 : BitVec 32 := 1#32
  let arg11 : BitVec 32 := Scf.iv v249 c1_i32_138 k0_t1
  let c1024_i32_148 : BitVec 32 := 1024#32
  let v261 : BitVec 32 := Scalar.muli arg11 c1024_i32_148
  let v262 : BitVec 32 := v261
  let v298 : Index := Scalar.indexCast v262
  let c128_170 : Index := 128#32
  ![v298.toNat, 128]
@[reducible] def k0_t2_loop (i : grid0.Coords) : Scf.Loop 32 :=
  let arg1 : BitVec 32 := BitVec.ofNat 32 (i 1).val
  let c1_i32 : BitVec 32 := 1#32
  let v249 : BitVec 32 := Scalar.addi arg1 c1_i32
  let c8_i32 : BitVec 32 := 8#32
  let v250 : BitVec 32 := Scalar.subi c8_i32 v249
  let c1_i32_137 : BitVec 32 := 1#32
  let v252 : BitVec 32 := Scalar.divsi v250 c1_i32_137
  let v253 : BitVec 32 := Scalar.muli v252 c1_i32_137
  let v254 : BitVec 32 := Scalar.addi v249 v253
  let v251 : BitVec 32 := Scalar.addi v249 v250
  let c1_i32_139 : BitVec 32 := 1#32
  ⟨v254, v251, c1_i32_139⟩
def k0_mult5 (i : grid0.Coords) (k0_t2 : Fin (k0_t2_loop i).trips) : BitVec 32 :=
  let arg1 : BitVec 32 := BitVec.ofNat 32 (i 1).val
  let c1_i32 : BitVec 32 := 1#32
  let v249 : BitVec 32 := Scalar.addi arg1 c1_i32
  let c8_i32 : BitVec 32 := 8#32
  let v250 : BitVec 32 := Scalar.subi c8_i32 v249
  let c1_i32_137 : BitVec 32 := 1#32
  let v252 : BitVec 32 := Scalar.divsi v250 c1_i32_137
  let v253 : BitVec 32 := Scalar.muli v252 c1_i32_137
  let v254 : BitVec 32 := Scalar.addi v249 v253
  let c1_i32_139 : BitVec 32 := 1#32
  let arg11 : BitVec 32 := Scf.iv v254 c1_i32_139 k0_t2
  let c1024_i32_148 : BitVec 32 := 1024#32
  let v261 : BitVec 32 := Scalar.muli arg11 c1024_i32_148
  v261
def k0_off7 (i : grid0.Coords) (k0_t2 : Fin (k0_t2_loop i).trips) : Fin 2 → Nat :=
  let arg1 : BitVec 32 := BitVec.ofNat 32 (i 1).val
  let c1_i32 : BitVec 32 := 1#32
  let v249 : BitVec 32 := Scalar.addi arg1 c1_i32
  let c8_i32 : BitVec 32 := 8#32
  let v250 : BitVec 32 := Scalar.subi c8_i32 v249
  let c1_i32_137 : BitVec 32 := 1#32
  let v252 : BitVec 32 := Scalar.divsi v250 c1_i32_137
  let v253 : BitVec 32 := Scalar.muli v252 c1_i32_137
  let v254 : BitVec 32 := Scalar.addi v249 v253
  let c1_i32_139 : BitVec 32 := 1#32
  let arg11 : BitVec 32 := Scf.iv v254 c1_i32_139 k0_t2
  let c1024_i32_148 : BitVec 32 := 1024#32
  let v261 : BitVec 32 := Scalar.muli arg11 c1024_i32_148
  let v262 : BitVec 32 := v261
  let v263 : Index := Scalar.indexCast v262
  let c0_149 : Index := 0#32
  ![v263.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v249 : BitVec 32 := Scalar.addi arg1 c1_i32
  let c8_i32 : BitVec 32 := 8#32
  let v250 : BitVec 32 := Scalar.subi c8_i32 v249
  let c1_i32_137 : BitVec 32 := 1#32
  let v252 : BitVec 32 := Scalar.divsi v250 c1_i32_137
  let v253 : BitVec 32 := Scalar.muli v252 c1_i32_137
  let v254 : BitVec 32 := Scalar.addi v249 v253
  let c1_i32_139 : BitVec 32 := 1#32
  let arg11 : BitVec 32 := Scf.iv v254 c1_i32_139 k0_t2
  let c1024_i32_148 : BitVec 32 := 1024#32
  let v261 : BitVec 32 := Scalar.muli arg11 c1024_i32_148
  let v262 : BitVec 32 := v261
  let v298 : Index := Scalar.indexCast v262
  let c128_170 : Index := 128#32
  ![v298.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FlashIdeal.lean ====
variable {F : FTy → Type} [FloatOps F] [Named F]
def κ : String → Option EReal := fun
  | "mask" => some ⊥
  | _ => none
-- ==== FlashRefIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩
abbrev S8192x2048 : Shape := ⟨2, ![8192, 2048]⟩

abbrev nBuf : Space → Nat
  | .hbm => 107
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x8x64, .f32⟩
  | .hbm, ⟨4, _⟩ => ⟨S8x8192x8192, .f32⟩
  | .hbm, ⟨5, _⟩ => ⟨S8192, .i32⟩
  | .hbm, ⟨6, _⟩ => ⟨S1x8192, .i32⟩
  | .hbm, ⟨7, _⟩ => ⟨S8192x1, .i32⟩
  | .hbm, ⟨8, _⟩ => ⟨S8192x8192, .i32⟩
  | .hbm, ⟨9, _⟩ => ⟨S8192x8192, .i32⟩
  | .hbm, ⟨10, _⟩ => ⟨S8192x8192, .i1⟩
  | .hbm, ⟨11, _⟩ => ⟨S1x8192x8192, .i1⟩
  | .hbm, ⟨12, _⟩ => ⟨S_, .f32⟩
  | .hbm, ⟨13, _⟩ => ⟨S_, .f32⟩
  | .hbm, ⟨14, _⟩ => ⟨S8x8192x8192, .i1⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .i1⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .i1⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S8x8192, .f32⟩
  | .hbm, ⟨44, _⟩ => ⟨S8x8192x1, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x1, .f32⟩
  | .hbm, ⟨54, _⟩ => ⟨S_, .f32⟩
  | .hbm, ⟨55, _⟩ => ⟨S8x8192x1, .f32⟩
  | .hbm, ⟨56, _⟩ => ⟨S8x8192x1, .f32⟩
  | .hbm, ⟨57, _⟩ => ⟨S8x64x8192, .f32⟩
  | .hbm, ⟨58, _⟩ => ⟨S8192x8x64, .f32⟩
  | .hbm, ⟨59, _⟩ => ⟨S8x64x8192, .f32⟩
  | .hbm, ⟨60, _⟩ => ⟨S8x8192x8192, .f32⟩
  | .hbm, ⟨61, _⟩ => ⟨S8x64x8192, .f32⟩
  | .hbm, ⟨62, _⟩ => ⟨S8192x8x64, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S_, .f32⟩
  | .hbm, ⟨67, _⟩ => ⟨S8x8192, .f32⟩
  | .hbm, ⟨68, _⟩ => ⟨S8x8192x1, .f32⟩
  | .hbm, ⟨69, _⟩ => ⟨S8x8192x1, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192x8192, .f32⟩
  | .hbm, ⟨79, _⟩ => ⟨S8x8192x8192, .f32⟩
  | .hbm, ⟨80, _⟩ => ⟨S8x8192x96, .f32⟩
  | .hbm, ⟨81, _⟩ => ⟨S8192x8x96, .f32⟩
  | .hbm, ⟨82, _⟩ => ⟨S8x8192x96, .f32⟩
  | .hbm, ⟨83, _⟩ => ⟨S8192x8x96, .f32⟩
  | .hbm, ⟨84, _⟩ => ⟨S_, .i32⟩
  | .hbm, ⟨85, _⟩ => ⟨S_, .f32⟩
  | .hbm, ⟨86, _⟩ => ⟨S8192x8x128, .f32⟩
  | .hbm, ⟨87, _⟩ => ⟨S8192x1024, .f32⟩
  | .hbm, ⟨88, _⟩ => ⟨S_, .i32⟩
  | .hbm, ⟨89, _⟩ => ⟨S_, .f32⟩
  | .hbm, ⟨90, _⟩ => ⟨S8192x1024, .f32⟩
  | .hbm, ⟨91, _⟩ => ⟨S_, .i32⟩
  | .hbm, ⟨92, _⟩ => ⟨S_, .f32⟩
  | .hbm, ⟨93, _⟩ => ⟨S8192x8x128, .f32⟩
  | .hbm, ⟨94, _⟩ => ⟨S8192x1024, .f32⟩
  | .hbm, ⟨95, _⟩ => ⟨S_, .i32⟩
  | .hbm, ⟨96, _⟩ => ⟨S_, .f32⟩
  | .hbm, ⟨97, _⟩ => ⟨S8192x1024, .f32⟩
  | .hbm, ⟨98, _⟩ => ⟨S8192x1024, .bf16⟩
  | .hbm, ⟨99, _⟩ => ⟨S_, .i32⟩
  | .hbm, ⟨100, _⟩ => ⟨S_, .f32⟩
  | .hbm, ⟨101, _⟩ => ⟨S8192x8x128, .f32⟩
  | .hbm, ⟨102, _⟩ => ⟨S8192x1024, .f32⟩
  | .hbm, ⟨103, _⟩ => ⟨S_, .i32⟩
  | .hbm, ⟨104, _⟩ => ⟨S_, .f32⟩
  | .hbm, ⟨105, _⟩ => ⟨S8192x2048, .f32⟩
  | .hbm, ⟨106, _⟩ => ⟨S8192x2048, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_call0_v0 : Ref sig .tc := ⟨.hbm, 13, rfl⟩
abbrev main_v8_1 : Ref sig .tc := ⟨.hbm, 14, rfl⟩
abbrev main_call0_v2 : Ref sig .tc := ⟨.hbm, 15, rfl⟩
abbrev main_v8_0 : Ref sig .tc := ⟨.hbm, 16, rfl⟩
abbrev main_call0_cst : Ref sig .tc := ⟨.hbm, 17, rfl⟩
abbrev main_v8_2 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c : Ref sig .tc := ⟨.hbm, 84, rfl⟩
abbrev main_call2_v0 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_call3_v0 : Ref sig .tc := ⟨.hbm, 89, rfl⟩
abbrev main_v62 : Ref sig .tc := ⟨.hbm, 90, rfl⟩
abbrev main_c_13 : Ref sig .tc := ⟨.hbm, 91, rfl⟩
abbrev main_call4_v0 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_call5_v0 : Ref sig .tc := ⟨.hbm, 96, rfl⟩
abbrev main_v65 : Ref sig .tc := ⟨.hbm, 97, rfl⟩
abbrev main_v66 : Ref sig .tc := ⟨.hbm, 98, rfl⟩
abbrev main_c_15 : Ref sig .tc := ⟨.hbm, 99, rfl⟩
abbrev main_call6_v0 : Ref sig .tc := ⟨.hbm, 100, rfl⟩
abbrev main_v67 : Ref sig .tc := ⟨.hbm, 101, rfl⟩
abbrev main_v68 : Ref sig .tc := ⟨.hbm, 102, rfl⟩
abbrev main_c_16 : Ref sig .tc := ⟨.hbm, 103, rfl⟩
abbrev main_call7_v0 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S_ : Shape := ⟨0, ![]⟩
abbrev S8192x3840 : Shape := ⟨2, ![8192, 3840]⟩
abbrev S256x1024 : Shape := ⟨2, ![256, 1024]⟩
abbrev S256x2048 : Shape := ⟨2, ![256, 2048]⟩

abbrev nBuf : Space → Nat
  | .hbm => 19
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x3840, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeRefIdeal.lean ====
abbrev S8192x2048 : Shape := ⟨2, ![8192, 2048]⟩
abbrev S8192x1024 : Shape := ⟨2, ![8192, 1024]⟩
abbrev S_ : Shape := ⟨0, ![]⟩
abbrev S8192x2x1024 : Shape := ⟨3, ![8192, 2, 1024]⟩
abbrev S8192x1x1024 : Shape := ⟨3, ![8192, 1, 1024]⟩
abbrev S8192x3840 : Shape := ⟨2, ![8192, 3840]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2x1024, .f32⟩
  | .hbm, ⟨17, _⟩ => ⟨S8192x1x1024, .f32⟩
  | .hbm, ⟨18, _⟩ => ⟨S8192x1024, .f32⟩
  | .hbm, ⟨19, _⟩ => ⟨S8192x1024, .f32⟩
  | .hbm, ⟨20, _⟩ => ⟨S8192x1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S_, .f32⟩
  | .hbm, ⟨30, _⟩ => ⟨S8192x2x1024, .f32⟩
  | .hbm, ⟨31, _⟩ => ⟨S8192x1024, .f32⟩
  | .hbm, ⟨32, _⟩ => ⟨S8192x1024, .f32⟩
  | .hbm, ⟨33, _⟩ => ⟨S8192x1x1024, .f32⟩
  | .hbm, ⟨34, _⟩ => ⟨S_, .f32⟩
  | .hbm, ⟨35, _⟩ => ⟨S8192x2x1024, .f32⟩
  | .hbm, ⟨36, _⟩ => ⟨S8192x2x1024, .f32⟩
  | .hbm, ⟨37, _⟩ => ⟨S8192x2048, .f32⟩
  | .hbm, ⟨38, _⟩ => ⟨S8192x2048, .f32⟩
  | .hbm, ⟨39, _⟩ => ⟨S_, .i32⟩
  | .hbm, ⟨40, _⟩ => ⟨S_, .f32⟩
  | .hbm, ⟨41, _⟩ => ⟨S8192x3840, .f32⟩
  | .hbm, ⟨42, _⟩ => ⟨S8192x1024, .bf16⟩
  | .hbm, ⟨43, _⟩ => ⟨S8192x1024, .bf16⟩
  | .hbm, ⟨44, _⟩ => ⟨S8192x3840, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Relu.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReluRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== MemN.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 4
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== MemNRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 22
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S1024, .f32⟩
  | .hbm, ⟨21, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== FlashF.lean ====
abbrev S8192x8x96 : Shape := ⟨3, ![8192, 8, 96]⟩
abbrev S8192x8x64 : Shape := ⟨3, ![8192, 8, 64]⟩
abbrev S_ : Shape := ⟨0, ![]⟩
abbrev S8192x8x128 : Shape := ⟨3, ![8192, 8, 128]⟩
abbrev S8192x1024 : Shape := ⟨2, ![8192, 1024]⟩
abbrev S8192x8x3 : Shape := ⟨3, ![8192, 8, 3]⟩
abbrev S8192x8x99 : Shape := ⟨3, ![8192, 8, 99]⟩
abbrev S8192x8x67 : Shape := ⟨3, ![8192, 8, 67]⟩
abbrev S512x256 : Shape := ⟨2, ![512, 256]⟩
abbrev S8192x256 : Shape := ⟨2, ![8192, 256]⟩
abbrev S2x512x1 : Shape := ⟨3, ![2, 512, 1]⟩
abbrev S2x512x128 : Shape := ⟨3, ![2, 512, 128]⟩
abbrev S512x128 : Shape := ⟨2, ![512, 128]⟩
abbrev S4096x128 : Shape := ⟨2, ![4096, 128]⟩
abbrev S512x4096 : Shape := ⟨2, ![512, 4096]⟩
abbrev S1x512x1 : Shape := ⟨3, ![1, 512, 1]⟩
abbrev S512x1 : Shape := ⟨2, ![512, 1]⟩
abbrev S512 : Shape := ⟨1, ![512]⟩
abbrev S1x512x128 : Shape := ⟨3, ![1, 512, 128]⟩
abbrev S512x512 : Shape := ⟨2, ![512, 512]⟩
abbrev S1024x128 : Shape := ⟨2, ![1024, 128]⟩
abbrev S512x1024 : Shape := ⟨2, ![512, 1024]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩
abbrev S2560x128 : Shape := ⟨2, ![2560, 128]⟩
abbrev S512x2560 : Shape := ⟨2, ![512, 2560]⟩
abbrev S3072x128 : Shape := ⟨2, ![3072, 128]⟩
abbrev S512x3072 : Shape := ⟨2, ![512, 3072]⟩
abbrev S3584x128 : Shape := ⟨2, ![3584, 128]⟩
abbrev S512x3584 : Shape := ⟨2, ![512, 3584]⟩

abbrev nBuf : Space → Nat
  | .hbm => 26
  | .vmem => 12
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S_, .i32⟩
  | .hbm, ⟨4, _⟩ => ⟨S_, .f32⟩
  | .hbm, ⟨5, _⟩ => ⟨S8192x8x128, .f32⟩
  | .hbm, ⟨6, _⟩ => ⟨S8192x1024, .f32⟩
  | .hbm, ⟨7, _⟩ => ⟨S8192x1024, .bf16⟩
  | .hbm, ⟨8, _⟩ => ⟨S_, .f32⟩
  | .hbm, ⟨9, _⟩ => ⟨S8192x8x3, .f32⟩
  | .hbm, ⟨10, _⟩ => ⟨S8192x8x99, .f32⟩
  | .hbm, ⟨11, _⟩ => ⟨S_, .i32⟩
  | .hbm, ⟨12, _⟩ => ⟨S_, .f32⟩
  | .hbm, ⟨13, _⟩ => ⟨S8192x8x128, .f32⟩
  | .hbm, ⟨14, _⟩ => ⟨S8192x1024, .f32⟩
  | .hbm, ⟨15, _⟩ => ⟨S8192x1024, .bf16⟩
  | .hbm, ⟨16, _⟩ => ⟨S_, .f32⟩
  | .hbm, ⟨17, _⟩ => ⟨S8192x8x3, .f32⟩
  | .hbm, ⟨18, _⟩ => ⟨S8192x8x67, .f32⟩
  | .hbm, ⟨19, _⟩ => ⟨S_, .i32⟩
  | .hbm, ⟨20, _⟩ => ⟨S_, .f32⟩
  | .hbm, ⟨21, _⟩ => ⟨S8192x8x128, .f32⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S2x512x1, .f32⟩
  | .local _ .vmem, ⟨11, _⟩ => ⟨S2x512x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_11 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let v25 : BitVec 32 := Scalar.subi v24 c0_i32_11
  let c1_i32_12 : BitVec 32 := 1#32
  let v27 : BitVec 32 := Scalar.divsi v25 c1_i32_12
  let v28 : BitVec 32 := Scalar.muli v27 c1_i32_12
  let v29 : BitVec 32 := Scalar.addi c0_i32_11 v28
  let c1_i32_13 : BitVec 32 := 1#32
  ⟨c0_i32_11, v29, c1_i32_13⟩
def k0_mult1 (i : grid0.Coords) (k0_t1 : Fin (k0_t1_loop i).trips) : BitVec 32 :=
  let c0_i32_11 : BitVec 32 := 0#32
  let c1_i32_13 : BitVec 32 := 1#32
  let arg9 : BitVec 32 := Scf.iv c0_i32_11 c1_i32_13 k0_t1
  let c4096_i32 : BitVec 32 := 4096#32
  let v148 : BitVec 32 := Scalar.muli arg9 c4096_i32
  v148
def k0_off1 (i : grid0.Coords) (k0_t1 : Fin (k0_t1_loop i).trips) : Fin 2 → Nat :=
  let c0_i32_11 : BitVec 32 := 0#32
  let c1_i32_13 : BitVec 32 := 1#32
  let arg9 : BitVec 32 := Scf.iv c0_i32_11 c1_i32_13 k0_t1
  let c4096_i32 : BitVec 32 := 4096#32
  let v148 : BitVec 32 := Scalar.muli arg9 c4096_i32
  let v149 : BitVec 32 := v148
  let v152 : Index := Scalar.indexCast v149
  let c0_62 : Index := 0#32
  ![v152.toNat, 0]
def k0_off2 (i : grid0.Coords) (k0_t1 : Fin (k0_t1_loop i).trips) : Fin 2 → Nat :=
  let c0_i32_11 : BitVec 32 := 0#32
  let c1_i32_13 : BitVec 32 := 1#32
  let arg9 : BitVec 32 := Scf.iv c0_i32_11 c1_i32_13 k0_t1
  let c4096_i32 : BitVec 32 := 4096#32
  let v148 : BitVec 32 := Scalar.muli arg9 c4096_i32
  let v149 : BitVec 32 := v148
  let v184 : Index := Scalar.indexCast v149
  let c128_81 : Index := 128#32
  ![v184.toNat, 128]
@[reducible] def k0_t2_loop (i : grid0.Coords) : Scf.Loop 32 :=
  let c0_i32_11 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let v25 : BitVec 32 := Scalar.subi v24 c0_i32_11
  let c1_i32_12 : BitVec 32 := 1#32
  let v27 : BitVec 32 := Scalar.divsi v25 c1_i32_12
  let v28 : BitVec 32 := Scalar.muli v27 c1_i32_12
  let v29 : BitVec 32 := Scalar.addi c0_i32_11 v28
  let v26 : BitVec 32 := Scalar.addi c0_i32_11 v25
  let c1_i32_14 : BitVec 32 := 1#32
  ⟨v29, v26, c1_i32_14⟩
def k0_mult2 (i : grid0.Coords) (k0_t2 : Fin (k0_t2_loop i).trips) : BitVec 32 :=
  let c0_i32_11 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let v25 : BitVec 32 := Scalar.subi v24 c0_i32_11
  let c1_i32_12 : BitVec 32 := 1#32
  let v27 : BitVec 32 := Scalar.divsi v25 c1_i32_12
  let v28 : BitVec 32 := Scalar.muli v27 c1_i32_12
  let v29 : BitVec 32 := Scalar.addi c0_i32_11 v28
  let c1_i32_14 : BitVec 32 := 1#32
  let arg9 : BitVec 32 := Scf.iv v29 c1_i32_14 k0_t2
  let c4096_i32 : BitVec 32 := 4096#32
  let v148 : BitVec 32 := Scalar.muli arg9 c4096_i32
  v148
def k0_off3 (i : grid0.Coords) (k0_t2 : Fin (k0_t2_loop i).trips) : Fin 2 → Nat :=
  let c0_i32_11 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let v25 : BitVec 32 := Scalar.subi v24 c0_i32_11
  let c1_i32_12 : BitVec 32 := 1#32
  let v27 : BitVec 32 := Scalar.divsi v25 c1_i32_12
  let v28 : BitVec 32 := Scalar.muli v27 c1_i32_12
  let v29 : BitVec 32 := Scalar.addi c0_i32_11 v28
  let c1_i32_14 : BitVec 32 := 1#32
  let arg9 : BitVec 32 := Scf.iv v29 c1_i32_14 k0_t2
  let c4096_i32 : BitVec 32 := 4096#32
  let v148 : BitVec 32 := Scalar.muli arg9 c4096_i32
  let v149 : BitVec 32 := v148
  let v152 : Index := Scalar.indexCast v149
  let c0_62 : Index := 0#32
  ![v152.toNat, 0]
def k0_off4 (i : grid0.Coords) (k0_t2 : Fin (k0_t2_loop i).trips) : Fin 2 → Nat :=
  let c0_i32_11 : BitVec 32 := 0#32
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let v25 : BitVec 32 := Scalar.subi v24 c0_i32_11
  let c1_i32_12 : BitVec 32 := 1#32
  let v27 : BitVec 32 := Scalar.divsi v25 c1_i32_12
  let v28 : BitVec 32 := Scalar.muli v27 c1_i32_12
  let v29 : BitVec 32 := Scalar.addi c0_i32_11 v28
  let c1_i32_14 : BitVec 32 := 1#32
  let arg9 : BitVec 32 := Scf.iv v29 c1_i32_14 k0_t2
  let c4096_i32 : BitVec 32 := 4096#32
  let v148 : BitVec 32 := Scalar.muli arg9 c4096_i32
  let v149 : BitVec 32 := v148
  let v184 : Index := Scalar.indexCast v149
  let c128_81 : Index := 128#32
  ![v184.toNat, 128]
def k0_cond1 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_15 : BitVec 32 := 8#32
  let v30 : BitVec 32 := Scalar.muli v24 c8_i32_15
  let v31 : BitVec 32 := Scalar.subi arg1 v30
  let c0_i32_16 : BitVec 32 := 0#32
  let v32 : BitVec 1 := Scalar.cmpi .eq v31 c0_i32_16
  let v33 : BitVec 32 := Scalar.extui v32
  let c0_i32_17 : BitVec 32 := 0#32
  let v34 : BitVec 1 := Scalar.cmpi .ne v33 c0_i32_17
  v34

def k0_mult3 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off5 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off6 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_83 : Index := 128#32
  ![v191.toNat, 128]
def k0_cond2 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_18 : BitVec 32 := 8#32
  let v35 : BitVec 32 := Scalar.muli v24 c8_i32_18
  let v36 : BitVec 32 := Scalar.subi arg1 v35
  let c1_i32_19 : BitVec 32 := 1#32
  let v37 : BitVec 1 := Scalar.cmpi .eq v36 c1_i32_19
  let v38 : BitVec 32 := Scalar.extui v37
  let c0_i32_20 : BitVec 32 := 0#32
  let v39 : BitVec 1 := Scalar.cmpi .ne v38 c0_i32_20
  v39

def k0_mult4 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off7 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off8 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond3 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_21 : BitVec 32 := 8#32
  let v40 : BitVec 32 := Scalar.muli v24 c8_i32_21
  let v41 : BitVec 32 := Scalar.subi arg1 v40
  let c2_i32 : BitVec 32 := 2#32
  let v42 : BitVec 1 := Scalar.cmpi .eq v41 c2_i32
  let v43 : BitVec 32 := Scalar.extui v42
  let c0_i32_22 : BitVec 32 := 0#32
  let v44 : BitVec 1 := Scalar.cmpi .ne v43 c0_i32_22
  v44

def k0_mult5 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off9 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off10 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond4 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_23 : BitVec 32 := 8#32
  let v45 : BitVec 32 := Scalar.muli v24 c8_i32_23
  let v46 : BitVec 32 := Scalar.subi arg1 v45
  let c3_i32 : BitVec 32 := 3#32
  let v47 : BitVec 1 := Scalar.cmpi .eq v46 c3_i32
  let v48 : BitVec 32 := Scalar.extui v47
  let c0_i32_24 : BitVec 32 := 0#32
  let v49 : BitVec 1 := Scalar.cmpi .ne v48 c0_i32_24
  v49

def k0_mult6 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off11 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off12 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond5 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_25 : BitVec 32 := 8#32
  let v50 : BitVec 32 := Scalar.muli v24 c8_i32_25
  let v51 : BitVec 32 := Scalar.subi arg1 v50
  let c4_i32 : BitVec 32 := 4#32
  let v52 : BitVec 1 := Scalar.cmpi .eq v51 c4_i32
  let v53 : BitVec 32 := Scalar.extui v52
  let c0_i32_26 : BitVec 32 := 0#32
  let v54 : BitVec 1 := Scalar.cmpi .ne v53 c0_i32_26
  v54

def k0_mult7 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off13 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off14 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond6 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_27 : BitVec 32 := 8#32
  let v55 : BitVec 32 := Scalar.muli v24 c8_i32_27
  let v56 : BitVec 32 := Scalar.subi arg1 v55
  let c5_i32 : BitVec 32 := 5#32
  let v57 : BitVec 1 := Scalar.cmpi .eq v56 c5_i32
  let v58 : BitVec 32 := Scalar.extui v57
  let c0_i32_28 : BitVec 32 := 0#32
  let v59 : BitVec 1 := Scalar.cmpi .ne v58 c0_i32_28
  v59

def k0_mult8 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off15 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off16 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond7 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_29 : BitVec 32 := 8#32
  let v60 : BitVec 32 := Scalar.muli v24 c8_i32_29
  let v61 : BitVec 32 := Scalar.subi arg1 v60
  let c6_i32 : BitVec 32 := 6#32
  let v62 : BitVec 1 := Scalar.cmpi .eq v61 c6_i32
  let v63 : BitVec 32 := Scalar.extui v62
  let c0_i32_30 : BitVec 32 := 0#32
  let v64 : BitVec 1 := Scalar.cmpi .ne v63 c0_i32_30
  v64

def k0_mult9 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off17 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off18 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def k0_cond8 (i : grid0.Coords) : BitVec 1 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c8_i32_31 : BitVec 32 := 8#32
  let v65 : BitVec 32 := Scalar.muli v24 c8_i32_31
  let v66 : BitVec 32 := Scalar.subi arg1 v65
  let c7_i32 : BitVec 32 := 7#32
  let v67 : BitVec 1 := Scalar.cmpi .eq v66 c7_i32
  let v68 : BitVec 32 := Scalar.extui v67
  let c0_i32_32 : BitVec 32 := 0#32
  let v69 : BitVec 1 := Scalar.cmpi .ne v68 c0_i32_32
  v69

def k0_mult10 (i : grid0.Coords) : BitVec 32 :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  v148
def k0_off19 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v152 : Index := Scalar.indexCast v149
  let c0_62 : Index := 0#32
  ![v152.toNat, 0]
def k0_off20 (i : grid0.Coords) : Fin 2 → Nat :=
  let arg1 : BitVec 32 := BitVec.ofNat 32 (i 1).val
  let c0_i32 : BitVec 32 := 0#32
  let v9 : BitVec 1 := Scalar.cmpi .sgt arg1 c0_i32
  let v10 : BitVec 32 := Scalar.extui v9
  let c0_i32_6 : BitVec 32 := 0#32
  let v11 : BitVec 1 := Scalar.cmpi .slt arg1 c0_i32_6
  let v12 : BitVec 32 := Scalar.extui v11
  let v13 : BitVec 32 := Scalar.subi v10 v12
  let c8_i32 : BitVec 32 := 8#32
  let c0_i32_7 : BitVec 32 := 0#32
  let v14 : BitVec 1 := Scalar.cmpi .sgt c8_i32 c0_i32_7
  let v15 : BitVec 32 := Scalar.extui v14
  let c0_i32_8 : BitVec 32 := 0#32
  let v16 : BitVec 1 := Scalar.cmpi .slt c8_i32 c0_i32_8
  let v17 : BitVec 32 := Scalar.extui v16
  let v18 : BitVec 32 := Scalar.subi v15 v17
  let v19 : BitVec 1 := Scalar.cmpi .ne v13 v18
  let v20 : BitVec 32 := Scalar.remsi arg1 c8_i32
  let c0_i32_9 : BitVec 32 := 0#32
  let v21 : BitVec 1 := Scalar.cmpi .ne v20 c0_i32_9
  let v22 : BitVec 1 := Scalar.andi v19 v21
  let v8 : BitVec 32 := Scalar.divsi arg1 c8_i32
  let c1_i32 : BitVec 32 := 1#32
  let v23 : BitVec 32 := Scalar.subi v8 c1_i32
  let v24 : BitVec 32 := Scalar.select v22 v23 v8
  let c4096_i32 : BitVec 32 := 4096#32
  let v148 : BitVec 32 := Scalar.muli v24 c4096_i32
  let v149 : BitVec 32 := v148
  let v191 : Index := Scalar.indexCast v149
  let c128_82 : Index := 128#32
  ![v191.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFIdeal.lean ====
variable {F : FTy → Type} [FloatOps F] [Named F]
def κ : String → Option EReal := fun
  | "mask" => some ⊥
  | _ => none
-- ==== FlashFRefIdeal.lean ====
abbrev S8192x8x96 : Shape := ⟨3, ![8192, 8, 96]⟩
abbrev S8192x8x64 : Shape := ⟨3, ![8192, 8, 64]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8192x8x1 : Shape := ⟨3, ![8192, 8, 1]⟩
abbrev S8192x8x128 : Shape := ⟨3, ![8192, 8, 128]⟩
abbrev S8192x1024 : Shape := ⟨2, ![8192, 1024]⟩
abbrev S8192x8x97 : Shape := ⟨3, ![8192, 8, 97]⟩

abbrev nBuf : Space → Nat
  | .hbm => 55
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8x8192x8192, .f32⟩
  | .hbm, ⟨4, _⟩ => ⟨S8192, .i32⟩
  | .hbm, ⟨5, _⟩ => ⟨S1x8192, .i32⟩
  | .hbm, ⟨6, _⟩ => ⟨S8192x1, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S1x8192x8192, .i1⟩
  | .hbm, ⟨11, _⟩ => ⟨S_, .f32⟩
  | .hbm, ⟨12, _⟩ => ⟨S_, .f32⟩
  | .hbm, ⟨13, _⟩ => ⟨S8x8192x8192, .i1⟩
  | .hbm, ⟨14, _⟩ => ⟨S8x8192x8192, .f32⟩
  | .hbm, ⟨15, _⟩ => ⟨S8x8192x8192, .f32⟩
  | .hbm, ⟨16, _⟩ => ⟨S_, .f32⟩
  | .hbm, ⟨17, _⟩ => ⟨S8x8192, .f32⟩
  | .hbm, ⟨18, _⟩ => ⟨S_, .f32⟩
  | .hbm, ⟨19, _⟩ => ⟨S8x8192, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .f32⟩
  | .hbm, ⟨30, _⟩ => ⟨S8x64x8192, .f32⟩
  | .hbm, ⟨31, _⟩ => ⟨S8192x8x64, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x1, .f32⟩
  | .hbm, ⟨42, _⟩ => ⟨S8x8192x1, .f32⟩
  | .hbm, ⟨43, _⟩ => ⟨S8192x8x1, .f32⟩
  | .hbm, ⟨44, _⟩ => ⟨S_, .i32⟩
  | .hbm, ⟨45, _⟩ => ⟨S_, .f32⟩
  | .hbm, ⟨46, _⟩ => ⟨S8192x8x128, .f32⟩
  | .hbm, ⟨47, _⟩ => ⟨S8192x1024, .f32⟩
  | .hbm, ⟨48, _⟩ => ⟨S8192x8x97, .f32⟩
  | .hbm, ⟨49, _⟩ => ⟨S_, .i32⟩
  | .hbm, ⟨50, _⟩ => ⟨S_, .f32⟩
  | .hbm, ⟨51, _⟩ => ⟨S8192x8x128, .f32⟩
  | .hbm, ⟨52, _⟩ => ⟨S8192x1024, .f32⟩
  | .hbm, ⟨53, _⟩ => ⟨S8192x1024, .bf16⟩
  | .hbm, ⟨54, _⟩ => ⟨S8192x1024, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_call2_v0 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Xattn.lean ====
abbrev S8192x512 : Shape := ⟨2, ![8192, 512]⟩
abbrev S256x1024 : Shape := ⟨2, ![256, 1024]⟩
abbrev S_ : Shape := ⟨0, ![]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S256x1024, .bf16⟩
  | .hbm, ⟨8, _⟩ => ⟨S8192x512, .bf16⟩
  | .hbm, ⟨9, _⟩ => ⟨S8192x512, .bf16⟩
  | .hbm, ⟨10, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S256x1024, .bf16⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Taps.lean ====
abbrev S8192x1024 : Shape := ⟨2, ![8192, 1024]⟩
abbrev S31x512 : Shape := ⟨2, ![31, 512]⟩
abbrev S8192x512 : Shape := ⟨2, ![8192, 512]⟩
abbrev S8192x3840 : Shape := ⟨2, ![8192, 3840]⟩
abbrev S_ : Shape := ⟨0, ![]⟩
abbrev S32x512 : Shape := ⟨2, ![32, 512]⟩
abbrev S512x512 : Shape := ⟨2, ![512, 512]⟩
abbrev S512x1024 : Shape := ⟨2, ![512, 1024]⟩
abbrev S544x512 : Shape := ⟨2, ![544, 512]⟩
abbrev S1x512 : Shape := ⟨2, ![1, 512]⟩
abbrev S512 : Shape := ⟨1, ![512]⟩

abbrev nBuf : Space → Nat
  | .hbm => 20
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S31x512, .f32⟩
  | .hbm, ⟨2, _⟩ => ⟨S8192x512, .f32⟩
  | .hbm, ⟨3, _⟩ => ⟨S8192x3840, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S8192x1024, .bf16⟩
  | .hbm, ⟨17, _⟩ => ⟨S8192x3840, .bf16⟩
  | .hbm, ⟨18, _⟩ => ⟨S8192x3840, .bf16⟩
  | .hbm, ⟨19, _⟩ => ⟨S32x512, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .bf16⟩
  | .local _ .vmem, ⟨5, _⟩ => ⟨S512x512, .bf16⟩
  | .local _ .vmem, ⟨6, _⟩ => ⟨S32x512, .bf16⟩
  | .local _ .vmem, ⟨7, _⟩ => ⟨S32x512, .bf16⟩
  | .local _ .vmem, ⟨8, _⟩ => ⟨S512x1024, .bf16⟩
  | .local _ .vmem, ⟨9, _⟩ => ⟨S512x1024, .bf16⟩
  | .local _ .vmem, ⟨10, _⟩ => ⟨S31x512, .f32⟩
  | .local _ .vmem, ⟨11, _⟩ => ⟨S512x1024, .bf16⟩
  | .local _ .vmem, ⟨12, _⟩ => ⟨S512x1024, .bf16⟩
  | .local _ .vmem, ⟨13, _⟩ => ⟨S32x512, .f32⟩
  | .local _ .vmem, ⟨14, _⟩ => ⟨S544x512, .f32⟩
  | .local _ .vmem, ⟨15, _⟩ => ⟨S544x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvN.lean ====
abbrev S8192x512 : Shape := ⟨2, ![8192, 512]⟩
abbrev S1x512 : Shape := ⟨2, ![1, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S512 : Shape := ⟨1, ![512]⟩

abbrev nBuf : Space → Nat
  | .hbm => 14
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S512x1024, .f32⟩
  | .hbm, ⟨5, _⟩ => ⟨S8192x1024, .f32⟩
  | .hbm, ⟨6, _⟩ => ⟨S8192x1024, .bf16⟩
  | .hbm, ⟨7, _⟩ => ⟨S512x1024, .bf16⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S1x512, .f32⟩
  | .hbm, ⟨13, _⟩ => ⟨S1x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== Rope.lean ====
abbrev S8192 : Shape := ⟨1, ![8192]⟩
abbrev S8192x8x96 : Shape := ⟨3, ![8192, 8, 96]⟩
abbrev S8192x2048 : Shape := ⟨2, ![8192, 2048]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S8192x64 : Shape := ⟨2, ![8192, 64]⟩
abbrev S8192x128 : Shape := ⟨2, ![8192, 128]⟩
abbrev S8192x8x128 : Shape := ⟨3, ![8192, 8, 128]⟩
abbrev S8192x1024 : Shape := ⟨2, ![8192, 1024]⟩
abbrev S256x1024 : Shape := ⟨2, ![256, 1024]⟩
abbrev S256x128 : Shape := ⟨2, ![256, 128]⟩

abbrev nBuf : Space → Nat
  | .hbm => 45
  | .vmem => 16
  | .smem => 0
  | _ => 0

abbrev bufTy : (tb : Table) → Fin (tcTables nBuf tb) → BufTy
  | .hbm, ⟨0, _⟩ => ⟨S8192, .i32⟩
  | .hbm, ⟨1, _⟩ => ⟨S8192x8x96, .f32⟩
  | .hbm, ⟨2, _⟩ => ⟨S8192x8x96, .f32⟩
  | .hbm, ⟨3, _⟩ => ⟨S8192x2048, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S8192, .f32⟩
  | .hbm, ⟨13, _⟩ => ⟨S8192x1, .f32⟩
  | .hbm, ⟨14, _⟩ => ⟨S1x16, .f32⟩
  | .hbm, ⟨15, _⟩ => ⟨S8192x16, .f32⟩
  | .hbm, ⟨16, _⟩ => ⟨S8192x16, .f32⟩
  | .hbm, ⟨17, _⟩ => ⟨S8192x16, .f32⟩
  | .hbm, ⟨18, _⟩ => ⟨S8192x16, .f32⟩
  | .hbm, ⟨19, _⟩ => ⟨S8192x16, .f32⟩
  | .hbm, ⟨20, _⟩ => ⟨S_, .f32⟩
  | .hbm, ⟨21, _⟩ => ⟨S8192x16, .f32⟩
  | .hbm, ⟨22, _⟩ => ⟨S_, .f32⟩
  | .hbm, ⟨23, _⟩ => ⟨S8192x32, .f32⟩
  | .hbm, ⟨24, _⟩ => ⟨S_, .f32⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x128, .f32⟩
  | .hbm, ⟨29, _⟩ => ⟨S8192x16, .f32⟩
  | .hbm, ⟨30, _⟩ => ⟨S8192x128, .f32⟩
  | .hbm, ⟨31, _⟩ => ⟨S8192x128, .f32⟩
  | .hbm, ⟨32, _⟩ => ⟨S_, .i32⟩
  | .hbm, ⟨33, _⟩ => ⟨S_, .f32⟩
  | .hbm, ⟨34, _⟩ => ⟨S8192x8x128, .f32⟩
  | .hbm, ⟨35, _⟩ => ⟨S8192x1024, .f32⟩
  | .hbm, ⟨36, _⟩ => ⟨S_, .i32⟩
  | .hbm, ⟨37, _⟩ => ⟨S_, .f32⟩
  | .hbm, ⟨38, _⟩ => ⟨S8192x8x128, .f32⟩
  | .hbm, ⟨39, _⟩ => ⟨S8192x1024, .f32⟩
  | .hbm, ⟨40, _⟩ => ⟨S8192x1024, .bf16⟩
  | .hbm, ⟨41, _⟩ => ⟨S8192x2048, .bf16⟩
  | .hbm, ⟨42, _⟩ => ⟨S8192x1024, .bf16⟩
  | .hbm, ⟨43, _⟩ => ⟨S8192x2048, .bf16⟩
  | .hbm, ⟨44, _⟩ => ⟨S8192x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x128, .bf16⟩
  | .local _ .vmem, ⟨15, _⟩ => ⟨S256x128, .bf16⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28_0 : Ref sig .tc := ⟨.hbm, 42, rfl⟩
abbrev main_v28_1 : Ref sig .tc := ⟨.hbm, 43, rfl⟩
abbrev main_v28_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LoraN.lean ====
abbrev S8192x384 : Shape := ⟨2, ![8192, 384]⟩
abbrev S8192x256 : Shape := ⟨2, ![8192, 256]⟩
abbrev S1x384 : Shape := ⟨2, ![1, 384]⟩
abbrev S1x256 : Shape := ⟨2, ![1, 256]⟩
abbrev S8192x32 : Shape := ⟨2, ![8192, 32]⟩
abbrev S8192x3840 : Shape := ⟨2, ![8192, 3840]⟩
abbrev S_ : Shape := ⟨0, ![]⟩
abbrev S8192x128 : Shape := ⟨2, ![8192, 128]⟩
abbrev S512x384 : Shape := ⟨2, ![512, 384]⟩
abbrev S512x256 : Shape := ⟨2, ![512, 256]⟩
abbrev S512x128 : Shape := ⟨2, ![512, 128]⟩
abbrev S512x768 : Shape := ⟨2, ![512, 768]⟩
abbrev S512 : Shape := ⟨1, ![512]⟩
abbrev S512x1 : Shape := ⟨2, ![512, 1]⟩
abbrev S384 : Shape := ⟨1, ![384]⟩
abbrev S256 : Shape := ⟨1, ![256]⟩

abbrev nBuf : Space → Nat
  | .hbm => 18
  | .vmem => 16
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S1x384, .f32⟩
  | .hbm, ⟨3, _⟩ => ⟨S1x256, .f32⟩
  | .hbm, ⟨4, _⟩ => ⟨S8192x384, .f32⟩
  | .hbm, ⟨5, _⟩ => ⟨S8192x256, .f32⟩
  | .hbm, ⟨6, _⟩ => ⟨S8192x32, .f32⟩
  | .hbm, ⟨7, _⟩ => ⟨S8192x3840, .f32⟩
  | .hbm, ⟨8, _⟩ => ⟨S_, .i32⟩
  | .hbm, ⟨9, _⟩ => ⟨S_, .f32⟩
  | .hbm, ⟨10, _⟩ => ⟨S8192x128, .f32⟩
  | .hbm, ⟨11, _⟩ => ⟨S8192x384, .bf16⟩
  | .hbm, ⟨12, _⟩ => ⟨S8192x256, .bf16⟩
  | .hbm, ⟨13, _⟩ => ⟨S8192x128, .bf16⟩
  | .hbm, ⟨14, _⟩ => ⟨S8192x3840, .bf16⟩
  | .hbm, ⟨15, _⟩ => ⟨S8192x3840, .bf16⟩
  | .hbm, ⟨16, _⟩ => ⟨S1x384, .f32⟩
  | .hbm, ⟨17, _⟩ => ⟨S1x256, .f32⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S512x384, .f32⟩
  | .local _ .vmem, ⟨5, _⟩ => ⟨S512x384, .f32⟩
  | .local _ .vmem, ⟨6, _⟩ => ⟨S512x256, .f32⟩
  | .local _ .vmem, ⟨7, _⟩ => ⟨S512x256, .f32⟩
  | .local _ .vmem, ⟨8, _⟩ => ⟨S512x128, .bf16⟩
  | .local _ .vmem, ⟨9, _⟩ => ⟨S512x128, .bf16⟩
  | .local _ .vmem, ⟨10, _⟩ => ⟨S1x384, .f32⟩
  | .local _ .vmem, ⟨11, _⟩ => ⟨S1x256, .f32⟩
  | .local _ .vmem, ⟨12, _⟩ => ⟨S512x768, .bf16⟩
  | .local _ .vmem, ⟨13, _⟩ => ⟨S512x768, .bf16⟩
  | .local _ .vmem, ⟨14, _⟩ => ⟨S1x384, .f32⟩
  | .local _ .vmem, ⟨15, _⟩ => ⟨S1x256, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MlaDo.lean ====
abbrev S8192x8x64 : Shape := ⟨3, ![8192, 8, 64]⟩
abbrev S512x1024 : Shape := ⟨2, ![512, 1024]⟩
abbrev S8192x1024 : Shape := ⟨2, ![8192, 1024]⟩
abbrev S8x64x1024 : Shape := ⟨3, ![8, 64, 1024]⟩
abbrev S_ : Shape := ⟨0, ![]⟩
abbrev S8x128x1024 : Shape := ⟨3, ![8, 128, 1024]⟩
abbrev S1024x1024 : Shape := ⟨2, ![1024, 1024]⟩
abbrev S8192x8x128 : Shape := ⟨3, ![8192, 8, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 8
  | .smem => 0
  | _ => 0

abbrev bufTy : (tb : Table) → Fin (tcTables nBuf tb) → BufTy
  | .hbm, ⟨0, _⟩ => ⟨S8192x8x64, .f32⟩
  | .hbm, ⟨1, _⟩ => ⟨S512x1024, .f32⟩
  | .hbm, ⟨2, _⟩ => ⟨S8192x1024, .f32⟩
  | .hbm, ⟨3, _⟩ => ⟨S8x64x1024, .f32⟩
  | .hbm, ⟨4, _⟩ => ⟨S_, .i32⟩
  | .hbm, ⟨5, _⟩ => ⟨S_, .f32⟩
  | .hbm, ⟨6, _⟩ => ⟨S8x128x1024, .f32⟩
  | .hbm, ⟨7, _⟩ => ⟨S1024x1024, .f32⟩
  | .hbm, ⟨8, _⟩ => ⟨S_, .i32⟩
  | .hbm, ⟨9, _⟩ => ⟨S_, .f32⟩
  | .hbm, ⟨10, _⟩ => ⟨S8192x8x128, .f32⟩
  | .hbm, ⟨11, _⟩ => ⟨S8192x1024, .f32⟩
  | .hbm, ⟨12, _⟩ => ⟨S8192x1024, .bf16⟩
  | .hbm, ⟨13, _⟩ => ⟨S1024x1024, .bf16⟩
  | .hbm, ⟨14, _⟩ => ⟨S8192x1024, .bf16⟩
  | .hbm, ⟨15, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== MlpDx.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_25 : BitVec 32 := 0#32
  let v47 : BitVec 1 := Scalar.cmpi .eq arg0 c0_i32_25
  let v48 : BitVec 32 := Scalar.extui v47
  let c0_i32_26 : BitVec 32 := 0#32
  let v49 : BitVec 1 := Scalar.cmpi .ne v48 c0_i32_26
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== XqDx.lean ====
abbrev S8192x1024 : Shape := ⟨2, ![8192, 1024]⟩
abbrev S1x1024 : Shape := ⟨2, ![1, 1024]⟩
abbrev S1024x512 : Shape := ⟨2, ![1024, 512]⟩
abbrev S8192x512 : Shape := ⟨2, ![8192, 512]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x512, .f32⟩
  | .hbm, ⟨3, _⟩ => ⟨S8192x512, .f32⟩
  | .hbm, ⟨4, _⟩ => ⟨S8192x1024, .f32⟩
  | .hbm, ⟨5, _⟩ => ⟨S8192x512, .bf16⟩
  | .hbm, ⟨6, _⟩ => ⟨S1024x512, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ProjDx.lean ====
abbrev S8192x1024 : Shape := ⟨2, ![8192, 1024]⟩
abbrev S1x1024 : Shape := ⟨2, ![1, 1024]⟩
abbrev S1024x3840 : Shape := ⟨2, ![1024, 3840]⟩
abbrev S8192x3840 : Shape := ⟨2, ![8192, 3840]⟩
abbrev S1024x768 : Shape := ⟨2, ![1024, 768]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3840, .f32⟩
  | .hbm, ⟨3, _⟩ => ⟨S8192x3840, .f32⟩
  | .hbm, ⟨4, _⟩ => ⟨S8192x1024, .f32⟩
  | .hbm, ⟨5, _⟩ => ⟨S8192x3840, .bf16⟩
  | .hbm, ⟨6, _⟩ => ⟨S1024x3840, .bf16⟩
  | .hbm, ⟨7, _⟩ => ⟨S8192x1024, .f32⟩
  | .hbm, ⟨8, _⟩ => ⟨S1x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_23 : BitVec 32 := 0#32
  let v45 : BitVec 1 := Scalar.cmpi .eq arg0 c0_i32_23
  let v46 : BitVec 32 := Scalar.extui v45
  let c0_i32_24 : BitVec 32 := 0#32
  let v47 : BitVec 1 := Scalar.cmpi .ne v46 c0_i32_24
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Loss.lean ====
abbrev S8192x1024 : Shape := ⟨2, ![8192, 1024]⟩
abbrev S8192x4096 : Shape := ⟨2, ![8192, 4096]⟩
abbrev S4096x1024 : Shape := ⟨2, ![4096, 1024]⟩
abbrev S1x1024 : Shape := ⟨2, ![1, 1024]⟩
abbrev S1x128 : Shape := ⟨2, ![1, 128]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4096x1024, .f32⟩
  | .hbm, ⟨3, _⟩ => ⟨S1x1024, .f32⟩
  | .hbm, ⟨4, _⟩ => ⟨S8192x1024, .f32⟩
  | .hbm, ⟨5, _⟩ => ⟨S8192x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S1x128, .f32⟩
  | .hbm, ⟨10, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x128, .f32⟩
  | .local _ .vmem, ⟨14, _⟩ => ⟨S1x1024, .f32⟩
  | .local _ .vmem, ⟨15, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def k0_cond4 (i : grid0.Coords) : BitVec 1 :=
  let arg0 : BitVec 32 := BitVec.ofNat 32 (i 0).val
  let c0_i32_33 : BitVec 32 := 0#32
  let v73 : BitVec 1 := Scalar.cmpi .eq arg0 c0_i32_33
  let v74 : BitVec 32 := Scalar.extui v73
  let c0_i32_34 : BitVec 32 := 0#32
  let v75 : BitVec 1 := Scalar.cmpi .ne v74 c0_i32_34
  v75

def k0_cond5 (i : grid0.Coords) : BitVec 1 :=
  let arg0 : BitVec 32 := BitVec.ofNat 32 (i 0).val
  let c0_i32_39 : BitVec 32 := 0#32
  let v80 : BitVec 1 := Scalar.cmpi .eq arg0 c0_i32_39
  let v81 : BitVec 32 := Scalar.extui v80
  let c0_i32_40 : BitVec 32 := 0#32
  let v82 : BitVec 1 := Scalar.cmpi .ne v81 c0_i32_40
  v82

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== RmsMix.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemF.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemFRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LoraF.lean ====
abbrev S8192x384 : Shape := ⟨2, ![8192, 384]⟩
abbrev S8192x256 : Shape := ⟨2, ![8192, 256]⟩
abbrev S1x384 : Shape := ⟨2, ![1, 384]⟩
abbrev S1x256 : Shape := ⟨2, ![1, 256]⟩
abbrev S512x384 : Shape := ⟨2, ![512, 384]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S1x384, .f32⟩
  | .hbm, ⟨3, _⟩ => ⟨S1x256, .f32⟩
  | .hbm, ⟨4, _⟩ => ⟨S8192x384, .bf16⟩
  | .hbm, ⟨5, _⟩ => ⟨S8192x256, .bf16⟩
  | .hbm, ⟨6, _⟩ => ⟨S8192x384, .bf16⟩
  | .hbm, ⟨7, _⟩ => ⟨S8192x256, .bf16⟩
  | .local _ .vmem, ⟨0, _⟩ => ⟨S512x384, .bf16⟩
  | .local _ .vmem, ⟨1, _⟩ => ⟨S512x384, .bf16⟩
  | .local _ .vmem, ⟨2, _⟩ => ⟨S512x256, .bf16⟩
  | .local _ .vmem, ⟨3, _⟩ => ⟨S512x256, .bf16⟩
  | .local _ .vmem, ⟨4, _⟩ => ⟨S1x384, .f32⟩
  | .local _ .vmem, ⟨5, _⟩ => ⟨S1x256, .f32⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LoraFRefIdeal.lean ====
abbrev S8192x384 : Shape := ⟨2, ![8192, 384]⟩
abbrev S8192x256 : Shape := ⟨2, ![8192, 256]⟩
abbrev S1x384 : Shape := ⟨2, ![1, 384]⟩
abbrev S1x256 : Shape := ⟨2, ![1, 256]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x256, .f32⟩
  | .hbm, ⟨2, _⟩ => ⟨S1x384, .f32⟩
  | .hbm, ⟨3, _⟩ => ⟨S1x256, .f32⟩
  | .hbm, ⟨4, _⟩ => ⟨S8192x384, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x384, .f32⟩
  | .hbm, ⟨16, _⟩ => ⟨S8192x384, .f32⟩
  | .hbm, ⟨17, _⟩ => ⟨S8192x384, .f32⟩
  | .hbm, ⟨18, _⟩ => ⟨S8192x384, .f32⟩
  | .hbm, ⟨19, _⟩ => ⟨S8192x384, .bf16⟩
  | .hbm, ⟨20, _⟩ => ⟨S8192x256, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .bf16⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== XOut.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1x1024, .f32⟩
  | .hbm, ⟨4, _⟩ => ⟨S8192x512, .bf16⟩
  | .hbm, ⟨5, _⟩ => ⟨S512x1024, .bf16⟩
  | .hbm, ⟨6, _⟩ => ⟨S8192x1024, .f32⟩
  | .hbm, ⟨7, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== XOutRefIdeal.lean ====
abbrev S8192x512 : Shape := ⟨2, ![8192, 512]⟩
abbrev S512x1024 : Shape := ⟨2, ![512, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Gates.lean ====
abbrev S8192x1024 : Shape := ⟨2, ![8192, 1024]⟩
abbrev S1024x3744 : Shape := ⟨2, ![1024, 3744]⟩
abbrev S1024x32 : Shape := ⟨2, ![1024, 32]⟩
abbrev S_ : Shape := ⟨0, ![]⟩
abbrev S1024x128 : Shape := ⟨2, ![1024, 128]⟩
abbrev S1024x2048 : Shape := ⟨2, ![1024, 2048]⟩
abbrev S1024x1024 : Shape := ⟨2, ![1024, 1024]⟩
abbrev S1024x384 : Shape := ⟨2, ![1024, 384]⟩
abbrev S1024x256 : Shape := ⟨2, ![1024, 256]⟩
abbrev S1024x3840 : Shape := ⟨2, ![1024, 3840]⟩
abbrev S8192x2048 : Shape := ⟨2, ![8192, 2048]⟩

abbrev nBuf : Space → Nat
  | .hbm => 14
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3744, .f32⟩
  | .hbm, ⟨2, _⟩ => ⟨S8192x1024, .bf16⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x2048, .f32⟩
  | .hbm, ⟨8, _⟩ => ⟨S1024x1024, .f32⟩
  | .hbm, ⟨9, _⟩ => ⟨S1024x384, .f32⟩
  | .hbm, ⟨10, _⟩ => ⟨S1024x256, .f32⟩
  | .hbm, ⟨11, _⟩ => ⟨S1024x3840, .f32⟩
  | .hbm, ⟨12, _⟩ => ⟨S1024x3840, .bf16⟩
  | .hbm, ⟨13, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GatesRefIdeal.lean ====
abbrev S8192x1024 : Shape := ⟨2, ![8192, 1024]⟩
abbrev S1024x3744 : Shape := ⟨2, ![1024, 3744]⟩
abbrev S1024x2048 : Shape := ⟨2, ![1024, 2048]⟩
abbrev S8192x2048 : Shape := ⟨2, ![8192, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3744, .f32⟩
  | .hbm, ⟨2, _⟩ => ⟨S1024x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Glu.lean ====
abbrev S8192x1024 : Shape := ⟨2, ![8192, 1024]⟩
abbrev S1024x3744 : Shape := ⟨2, ![1024, 3744]⟩
abbrev S1024x32 : Shape := ⟨2, ![1024, 32]⟩
abbrev S_ : Shape := ⟨0, ![]⟩
abbrev S1024x128 : Shape := ⟨2, ![1024, 128]⟩
abbrev S1024x2048 : Shape := ⟨2, ![1024, 2048]⟩
abbrev S1024x1024 : Shape := ⟨2, ![1024, 1024]⟩
abbrev S1024x384 : Shape := ⟨2, ![1024, 384]⟩
abbrev S1024x256 : Shape := ⟨2, ![1024, 256]⟩
abbrev S1024x3840 : Shape := ⟨2, ![1024, 3840]⟩
abbrev S8192x512 : Shape := ⟨2, ![8192, 512]⟩
abbrev S1024x512 : Shape := ⟨2, ![1024, 512]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x3744, .f32⟩
  | .hbm, ⟨2, _⟩ => ⟨S8192x1024, .bf16⟩
  | .hbm, ⟨3, _⟩ => ⟨S1024x32, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x2048, .f32⟩
  | .hbm, ⟨8, _⟩ => ⟨S1024x1024, .f32⟩
  | .hbm, ⟨9, _⟩ => ⟨S1024x384, .f32⟩
  | .hbm, ⟨10, _⟩ => ⟨S1024x256, .f32⟩
  | .hbm, ⟨11, _⟩ => ⟨S1024x3840, .f32⟩
  | .hbm, ⟨12, _⟩ => ⟨S1024x3840, .bf16⟩
  | .hbm, ⟨13, _⟩ => ⟨S8192x1024, .bf16⟩
  | .hbm, ⟨14, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== GluRefIdeal.lean ====
abbrev S8192x1024 : Shape := ⟨2, ![8192, 1024]⟩
abbrev S1024x3744 : Shape := ⟨2, ![1024, 3744]⟩
abbrev S1024x1024 : Shape := ⟨2, ![1024, 1024]⟩
abbrev S8192x512 : Shape := ⟨2, ![8192, 512]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3744, .f32⟩
  | .hbm, ⟨2, _⟩ => ⟨S1024x1024, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x1024, .bf16⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== XqF.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x1024, .bf16⟩
  | .hbm, ⟨3, _⟩ => ⟨S1024x512, .bf16⟩
  | .hbm, ⟨4, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== XqFRefIdeal.lean ====
abbrev S8192x1024 : Shape := ⟨2, ![8192, 1024]⟩
abbrev S1024x512 : Shape := ⟨2, ![1024, 512]⟩
abbrev S8192x512 : Shape := ⟨2, ![8192, 512]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x512, .f32⟩
  | .hbm, ⟨2, _⟩ => ⟨S8192x512, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== XattnF.lean ====
abbrev S8192x512 : Shape := ⟨2, ![8192, 512]⟩
abbrev S256x1024 : Shape := ⟨2, ![256, 1024]⟩
abbrev S_ : Shape := ⟨0, ![]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 8
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S_, .f32⟩
  | .hbm, ⟨3, _⟩ => ⟨S8192x512, .f32⟩
  | .hbm, ⟨4, _⟩ => ⟨S8192x512, .f32⟩
  | .hbm, ⟨5, _⟩ => ⟨S8192x512, .bf16⟩
  | .hbm, ⟨6, _⟩ => ⟨S256x1024, .bf16⟩
  | .hbm, ⟨7, _⟩ => ⟨S8192x512, .bf16⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== XattnFRefIdeal.lean ====
abbrev S8192x512 : Shape := ⟨2, ![8192, 512]⟩
abbrev S256x1024 : Shape := ⟨2, ![256, 1024]⟩
abbrev S8192x4x128 : Shape := ⟨3, ![8192, 4, 128]⟩
abbrev S_ : Shape := ⟨0, ![]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x4x128, .f32⟩
  | .hbm, ⟨3, _⟩ => ⟨S_, .f32⟩
  | .hbm, ⟨4, _⟩ => ⟨S8192x4x128, .f32⟩
  | .hbm, ⟨5, _⟩ => ⟨S8192x4x128, .f32⟩
  | .hbm, ⟨6, _⟩ => ⟨S256x2x4x128, .f32⟩
  | .hbm, ⟨7, _⟩ => ⟨S256x1x4x128, .f32⟩
  | .hbm, ⟨8, _⟩ => ⟨S256x4x128, .f32⟩
  | .hbm, ⟨9, _⟩ => ⟨S256x1x4x128, .f32⟩
  | .hbm, ⟨10, _⟩ => ⟨S256x4x128, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | .hbm, ⟨29, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Proof.MergeValue.lean ====
/- What the gated merge's backward call leaves in its three arrays, at every index. -/
module

public import proofs.«01_k».proof.Proof.Gen.MergeIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeIdeal.Merge

open Cert.MergeIdeal Cert.MergeIdeal.Gen

variable (m : (ℓ : Loc nD τ sig) → Buf (Elt Ideal) ℓ)

/-- The gate of a logit: its logistic function. -/
def gate (x : EReal) : EReal := Ideal.div 1 (1 + Ideal.exp (-x))

/-- Every window's block index at a point: the point along the rows, the first block along the columns. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The gates' array at the region: the gate of each logit. -/
theorem V_gates (c : Dev nD) : V m c main_v6 = fun i => gate (m ((c : Thread nD τ).loc main_arg0) i) := by
  entry_read; funext i; pointwise [gate]

/-- The gates' block, read at an index: the gate of the logit there. -/
theorem iblk_gates (c : Dev nD) (t : Fin cfg0.N) (r : Fin 256) (l : Fin 2048) :
    (show EReal from iblk m c 1 t (ix2 r l)) = gate (m ((c : Thread nD τ).loc main_arg0)
      (ix2 ⟨t.val * 256 + r.val, by have := t.isLt; change t.val < 32 at this; omega⟩ l)) := by
  blk_simp [iblk]
  rw [V_gates]
  exact congrArg gate (by blk_ext [idx t])

/-- The first branch's gradient: the cotangent times the first gate. -/
def G4 (gl : FVec Ideal S8192x2048 .f32) (dm : FVec Ideal S8192x1024 .f32) : FVec Ideal S8192x1024 .bf16 :=
  fun i => dm i * gate (gl (ix2 (i 0) ⟨(i 1).val, by have := (i 1).isLt; change (i 1).val < 1024 at this; omega⟩))

/-- The second branch's gradient: the cotangent times the second gate. -/
def G5 (gl : FVec Ideal S8192x2048 .f32) (dm : FVec Ideal S8192x1024 .f32) : FVec Ideal S8192x1024 .bf16 :=
  fun i => dm i * gate (gl (ix2 (i 0) ⟨1024 + (i 1).val, by have := (i 1).isLt; change (i 1).val < 1024 at this; omega⟩))

/-- A gate's gradient from its logit, its branch and the cotangent, in the call's order of multiplication. -/
def dgate (x co dm : EReal) : EReal := dm * co * gate x * (1 - gate x)

/-- The gates' columns of the projection's gradient (nothing is said of the other columns). -/
def G6 (gl : FVec Ideal S8192x2048 .f32) (co mo dm : FVec Ideal S8192x1024 .f32) : FVec Ideal S8192x3840 .bf16 :=
  fun i => if h : (i 1).val < 1024 then dgate (gl (ix2 (i 0) ⟨(i 1).val, by omega⟩)) (co (ix2 (i 0) ⟨(i 1).val, h⟩)) (dm (ix2 (i 0) ⟨(i 1).val, h⟩))
    else if h : (i 1).val < 2048 then dgate (gl (ix2 (i 0) ⟨(i 1).val, by omega⟩)) (mo (ix2 (i 0) ⟨(i 1).val - 1024, by omega⟩)) (dm (ix2 (i 0) ⟨(i 1).val - 1024, by omega⟩))
    else 0

/-- On the first gate's columns. -/
theorem G6_lo (gl : FVec Ideal S8192x2048 .f32) (co mo dm : FVec Ideal S8192x1024 .f32) (i : S8192x3840.Idx) (r : Fin 8192) (l : Fin 1024)
    (h0 : (i 0).val = r.val) (h1 : (i 1).val = l.val) :
    G6 gl co mo dm i = dm (ix2 r l) * co (ix2 r l) * gate (gl (ix2 r ⟨l.val, by omega⟩)) * (1 - gate (gl (ix2 r ⟨l.val, by omega⟩))) := by
  obtain rfl : i 0 = r := Fin.ext h0
  unfold G6
  rw [dif_pos (by omega)]
  simp only [h1, dgate]

/-- On the second gate's columns. -/
theorem G6_hi (gl : FVec Ideal S8192x2048 .f32) (co mo dm : FVec Ideal S8192x1024 .f32) (i : S8192x3840.Idx) (r : Fin 8192) (l : Fin 1024)
    (h0 : (i 0).val = r.val) (h1 : (i 1).val = 1024 + l.val) :
    G6 gl co mo dm i = dm (ix2 r l) * mo (ix2 r l) * gate (gl (ix2 r ⟨1024 + l.val, by omega⟩)) * (1 - gate (gl (ix2 r ⟨1024 + l.val, by omega⟩))) := by
  obtain rfl : i 0 = r := Fin.ext h0
  unfold G6
  rw [dif_neg (by omega), dif_pos (by omega)]
  simp only [h1, dgate, Nat.add_sub_cancel_left]

theorem final4 (c : Dev nD) : (dats m 0 c).arrAt 4 cfg0.N
    = G4 (m ((c : Thread nD τ).loc main_arg0)) (m ((c : Thread nD τ).loc main_arg3)) := by
  refine (dats m 0 c).arrAt_eq_of_covers 4 _ (by decide +kernel) fun t _ y => ?_
  blk_simp
  rw [after0_4]; frame_out
  pointwise [k0_pay4, k0_pay1, k0_pay2, G4]
  refine Ideal.mul_congr ?_ ((iblk_gates m c t (y 0) ⟨(y 1).val, _⟩).trans (congrArg gate ?_))
  · blk_ext! [iblk, V, idx t]
  · blk_ext! [idx t]

theorem final5 (c : Dev nD) : (dats m 0 c).arrAt 5 cfg0.N
    = G5 (m ((c : Thread nD τ).loc main_arg0)) (m ((c : Thread nD τ).loc main_arg3)) := by
  refine (dats m 0 c).arrAt_eq_of_covers 5 _ (by decide +kernel) fun t _ y => ?_
  blk_simp
  rw [after0_5]; frame_out
  pointwise [k0_pay5, k0_pay1, k0_pay3, G5]
  refine Ideal.mul_congr ?_ ((iblk_gates m c t (y 0) ⟨1024 + (y 1).val, _⟩).trans (congrArg gate ?_))
  · blk_ext! [iblk, V, idx t]
  · blk_ext! [idx t]

set_option maxHeartbeats 400000 in
theorem pay6_at (a b d : FVec Ideal S256x1024 .bf16) (r : Fin 256) (l : Fin 1024) :
    k0_pay6 (F := Ideal) a b d (ix2 r l) = a (ix2 r l) * d (ix2 r l) * b (ix2 r l) * (1 - b (ix2 r l)) := by
  pointwise [k0_pay6, k0_pay1, k0_pay2]

theorem pay7_at (a b d : FVec Ideal S256x1024 .bf16) (r : Fin 256) (l : Fin 1024) :
    k0_pay7 (F := Ideal) a b d (ix2 r l) = a (ix2 r l) * d (ix2 r l) * b (ix2 r l) * (1 - b (ix2 r l)) := by
  pointwise [k0_pay7, k0_pay1, k0_pay3]

/-- A branch's or the cotangent's block, read at an index. -/
theorem iblk_row (c : Dev nD) (t : Fin cfg0.N) (r : Fin 256) (l : Fin 1024) (h : t.val * 256 + r.val < 8192) :
    (show EReal from iblk m c 0 t (ix2 r l)) = m ((c : Thread nD τ).loc main_arg3) (ix2 ⟨t.val * 256 + r.val, h⟩ l)
    ∧ (show EReal from iblk m c 2 t (ix2 r l)) = m ((c : Thread nD τ).loc main_arg1) (ix2 ⟨t.val * 256 + r.val, h⟩ l)
    ∧ (show EReal from iblk m c 3 t (ix2 r l)) = m ((c : Thread nD τ).loc main_arg2) (ix2 ⟨t.val * 256 + r.val, h⟩ l) :=
  ⟨by blk_ext! [iblk, V, idx t], by blk_ext! [iblk, V, idx t], by blk_ext! [iblk, V, idx t]⟩

/-- Where an index of the window's block sits in the array. -/
theorem emb6 (t : Fin cfg0.N) (y : ((cfg0.win 6).xblock (cfg0.grid.coords t)).Idx) :
    ((((cfg0.win 6).blk t).view.emb y) 0 : ℕ) = t.val * 256 + ((win0 6).xinj (grid0.coords t) y 0 : ℕ)
    ∧ ((((cfg0.win 6).blk t).view.emb y) 1 : ℕ) = ((win0 6).xinj (grid0.coords t) y 1 : ℕ) := by
  constructor
  · change _ = t.val * 256 + (y 0 : ℕ)
    blk_simp [idx t]
  · refine Eq.trans (b := win0_6.index t (1 : Fin 2) * 2048 + 1 * (y 1 : ℕ)) rfl ?_
    rw [(idx t).2.2.2.2.2.2]
    change 0 * 2048 + 1 * (y 1 : ℕ) = (y 1 : ℕ)
    omega

/-- The written columns of the projection's gradient are the gates'. -/
theorem final6 (c : Dev nD) (i : S8192x3840.Idx) (hi : (i 1).val < 2048) : (dats m 0 c).arrAt 6 cfg0.N i
    = G6 (m ((c : Thread nD τ).loc main_arg0)) (m ((c : Thread nD τ).loc main_arg1)) (m ((c : Thread nD τ).loc main_arg2)) (m ((c : Thread nD τ).loc main_arg3)) i := by
  refine ((dats m 0 c).arrAt_apply_of_coversWhere 6 _ (P := fun i : S8192x3840.Idx => (i 1).val < 2048) (fun β => β (1 : Fin 2) < 1) (by decide +kernel) (fun t hf y => ?_)
    (fun j => by blk_simp [Pipeline.Window.cell_apply]; omega) i).trans (if_pos hi)
  blk_simp
  rw [after0_6]; frame_out
  canon_tiles x h
  · have hr : t.val * 256 + (x 0).val < 8192 := by have := t.isLt; change t.val < 32 at this; omega
    refine Eq.trans ?_ (G6_hi _ _ _ _ _ ⟨t.val * 256 + (x 0).val, hr⟩ (x 1) ((emb6 t y).1.trans (by rw [h0])) ((emb6 t y).2.trans h1)).symm
    refine (congrArg (k0_pay7 (F := Ideal) _ _ _) (eq_ix2 x)).trans ?_
    refine (pay7_at _ _ _ (x 0) (x 1)).trans ?_
    obtain ⟨ha, hb, hd⟩ := iblk_row m c t (x 0) (x 1) hr
    have hg : View.ld (iblk m c 1 t) r0_2 (ix2 (x 0) (x 1)) = iblk m c 1 t (ix2 (x 0) ⟨1024 + (x 1).val, by omega⟩) := by pointwise
    exact Ideal.mul_congr (Ideal.mul_congr (Ideal.mul_congr ha hd) (hg.trans (iblk_gates m c t _ _)))
      (congrArg (fun z : EReal => 1 - z) (hg.trans (iblk_gates m c t _ _)))
  · have hr : t.val * 256 + (x 0).val < 8192 := by have := t.isLt; change t.val < 32 at this; omega
    refine Eq.trans ?_ (G6_lo _ _ _ _ _ ⟨t.val * 256 + (x 0).val, hr⟩ (x 1) ((emb6 t y).1.trans (by rw [h0])) ((emb6 t y).2.trans h1)).symm
    refine (congrArg (k0_pay6 (F := Ideal) _ _ _) (eq_ix2 x)).trans ?_
    refine (pay6_at _ _ _ (x 0) (x 1)).trans ?_
    obtain ⟨ha, hb, hd⟩ := iblk_row m c t (x 0) (x 1) hr
    have hg : View.ld (iblk m c 1 t) r0_1 (ix2 (x 0) (x 1)) = iblk m c 1 t (ix2 (x 0) ⟨(x 1).val, by omega⟩) := by pointwise
    exact Ideal.mul_congr (Ideal.mul_congr (Ideal.mul_congr ha hb) (hg.trans (iblk_gates m c t _ _)))
      (congrArg (fun z : EReal => 1 - z) (hg.trans (iblk_gates m c t _ _)))

end Cert.MergeIdeal.Merge

end
-- ==== Proof.MergeProof.lean ====
module

public import proofs.«01_k».proof.Defs
public import proofs.«01_k».proof.Proof.Gen.On_merge_on
public import proofs.«01_k».proof.Proof.MergeValue
public import proofs.«01_k».proof.Proof.Gen.MergeRefIdeal.Run

@[expose] public section

set_option maxRecDepth 16384

noncomputable section

namespace Cert.MergeProof

open Idealize.ShloMosaic Idealize.SL.Sem

/-- The mask of the projection's gradient selects the gates' columns only. -/
theorem merge_cols (X : FVec Ideal Cert.On_merge_on.S8192x2048 .f32) (A B C : FVec Ideal Cert.On_merge_on.S8192x1024 .f32) (i : Cert.On_merge_on.S8192x3840.Idx)
    (h : (Cert.On_merge_on.fn (F := Ideal) X A B C).2.2 i = 1#1) : (i 1).val < 2048 := by
  by_contra hn
  have h1 : (i 1).val < 3840 := (i 1).isLt
  revert h
  simp only [Cert.On_merge_on.fn]
  pointwise
  word_cmp

set_option maxHeartbeats 1000000 in
open Cert.MergeIdeal.Merge in
/-- The merge's backward call and its reference leave the same arrays, on the columns the call writes. -/
theorem algebraic : Cert.algebraic_MergeIdeal_MergeRefIdeal_on_merge_on := by
  intro m g m' g' hpre hagree
  refine ⟨fun c => (Cert.MergeIdeal.Gen.dats m 0 c).arrAt 4 (Cert.MergeIdeal.cfgs 0).N, fun c => (Cert.MergeIdeal.Gen.dats m 0 c).arrAt 5 (Cert.MergeIdeal.cfgs 0).N,
    fun c => (Cert.MergeIdeal.Gen.dats m 0 c).arrAt 6 (Cert.MergeIdeal.cfgs 0).N, ?_, ?_⟩
  · run_from Cert.MergeIdeal.Value.run_blocks m g
    all_goals exact fun _ _ => trivial
  · run_from Cert.MergeRefIdeal.Value.run m' g'
    · intro i _
      rw [final4]
      idx_vars i
      pointwise [G4, gate]
      exact mul_comm (G := EReal) _ _
    · intro i _
      rw [final5]
      idx_vars i
      pointwise [G5, gate]
      exact mul_comm (G := EReal) _ _
    · intro i hi
      have hc := merge_cols _ _ _ _ i hi
      clear hi
      rw [final6 m c i hc]
      idx_vars i
      pointwise [G6, dgate, gate]
      by_cases h : i1.val < 1024
      · have e : i1.val % 1024 = i1.val := Nat.mod_eq_of_lt h
        refine (dif_pos hc).trans (Eq.trans ?_ (dif_pos h).symm)
        refine Eq.trans (congrArg₂ (fun a b : EReal => a * b) ((congrArg₂ (fun a b : EReal => a + b) (dif_neg (by omega)) (dif_pos (by omega))).trans (zero_add _)) rfl) ?_
        refine (mul_assoc (G := EReal) _ _ _).symm.trans ?_
        simp only [e]
      · have e : i1.val % 1024 = i1.val - 1024 := by omega
        refine (dif_pos hc).trans (Eq.trans ?_ ((dif_neg h).trans (dif_pos hc)).symm)
        refine Eq.trans (congrArg₂ (fun a b : EReal => a * b) ((congrArg₂ (fun a b : EReal => a + b) (dif_pos (by omega)) (dif_neg (by omega))).trans (add_zero _)) rfl) ?_
        refine (mul_assoc (G := EReal) _ _ _).symm.trans ?_
        simp only [e]

/-- The reference runs, keeps its arguments and leaves no semaphore raised. -/
theorem frameRef : Cert.quiescent_MergeRefIdeal := fun m ρ _ =>
  (θ_run Cert.MergeRefIdeal.defs _ _).mono (fun r h => ⟨fun c => (h c).2.2.2, sem_eq_zero_of_no_sems (by decide) r.2⟩) (Cert.MergeRefIdeal.Value.run m ρ)

end Cert.MergeProof
-- ==== Proof.FlPay.lean ====
/- What the pieces of the attention's backward body compute, at an index: the three stored values of one block of queries against one block of keys. -/
module

public import proofs.«01_k».proof.Proof.Gen.FlashIdeal.Skeleton
public import Idealize.ShloMosaic.Lib.VecWindow
public import Idealize.ShloMosaic.Lib.Pointwise
public import Idealize.ShloMosaic.Lib.Claim
public import Idealize.ShloMosaic.Lib.WordCmp

@[expose] public section

set_option maxRecDepth 16384

noncomputable section

namespace Cert.FlashIdeal.Hand

open Idealize.ShloMosaic Idealize.ShloMosaic.TcCoe Idealize.SL.Sem
open Cert.FlashIdeal.Gen

/-- The inner product of row `p` of `x` and row `j` of `y`, over 128 lanes. -/
def dot {n : ℕ} (x y : (⟨2, ![n, 128]⟩ : Shape).Idx → EReal) (p j : Fin n) : EReal := ∑ t : Fin 128, x (ix2 p t) * y (ix2 j t)

/-- The weight of a key row and a query row under the causal mask of a diagonal block. -/
def wDiag {n : ℕ} (q k : (⟨2, ![n, 128]⟩ : Shape).Idx → EReal) (p j : Fin n) : EReal := if p.val ≤ j.val then Ideal.exp (dot k q p j) else 0

/-- The weight of a key row and a query row where no mask is needed. -/
def wFull {n : ℕ} (q k : (⟨2, ![n, 128]⟩ : Shape).Idx → EReal) (p j : Fin n) : EReal := Ideal.exp (dot k q p j)

/-- The masked exponential of a diagonal block, as the body computes it. -/
theorem exp_masked (p j : Fin 512) (z : EReal) :
    Ideal.exp (Scalar.select (IntOp.cmpi CmpIPredicate.sle (BitVec.ofNat 32 p.val) (BitVec.ofNat 32 j.val)) z
      (Named.named (F := Ideal) κ "mask" (φ := .f32) 0xF149F2CA#32)) = if p.val ≤ j.val then Ideal.exp z else 0 := by
  by_cases h : p.val ≤ j.val
  · rw [(WordCmp.cmpi_sle_ofNat_eq_one_iff (by have := p.isLt; omega) (by have := j.isLt; omega)).2 h, if_pos h]; rfl
  · have hz : IntOp.cmpi CmpIPredicate.sle (BitVec.ofNat 32 p.val) (BitVec.ofNat 32 j.val) = 0#1 :=
      (WordCmp.cmpi_sle_ofNat_eq_zero_iff (by have := p.isLt; omega) (by have := j.isLt; omega)).2 (by omega)
    rw [hz, if_neg h]; rfl

section Full

variable (q dO k v : Vec Ideal S1024x128 .bf16) (d : Vec Ideal S1024x128 .f32) (p j : Fin 1024) (l : Fin 128)

theorem payV_full : k0_pay8 q dO k d (ix2 p l) = d (ix2 p l) + ∑ j : Fin 1024, wFull q k p j * dO (ix2 j l) := by
  pointwise [k0_pay8, k0_pay6, k0_pay5, k0_pay4, k0_pay3, wFull, dot]

theorem payK_full : k0_pay9 q dO k v d (ix2 p l) = d (ix2 p l) + ∑ j : Fin 1024, wFull q k p j * dot v dO p j * q (ix2 j l) := by
  pointwise [k0_pay9, k0_pay7, k0_pay6, k0_pay5, k0_pay4, k0_pay3, wFull, dot]

theorem payQ_full : k0_pay10 q dO k v d (ix2 j l) = d (ix2 j l) + ∑ p : Fin 1024, wFull q k p j * dot v dO p j * k (ix2 p l) := by
  pointwise [k0_pay10, k0_pay7, k0_pay6, k0_pay5, k0_pay4, k0_pay3, wFull, dot]

theorem payV_full' : k0_pay16 q dO k d (ix2 p l) = d (ix2 p l) + ∑ j : Fin 1024, wFull q k p j * dO (ix2 j l) := payV_full q dO k d p l

theorem payK_full' : k0_pay17 q dO k v d (ix2 p l) = d (ix2 p l) + ∑ j : Fin 1024, wFull q k p j * dot v dO p j * q (ix2 j l) := payK_full q dO k v d p l

theorem payQ_full' : k0_pay18 q dO k v d (ix2 j l) = d (ix2 j l) + ∑ p : Fin 1024, wFull q k p j * dot v dO p j * k (ix2 p l) := payQ_full q dO k v d j l

end Full

section Half

variable (q dO k v : Vec Ideal S512x128 .bf16) (d : Vec Ideal S512x128 .f32) (p j : Fin 512) (l : Fin 128)

theorem payV_diag : k0_pay44 (k0_pay39 dO) d (k0_pay43 q k) (ix2 p l) = d (ix2 p l) + ∑ j : Fin 512, wDiag q k p j * dO (ix2 j l) := by
  pointwise [k0_pay44, k0_pay43, k0_pay41, k0_pay40, k0_pay39, k0_pay38, exp_masked, wDiag, dot]

theorem payK_diag : k0_pay45 (k0_pay38 q) (k0_pay42 q dO k v) d (ix2 p l) = d (ix2 p l) + ∑ j : Fin 512, wDiag q k p j * dot v dO p j * q (ix2 j l) := by
  pointwise [k0_pay45, k0_pay42, k0_pay41, k0_pay40, k0_pay39, k0_pay38, exp_masked, wDiag, dot]

theorem payQ_diag : k0_pay46 (k0_pay40 k) (k0_pay42 q dO k v) d (ix2 j l) = d (ix2 j l) + ∑ p : Fin 512, wDiag q k p j * dot v dO p j * k (ix2 p l) := by
  pointwise [k0_pay46, k0_pay42, k0_pay41, k0_pay40, k0_pay39, k0_pay38, exp_masked, wDiag, dot]

theorem payV_diag2 : k0_pay53 (k0_pay48 dO) (k0_pay50 q k) d (ix2 p l) = d (ix2 p l) + ∑ j : Fin 512, wDiag q k p j * dO (ix2 j l) := payV_diag q dO k d p l

theorem payK_diag2 : k0_pay54 (k0_pay47 q) (k0_pay51 q dO k v) d (ix2 p l) = d (ix2 p l) + ∑ j : Fin 512, wDiag q k p j * dot v dO p j * q (ix2 j l) := payK_diag q dO k v d p l

theorem payQ_diag2 : k0_pay55 (k0_pay49 k) (k0_pay51 q dO k v) d (ix2 j l) = d (ix2 j l) + ∑ p : Fin 512, wDiag q k p j * dot v dO p j * k (ix2 p l) := payQ_diag q dO k v d j l

theorem payV_part : k0_pay61 (k0_pay57 dO) (k0_pay59 q k) d (ix2 p l) = d (ix2 p l) + ∑ j : Fin 512, wFull q k p j * dO (ix2 j l) := by
  pointwise [k0_pay61, k0_pay59, k0_pay58, k0_pay57, k0_pay56, wFull, dot]

theorem payK_part : k0_pay62 (k0_pay56 q) (k0_pay57 dO) (k0_pay59 q k) v d (ix2 p l) = d (ix2 p l) + ∑ j : Fin 512, wFull q k p j * dot v dO p j * q (ix2 j l) := by
  pointwise [k0_pay62, k0_pay60, k0_pay59, k0_pay58, k0_pay57, k0_pay56, wFull, dot]

theorem payQ_part : k0_pay63 (k0_pay57 dO) (k0_pay58 k) (k0_pay59 q k) v d (ix2 j l) = d (ix2 j l) + ∑ p : Fin 512, wFull q k p j * dot v dO p j * k (ix2 p l) := by
  pointwise [k0_pay63, k0_pay60, k0_pay59, k0_pay58, k0_pay57, k0_pay56, wFull, dot]

theorem payV_part2 : k0_pay70 (k0_pay65 dO) (k0_pay67 q k) d (ix2 p l) = d (ix2 p l) + ∑ j : Fin 512, wFull q k p j * dO (ix2 j l) := payV_part q dO k d p l

theorem payK_part2 : k0_pay71 (k0_pay64 q) (k0_pay65 dO) (k0_pay67 q k) (k0_pay68 v) d (ix2 p l) = d (ix2 p l) + ∑ j : Fin 512, wFull q k p j * dot v dO p j * q (ix2 j l) := payK_part q dO k v d p l

theorem payQ_part2 : k0_pay72 (k0_pay65 dO) (k0_pay66 k) (k0_pay67 q k) (k0_pay68 v) d (ix2 j l) = d (ix2 j l) + ∑ p : Fin 512, wFull q k p j * dot v dO p j * k (ix2 p l) := payQ_part q dO k v d j l

theorem payV_diag3 : k0_pay79 (k0_pay74 dO) (k0_pay76 q k) (iota .tc S512x512 32 [0] iota_S512x512_d0_w32) d (ix2 p l) = d (ix2 p l) + ∑ j : Fin 512, wDiag q k p j * dO (ix2 j l) := payV_diag q dO k d p l

theorem payK_diag3 : k0_pay80 (k0_pay73 q) (k0_pay74 dO) (k0_pay76 q k) (iota .tc S512x512 32 [0] iota_S512x512_d0_w32) v d (ix2 p l) = d (ix2 p l) + ∑ j : Fin 512, wDiag q k p j * dot v dO p j * q (ix2 j l) := payK_diag q dO k v d p l

theorem payQ_diag3 : k0_pay81 (k0_pay74 dO) (k0_pay75 k) (k0_pay76 q k) (iota .tc S512x512 32 [0] iota_S512x512_d0_w32) v d (ix2 j l) = d (ix2 j l) + ∑ p : Fin 512, wDiag q k p j * dot v dO p j * k (ix2 p l) := payQ_diag q dO k v d j l

theorem payV_diag4 : k0_pay87 (k0_pay82 q) (k0_pay83 dO) k d (ix2 p l) = d (ix2 p l) + ∑ j : Fin 512, wDiag q k p j * dO (ix2 j l) := payV_diag q dO k d p l

theorem payK_diag4 : k0_pay88 (k0_pay82 q) (k0_pay83 dO) k v d (ix2 p l) = d (ix2 p l) + ∑ j : Fin 512, wDiag q k p j * dot v dO p j * q (ix2 j l) := payK_diag q dO k v d p l

theorem payQ_diag4 : k0_pay89 (k0_pay82 q) (k0_pay83 dO) k v d (ix2 j l) = d (ix2 j l) + ∑ p : Fin 512, wDiag q k p j * dot v dO p j * k (ix2 p l) := payQ_diag q dO k v d j l

end Half

end Cert.FlashIdeal.Hand
end
-- ==== Proof.FlSpec.lean ====
/- The attention's backward pass as sums over query rows and key rows, and the effect of one block of queries against one block of keys on them. -/
module

public import Idealize.ShloMosaic.Lib.VecWindow
public import Idealize.ShloMosaic.Lib.Pointwise
public import Idealize.ShloMosaic.Lib.Claim
public import proofs.«01_k».proof.Proof.FlPay

@[expose] public section

noncomputable section

namespace Cert.FlashIdeal.Hand

open Idealize.ShloMosaic Idealize.ShloMosaic.TcCoe Idealize.SL.Sem

/-- A matrix read at natural numbers, zero outside its bounds. -/
def at2 {a b : ℕ} (x : (⟨2, ![a, b]⟩ : Shape).Idx → EReal) (r c : ℕ) : EReal := if h : r < a ∧ c < b then x (ix2 ⟨r, h.1⟩ ⟨c, h.2⟩) else 0

theorem at2_of {a b : ℕ} (x : (⟨2, ![a, b]⟩ : Shape).Idx → EReal) {r c : ℕ} (hr : r < a) (hc : c < b) : at2 x r c = x (ix2 ⟨r, hr⟩ ⟨c, hc⟩) := dif_pos ⟨hr, hc⟩

theorem at2_ix {a b : ℕ} (x : (⟨2, ![a, b]⟩ : Shape).Idx → EReal) (y : (⟨2, ![a, b]⟩ : Shape).Idx) : at2 x (y 0).val (y 1).val = x y :=
  (at2_of x (y 0).isLt (y 1).isLt).trans (congrArg x (eq_ix2 y).symm)

/-- A window of a matrix, at an index. -/
theorem window_at {a b n m o0 o1 : ℕ} (x : (⟨2, ![a, b]⟩ : Shape).Idx → EReal)
    (inb : ∀ i, (![o0, o1] : Fin 2 → ℕ) i + (⟨2, ![n, m]⟩ : Shape).size i ≤ (⟨2, ![a, b]⟩ : Shape).size i) (p : Fin n) (q : Fin m) :
    VecWindow.window x ![o0, o1] (⟨2, ![n, m]⟩ : Shape).size inb (ix2 p q) = at2 x (o0 + p.val) (o1 + q.val) := by
  have h0 : o0 + n ≤ a := inb 0
  have h1 : o1 + m ≤ b := inb 1
  rw [at2_of x (by have := p.isLt; omega) (by have := q.isLt; omega)]
  refine congrArg x (funext fun i => Fin.ext ?_)
  match i with
  | 0 => show o0 + 1 * p.val = o0 + p.val; omega
  | 1 => show o1 + 1 * q.val = o1 + q.val; omega

/-- A matrix with increments added inside a box. -/
def addBox {a b : ℕ} (x : (⟨2, ![a, b]⟩ : Shape).Idx → EReal) (o0 n o1 m : ℕ) (inc : ℕ → ℕ → EReal) : (⟨2, ![a, b]⟩ : Shape).Idx → EReal :=
  fun y => x y + if (o0 ≤ (y 0).val ∧ (y 0).val < o0 + n) ∧ o1 ≤ (y 1).val ∧ (y 1).val < o1 + m then inc (y 0).val (y 1).val else 0

/-- A block put over a window, each of whose entries is the old one and an increment, adds the increments in that box. -/
theorem put_addBox {a b n m o0 o1 : ℕ} (x : (⟨2, ![a, b]⟩ : Shape).Idx → EReal) (w : (⟨2, ![n, m]⟩ : Shape).Idx → EReal) (inc : ℕ → ℕ → EReal)
    (hw : ∀ (p : Fin n) (q : Fin m), w (ix2 p q) = at2 x (o0 + p.val) (o1 + q.val) + inc (o0 + p.val) (o1 + q.val)) :
    VecWindow.put x ![o0, o1] (⟨2, ![n, m]⟩ : Shape).size w = addBox x o0 n o1 m inc := by
  funext y
  by_cases h : (o0 ≤ (y 0).val ∧ (y 0).val < o0 + n) ∧ o1 ≤ (y 1).val ∧ (y 1).val < o1 + m
  · have hm : ∀ i, (![o0, o1] : Fin 2 → ℕ) i ≤ (y i).val ∧ (y i).val < (![o0, o1] : Fin 2 → ℕ) i + (⟨2, ![n, m]⟩ : Shape).size i := fun i =>
      match i with
      | 0 => h.1
      | 1 => h.2
    refine (dif_pos hm).trans ?_
    refine (congrArg w (eq_ix2 _)).trans ((hw _ _).trans ?_)
    have e0 : o0 + ((y 0).val - o0) = (y 0).val := by omega
    have e1 : o1 + ((y 1).val - o1) = (y 1).val := by omega
    show at2 x (o0 + ((y 0).val - o0)) (o1 + ((y 1).val - o1)) + inc (o0 + ((y 0).val - o0)) (o1 + ((y 1).val - o1)) = _
    rw [e0, e1, at2_ix]
    exact congrArg (x y + ·) (if_pos h).symm
  · refine (dif_neg fun hm => h ⟨hm 0, hm 1⟩).trans ?_
    exact (add_zero _).symm.trans (congrArg (x y + ·) (if_neg h).symm)

variable {Sq Dq Sk Dk : ℕ}

/-- The inner product of row `r` of `x` and row `R` of `y` over the 128 lanes from `co` on. -/
def dotN {a b a' b' : ℕ} (x : (⟨2, ![a, b]⟩ : Shape).Idx → EReal) (y : (⟨2, ![a', b']⟩ : Shape).Idx → EReal) (co r R : ℕ) : EReal :=
  ∑ t : Fin 128, at2 x r (co + t.val) * at2 y R (co + t.val)

/-- The weight of key row `r` of the tile `kj` and query row `R`: the exponential of their score where the query is not before the key. -/
def wgt (x0 : (⟨2, ![8192, 256]⟩ : Shape).Idx → EReal) (x1 : (⟨2, ![1024, 256]⟩ : Shape).Idx → EReal) (kj co r R : ℕ) : EReal :=
  if kj * 1024 + r ≤ R then Ideal.exp (dotN x1 x0 co r R) else 0

/-- The weight times the derivative of the loss by the weight's exponent. -/
def dst (x0 : (⟨2, ![8192, 256]⟩ : Shape).Idx → EReal) (x1 x2 : (⟨2, ![1024, 256]⟩ : Shape).Idx → EReal) (x3 : (⟨2, ![8192, 256]⟩ : Shape).Idx → EReal)
    (kj co r R : ℕ) : EReal := wgt x0 x1 kj co r R * dotN x2 x3 co r R

section Sums

variable (x0 : (⟨2, ![8192, 256]⟩ : Shape).Idx → EReal) (x1 x2 : (⟨2, ![1024, 256]⟩ : Shape).Idx → EReal) (x3 : (⟨2, ![8192, 256]⟩ : Shape).Idx → EReal) (kj : ℕ)

/-- The first lane of the head that a lane belongs to. -/
def lane0 (C : ℕ) : ℕ := 128 * (C / 128)

/-- The value gradient's terms, of one query row. -/
def tV (r C R : ℕ) : EReal := wgt x0 x1 kj (lane0 C) r R * at2 x3 R C
/-- The key gradient's terms, of one query row. -/
def tK (r C R : ℕ) : EReal := dst x0 x1 x2 x3 kj (lane0 C) r R * at2 x0 R C
/-- The query gradient's terms, of one key row. -/
def tQ (R C r : ℕ) : EReal := dst x0 x1 x2 x3 kj (lane0 C) r R * at2 x1 r C

/-- The terms of `n` consecutive rows from `o` on. -/
def blockSum (f : ℕ → EReal) (o n : ℕ) : EReal := ∑ j : Fin n, f (o + j.val)

theorem lane0_of {co l : ℕ} (hco : 128 ∣ co) (hl : l < 128) : lane0 (co + l) = co := by
  unfold lane0; obtain ⟨u, rfl⟩ := hco; omega

variable {n ro ko co : ℕ}
variable (iq : ∀ i, (![ro, co] : Fin 2 → ℕ) i + (⟨2, ![n, 128]⟩ : Shape).size i ≤ (⟨2, ![8192, 256]⟩ : Shape).size i)
variable (ik : ∀ i, (![ko, co] : Fin 2 → ℕ) i + (⟨2, ![n, 128]⟩ : Shape).size i ≤ (⟨2, ![1024, 256]⟩ : Shape).size i)

/-- The block of a matrix of queries at the step's rows and head. -/
abbrev winQ (x : (⟨2, ![8192, 256]⟩ : Shape).Idx → EReal) : (⟨2, ![n, 128]⟩ : Shape).Idx → EReal := VecWindow.window x ![ro, co] (⟨2, ![n, 128]⟩ : Shape).size iq
/-- The block of a matrix of keys at the step's rows and head. -/
abbrev winK (x : (⟨2, ![1024, 256]⟩ : Shape).Idx → EReal) : (⟨2, ![n, 128]⟩ : Shape).Idx → EReal := VecWindow.window x ![ko, co] (⟨2, ![n, 128]⟩ : Shape).size ik

theorem dot_win (x : (⟨2, ![1024, 256]⟩ : Shape).Idx → EReal) (y : (⟨2, ![8192, 256]⟩ : Shape).Idx → EReal) (p j : Fin n) :
    dot (winK ik x) (winQ iq y) p j = dotN x y co (ko + p.val) (ro + j.val) :=
  Finset.sum_congr rfl fun t _ => congrArg₂ (fun a b : EReal => a * b) (window_at x ik p t) (window_at y iq j t)

theorem wDiag_win (hro : ro = kj * 1024 + ko) (p j : Fin n) :
    wDiag (winQ iq x0) (winK ik x1) p j = wgt x0 x1 kj co (ko + p.val) (ro + j.val) := by
  unfold wDiag wgt
  rw [dot_win iq ik]
  exact if_congr (by omega) rfl rfl

theorem wFull_win (hro : kj * 1024 + ko + n ≤ ro) (p j : Fin n) :
    wFull (winQ iq x0) (winK ik x1) p j = wgt x0 x1 kj co (ko + p.val) (ro + j.val) := by
  unfold wFull wgt
  rw [dot_win iq ik]
  exact (if_pos (by have := p.isLt; omega)).symm

variable (w : Fin n → Fin n → EReal) (hw : ∀ p j, w p j = wgt x0 x1 kj co (ko + p.val) (ro + j.val)) (hco : 128 ∣ co)

include hw hco

/-- The value gradient's increments of a step, from its weights. -/
theorem incV (p : Fin n) (l : Fin 128) :
    ∑ j : Fin n, w p j * winQ iq x3 (ix2 j l) = blockSum (tV x0 x1 x3 kj (ko + p.val) (co + l.val)) ro n :=
  Finset.sum_congr rfl fun j _ => by
    unfold tV; rw [lane0_of hco l.isLt, hw]; exact congrArg (wgt x0 x1 kj co (ko + p.val) (ro + j.val) * ·) (window_at x3 iq j l)

/-- The key gradient's increments of a step, from its weights. -/
theorem incK (p : Fin n) (l : Fin 128) :
    ∑ j : Fin n, w p j * dot (winK ik x2) (winQ iq x3) p j * winQ iq x0 (ix2 j l) = blockSum (tK x0 x1 x2 x3 kj (ko + p.val) (co + l.val)) ro n :=
  Finset.sum_congr rfl fun j _ => by
    unfold tK dst; rw [lane0_of hco l.isLt, hw, dot_win iq ik]
    exact congrArg (wgt x0 x1 kj co (ko + p.val) (ro + j.val) * dotN x2 x3 co (ko + p.val) (ro + j.val) * ·) (window_at x0 iq j l)

/-- The query gradient's increments of a step, from its weights. -/
theorem incQ (j : Fin n) (l : Fin 128) :
    ∑ p : Fin n, w p j * dot (winK ik x2) (winQ iq x3) p j * winK ik x1 (ix2 p l) = blockSum (tQ x0 x1 x2 x3 kj (ro + j.val) (co + l.val)) ko n :=
  Finset.sum_congr rfl fun p _ => by
    unfold tQ dst; rw [lane0_of hco l.isLt, hw, dot_win iq ik]
    exact congrArg (wgt x0 x1 kj co (ko + p.val) (ro + j.val) * dotN x2 x3 co (ko + p.val) (ro + j.val) * ·) (window_at x1 ik p l)

end Sums

end Cert.FlashIdeal.Hand
end
-- ==== Proof.FlStep.lean ====
/- One store of the body: the block it puts back is the block it read and the step's increments. -/
module

public import proofs.«01_k».proof.Proof.FlSpec

@[expose] public section

noncomputable section

namespace Cert.FlashIdeal.Hand

open Idealize.ShloMosaic Idealize.ShloMosaic.TcCoe Idealize.SL.Sem

/-- The two heads of a pair, one after the other, fill the 256 lanes. -/
theorem addBox_heads {a : ℕ} (d : (⟨2, ![a, 256]⟩ : Shape).Idx → EReal) (o n : ℕ) (F : ℕ → ℕ → EReal) :
    addBox (addBox d o n 0 128 F) o n 128 128 F = addBox d o n 0 256 F := by
  funext y
  unfold addBox
  have h1 : (y 1).val < 256 := (y 1).isLt
  by_cases h : o ≤ (y 0).val ∧ (y 0).val < o + n
  · by_cases hc : (y 1).val < 128
    · rw [if_pos ⟨h, by omega, by omega⟩, if_neg (fun hh => by omega), if_pos ⟨h, by omega, by omega⟩, add_zero]
    · rw [if_neg (fun hh => by omega), if_pos ⟨h, by omega, by omega⟩, if_pos ⟨h, by omega, by omega⟩, add_zero]
  · rw [if_neg (fun hh => h hh.1), if_neg (fun hh => h hh.1), if_neg (fun hh => h hh.1), add_zero, add_zero]

theorem at2_addBox {a b : ℕ} (x : (⟨2, ![a, b]⟩ : Shape).Idx → EReal) (o0 n o1 m : ℕ) (inc : ℕ → ℕ → EReal) {r c : ℕ} (hr : r < a) (hc : c < b) :
    at2 (addBox x o0 n o1 m inc) r c = at2 x r c + if (o0 ≤ r ∧ r < o0 + n) ∧ o1 ≤ c ∧ c < o1 + m then inc r c else 0 := by
  rw [at2_of _ hr hc, at2_of _ hr hc]; rfl

/-- The stores of the two heads of one step. -/
theorem put_heads {a n o : ℕ} (d : (⟨2, ![a, 256]⟩ : Shape).Idx → EReal) (F : ℕ → ℕ → EReal) (w0 w1 : (⟨2, ![n, 128]⟩ : Shape).Idx → EReal) (ho : o + n ≤ a)
    (h0 : ∀ (p : Fin n) (l : Fin 128), w0 (ix2 p l) = at2 d (o + p.val) (0 + l.val) + F (o + p.val) (0 + l.val))
    (h1 : ∀ (p : Fin n) (l : Fin 128), w1 (ix2 p l) = at2 d (o + p.val) (128 + l.val) + F (o + p.val) (128 + l.val)) :
    VecWindow.put (VecWindow.put d ![o, 0] (⟨2, ![n, 128]⟩ : Shape).size w0) ![o, 128] (⟨2, ![n, 128]⟩ : Shape).size w1 = addBox d o n 0 256 F := by
  rw [put_addBox d w0 F h0]
  refine (put_addBox _ w1 F fun p l => (h1 p l).trans ?_).trans (addBox_heads d o n F)
  have hp := p.isLt
  have hl := l.isLt
  rw [at2_addBox d o n 0 128 F (by omega) (by omega), if_neg (fun hh => by omega), add_zero]

/-- A load of a whole staging buffer at a window. -/
theorem load_win {sig : RefSig} {κ : Kind} {sp : Space} {s : Shape} {e : EltTy} (m : Memref sig κ sp s e) (h : m.IsWhole) (x : s.Idx → Elt Ideal e)
    {off off' size : Fin s.rank → ℕ} (inb : ∀ a, off a + size a ≤ s.size a) (ho : off = off') (inb' : ∀ a, off' a + size a ≤ s.size a) :
    m.view.readAt (Elt Ideal) (Rect.unit off size inb).toLoadRect (h.unread x) = VecWindow.window x off' size inb' := by
  rw [View.readAt_unit _ _ _ ho inb', h.read_unread]

end Cert.FlashIdeal.Hand
-- ==== Proof.FlTrip.lean ====
module

public import proofs.«01_k».proof.Proof.Gen.FlashIdeal.Frame
public import proofs.«01_k».proof.Proof.Gen.FlashIdeal.Skeleton
public import proofs.«01_k».proof.Proof.FlStep

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal.Gen

local notation "𝕄" => MT nD τ sig Unit (Elt Ideal) ℕ (UR sig nD τ) ℕ

/-- The seven blocks that a trip of the key tile's loop touches, each held at its contents. -/
abbrev Held (c : Dev nD) (arg2 : Memref sig .tc .vmem S8192x256 .bf16) (arg3 : Memref sig .tc .vmem S1024x256 .bf16) (arg4 : Memref sig .tc .vmem S1024x256 .bf16) (arg5 : Memref sig .tc .vmem S8192x256 .bf16) (arg6 : Memref sig .tc .vmem S8192x256 .f32) (arg9 arg10 : Memref sig .tc .vmem S1024x256 .f32)
    (x0 : Vec Ideal S8192x256 .bf16) (x1 : Vec Ideal S1024x256 .bf16) (x2 : Vec Ideal S1024x256 .bf16) (x3 : Vec Ideal S8192x256 .bf16) (d6 : Vec Ideal S8192x256 .f32) (d9 d10 : Vec Ideal S1024x256 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ owns (c : Thread nD τ) arg9 fullShare d9 ∗ owns (c : Thread nD τ) arg10 fullShare d10)

set_option maxHeartbeats 2000000 in
/-- One trip of the loop over the query tiles behind the diagonal tile: the three gradients get the tile's increments. -/
theorem trip1 (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (v249 : BitVec 32)
   (k : Fin (k0_t1_loop i).trips) (E : Set ℕ)
    (x0 : Vec Ideal S8192x256 .bf16) (x1 : Vec Ideal S1024x256 .bf16) (x2 : Vec Ideal S1024x256 .bf16) (x3 : Vec Ideal S8192x256 .bf16) (d6 : Vec Ideal S8192x256 .f32) (d9 d10 : Vec Ideal S1024x256 .f32) :
        Held c arg2 arg3 arg4 arg5 arg6 arg9 arg10 x0 x1 x2 x3 d6 d9 d10
          ⊢ wp frame (wpE (defs₀ (F := Ideal)) Variants.none c none) E (k0_t1_body (F := Ideal) i arg2 harg2 arg3 harg3 arg4 harg4 arg5 harg5 arg6 harg6 arg7 harg7 arg8 harg8 arg9 harg9 arg10 harg10 v249 k PUnit.unit)
       (fun _ => Held c arg2 arg3 arg4 arg5 arg6 arg9 arg10 x0 x1 x2 x3
         (addBox d6 (1024 * (i 1).val + 1024 * k.val + 1024) 1024 0 256 fun R C => blockSum (tQ x0 x1 x2 x3 (i 1).val R C) 0 1024)
         (addBox d9 0 1024 0 256 fun r C => blockSum (tK x0 x1 x2 x3 (i 1).val r C) (1024 * (i 1).val + 1024 * k.val + 1024) 1024)
         (addBox d10 0 1024 0 256 fun r C => blockSum (tV x0 x1 x3 (i 1).val r C) (1024 * (i 1).val + 1024 * k.val + 1024) 1024)) := by
    have iq0 : ∀ a, (![1024 * (i 1).val + 1024 * k.val + 1024, 0] : Fin 2 → ℕ) a + S1024x128.size a ≤ S8192x256.size a := by rw [← k0_off5_eq i k]; exact k0_off5_inb i k
    have iq1 : ∀ a, (![1024 * (i 1).val + 1024 * k.val + 1024, 128] : Fin 2 → ℕ) a + S1024x128.size a ≤ S8192x256.size a := by rw [← k0_off6_eq i k]; exact k0_off6_inb i k
    unfold k0_t1_body
    simp only [k0_part1_eq_skeleton, k0_part2_eq_skeleton]
    unfold Held owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩⟩
    obtain rfl := harg2.eq_unread hf0; obtain rfl := harg3.eq_unread hf1; obtain rfl := harg4.eq_unread hf2; obtain rfl := harg5.eq_unread hf3
    obtain rfl := harg6.eq_unread hf4; obtain rfl := harg9.eq_unread hfs0; obtain rfl := harg10.eq_unread hfs1
    sl_exec
    sl_step
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    have hq0 := load_win arg2 harg2 x0 (k0_off5_inb i k) (k0_off5_eq i k) iq0
    have hq1 := load_win arg2 harg2 x0 (k0_off6_inb i k) (k0_off6_eq i k) iq1
    have ho0 := load_win arg5 harg5 x3 (k0_off5_inb i k) (k0_off5_eq i k) iq0
    have ho1 := load_win arg5 harg5 x3 (k0_off6_inb i k) (k0_off6_eq i k) iq1
    have hk0 := load_win arg3 harg3 x1 inb_S1024x256_S1024x128_0_0 rfl inb_S1024x256_S1024x128_0_0
    have hk1 := load_win arg3 harg3 x1 inb_S1024x256_S1024x128_0_128 rfl inb_S1024x256_S1024x128_0_128
    have hv0 := load_win arg4 harg4 x2 inb_S1024x256_S1024x128_0_0 rfl inb_S1024x256_S1024x128_0_0
    have hv1 := load_win arg4 harg4 x2 inb_S1024x256_S1024x128_0_128 rfl inb_S1024x256_S1024x128_0_128
    have w0 := wFull_win x0 x1 (i 1).val iq0 inb_S1024x256_S1024x128_0_0 (by omega)
    have w1 := wFull_win x0 x1 (i 1).val iq1 inb_S1024x256_S1024x128_0_128 (by omega)
    isplitl [H4]
    · iexists _; isplitr; swap; · iexact H4
      ipureintro
      unfold trip1.sl.r trip1.sl.r_1
      rw [View.read_writes_cons_put _ _ _ _ _ (k0_off6_eq i k), View.read_writes_cons_put _ _ _ _ _ (k0_off5_eq i k), View.writes_nil, harg6.read_unread,
        hq0, hq1, ho0, ho1, hk0, hk1, hv0, hv1, load_win arg6 harg6 d6 (k0_off5_inb i k) (k0_off5_eq i k) iq0,
        show trip1.sl.v327 c i arg6 harg6 k d6 = _ from load_win arg6 harg6 d6 (k0_off6_inb i k) (k0_off6_eq i k) iq1]
      exact put_heads d6 _ _ _ (by have := iq0 0; simpa using this)
        (fun p l => (payQ_full _ _ _ _ _ p l).trans (congrArg₂ (fun a b : EReal => a + b) (window_at d6 iq0 p l) (incQ x0 x1 x2 x3 (i 1).val iq0 inb_S1024x256_S1024x128_0_0 _ w0 (by decide) p l)))
        (fun p l => (payQ_full' _ _ _ _ _ p l).trans (congrArg₂ (fun a b : EReal => a + b) (window_at d6 iq1 p l) (incQ x0 x1 x2 x3 (i 1).val iq1 inb_S1024x256_S1024x128_0_128 _ w1 (by decide) p l)))
    isplitl [HS0]
    · iexists _; isplitr; swap; · iexact HS0
      ipureintro
      rw [View.read_writes_cons_put _ _ _ _ _ rfl, View.read_writes_cons_put _ _ _ _ _ rfl, View.writes_nil, harg9.read_unread,
        hq0, hq1, ho0, ho1, hk0, hk1, hv0, hv1, load_win arg9 harg9 d9 inb_S1024x256_S1024x128_0_0 rfl inb_S1024x256_S1024x128_0_0,
        show trip1.sl.v320 c arg9 harg9 d9 = _ from load_win arg9 harg9 d9 inb_S1024x256_S1024x128_0_128 rfl inb_S1024x256_S1024x128_0_128]
      exact put_heads d9 _ _ _ (by have := inb_S1024x256_S1024x128_0_0 0; simpa using this)
        (fun p l => (payK_full _ _ _ _ _ p l).trans (congrArg₂ (fun a b : EReal => a + b) (window_at d9 inb_S1024x256_S1024x128_0_0 p l) (incK x0 x1 x2 x3 (i 1).val iq0 inb_S1024x256_S1024x128_0_0 _ w0 (by decide) p l)))
        (fun p l => (payK_full' _ _ _ _ _ p l).trans (congrArg₂ (fun a b : EReal => a + b) (window_at d9 inb_S1024x256_S1024x128_0_128 p l) (incK x0 x1 x2 x3 (i 1).val iq1 inb_S1024x256_S1024x128_0_128 _ w1 (by decide) p l)))
    iexists _; isplitr; swap; · iexact HS1
    ipureintro
    rw [View.read_writes_cons_put _ _ _ _ _ rfl, View.read_writes_cons_put _ _ _ _ _ rfl, View.writes_nil, harg10.read_unread,
      hq0, hq1, ho0, ho1, hk0, hk1, load_win arg10 harg10 d10 inb_S1024x256_S1024x128_0_0 rfl inb_S1024x256_S1024x128_0_0,
      show trip1.sl.v313 c arg10 harg10 d10 = _ from load_win arg10 harg10 d10 inb_S1024x256_S1024x128_0_128 rfl inb_S1024x256_S1024x128_0_128]
    exact put_heads d10 _ _ _ (by have := inb_S1024x256_S1024x128_0_0 0; simpa using this)
      (fun p l => (payV_full _ _ _ _ p l).trans (congrArg₂ (fun a b : EReal => a + b) (window_at d10 inb_S1024x256_S1024x128_0_0 p l) (incV x0 x1 x3 (i 1).val iq0 _ w0 (by decide) p l)))
      (fun p l => (payV_full' _ _ _ _ p l).trans (congrArg₂ (fun a b : EReal => a + b) (window_at d10 inb_S1024x256_S1024x128_0_128 p l) (incV x0 x1 x3 (i 1).val iq1 _ w1 (by decide) p l)))

end Cert.FlashIdeal.Hand
end
-- ==== Proof.FlLoop.lean ====
module

public import proofs.«01_k».proof.Proof.FlTrip

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal.Gen

local notation "𝕄" => MT nD τ sig Unit (Elt Ideal) ℕ (UR sig nD τ) ℕ

/-- A vector's contents after `k` trips, each trip applying its own update `g`. -/
def after {s : Shape} {e : EltTy} (g : ℕ → Vec Ideal s e → Vec Ideal s e) (d : Vec Ideal s e) : ℕ → Vec Ideal s e
  | 0 => d
  | k + 1 => g k (after g d k)

/-- The contents of a whole buffer after `k` trips, each trip updating what it reads there by `g`. -/
def stage {s : Shape} {e : EltTy} (m : Memref sig .tc .vmem s e) (h : m.IsWhole) (g : ℕ → Vec Ideal s e → Vec Ideal s e)
    (G : BufTy.Contents (Elt Ideal) m.view.ty) : ℕ → BufTy.Contents (Elt Ideal) m.view.ty
  | 0 => G
  | k + 1 => h.unread (g k (m.view.read (Elt Ideal) (stage m h g G k)))

theorem stage_read {s : Shape} {e : EltTy} (m : Memref sig .tc .vmem s e) (h : m.IsWhole) (g : ℕ → Vec Ideal s e → Vec Ideal s e)
    (G : BufTy.Contents (Elt Ideal) m.view.ty) (k : ℕ) : m.view.read (Elt Ideal) (stage m h g G k) = after g (m.view.read (Elt Ideal) G) k := by
  induction k with
  | zero => rfl
  | succ k ih => exact (h.read_unread _).trans (congrArg (g k) ih)

/-- What trip `k` adds to the query gradient. -/
abbrev inc6 (x0 : Vec Ideal S8192x256 .bf16) (x1 x2 : Vec Ideal S1024x256 .bf16) (x3 : Vec Ideal S8192x256 .bf16) (kj k : ℕ) (d : Vec Ideal S8192x256 .f32) : Vec Ideal S8192x256 .f32 :=
  addBox d (1024 * kj + 1024 * k + 1024) 1024 0 256 fun R C => blockSum (tQ x0 x1 x2 x3 kj R C) 0 1024
/-- What trip `k` adds to the key gradient. -/
abbrev inc9 (x0 : Vec Ideal S8192x256 .bf16) (x1 x2 : Vec Ideal S1024x256 .bf16) (x3 : Vec Ideal S8192x256 .bf16) (kj k : ℕ) (d : Vec Ideal S1024x256 .f32) : Vec Ideal S1024x256 .f32 :=
  addBox d 0 1024 0 256 fun r C => blockSum (tK x0 x1 x2 x3 kj r C) (1024 * kj + 1024 * k + 1024) 1024
/-- What trip `k` adds to the value gradient. -/
abbrev inc10 (x0 : Vec Ideal S8192x256 .bf16) (x1 : Vec Ideal S1024x256 .bf16) (x3 : Vec Ideal S8192x256 .bf16) (kj k : ℕ) (d : Vec Ideal S1024x256 .f32) : Vec Ideal S1024x256 .f32 :=
  addBox d 0 1024 0 256 fun r C => blockSum (tV x0 x1 x3 kj r C) (1024 * kj + 1024 * k + 1024) 1024

/-- Before trip `k`: the four inputs' blocks as they are, the three gradients' after `k` trips. -/
abbrev inv1 (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (G6 : BufTy.Contents (Elt Ideal) arg6.view.ty) (G9 : BufTy.Contents (Elt Ideal) arg9.view.ty) (G10 : BufTy.Contents (Elt Ideal) arg10.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (∃ f, (arg6.view.loc (c : Thread nD τ) ↦[arg6.view.set]{fullShare} f) ∗ ⌜f = stage arg6 harg6 (inc6 (arg2.view.read (Elt Ideal) X2) (arg3.view.read (Elt Ideal) X3) (arg4.view.read (Elt Ideal) X4) (arg5.view.read (Elt Ideal) X5) (i 1).val) G6 k⌝)
    ∗ (∃ f, (arg9.view.loc (c : Thread nD τ) ↦[arg9.view.set]{fullShare} f) ∗ ⌜f = stage arg9 harg9 (inc9 (arg2.view.read (Elt Ideal) X2) (arg3.view.read (Elt Ideal) X3) (arg4.view.read (Elt Ideal) X4) (arg5.view.read (Elt Ideal) X5) (i 1).val) G9 k⌝)
    ∗ (∃ f, (arg10.view.loc (c : Thread nD τ) ↦[arg10.view.set]{fullShare} f) ∗ ⌜f = stage arg10 harg10 (inc10 (arg2.view.read (Elt Ideal) X2) (arg3.view.read (Elt Ideal) X3) (arg5.view.read (Elt Ideal) X5) (i 1).val) G10 k⌝))

set_option warn.classDefReducibility false in
/-- The loop over the query tiles behind the diagonal, by its invariant. -/
@[sl_loop] def loop1 (c : Dev nD) (E : Set ℕ) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (v249 : BitVec 32)
    (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (G6 : BufTy.Contents (Elt Ideal) arg6.view.ty) (G9 : BufTy.Contents (Elt Ideal) arg9.view.ty) (G10 : BufTy.Contents (Elt Ideal) arg10.view.ty) :
    Idealize.ShloMosaic.LoopInv (M := 𝕄) Idealize.ShloMosaic.frame (wpE (defs₀ (F := Ideal)) Variants.none (c : Thread nD τ) none) E
      (k0_t1_loop i).lb (k0_t1_loop i).ub (k0_t1_loop i).st (k0_t1_ok i) () (k0_t1_body (F := Ideal) i arg2 harg2 arg3 harg3 arg4 harg4 arg5 harg5 arg6 harg6 arg7 harg7 arg8 harg8 arg9 harg9 arg10 harg10 v249) where
  inv := inv1 c i arg2 harg2 arg3 harg3 arg4 harg4 arg5 harg5 arg6 harg6 arg7 harg7 arg8 harg8 arg9 harg9 arg10 harg10 X2 X3 X4 X5 G6 G9 G10
  step k acc := by
    iintro ⟨H2, H3, H4, H5, ⟨%f6, H6, %h6⟩, ⟨%f9, H9, %h9⟩, ⟨%f10, H10, %h10⟩⟩
    iapply (wp_wand_r Idealize.ShloMosaic.frame (wpE (defs₀ (F := Ideal)) Variants.none (c : Thread nD τ) none) E)
    isplitl [H2 H3 H4 H5 H6 H9 H10]
    · iapply (trip1 c i arg2 harg2 arg3 harg3 arg4 harg4 arg5 harg5 arg6 harg6 arg7 harg7 arg8 harg8 arg9 harg9 arg10 harg10 v249 k E (arg2.view.read (Elt Ideal) X2) (arg3.view.read (Elt Ideal) X3) (arg4.view.read (Elt Ideal) X4) (arg5.view.read (Elt Ideal) X5) (arg6.view.read (Elt Ideal) f6) (arg9.view.read (Elt Ideal) f9) (arg10.view.read (Elt Ideal) f10))
      unfold Held owns
      isplitl [H2]
      · iexists _; isplitr; swap; · iexact H2
        ipureintro; rfl
      isplitl [H3]
      · iexists _; isplitr; swap; · iexact H3
        ipureintro; rfl
      isplitl [H4]
      · iexists _; isplitr; swap; · iexact H4
        ipureintro; rfl
      isplitl [H5]
      · iexists _; isplitr; swap; · iexact H5
        ipureintro; rfl
      isplitl [H6]
      · iexists _; isplitr; swap; · iexact H6
        ipureintro; rfl
      isplitl [H9]
      · iexists _; isplitr; swap; · iexact H9
        ipureintro; rfl
      iexists _; isplitr; swap; · iexact H10
      ipureintro; rfl
    · unfold Held owns
      iintro %_ ⟨⟨%g2, %e2, H2⟩, ⟨%g3, %e3, H3⟩, ⟨%g4, %e4, H4⟩, ⟨%g5, %e5, H5⟩, ⟨%g6, %e6, H6⟩, ⟨%g9, %e9, H9⟩, ⟨%g10, %e10, H10⟩⟩
      obtain rfl := (harg2.eq_unread e2).trans (harg2.unread_read _)
      obtain rfl := (harg3.eq_unread e3).trans (harg3.unread_read _)
      obtain rfl := (harg4.eq_unread e4).trans (harg4.unread_read _)
      obtain rfl := (harg5.eq_unread e5).trans (harg5.unread_read _)
      isplitl [H2]; · iexact H2
      isplitl [H3]; · iexact H3
      isplitl [H4]; · iexact H4
      isplitl [H5]; · iexact H5
      isplitl [H6]
      · iexists _; isplitl [H6]; · iexact H6
        ipureintro; subst h6; exact harg6.eq_unread e6
      isplitl [H9]
      · iexists _; isplitl [H9]; · iexact H9
        ipureintro; subst h9; exact harg9.eq_unread e9
      iexists _; isplitl [H10]; · iexact H10
      ipureintro; subst h10; exact harg10.eq_unread e10

/-- The second loop runs no trip: its bounds agree at every grid point. -/
theorem none2 : ∀ i : grid0.Coords, Scf.trips (k0_t2_loop i).lb (k0_t2_loop i).ub (k0_t2_loop i).st = 0 := by decide +kernel

set_option warn.classDefReducibility false in
/-- The second loop, by the fact that it runs no trip. -/
@[sl_loop] def loop2 (c : Dev nD) (E : Set ℕ) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (v254 : BitVec 32) :
    Idealize.ShloMosaic.LoopInv (M := 𝕄) Idealize.ShloMosaic.frame (wpE (defs₀ (F := Ideal)) Variants.none (c : Thread nD τ) none) E
      (k0_t2_loop i).lb (k0_t2_loop i).ub (k0_t2_loop i).st (k0_t2_ok i) () (k0_t2_body (F := Ideal) i arg2 harg2 arg3 harg3 arg4 harg4 arg5 harg5 arg6 harg6 arg7 harg7 arg8 harg8 arg9 harg9 arg10 harg10 v254) :=
  LoopInv.ofNoTrips _ _ _ _ _ _ _ _ _ (none2 i)

end Cert.FlashIdeal.Hand
end
-- ==== Proof.FlStraight.lean ====
module

public import proofs.«01_k».proof.Proof.FlLoop

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal.Gen

local notation "𝕄" => MT nD τ sig Unit (Elt Ideal) ℕ (UR sig nD τ) ℕ

section Steps

variable {sig' : RefSig} {κ : Kind} {sp : Space}

/-- A store over a window of a buffer, of values that are the old ones and an increment. -/
theorem step_add {a : ℕ} (v : View sig' κ sp (⟨2, ![a, 256]⟩ : Shape) .f32) (f : v.ty.Contents (Elt Ideal)) (L : List (View.Piece (Elt Ideal) (⟨2, ![a, 256]⟩ : Shape) .f32))
    {off : Fin 2 → ℕ} (inb : ∀ x, off x + (⟨2, ![512, 128]⟩ : Shape).size x ≤ (⟨2, ![a, 256]⟩ : Shape).size x) {o co : ℕ} (ho : off = ![o, co])
    (P : (⟨2, ![512, 128]⟩ : Shape).Idx → EReal) {S : (⟨2, ![a, 256]⟩ : Shape).Idx → EReal} (hS : v.read (Elt Ideal) (v.writes (Elt Ideal) f L) = S) (F : ℕ → ℕ → EReal)
    (hP : ∀ (p : Fin 512) (l : Fin 128), P (ix2 p l) = at2 S (o + p.val) (co + l.val) + F (o + p.val) (co + l.val)) :
    v.read (Elt Ideal) (v.writes (Elt Ideal) f (⟨Rect.unit (s := (⟨2, ![a, 256]⟩ : Shape)) off (⟨2, ![512, 128]⟩ : Shape).size inb, P⟩ :: L)) = addBox S o 512 co 128 F := by
  refine (View.read_writes_cons_put v f inb P L ho).trans ?_
  rw [hS]
  exact put_addBox S P F hP

/-- A load over a window that the stores before it cover. -/
theorem cov_at {a : ℕ} (v : View sig' κ sp (⟨2, ![a, 256]⟩ : Shape) .f32) (L : List (View.Piece (Elt Ideal) (⟨2, ![a, 256]⟩ : Shape) .f32))
    {off : Fin 2 → ℕ} (inb : ∀ x, off x + (⟨2, ![512, 128]⟩ : Shape).size x ≤ (⟨2, ![a, 256]⟩ : Shape).size x) {o co : ℕ} (ho : off = ![o, co])
    {S : (⟨2, ![a, 256]⟩ : Shape).Idx → EReal} (hS : v.read (Elt Ideal) (v.writes (Elt Ideal) v.junk L) = S) (p : Fin 512) (l : Fin 128) :
    v.readCov L (Rect.unit (s := (⟨2, ![a, 256]⟩ : Shape)) off (⟨2, ![512, 128]⟩ : Shape).size inb).toLoadRect (ix2 p l) = at2 S (o + p.val) (co + l.val) := by
  subst ho
  refine (congrFun (View.readAt_unit v _ inb rfl inb) (ix2 p l)).trans ?_
  rw [hS]
  exact window_at S inb p l

/-- A load over the window of an earlier store, read over any contents. -/
theorem cov_at' {a : ℕ} (v : View sig' κ sp (⟨2, ![a, 256]⟩ : Shape) .f32) (f : v.ty.Contents (Elt Ideal)) (L : List (View.Piece (Elt Ideal) (⟨2, ![a, 256]⟩ : Shape) .f32))
    {off : Fin 2 → ℕ} (inb : ∀ x, off x + (⟨2, ![512, 128]⟩ : Shape).size x ≤ (⟨2, ![a, 256]⟩ : Shape).size x) {o co : ℕ} (ho : off = ![o, co])
    {P : (⟨2, ![512, 128]⟩ : Shape).Idx → EReal} (hm : (⟨Rect.unit (s := (⟨2, ![a, 256]⟩ : Shape)) off (⟨2, ![512, 128]⟩ : Shape).size inb, P⟩ : View.Piece (Elt Ideal) (⟨2, ![a, 256]⟩ : Shape) .f32) ∈ L)
    {S : (⟨2, ![a, 256]⟩ : Shape).Idx → EReal} (hS : v.read (Elt Ideal) (v.writes (Elt Ideal) f L) = S) (p : Fin 512) (l : Fin 128) :
    v.readCov L (Rect.unit (s := (⟨2, ![a, 256]⟩ : Shape)) off (⟨2, ![512, 128]⟩ : Shape).size inb).toLoadRect (ix2 p l) = at2 S (o + p.val) (co + l.val) := by
  rw [← View.readAt_writes_of_cover v f L _ fun j => ⟨_, hm, LoadRect.idx_mem (r := (Rect.unit (s := (⟨2, ![a, 256]⟩ : Shape)) off (⟨2, ![512, 128]⟩ : Shape).size inb).toLoadRect) j⟩]
  subst ho
  refine (congrFun (View.readAt_unit v _ inb rfl inb) (ix2 p l)).trans ?_
  rw [hS]
  exact window_at S inb p l

end Steps

theorem iq1 (i : grid0.Coords) : ∀ a, (![1024 * (i 1).val, 0] : Fin 2 → ℕ) a + S512x128.size a ≤ S8192x256.size a := by rw [← k0_off1_eq i]; exact k0_off1_inb i
/-- Window 1 of the query tile on the diagonal, as loaded. -/
abbrev lq1 (m : Memref sig .tc .vmem S8192x256 .bf16) (h : m.IsWhole) (x : Vec Ideal S8192x256 .bf16) (i : grid0.Coords) : Vec Ideal S512x128 .bf16 :=
  m.view.readAt (Elt Ideal) (Rect.unit (s := S8192x256) (k0_off1 i) S512x128.size (k0_off1_inb i)).toLoadRect (h.unread x)
theorem lq1_eq (m : Memref sig .tc .vmem S8192x256 .bf16) (h : m.IsWhole) (x : Vec Ideal S8192x256 .bf16) (i : grid0.Coords) :
    lq1 m h x i = winQ (n := 512) (iq1 i) x := load_win m h x (k0_off1_inb i) (k0_off1_eq i) (iq1 i)
/-- Window 1 of the key tile, as loaded. -/
abbrev lk1 (m : Memref sig .tc .vmem S1024x256 .bf16) (h : m.IsWhole) (x : Vec Ideal S1024x256 .bf16) : Vec Ideal S512x128 .bf16 :=
  m.view.readAt (Elt Ideal) (Rect.unit (s := S1024x256) ![0, 0] S512x128.size inb_S1024x256_S512x128_0_0).toLoadRect (h.unread x)
theorem lk1_eq (m : Memref sig .tc .vmem S1024x256 .bf16) (h : m.IsWhole) (x : Vec Ideal S1024x256 .bf16) :
    lk1 m h x = winK (n := 512) inb_S1024x256_S512x128_0_0 x := load_win m h x _ rfl _

theorem iq2 (i : grid0.Coords) : ∀ a, (![1024 * (i 1).val, 128] : Fin 2 → ℕ) a + S512x128.size a ≤ S8192x256.size a := by rw [← k0_off2_eq i]; exact k0_off2_inb i
/-- Window 2 of the query tile on the diagonal, as loaded. -/
abbrev lq2 (m : Memref sig .tc .vmem S8192x256 .bf16) (h : m.IsWhole) (x : Vec Ideal S8192x256 .bf16) (i : grid0.Coords) : Vec Ideal S512x128 .bf16 :=
  m.view.readAt (Elt Ideal) (Rect.unit (s := S8192x256) (k0_off2 i) S512x128.size (k0_off2_inb i)).toLoadRect (h.unread x)
theorem lq2_eq (m : Memref sig .tc .vmem S8192x256 .bf16) (h : m.IsWhole) (x : Vec Ideal S8192x256 .bf16) (i : grid0.Coords) :
    lq2 m h x i = winQ (n := 512) (iq2 i) x := load_win m h x (k0_off2_inb i) (k0_off2_eq i) (iq2 i)
/-- Window 2 of the key tile, as loaded. -/
abbrev lk2 (m : Memref sig .tc .vmem S1024x256 .bf16) (h : m.IsWhole) (x : Vec Ideal S1024x256 .bf16) : Vec Ideal S512x128 .bf16 :=
  m.view.readAt (Elt Ideal) (Rect.unit (s := S1024x256) ![0, 128] S512x128.size inb_S1024x256_S512x128_0_128).toLoadRect (h.unread x)
theorem lk2_eq (m : Memref sig .tc .vmem S1024x256 .bf16) (h : m.IsWhole) (x : Vec Ideal S1024x256 .bf16) :
    lk2 m h x = winK (n := 512) inb_S1024x256_S512x128_0_128 x := load_win m h x _ rfl _

theorem iq3 (i : grid0.Coords) : ∀ a, (![1024 * (i 1).val + 512, 0] : Fin 2 → ℕ) a + S512x128.size a ≤ S8192x256.size a := by rw [← k0_off3_eq i]; exact k0_off3_inb i
/-- Window 3 of the query tile on the diagonal, as loaded. -/
abbrev lq3 (m : Memref sig .tc .vmem S8192x256 .bf16) (h : m.IsWhole) (x : Vec Ideal S8192x256 .bf16) (i : grid0.Coords) : Vec Ideal S512x128 .bf16 :=
  m.view.readAt (Elt Ideal) (Rect.unit (s := S8192x256) (k0_off3 i) S512x128.size (k0_off3_inb i)).toLoadRect (h.unread x)
theorem lq3_eq (m : Memref sig .tc .vmem S8192x256 .bf16) (h : m.IsWhole) (x : Vec Ideal S8192x256 .bf16) (i : grid0.Coords) :
    lq3 m h x i = winQ (n := 512) (iq3 i) x := load_win m h x (k0_off3_inb i) (k0_off3_eq i) (iq3 i)
/-- Window 3 of the key tile, as loaded. -/
abbrev lk3 (m : Memref sig .tc .vmem S1024x256 .bf16) (h : m.IsWhole) (x : Vec Ideal S1024x256 .bf16) : Vec Ideal S512x128 .bf16 :=
  m.view.readAt (Elt Ideal) (Rect.unit (s := S1024x256) ![512, 0] S512x128.size inb_S1024x256_S512x128_512_0).toLoadRect (h.unread x)
theorem lk3_eq (m : Memref sig .tc .vmem S1024x256 .bf16) (h : m.IsWhole) (x : Vec Ideal S1024x256 .bf16) :
    lk3 m h x = winK (n := 512) inb_S1024x256_S512x128_512_0 x := load_win m h x _ rfl _

theorem iq4 (i : grid0.Coords) : ∀ a, (![1024 * (i 1).val + 512, 128] : Fin 2 → ℕ) a + S512x128.size a ≤ S8192x256.size a := by rw [← k0_off4_eq i]; exact k0_off4_inb i
/-- Window 4 of the query tile on the diagonal, as loaded. -/
abbrev lq4 (m : Memref sig .tc .vmem S8192x256 .bf16) (h : m.IsWhole) (x : Vec Ideal S8192x256 .bf16) (i : grid0.Coords) : Vec Ideal S512x128 .bf16 :=
  m.view.readAt (Elt Ideal) (Rect.unit (s := S8192x256) (k0_off4 i) S512x128.size (k0_off4_inb i)).toLoadRect (h.unread x)
theorem lq4_eq (m : Memref sig .tc .vmem S8192x256 .bf16) (h : m.IsWhole) (x : Vec Ideal S8192x256 .bf16) (i : grid0.Coords) :
    lq4 m h x i = winQ (n := 512) (iq4 i) x := load_win m h x (k0_off4_inb i) (k0_off4_eq i) (iq4 i)
/-- Window 4 of the key tile, as loaded. -/
abbrev lk4 (m : Memref sig .tc .vmem S1024x256 .bf16) (h : m.IsWhole) (x : Vec Ideal S1024x256 .bf16) : Vec Ideal S512x128 .bf16 :=
  m.view.readAt (Elt Ideal) (Rect.unit (s := S1024x256) ![512, 128] S512x128.size inb_S1024x256_S512x128_512_128).toLoadRect (h.unread x)
theorem lk4_eq (m : Memref sig .tc .vmem S1024x256 .bf16) (h : m.IsWhole) (x : Vec Ideal S1024x256 .bf16) :
    lk4 m h x = winK (n := 512) inb_S1024x256_S512x128_512_128 x := load_win m h x _ rfl _

/-- A step's increments of the value gradient: key rows from `ko` on, query rows from `ro` on, the head at column `co`. -/
abbrev addV (x0 : Vec Ideal S8192x256 .bf16) (x1 : Vec Ideal S1024x256 .bf16) (x3 : Vec Ideal S8192x256 .bf16) (kj ko co ro : ℕ) (S : Vec Ideal S1024x256 .f32) : Vec Ideal S1024x256 .f32 :=
  addBox S ko 512 co 128 fun r C => blockSum (tV x0 x1 x3 kj r C) ro 512
/-- A step's increments of the key gradient. -/
abbrev addK (x0 : Vec Ideal S8192x256 .bf16) (x1 x2 : Vec Ideal S1024x256 .bf16) (x3 : Vec Ideal S8192x256 .bf16) (kj ko co ro : ℕ) (S : Vec Ideal S1024x256 .f32) : Vec Ideal S1024x256 .f32 :=
  addBox S ko 512 co 128 fun r C => blockSum (tK x0 x1 x2 x3 kj r C) ro 512
/-- A step's increments of the query gradient. -/
abbrev addQ (x0 : Vec Ideal S8192x256 .bf16) (x1 x2 : Vec Ideal S1024x256 .bf16) (x3 : Vec Ideal S8192x256 .bf16) (kj ko co ro : ℕ) (S : Vec Ideal S8192x256 .f32) : Vec Ideal S8192x256 .f32 :=
  addBox S ro 512 co 128 fun R C => blockSum (tQ x0 x1 x2 x3 kj R C) ko 512

/-- The value gradient after the diagonal tile's six steps, from zero. -/
abbrev diagV (x0 : Vec Ideal S8192x256 .bf16) (x1 : Vec Ideal S1024x256 .bf16) (x3 : Vec Ideal S8192x256 .bf16) (i : grid0.Coords) (S : Vec Ideal S1024x256 .f32) : Vec Ideal S1024x256 .f32 :=
  (addV x0 x1 x3 (i 1).val 512 128 (1024 * (i 1).val + 512) (addV x0 x1 x3 (i 1).val 512 0 (1024 * (i 1).val + 512) (addV x0 x1 x3 (i 1).val 0 128 (1024 * (i 1).val + 512) (addV x0 x1 x3 (i 1).val 0 0 (1024 * (i 1).val + 512) (addV x0 x1 x3 (i 1).val 0 128 (1024 * (i 1).val) (addV x0 x1 x3 (i 1).val 0 0 (1024 * (i 1).val) S))))))
/-- The key gradient after the diagonal tile's six steps, from zero. -/
abbrev diagK (x0 : Vec Ideal S8192x256 .bf16) (x1 x2 : Vec Ideal S1024x256 .bf16) (x3 : Vec Ideal S8192x256 .bf16) (i : grid0.Coords) (S : Vec Ideal S1024x256 .f32) : Vec Ideal S1024x256 .f32 :=
  (addK x0 x1 x2 x3 (i 1).val 512 128 (1024 * (i 1).val + 512) (addK x0 x1 x2 x3 (i 1).val 512 0 (1024 * (i 1).val + 512) (addK x0 x1 x2 x3 (i 1).val 0 128 (1024 * (i 1).val + 512) (addK x0 x1 x2 x3 (i 1).val 0 0 (1024 * (i 1).val + 512) (addK x0 x1 x2 x3 (i 1).val 0 128 (1024 * (i 1).val) (addK x0 x1 x2 x3 (i 1).val 0 0 (1024 * (i 1).val) S))))))
/-- The query gradient after the diagonal tile's six steps, from what it was. -/
abbrev diagQ (x0 : Vec Ideal S8192x256 .bf16) (x1 x2 : Vec Ideal S1024x256 .bf16) (x3 : Vec Ideal S8192x256 .bf16) (i : grid0.Coords) (S : Vec Ideal S8192x256 .f32) : Vec Ideal S8192x256 .f32 :=
  (addQ x0 x1 x2 x3 (i 1).val 512 128 (1024 * (i 1).val + 512) (addQ x0 x1 x2 x3 (i 1).val 512 0 (1024 * (i 1).val + 512) (addQ x0 x1 x2 x3 (i 1).val 0 128 (1024 * (i 1).val + 512) (addQ x0 x1 x2 x3 (i 1).val 0 0 (1024 * (i 1).val + 512) (addQ x0 x1 x2 x3 (i 1).val 0 128 (1024 * (i 1).val) (addQ x0 x1 x2 x3 (i 1).val 0 0 (1024 * (i 1).val) S))))))

section Acc

variable (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole)
  (x0 : Vec Ideal S8192x256 .bf16) (x1 x2 : Vec Ideal S1024x256 .bf16) (x3 : Vec Ideal S8192x256 .bf16)

set_option maxHeartbeats 1000000 in
/-- What the value gradient's six stores leave. -/
theorem acc10 (m : Memref sig .tc .vmem S1024x256 .f32) (z : Vec Ideal S1024x256 .f32) (d1 d2 d3 d4 d5 d6 : Vec Ideal S512x128 .f32)
    (L0 L1 L2 L3 L4 L5 : List (View.Piece (Elt Ideal) S1024x256 .f32))
    (hL0 : L0 = [⟨Rect.unit (s := S1024x256) ![0, 0] S1024x256.size inb_S1024x256_S1024x256_0_0, z⟩])
    (hL1 : L1 = ⟨Rect.unit (s := S1024x256) ![0, 0] S512x128.size inb_S1024x256_S512x128_0_0, k0_pay44 (F := Ideal) (k0_pay39 (lq1 arg5 harg5 x3 i)) d1 (k0_pay43 (lq1 arg2 harg2 x0 i) (lk1 arg3 harg3 x1))⟩ :: L0)
    (hL2 : L2 = ⟨Rect.unit (s := S1024x256) ![0, 128] S512x128.size inb_S1024x256_S512x128_0_128, k0_pay53 (F := Ideal) (k0_pay48 (lq2 arg5 harg5 x3 i)) (k0_pay50 (lq2 arg2 harg2 x0 i) (lk2 arg3 harg3 x1)) d2⟩ :: L1)
    (hL3 : L3 = ⟨Rect.unit (s := S1024x256) ![0, 0] S512x128.size inb_S1024x256_S512x128_0_0, k0_pay61 (F := Ideal) (k0_pay57 (lq3 arg5 harg5 x3 i)) (k0_pay59 (lq3 arg2 harg2 x0 i) (lk1 arg3 harg3 x1)) d3⟩ :: L2)
    (hL4 : L4 = ⟨Rect.unit (s := S1024x256) ![0, 128] S512x128.size inb_S1024x256_S512x128_0_128, k0_pay70 (F := Ideal) (k0_pay65 (lq4 arg5 harg5 x3 i)) (k0_pay67 (lq4 arg2 harg2 x0 i) (lk2 arg3 harg3 x1)) d4⟩ :: L3)
    (hL5 : L5 = ⟨Rect.unit (s := S1024x256) ![512, 0] S512x128.size inb_S1024x256_S512x128_512_0, k0_pay79 (F := Ideal) (k0_pay74 (lq3 arg5 harg5 x3 i)) (k0_pay76 (lq3 arg2 harg2 x0 i) (lk3 arg3 harg3 x1)) (iota .tc S512x512 32 [0] iota_S512x512_d0_w32) d5⟩ :: L4)
    (hd1 : d1 = m.view.readCov L0 (Rect.unit (s := S1024x256) ![0, 0] S512x128.size inb_S1024x256_S512x128_0_0).toLoadRect)
    (hd2 : d2 = m.view.readCov L1 (Rect.unit (s := S1024x256) ![0, 128] S512x128.size inb_S1024x256_S512x128_0_128).toLoadRect)
    (hd3 : d3 = m.view.readCov L2 (Rect.unit (s := S1024x256) ![0, 0] S512x128.size inb_S1024x256_S512x128_0_0).toLoadRect)
    (hd4 : d4 = m.view.readCov L3 (Rect.unit (s := S1024x256) ![0, 128] S512x128.size inb_S1024x256_S512x128_0_128).toLoadRect)
    (hd5 : d5 = m.view.readCov L4 (Rect.unit (s := S1024x256) ![512, 0] S512x128.size inb_S1024x256_S512x128_512_0).toLoadRect)
    (hd6 : d6 = m.view.readCov L5 (Rect.unit (s := S1024x256) ![512, 128] S512x128.size inb_S1024x256_S512x128_512_128).toLoadRect)
    : m.view.read (Elt Ideal) (m.view.writes (Elt Ideal) m.view.junk (⟨Rect.unit (s := S1024x256) ![512, 128] S512x128.size inb_S1024x256_S512x128_512_128, k0_pay87 (F := Ideal) (k0_pay82 (lq4 arg2 harg2 x0 i)) (k0_pay83 (lq4 arg5 harg5 x3 i)) (lk4 arg3 harg3 x1) d6⟩ :: L5)) = diagV x0 x1 x3 i z := by
  have h0 : m.view.read (Elt Ideal) (m.view.writes (Elt Ideal) m.view.junk L0) = z := by subst hL0; exact View.read_writes_full _ _ _ _ _
  have h1 : m.view.read (Elt Ideal) (m.view.writes (Elt Ideal) m.view.junk L1) = (addV x0 x1 x3 (i 1).val 0 0 (1024 * (i 1).val) z) := by
    rw [hL1]
    refine step_add m.view _ L0 _ rfl _ h0 _ fun p l => (payV_diag _ _ _ _ p l).trans (congrArg₂ (fun a b : EReal => a + b) ?_ ?_)
    · rw [hd1]; exact cov_at m.view L0 _ rfl h0 p l
    · rw [lq1_eq arg2 harg2 x0 i, lk1_eq arg3 harg3 x1, lq1_eq arg5 harg5 x3 i]; exact incV x0 x1 x3 (i 1).val (iq1 i) _ (wDiag_win x0 x1 (i 1).val (iq1 i) inb_S1024x256_S512x128_0_0 (by omega)) (by decide) p l
  have h2 : m.view.read (Elt Ideal) (m.view.writes (Elt Ideal) m.view.junk L2) = (addV x0 x1 x3 (i 1).val 0 128 (1024 * (i 1).val) (addV x0 x1 x3 (i 1).val 0 0 (1024 * (i 1).val) z)) := by
    rw [hL2]
    refine step_add m.view _ L1 _ rfl _ h1 _ fun p l => (payV_diag2 _ _ _ _ p l).trans (congrArg₂ (fun a b : EReal => a + b) ?_ ?_)
    · rw [hd2]; exact cov_at m.view L1 _ rfl h1 p l
    · rw [lq2_eq arg2 harg2 x0 i, lk2_eq arg3 harg3 x1, lq2_eq arg5 harg5 x3 i]; exact incV x0 x1 x3 (i 1).val (iq2 i) _ (wDiag_win x0 x1 (i 1).val (iq2 i) inb_S1024x256_S512x128_0_128 (by omega)) (by decide) p l
  have h3 : m.view.read (Elt Ideal) (m.view.writes (Elt Ideal) m.view.junk L3) = (addV x0 x1 x3 (i 1).val 0 0 (1024 * (i 1).val + 512) (addV x0 x1 x3 (i 1).val 0 128 (1024 * (i 1).val) (addV x0 x1 x3 (i 1).val 0 0 (1024 * (i 1).val) z))) := by
    rw [hL3]
    refine step_add m.view _ L2 _ rfl _ h2 _ fun p l => (payV_part _ _ _ _ p l).trans (congrArg₂ (fun a b : EReal => a + b) ?_ ?_)
    · rw [hd3]; exact cov_at m.view L2 _ rfl h2 p l
    · rw [lq3_eq arg2 harg2 x0 i, lk1_eq arg3 harg3 x1, lq3_eq arg5 harg5 x3 i]; exact incV x0 x1 x3 (i 1).val (iq3 i) _ (wFull_win x0 x1 (i 1).val (iq3 i) inb_S1024x256_S512x128_0_0 (by omega)) (by decide) p l
  have h4 : m.view.read (Elt Ideal) (m.view.writes (Elt Ideal) m.view.junk L4) = (addV x0 x1 x3 (i 1).val 0 128 (1024 * (i 1).val + 512) (addV x0 x1 x3 (i 1).val 0 0 (1024 * (i 1).val + 512) (addV x0 x1 x3 (i 1).val 0 128 (1024 * (i 1).val) (addV x0 x1 x3 (i 1).val 0 0 (1024 * (i 1).val) z)))) := by
    rw [hL4]
    refine step_add m.view _ L3 _ rfl _ h3 _ fun p l => (payV_part2 _ _ _ _ p l).trans (congrArg₂ (fun a b : EReal => a + b) ?_ ?_)
    · rw [hd4]; exact cov_at m.view L3 _ rfl h3 p l
    · rw [lq4_eq arg2 harg2 x0 i, lk2_eq arg3 harg3 x1, lq4_eq arg5 harg5 x3 i]; exact incV x0 x1 x3 (i 1).val (iq4 i) _ (wFull_win x0 x1 (i 1).val (iq4 i) inb_S1024x256_S512x128_0_128 (by omega)) (by decide) p l
  have h5 : m.view.read (Elt Ideal) (m.view.writes (Elt Ideal) m.view.junk L5) = (addV x0 x1 x3 (i 1).val 512 0 (1024 * (i 1).val + 512) (addV x0 x1 x3 (i 1).val 0 128 (1024 * (i 1).val + 512) (addV x0 x1 x3 (i 1).val 0 0 (1024 * (i 1).val + 512) (addV x0 x1 x3 (i 1).val 0 128 (1024 * (i 1).val) (addV x0 x1 x3 (i 1).val 0 0 (1024 * (i 1).val) z))))) := by
    rw [hL5]
    refine step_add m.view _ L4 _ rfl _ h4 _ fun p l => (payV_diag3 _ _ _ _ p l).trans (congrArg₂ (fun a b : EReal => a + b) ?_ ?_)
    · rw [hd5]; exact cov_at m.view L4 _ rfl h4 p l
    · rw [lq3_eq arg2 harg2 x0 i, lk3_eq arg3 harg3 x1, lq3_eq arg5 harg5 x3 i]; exact incV x0 x1 x3 (i 1).val (iq3 i) _ (wDiag_win x0 x1 (i 1).val (iq3 i) inb_S1024x256_S512x128_512_0 (by omega)) (by decide) p l
  refine step_add m.view _ L5 _ rfl _ h5 _ fun p l => (payV_diag4 _ _ _ _ p l).trans (congrArg₂ (fun a b : EReal => a + b) ?_ ?_)
  · rw [hd6]; exact cov_at m.view L5 _ rfl h5 p l
  · rw [lq4_eq arg2 harg2 x0 i, lk4_eq arg3 harg3 x1, lq4_eq arg5 harg5 x3 i]; exact incV x0 x1 x3 (i 1).val (iq4 i) _ (wDiag_win x0 x1 (i 1).val (iq4 i) inb_S1024x256_S512x128_512_128 (by omega)) (by decide) p l

set_option maxHeartbeats 1000000 in
/-- What the key gradient's six stores leave. -/
theorem acc9 (m : Memref sig .tc .vmem S1024x256 .f32) (z : Vec Ideal S1024x256 .f32) (d1 d2 d3 d4 d5 d6 : Vec Ideal S512x128 .f32)
    (L0 L1 L2 L3 L4 L5 : List (View.Piece (Elt Ideal) S1024x256 .f32))
    (hL0 : L0 = [⟨Rect.unit (s := S1024x256) ![0, 0] S1024x256.size inb_S1024x256_S1024x256_0_0, z⟩])
    (hL1 : L1 = ⟨Rect.unit (s := S1024x256) ![0, 0] S512x128.size inb_S1024x256_S512x128_0_0, k0_pay45 (F := Ideal) (k0_pay38 (lq1 arg2 harg2 x0 i)) (k0_pay42 (lq1 arg2 harg2 x0 i) (lq1 arg5 harg5 x3 i) (lk1 arg3 harg3 x1) (lk1 arg4 harg4 x2)) d1⟩ :: L0)
    (hL2 : L2 = ⟨Rect.unit (s := S1024x256) ![0, 128] S512x128.size inb_S1024x256_S512x128_0_128, k0_pay54 (F := Ideal) (k0_pay47 (lq2 arg2 harg2 x0 i)) (k0_pay51 (lq2 arg2 harg2 x0 i) (lq2 arg5 harg5 x3 i) (lk2 arg3 harg3 x1) (lk2 arg4 harg4 x2)) d2⟩ :: L1)
    (hL3 : L3 = ⟨Rect.unit (s := S1024x256) ![0, 0] S512x128.size inb_S1024x256_S512x128_0_0, k0_pay62 (F := Ideal) (k0_pay56 (lq3 arg2 harg2 x0 i)) (k0_pay57 (lq3 arg5 harg5 x3 i)) (k0_pay59 (lq3 arg2 harg2 x0 i) (lk1 arg3 harg3 x1)) (lk1 arg4 harg4 x2) d3⟩ :: L2)
    (hL4 : L4 = ⟨Rect.unit (s := S1024x256) ![0, 128] S512x128.size inb_S1024x256_S512x128_0_128, k0_pay71 (F := Ideal) (k0_pay64 (lq4 arg2 harg2 x0 i)) (k0_pay65 (lq4 arg5 harg5 x3 i)) (k0_pay67 (lq4 arg2 harg2 x0 i) (lk2 arg3 harg3 x1)) (k0_pay68 (lk2 arg4 harg4 x2)) d4⟩ :: L3)
    (hL5 : L5 = ⟨Rect.unit (s := S1024x256) ![512, 0] S512x128.size inb_S1024x256_S512x128_512_0, k0_pay80 (F := Ideal) (k0_pay73 (lq3 arg2 harg2 x0 i)) (k0_pay74 (lq3 arg5 harg5 x3 i)) (k0_pay76 (lq3 arg2 harg2 x0 i) (lk3 arg3 harg3 x1)) (iota .tc S512x512 32 [0] iota_S512x512_d0_w32) (lk3 arg4 harg4 x2) d5⟩ :: L4)
    (hd1 : d1 = m.view.readCov L0 (Rect.unit (s := S1024x256) ![0, 0] S512x128.size inb_S1024x256_S512x128_0_0).toLoadRect)
    (hd2 : d2 = m.view.readCov L1 (Rect.unit (s := S1024x256) ![0, 128] S512x128.size inb_S1024x256_S512x128_0_128).toLoadRect)
    (hd3 : d3 = m.view.readCov L2 (Rect.unit (s := S1024x256) ![0, 0] S512x128.size inb_S1024x256_S512x128_0_0).toLoadRect)
    (hd4 : d4 = m.view.readCov L3 (Rect.unit (s := S1024x256) ![0, 128] S512x128.size inb_S1024x256_S512x128_0_128).toLoadRect)
    (hd5 : d5 = m.view.readCov L4 (Rect.unit (s := S1024x256) ![512, 0] S512x128.size inb_S1024x256_S512x128_512_0).toLoadRect)
    (hd6 : d6 = m.view.readCov L5 (Rect.unit (s := S1024x256) ![512, 128] S512x128.size inb_S1024x256_S512x128_512_128).toLoadRect)
    : m.view.read (Elt Ideal) (m.view.writes (Elt Ideal) m.view.junk (⟨Rect.unit (s := S1024x256) ![512, 128] S512x128.size inb_S1024x256_S512x128_512_128, k0_pay88 (F := Ideal) (k0_pay82 (lq4 arg2 harg2 x0 i)) (k0_pay83 (lq4 arg5 harg5 x3 i)) (lk4 arg3 harg3 x1) (lk4 arg4 harg4 x2) d6⟩ :: L5)) = diagK x0 x1 x2 x3 i z := by
  have h0 : m.view.read (Elt Ideal) (m.view.writes (Elt Ideal) m.view.junk L0) = z := by subst hL0; exact View.read_writes_full _ _ _ _ _
  have h1 : m.view.read (Elt Ideal) (m.view.writes (Elt Ideal) m.view.junk L1) = (addK x0 x1 x2 x3 (i 1).val 0 0 (1024 * (i 1).val) z) := by
    rw [hL1]
    refine step_add m.view _ L0 _ rfl _ h0 _ fun p l => (payK_diag _ _ _ _ _ p l).trans (congrArg₂ (fun a b : EReal => a + b) ?_ ?_)
    · rw [hd1]; exact cov_at m.view L0 _ rfl h0 p l
    · rw [lq1_eq arg2 harg2 x0 i, lk1_eq arg3 harg3 x1, lq1_eq arg5 harg5 x3 i, lk1_eq arg4 harg4 x2]; exact incK x0 x1 x2 x3 (i 1).val (iq1 i) inb_S1024x256_S512x128_0_0 _ (wDiag_win x0 x1 (i 1).val (iq1 i) inb_S1024x256_S512x128_0_0 (by omega)) (by decide) p l
  have h2 : m.view.read (Elt Ideal) (m.view.writes (Elt Ideal) m.view.junk L2) = (addK x0 x1 x2 x3 (i 1).val 0 128 (1024 * (i 1).val) (addK x0 x1 x2 x3 (i 1).val 0 0 (1024 * (i 1).val) z)) := by
    rw [hL2]
    refine step_add m.view _ L1 _ rfl _ h1 _ fun p l => (payK_diag2 _ _ _ _ _ p l).trans (congrArg₂ (fun a b : EReal => a + b) ?_ ?_)
    · rw [hd2]; exact cov_at m.view L1 _ rfl h1 p l
    · rw [lq2_eq arg2 harg2 x0 i, lk2_eq arg3 harg3 x1, lq2_eq arg5 harg5 x3 i, lk2_eq arg4 harg4 x2]; exact incK x0 x1 x2 x3 (i 1).val (iq2 i) inb_S1024x256_S512x128_0_128 _ (wDiag_win x0 x1 (i 1).val (iq2 i) inb_S1024x256_S512x128_0_128 (by omega)) (by decide) p l
  have h3 : m.view.read (Elt Ideal) (m.view.writes (Elt Ideal) m.view.junk L3) = (addK x0 x1 x2 x3 (i 1).val 0 0 (1024 * (i 1).val + 512) (addK x0 x1 x2 x3 (i 1).val 0 128 (1024 * (i 1).val) (addK x0 x1 x2 x3 (i 1).val 0 0 (1024 * (i 1).val) z))) := by
    rw [hL3]
    refine step_add m.view _ L2 _ rfl _ h2 _ fun p l => (payK_part _ _ _ _ _ p l).trans (congrArg₂ (fun a b : EReal => a + b) ?_ ?_)
    · rw [hd3]; exact cov_at m.view L2 _ rfl h2 p l
    · rw [lq3_eq arg2 harg2 x0 i, lk1_eq arg3 harg3 x1, lq3_eq arg5 harg5 x3 i, lk1_eq arg4 harg4 x2]; exact incK x0 x1 x2 x3 (i 1).val (iq3 i) inb_S1024x256_S512x128_0_0 _ (wFull_win x0 x1 (i 1).val (iq3 i) inb_S1024x256_S512x128_0_0 (by omega)) (by decide) p l
  have h4 : m.view.read (Elt Ideal) (m.view.writes (Elt Ideal) m.view.junk L4) = (addK x0 x1 x2 x3 (i 1).val 0 128 (1024 * (i 1).val + 512) (addK x0 x1 x2 x3 (i 1).val 0 0 (1024 * (i 1).val + 512) (addK x0 x1 x2 x3 (i 1).val 0 128 (1024 * (i 1).val) (addK x0 x1 x2 x3 (i 1).val 0 0 (1024 * (i 1).val) z)))) := by
    rw [hL4]
    refine step_add m.view _ L3 _ rfl _ h3 _ fun p l => (payK_part2 _ _ _ _ _ p l).trans (congrArg₂ (fun a b : EReal => a + b) ?_ ?_)
    · rw [hd4]; exact cov_at m.view L3 _ rfl h3 p l
    · rw [lq4_eq arg2 harg2 x0 i, lk2_eq arg3 harg3 x1, lq4_eq arg5 harg5 x3 i, lk2_eq arg4 harg4 x2]; exact incK x0 x1 x2 x3 (i 1).val (iq4 i) inb_S1024x256_S512x128_0_128 _ (wFull_win x0 x1 (i 1).val (iq4 i) inb_S1024x256_S512x128_0_128 (by omega)) (by decide) p l
  have h5 : m.view.read (Elt Ideal) (m.view.writes (Elt Ideal) m.view.junk L5) = (addK x0 x1 x2 x3 (i 1).val 512 0 (1024 * (i 1).val + 512) (addK x0 x1 x2 x3 (i 1).val 0 128 (1024 * (i 1).val + 512) (addK x0 x1 x2 x3 (i 1).val 0 0 (1024 * (i 1).val + 512) (addK x0 x1 x2 x3 (i 1).val 0 128 (1024 * (i 1).val) (addK x0 x1 x2 x3 (i 1).val 0 0 (1024 * (i 1).val) z))))) := by
    rw [hL5]
    refine step_add m.view _ L4 _ rfl _ h4 _ fun p l => (payK_diag3 _ _ _ _ _ p l).trans (congrArg₂ (fun a b : EReal => a + b) ?_ ?_)
    · rw [hd5]; exact cov_at m.view L4 _ rfl h4 p l
    · rw [lq3_eq arg2 harg2 x0 i, lk3_eq arg3 harg3 x1, lq3_eq arg5 harg5 x3 i, lk3_eq arg4 harg4 x2]; exact incK x0 x1 x2 x3 (i 1).val (iq3 i) inb_S1024x256_S512x128_512_0 _ (wDiag_win x0 x1 (i 1).val (iq3 i) inb_S1024x256_S512x128_512_0 (by omega)) (by decide) p l
  refine step_add m.view _ L5 _ rfl _ h5 _ fun p l => (payK_diag4 _ _ _ _ _ p l).trans (congrArg₂ (fun a b : EReal => a + b) ?_ ?_)
  · rw [hd6]; exact cov_at m.view L5 _ rfl h5 p l
  · rw [lq4_eq arg2 harg2 x0 i, lk4_eq arg3 harg3 x1, lq4_eq arg5 harg5 x3 i, lk4_eq arg4 harg4 x2]; exact incK x0 x1 x2 x3 (i 1).val (iq4 i) inb_S1024x256_S512x128_512_128 _ (wDiag_win x0 x1 (i 1).val (iq4 i) inb_S1024x256_S512x128_512_128 (by omega)) (by decide) p l

set_option maxHeartbeats 1000000 in
/-- What the query gradient's six stores leave. -/
theorem acc6 (m : Memref sig .tc .vmem S8192x256 .f32) (f : m.view.ty.Contents (Elt Ideal)) (S : Vec Ideal S8192x256 .f32) (d1 d2 d3 d4 d5 d6 : Vec Ideal S512x128 .f32)
    (L0 L1 L2 L3 L4 L5 : List (View.Piece (Elt Ideal) S8192x256 .f32))
    (hL0 : m.view.read (Elt Ideal) (m.view.writes (Elt Ideal) f L0) = S)
    (hL1 : L1 = ⟨Rect.unit (s := S8192x256) (k0_off1 i) S512x128.size (k0_off1_inb i), k0_pay46 (F := Ideal) (k0_pay40 (lk1 arg3 harg3 x1)) (k0_pay42 (lq1 arg2 harg2 x0 i) (lq1 arg5 harg5 x3 i) (lk1 arg3 harg3 x1) (lk1 arg4 harg4 x2)) d1⟩ :: L0)
    (hL2 : L2 = ⟨Rect.unit (s := S8192x256) (k0_off2 i) S512x128.size (k0_off2_inb i), k0_pay55 (F := Ideal) (k0_pay49 (lk2 arg3 harg3 x1)) (k0_pay51 (lq2 arg2 harg2 x0 i) (lq2 arg5 harg5 x3 i) (lk2 arg3 harg3 x1) (lk2 arg4 harg4 x2)) d2⟩ :: L1)
    (hL3 : L3 = ⟨Rect.unit (s := S8192x256) (k0_off3 i) S512x128.size (k0_off3_inb i), k0_pay63 (F := Ideal) (k0_pay57 (lq3 arg5 harg5 x3 i)) (k0_pay58 (lk1 arg3 harg3 x1)) (k0_pay59 (lq3 arg2 harg2 x0 i) (lk1 arg3 harg3 x1)) (lk1 arg4 harg4 x2) d3⟩ :: L2)
    (hL4 : L4 = ⟨Rect.unit (s := S8192x256) (k0_off4 i) S512x128.size (k0_off4_inb i), k0_pay72 (F := Ideal) (k0_pay65 (lq4 arg5 harg5 x3 i)) (k0_pay66 (lk2 arg3 harg3 x1)) (k0_pay67 (lq4 arg2 harg2 x0 i) (lk2 arg3 harg3 x1)) (k0_pay68 (lk2 arg4 harg4 x2)) d4⟩ :: L3)
    (hL5 : L5 = ⟨Rect.unit (s := S8192x256) (k0_off3 i) S512x128.size (k0_off3_inb i), k0_pay81 (F := Ideal) (k0_pay74 (lq3 arg5 harg5 x3 i)) (k0_pay75 (lk3 arg3 harg3 x1)) (k0_pay76 (lq3 arg2 harg2 x0 i) (lk3 arg3 harg3 x1)) (iota .tc S512x512 32 [0] iota_S512x512_d0_w32) (lk3 arg4 harg4 x2) d5⟩ :: L4)
    (hd1 : ∀ (p : Fin 512) (l : Fin 128), d1 (ix2 p l) = at2 S (1024 * (i 1).val + p.val) (0 + l.val) ∨ d1 (ix2 p l) = at2 (m.view.read (Elt Ideal) (m.view.writes (Elt Ideal) f L0)) (1024 * (i 1).val + p.val) (0 + l.val))
    (hd2 : ∀ (p : Fin 512) (l : Fin 128), d2 (ix2 p l) = at2 S (1024 * (i 1).val + p.val) (128 + l.val) ∨ d2 (ix2 p l) = at2 (m.view.read (Elt Ideal) (m.view.writes (Elt Ideal) f L1)) (1024 * (i 1).val + p.val) (128 + l.val))
    (hd3 : ∀ (p : Fin 512) (l : Fin 128), d3 (ix2 p l) = at2 S (1024 * (i 1).val + 512 + p.val) (0 + l.val) ∨ d3 (ix2 p l) = at2 (m.view.read (Elt Ideal) (m.view.writes (Elt Ideal) f L2)) (1024 * (i 1).val + 512 + p.val) (0 + l.val))
    (hd4 : ∀ (p : Fin 512) (l : Fin 128), d4 (ix2 p l) = at2 S (1024 * (i 1).val + 512 + p.val) (128 + l.val) ∨ d4 (ix2 p l) = at2 (m.view.read (Elt Ideal) (m.view.writes (Elt Ideal) f L3)) (1024 * (i 1).val + 512 + p.val) (128 + l.val))
    (hd5 : d5 = m.view.readCov L4 (Rect.unit (s := S8192x256) (k0_off3 i) S512x128.size (k0_off3_inb i)).toLoadRect)
    (hd6 : d6 = m.view.readCov L5 (Rect.unit (s := S8192x256) (k0_off4 i) S512x128.size (k0_off4_inb i)).toLoadRect)
    : m.view.read (Elt Ideal) (m.view.writes (Elt Ideal) f (⟨Rect.unit (s := S8192x256) (k0_off4 i) S512x128.size (k0_off4_inb i), k0_pay89 (F := Ideal) (k0_pay82 (lq4 arg2 harg2 x0 i)) (k0_pay83 (lq4 arg5 harg5 x3 i)) (lk4 arg3 harg3 x1) (lk4 arg4 harg4 x2) d6⟩ :: L5)) = diagQ x0 x1 x2 x3 i S := by
  have h0 := hL0
  have h1 : m.view.read (Elt Ideal) (m.view.writes (Elt Ideal) f L1) = (addQ x0 x1 x2 x3 (i 1).val 0 0 (1024 * (i 1).val) S) := by
    rw [hL1]
    refine step_add m.view _ L0 _ (k0_off1_eq i) _ h0 _ fun p l => (payQ_diag _ _ _ _ _ p l).trans (congrArg₂ (fun a b : EReal => a + b) ?_ ?_)
    · exact (hd1 p l).elim id (fun e => e.trans (by rw [h0]))
    · rw [lq1_eq arg2 harg2 x0 i, lk1_eq arg3 harg3 x1, lq1_eq arg5 harg5 x3 i, lk1_eq arg4 harg4 x2]; exact incQ x0 x1 x2 x3 (i 1).val (iq1 i) inb_S1024x256_S512x128_0_0 _ (wDiag_win x0 x1 (i 1).val (iq1 i) inb_S1024x256_S512x128_0_0 (by omega)) (by decide) p l
  have h2 : m.view.read (Elt Ideal) (m.view.writes (Elt Ideal) f L2) = (addQ x0 x1 x2 x3 (i 1).val 0 128 (1024 * (i 1).val) (addQ x0 x1 x2 x3 (i 1).val 0 0 (1024 * (i 1).val) S)) := by
    rw [hL2]
    refine step_add m.view _ L1 _ (k0_off2_eq i) _ h1 _ fun p l => (payQ_diag2 _ _ _ _ _ p l).trans (congrArg₂ (fun a b : EReal => a + b) ?_ ?_)
    · refine (hd2 p l).elim (fun e => e.trans ?_) (fun e => e.trans (by rw [h1]))
      have := (i 1).isLt; have := p.isLt; have := l.isLt
      have : (i 1).val < 8 := (i 1).isLt
      rw [at2_addBox _ _ _ _ _ _ (by omega) (by omega), if_neg (by omega), add_zero]
    · rw [lq2_eq arg2 harg2 x0 i, lk2_eq arg3 harg3 x1, lq2_eq arg5 harg5 x3 i, lk2_eq arg4 harg4 x2]; exact incQ x0 x1 x2 x3 (i 1).val (iq2 i) inb_S1024x256_S512x128_0_128 _ (wDiag_win x0 x1 (i 1).val (iq2 i) inb_S1024x256_S512x128_0_128 (by omega)) (by decide) p l
  have h3 : m.view.read (Elt Ideal) (m.view.writes (Elt Ideal) f L3) = (addQ x0 x1 x2 x3 (i 1).val 0 0 (1024 * (i 1).val + 512) (addQ x0 x1 x2 x3 (i 1).val 0 128 (1024 * (i 1).val) (addQ x0 x1 x2 x3 (i 1).val 0 0 (1024 * (i 1).val) S))) := by
    rw [hL3]
    refine step_add m.view _ L2 _ (k0_off3_eq i) _ h2 _ fun p l => (payQ_part _ _ _ _ _ p l).trans (congrArg₂ (fun a b : EReal => a + b) ?_ ?_)
    · refine (hd3 p l).elim (fun e => e.trans ?_) (fun e => e.trans (by rw [h2]))
      have := (i 1).isLt; have := p.isLt; have := l.isLt
      have : (i 1).val < 8 := (i 1).isLt
      rw [at2_addBox _ _ _ _ _ _ (by omega) (by omega), if_neg (by omega), add_zero]
      rw [at2_addBox _ _ _ _ _ _ (by omega) (by omega), if_neg (by omega), add_zero]
    · rw [lq3_eq arg2 harg2 x0 i, lk1_eq arg3 harg3 x1, lq3_eq arg5 harg5 x3 i, lk1_eq arg4 harg4 x2]; exact incQ x0 x1 x2 x3 (i 1).val (iq3 i) inb_S1024x256_S512x128_0_0 _ (wFull_win x0 x1 (i 1).val (iq3 i) inb_S1024x256_S512x128_0_0 (by omega)) (by decide) p l
  have h4 : m.view.read (Elt Ideal) (m.view.writes (Elt Ideal) f L4) = (addQ x0 x1 x2 x3 (i 1).val 0 128 (1024 * (i 1).val + 512) (addQ x0 x1 x2 x3 (i 1).val 0 0 (1024 * (i 1).val + 512) (addQ x0 x1 x2 x3 (i 1).val 0 128 (1024 * (i 1).val) (addQ x0 x1 x2 x3 (i 1).val 0 0 (1024 * (i 1).val) S)))) := by
    rw [hL4]
    refine step_add m.view _ L3 _ (k0_off4_eq i) _ h3 _ fun p l => (payQ_part2 _ _ _ _ _ p l).trans (congrArg₂ (fun a b : EReal => a + b) ?_ ?_)
    · refine (hd4 p l).elim (fun e => e.trans ?_) (fun e => e.trans (by rw [h3]))
      have := (i 1).isLt; have := p.isLt; have := l.isLt
      have : (i 1).val < 8 := (i 1).isLt
      rw [at2_addBox _ _ _ _ _ _ (by omega) (by omega), if_neg (by omega), add_zero]
      rw [at2_addBox _ _ _ _ _ _ (by omega) (by omega), if_neg (by omega), add_zero]
      rw [at2_addBox _ _ _ _ _ _ (by omega) (by omega), if_neg (by omega), add_zero]
    · rw [lq4_eq arg2 harg2 x0 i, lk2_eq arg3 harg3 x1, lq4_eq arg5 harg5 x3 i, lk2_eq arg4 harg4 x2]; exact incQ x0 x1 x2 x3 (i 1).val (iq4 i) inb_S1024x256_S512x128_0_128 _ (wFull_win x0 x1 (i 1).val (iq4 i) inb_S1024x256_S512x128_0_128 (by omega)) (by decide) p l
  have h5 : m.view.read (Elt Ideal) (m.view.writes (Elt Ideal) f L5) = (addQ x0 x1 x2 x3 (i 1).val 512 0 (1024 * (i 1).val + 512) (addQ x0 x1 x2 x3 (i 1).val 0 128 (1024 * (i 1).val + 512) (addQ x0 x1 x2 x3 (i 1).val 0 0 (1024 * (i 1).val + 512) (addQ x0 x1 x2 x3 (i 1).val 0 128 (1024 * (i 1).val) (addQ x0 x1 x2 x3 (i 1).val 0 0 (1024 * (i 1).val) S))))) := by
    rw [hL5]
    refine step_add m.view _ L4 _ (k0_off3_eq i) _ h4 _ fun p l => (payQ_diag3 _ _ _ _ _ p l).trans (congrArg₂ (fun a b : EReal => a + b) ?_ ?_)
    · rw [hd5]; exact cov_at' m.view f L4 _ (k0_off3_eq i) (by rw [hL4, hL3]; exact List.mem_cons_of_mem _ List.mem_cons_self) h4 p l
    · rw [lq3_eq arg2 harg2 x0 i, lk3_eq arg3 harg3 x1, lq3_eq arg5 harg5 x3 i, lk3_eq arg4 harg4 x2]; exact incQ x0 x1 x2 x3 (i 1).val (iq3 i) inb_S1024x256_S512x128_512_0 _ (wDiag_win x0 x1 (i 1).val (iq3 i) inb_S1024x256_S512x128_512_0 (by omega)) (by decide) p l
  refine step_add m.view _ L5 _ (k0_off4_eq i) _ h5 _ fun p l => (payQ_diag4 _ _ _ _ _ p l).trans (congrArg₂ (fun a b : EReal => a + b) ?_ ?_)
  · rw [hd6]; exact cov_at' m.view f L5 _ (k0_off4_eq i) (by rw [hL5, hL4]; exact List.mem_cons_of_mem _ List.mem_cons_self) h5 p l
  · rw [lq4_eq arg2 harg2 x0 i, lk4_eq arg3 harg3 x1, lq4_eq arg5 harg5 x3 i, lk4_eq arg4 harg4 x2]; exact incQ x0 x1 x2 x3 (i 1).val (iq4 i) inb_S1024x256_S512x128_512_128 _ (wDiag_win x0 x1 (i 1).val (iq4 i) inb_S1024x256_S512x128_512_128 (by omega)) (by decide) p l

end Acc

end Cert.FlashIdeal.Hand
end
-- ==== Proof.FlBody.lean ====
module

public import proofs.«01_k».proof.Proof.FlStraight

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashIdeal.Gen

local notation "𝕄" => MT nD τ sig Unit (Elt Ideal) ℕ (UR sig nD τ) ℕ

/-- The number of trips of the loop. -/
abbrev nTrips (i : grid0.Coords) : ℕ := Scf.trips (k0_t1_loop i).lb (k0_t1_loop i).ub (k0_t1_loop i).st

section Fin

variable (x0 : Vec Ideal S8192x256 .bf16) (x1 x2 : Vec Ideal S1024x256 .bf16) (x3 : Vec Ideal S8192x256 .bf16) (i : grid0.Coords)

/-- The query gradient's block after the body at a grid point, from what it was (or from zero). -/
def finQ (S : Vec Ideal S8192x256 .f32) : Vec Ideal S8192x256 .f32 := after (inc6 x0 x1 x2 x3 (i 1).val) (diagQ x0 x1 x2 x3 i S) (nTrips i)
/-- The key gradient's block after the body at a grid point. -/
def finK : Vec Ideal S1024x256 .f32 := after (inc9 x0 x1 x2 x3 (i 1).val) (diagK x0 x1 x2 x3 i (k0_pay36 (F := Ideal))) (nTrips i)
/-- The value gradient's block after the body at a grid point. -/
def finV : Vec Ideal S1024x256 .f32 := after (inc10 x0 x1 x3 (i 1).val) (diagV x0 x1 x3 i (k0_pay37 (F := Ideal))) (nTrips i)

end Fin

/-- The condition under which the body zeroes the query gradient's block: the first key tile. -/
abbrev cond0_0 (i : grid0.Coords) : Prop := (Scalar.cmpi .ne (Scalar.extui (Scalar.cmpi .eq (BitVec.ofNat 32 (i 1).val) 0#32)) 0#32) = 1#1

/-- A load of a whole buffer. -/
theorem load_all {s : Shape} {e : EltTy} (m : Memref sig .tc .vmem s e) (f : m.view.ty.Contents (Elt Ideal)) {off : Fin s.rank → ℕ} (inb : ∀ a, off a + s.size a ≤ s.size a)
    {x : Vec Ideal s e} (h : m.view.read (Elt Ideal) f = x) : m.view.readAt (Elt Ideal) (Rect.unit off s.size inb).toLoadRect f = x :=
  (View.readAt_full m.view f inb).trans h

set_option maxHeartbeats 2000000 in
/-- The body at a later key tile. -/
theorem bodyB (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : ¬cond0_0 i)
    (x0 : Vec Ideal S8192x256 .bf16) (x1 : Vec Ideal S1024x256 .bf16) (x2 : Vec Ideal S1024x256 .bf16) (x3 : Vec Ideal S8192x256 .bf16) (d6 : Vec Ideal S8192x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (finQ x0 x1 x2 x3 i d6) ∗ owns (c : Thread nD τ) arg7 fullShare (k0_pay1 (F := Ideal) (finK x0 x1 x2 x3 i)) ∗ owns (c : Thread nD τ) arg8 fullShare (k0_pay2 (F := Ideal) (finV x0 x1 x3 i)) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_mla_flash_bwd i arg2 harg2 arg3 harg3 arg4 harg4 arg5 harg5 arg6 harg6 arg7 harg7 arg8 harg8 arg9 harg9 arg10 harg10) K := by
    intro E K
    simp only [cc0_mla_flash_bwd_eq_skeleton]; unfold cc0_mla_flash_bwd_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d7, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | sl_exact hc0)
    sl_step
    iapply Hk
    have e9 := acc9 i arg2 harg2 arg3 harg3 arg4 harg4 arg5 harg5 x0 x1 x2 x3 arg9 (k0_pay36 (F := Ideal)) _ _ _ _ _ _ _ _ _ _ _ (bodyB.sl.HS0_6 c i arg2 harg2 arg3 harg3 arg4 harg4 arg5 harg5 arg9 x0 x1 x2 x3) rfl rfl rfl rfl rfl rfl rfl rfl rfl rfl rfl rfl
    have e10 := acc10 i arg2 harg2 arg3 harg3 arg5 harg5 x0 x1 x3 arg10 (k0_pay37 (F := Ideal)) _ _ _ _ _ _ _ _ _ _ _ (bodyB.sl.HS1_6 c i arg2 harg2 arg3 harg3 arg5 harg5 arg10 x0 x1 x3) rfl rfl rfl rfl rfl rfl rfl rfl rfl rfl rfl rfl
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (stage_read arg6 harg6 _ _ _).trans ?_
      rw [harg2.read_unread, harg3.read_unread, harg4.read_unread, harg5.read_unread]
      refine congrArg (fun S => after (inc6 x0 x1 x2 x3 (i 1).val) S (nTrips i)) ?_
      exact acc6 i arg2 harg2 arg3 harg3 arg4 harg4 arg5 harg5 x0 x1 x2 x3 arg6 (harg6.unread d6) d6 _ _ _ _ _ _ [] _ _ _ _ (bodyB.sl.H4_5 c i arg2 harg2 arg3 harg3 arg4 harg4 arg5 harg5 arg6 harg6 x0 x1 x2 x3 d6)
        (harg6.read_unread d6) rfl rfl rfl rfl rfl
        (fun p l => .inl ((congrFun (load_win arg6 harg6 d6 (k0_off1_inb i) (k0_off1_eq i) (iq1 i)) (ix2 p l)).trans (window_at d6 (iq1 i) p l)))
        (fun p l => .inl ((congrFun (load_win arg6 harg6 d6 (k0_off2_inb i) (k0_off2_eq i) (iq2 i)) (ix2 p l)).trans (window_at d6 (iq2 i) p l)))
        (fun p l => .inl ((congrFun (load_win arg6 harg6 d6 (k0_off3_inb i) (k0_off3_eq i) (iq3 i)) (ix2 p l)).trans (window_at d6 (iq3 i) p l)))
        (fun p l => .inl ((congrFun (load_win arg6 harg6 d6 (k0_off4_inb i) (k0_off4_eq i) (iq4 i)) (ix2 p l)).trans (window_at d6 (iq4 i) p l))) rfl rfl
    isplitl [H5]
    · iexists _; isplitr; swap; · iexact H5
      ipureintro
      refine (View.read_writes_full _ _ _ _ _).trans (congrArg (k0_pay1 (F := Ideal)) ?_)
      refine load_all arg9 _ _ ((stage_read arg9 harg9 _ _ _).trans ?_)
      rw [harg2.read_unread, harg3.read_unread, harg4.read_unread, harg5.read_unread]
      exact congrArg (fun S => after (inc9 x0 x1 x2 x3 (i 1).val) S (nTrips i)) e9
    isplitl [H6]
    · iexists _; isplitr; swap; · iexact H6
      ipureintro
      refine (View.read_writes_full _ _ _ _ _).trans (congrArg (k0_pay2 (F := Ideal)) ?_)
      refine load_all arg10 _ _ ((stage_read arg10 harg10 _ _ _).trans ?_)
      rw [harg2.read_unread, harg3.read_unread, harg5.read_unread]
      exact congrArg (fun S => after (inc10 x0 x1 x3 (i 1).val) S (nTrips i)) e10
    isplitl [HS0]
    · iexists _, _; isplitr; swap; · iexact HS0
      ipureintro; rfl
    iexists _, _; isplitr; swap; · iexact HS1
    ipureintro; rfl

set_option maxHeartbeats 2000000 in
/-- The body at the first key tile of a pair of heads. -/
theorem bodyA (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole) (hc0 : cond0_0 i)
    (x0 : Vec Ideal S8192x256 .bf16) (x1 : Vec Ideal S1024x256 .bf16) (x2 : Vec Ideal S1024x256 .bf16) (x3 : Vec Ideal S8192x256 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (finQ x0 x1 x2 x3 i (k0_pay35 (F := Ideal))) ∗ owns (c : Thread nD τ) arg7 fullShare (k0_pay1 (F := Ideal) (finK x0 x1 x2 x3 i)) ∗ owns (c : Thread nD τ) arg8 fullShare (k0_pay2 (F := Ideal) (finV x0 x1 x3 i)) ∗ (∃ d, owns (c : Thread nD τ) arg9 fullShare d) ∗ (∃ d, owns (c : Thread nD τ) arg10 fullShare d)) -∗ K ⟨⟩))
          ⊢ wp frame (wpE (defs₀ (F := Ideal)) Variants.none c none) E (cc0_mla_flash_bwd i arg2 harg2 arg3 harg3 arg4 harg4 arg5 harg5 arg6 harg6 arg7 harg7 arg8 harg8 arg9 harg9 arg10 harg10) K := by
    intro E K
    simp only [cc0_mla_flash_bwd_eq_skeleton]; unfold cc0_mla_flash_bwd_skel
    simp only [k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d6, %f4, -, H4⟩, ⟨%d5, %f5, -, H5⟩, ⟨%d7, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3

    sl_exec (disch := first | sl_exact hc0)
    sl_step
    iapply Hk
    have e9 := acc9 i arg2 harg2 arg3 harg3 arg4 harg4 arg5 harg5 x0 x1 x2 x3 arg9 (k0_pay36 (F := Ideal)) _ _ _ _ _ _ _ _ _ _ _ (bodyA.sl.HS0_6 c i arg2 harg2 arg3 harg3 arg4 harg4 arg5 harg5 arg9 x0 x1 x2 x3) rfl rfl rfl rfl rfl rfl rfl rfl rfl rfl rfl rfl
    have e10 := acc10 i arg2 harg2 arg3 harg3 arg5 harg5 x0 x1 x3 arg10 (k0_pay37 (F := Ideal)) _ _ _ _ _ _ _ _ _ _ _ (bodyA.sl.HS1_6 c i arg2 harg2 arg3 harg3 arg5 harg5 arg10 x0 x1 x3) rfl rfl rfl rfl rfl rfl rfl rfl rfl rfl rfl rfl
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (stage_read arg6 harg6 _ _ _).trans ?_
      rw [harg2.read_unread, harg3.read_unread, harg4.read_unread, harg5.read_unread]
      refine congrArg (fun S => after (inc6 x0 x1 x2 x3 (i 1).val) S (nTrips i)) ?_
      exact acc6 i arg2 harg2 arg3 harg3 arg4 harg4 arg5 harg5 x0 x1 x2 x3 arg6 arg6.view.junk (k0_pay35 (F := Ideal)) _ _ _ _ _ _ bodyA.sl.H4_1 _ _ _ _ (bodyA.sl.H4_6 c i arg2 harg2 arg3 harg3 arg4 harg4 arg5 harg5 arg6 x0 x1 x2 x3)
        (View.read_writes_full _ _ _ _ _) rfl rfl rfl rfl rfl
        (fun p l => .inr ((congrFun (View.readAt_unit arg6.view _ (k0_off1_inb i) (k0_off1_eq i) (iq1 i)) (ix2 p l)).trans (window_at _ (iq1 i) p l)))
        (fun p l => .inr ((congrFun (View.readAt_unit arg6.view _ (k0_off2_inb i) (k0_off2_eq i) (iq2 i)) (ix2 p l)).trans (window_at _ (iq2 i) p l)))
        (fun p l => .inr ((congrFun (View.readAt_unit arg6.view _ (k0_off3_inb i) (k0_off3_eq i) (iq3 i)) (ix2 p l)).trans (window_at _ (iq3 i) p l)))
        (fun p l => .inr ((congrFun (View.readAt_unit arg6.view _ (k0_off4_inb i) (k0_off4_eq i) (iq4 i)) (ix2 p l)).trans (window_at _ (iq4 i) p l))) rfl rfl
    isplitl [H5]
    · iexists _; isplitr; swap; · iexact H5
      ipureintro
      refine (View.read_writes_full _ _ _ _ _).trans (congrArg (k0_pay1 (F := Ideal)) ?_)
      refine load_all arg9 _ _ ((stage_read arg9 harg9 _ _ _).trans ?_)
      rw [harg2.read_unread, harg3.read_unread, harg4.read_unread, harg5.read_unread]
      exact congrArg (fun S => after (inc9 x0 x1 x2 x3 (i 1).val) S (nTrips i)) e9
    isplitl [H6]
    · iexists _; isplitr; swap; · iexact H6
      ipureintro
      refine (View.read_writes_full _ _ _ _ _).trans (congrArg (k0_pay2 (F := Ideal)) ?_)
      refine load_all arg10 _ _ ((stage_read arg10 harg10 _ _ _).trans ?_)
      rw [harg2.read_unread, harg3.read_unread, harg5.read_unread]
      exact congrArg (fun S => after (inc10 x0 x1 x3 (i 1).val) S (nTrips i)) e10
    isplitl [HS0]
    · iexists _, _; isplitr; swap; · iexact HS0
      ipureintro; rfl
    iexists _, _; isplitr; swap; · iexact HS1
    ipureintro; rfl

end Cert.FlashIdeal.Hand
end
-- ==== Proof.FlRun.lean ====
module

public import proofs.«01_k».proof.Proof.FlBody
public import proofs.«01_k».proof.Proof.Gen.FlashIdeal.Frame
public import Idealize.ShloMosaic.Lib.WordCmp

@[expose] public section

set_option maxRecDepth 16384

noncomputable section

namespace Cert.FlashIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FlashIdeal.Gen

local notation "𝕄" => MT nD τ sig Unit (Elt Ideal) ℕ (UR sig nD τ) ℕ

variable (m : (ℓ : Loc nD τ sig) → Buf (Elt Ideal) ℓ) (ρ : Dev nD → PrngReg) (c : Dev nD)

/-- The blocks of the four inputs at a grid point. -/
abbrev bq (t : Fin cfg0.N) : Vec Ideal S8192x256 .bf16 := iblk m c 0 t
abbrev bk (t : Fin cfg0.N) : Vec Ideal S1024x256 .bf16 := iblk m c 1 t
abbrev bv (t : Fin cfg0.N) : Vec Ideal S1024x256 .bf16 := iblk m c 2 t
abbrev bdo (t : Fin cfg0.N) : Vec Ideal S8192x256 .bf16 := iblk m c 3 t

/-- What the block of `dq` holds after the body at point `n`: the first key tile of a pair of heads starts from zero,
    every later one from what the tile before left. -/
def runQ : ℕ → Vec Ideal S8192x256 .f32
  | 0 => if h : 0 < cfg0.N then
      finQ (bq m c ⟨0, h⟩) (bk m c ⟨0, h⟩) (bv m c ⟨0, h⟩) (bdo m c ⟨0, h⟩) (grid0.coords ⟨0, h⟩) (k0_pay35 (F := Ideal))
    else k0_pay35 (F := Ideal)
  | n + 1 => if h : n + 1 < cfg0.N then
      finQ (bq m c ⟨n + 1, h⟩) (bk m c ⟨n + 1, h⟩) (bv m c ⟨n + 1, h⟩) (bdo m c ⟨n + 1, h⟩) (grid0.coords ⟨n + 1, h⟩)
        (if (n + 1) % 8 = 0 then k0_pay35 (F := Ideal) else runQ n)
    else k0_pay35 (F := Ideal)

theorem runQ_first (t : Fin cfg0.N) (h : t.val % 8 = 0) :
    runQ m c t.val = finQ (bq m c t) (bk m c t) (bv m c t) (bdo m c t) (grid0.coords t) (k0_pay35 (F := Ideal)) := by
  obtain ⟨n, hn⟩ := t
  cases n with
  | zero => exact dif_pos hn
  | succ n => exact (dif_pos hn).trans (by rw [if_pos h])

theorem runQ_next (t : Fin cfg0.N) (h : ¬ t.val % 8 = 0) :
    runQ m c t.val = finQ (bq m c t) (bk m c t) (bv m c t) (bdo m c t) (grid0.coords t) (runQ m c (t.val - 1)) := by
  obtain ⟨n, hn⟩ := t
  cases n with
  | zero => exact absurd rfl h
  | succ n => exact (dif_pos hn).trans (by rw [if_neg h]; rfl)

/-- The proof data: inputs stay, `dq` runs on, `dk` and `dv` are what the body stores at each point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => runQ m c t.val
    | ⟨5, _⟩ => k0_pay1 (F := Ideal) (finK (bq m c t) (bk m c t) (bv m c t) (bdo m c t) (grid0.coords t))
    | ⟨6, _⟩ => k0_pay2 (F := Ideal) (finV (bq m c t) (bk m c t) (bdo m c t) (grid0.coords t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = runQ m c t.val := by dsimp only [dats]
theorem after_5 (t : Fin cfg0.N) : (dats m 0 c).after 5 t = k0_pay1 (F := Ideal) (finK (bq m c t) (bk m c t) (bv m c t) (bdo m c t) (grid0.coords t)) := by dsimp only [dats]
theorem after_6 (t : Fin cfg0.N) : (dats m 0 c).after 6 t = k0_pay2 (F := Ideal) (finV (bq m c t) (bk m c t) (bdo m c t) (grid0.coords t)) := by dsimp only [dats]

theorem before_0 (t : Fin cfg0.N) (d) : (dats m 0 c).before 0 t d = iblk m c 0 t :=
  before0_0_of m (dats m 0 c) (A_eq m c 0) (after_0 m c) t d
theorem before_1 (t : Fin cfg0.N) (d) : (dats m 0 c).before 1 t d = iblk m c 1 t :=
  before0_1_of m (dats m 0 c) (A_eq m c 1) (after_1 m c) t d
theorem before_2 (t : Fin cfg0.N) (d) : (dats m 0 c).before 2 t d = iblk m c 2 t :=
  before0_2_of m (dats m 0 c) (A_eq m c 2) (after_2 m c) t d
theorem before_3 (t : Fin cfg0.N) (d) : (dats m 0 c).before 3 t d = iblk m c 3 t :=
  before0_3_of m (dats m 0 c) (A_eq m c 3) (after_3 m c) t d
theorem before_4 (t : Fin cfg0.N) (h : ¬ t.val % 8 = 0) (d) : (dats m 0 c).before 4 t d = runQ m c (t.val - 1) := by
  have h0 : t.val ≠ 0 := fun e => h (by rw [e])
  have hf : (cfg0.win 4).flush ⟨t.val - 1, Nat.lt_of_le_of_lt (Nat.sub_le _ _) t.isLt⟩ = false := by
    rw [Bool.eq_false_iff]; intro e; have := (flush0_4 _).mp e; simp only at this; omega
  exact ((dats m 0 c).before_out_kept 4 rfl t h0 hf (fun _ => rfl) (fun _ _ => rfl) d).trans (after_4 m c _)

/-- The first key tile of a pair of heads is a point divisible by 8. -/
theorem cond_iff (t : Fin cfg0.N) : cond0_0 (grid0.coords t) ↔ t.val % 8 = 0 := by
  have ht : t.val < 32 := Nat.lt_of_lt_of_eq t.isLt N_0
  have e1 : (grid0.coords t 1).val = t.val / 1 % 8 := Pipeline.Grid.coords_val t 1 (by decide) rfl
  simp only [cond0_0, e1]
  word_cmp

theorem phi_eq : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 1600000 in
/-- The body at any point: a first key tile by `bodyA`, a later one by `bodyB` with what the tile before left. -/
theorem sound (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, phi_eq]
  by_cases h0 : t.val % 8 = 0
  · rw [runQ_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((bodyA c (grid0.coords t) _ _ _ _ _ _ _ _ _ _ _ _ _ _ _ _ _ _ ((cond_iff t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [runQ_next m c t h0]
    simp only [before_4 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((bodyB c (grid0.coords t) _ _ _ _ _ _ _ _ _ _ _ _ _ _ _ _ _ _ (fun h => h0 ((cond_iff t).mp h)) (iblk m c 0 t) (iblk m c 1 t) (iblk m c 2 t) (iblk m c 3 t) (runQ m c (t.val - 1))) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) :
    defs₀ (F := Ideal) .tc cfg0.body (cfg0.bodyArgs t (cfg0.slots t)) = bodyAt0 t := by
  unfold defs₀; rw [Defs.onTc_tc]

theorem obligation : BodyObligation (dats m 0 c) (defs₀ (F := Ideal)) Variants.none () Set.univ := fun t => by
  rw [bigSep_W0, bigSep_W0, row_eq]
  exact triple_restated (sound m c t) rfl .rfl fun _ => .rfl

set_option backward.isDefEq.respectTransparency.types false in
/-- The run: every buffer the pipeline writes at its final contents, and the machine quiescent. -/
theorem run_all : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame of the idealized kernel. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.FlashIdeal.Hand

end
-- ==== Proof.FlSum.lean ====
module

public import proofs.«01_k».proof.Proof.FlBody

@[expose] public section

set_option maxRecDepth 16384

noncomputable section

namespace Cert.FlashIdeal.Hand

open Idealize.ShloMosaic Idealize.ShloMosaic.TcCoe Idealize.ShloMosaic.Tactic
open Cert.FlashIdeal.Gen

theorem nTrips_eq : ∀ i : grid0.Coords, nTrips i = 7 - (i 1).val := by decide +kernel

theorem blockSum_Ico (f : ℕ → EReal) (o n : ℕ) : blockSum f o n = ∑ R ∈ Finset.Ico o (o + n), f R := by
  rw [Finset.sum_Ico_eq_sum_range, Nat.add_sub_cancel_left]
  exact Fin.sum_univ_eq_sum_range (fun j => f (o + j)) n

/-- Blocks one after another are one sum. -/
theorem blocks_Ico (f : ℕ → EReal) (o w n : ℕ) : ∑ k ∈ Finset.range n, blockSum f (o + w * k) w = ∑ R ∈ Finset.Ico o (o + w * n), f R := by
  induction n with
  | zero => simp
  | succ n ih =>
    rw [Finset.sum_range_succ, ih, blockSum_Ico, Finset.sum_Ico_consecutive f (by omega) (by omega), Nat.mul_succ, ← Nat.add_assoc]

/-- A sum whose first terms vanish. -/
theorem sum_from (f : ℕ → EReal) (o n : ℕ) (h : o ≤ n) (hz : ∀ R, R < o → f R = 0) : ∑ R ∈ Finset.range n, f R = ∑ R ∈ Finset.Ico o n, f R := by
  rw [Finset.range_eq_Ico, ← Finset.sum_Ico_consecutive f (Nat.zero_le o) h, Finset.sum_eq_zero (fun R hR => hz R (Finset.mem_Ico.mp hR).2), zero_add]

section Boxes

variable {a : ℕ} (S : (⟨2, ![a, 256]⟩ : Shape).Idx → EReal)

theorem addBox_at {b : ℕ} (x : (⟨2, ![a, b]⟩ : Shape).Idx → EReal) (o0 n o1 m : ℕ) (F : ℕ → ℕ → EReal) (y : (⟨2, ![a, b]⟩ : Shape).Idx) :
    addBox x o0 n o1 m F y = x y + if (o0 ≤ (y 0).val ∧ (y 0).val < o0 + n) ∧ o1 ≤ (y 1).val ∧ (y 1).val < o1 + m then F (y 0).val (y 1).val else 0 := rfl

/-- Two boxes of one row range that together take every lane. -/
theorem addBox_pair (o : ℕ) (F : ℕ → ℕ → EReal) (y : (⟨2, ![a, 256]⟩ : Shape).Idx) :
    addBox (addBox S o 512 0 128 F) o 512 128 128 F y = S y + if o ≤ (y 0).val ∧ (y 0).val < o + 512 then F (y 0).val (y 1).val else 0 := by
  have h1 : (y 1).val < 256 := (y 1).isLt
  unfold addBox
  by_cases h : o ≤ (y 0).val ∧ (y 0).val < o + 512
  · rw [if_pos h]
    by_cases hc : (y 1).val < 128
    · rw [if_pos ⟨h, by omega, by omega⟩, if_neg (by omega), add_zero]
    · rw [if_neg (by omega), if_pos ⟨h, by omega, by omega⟩, add_zero]
  · rw [if_neg h, if_neg (fun e => h e.1), if_neg (fun e => h e.1), add_zero]

/-- Whole-width boxes put one after another over the same rows. -/
theorem after_same (F : ℕ → ℕ → ℕ → EReal) (n : ℕ) (T : (⟨2, ![1024, 256]⟩ : Shape).Idx → EReal) (y : (⟨2, ![1024, 256]⟩ : Shape).Idx) :
    after (s := ⟨2, ![1024, 256]⟩) (e := .f32) (fun k d => addBox d 0 1024 0 256 (F k)) T n y = T y + ∑ k ∈ Finset.range n, F k (y 0).val (y 1).val := by
  induction n with
  | zero => simp [after]
  | succ n ih =>
    have h0 : (y 0).val < 1024 := (y 0).isLt
    have h1 : (y 1).val < 256 := (y 1).isLt
    refine (addBox_at _ 0 1024 0 256 (F n) y).trans ?_
    rw [ih, if_pos (by omega), Finset.sum_range_succ, add_assoc]

/-- Whole-width boxes put over successive rows. -/
theorem after_rows (o : ℕ) (F : ℕ → ℕ → EReal) (n : ℕ) (T : (⟨2, ![8192, 256]⟩ : Shape).Idx → EReal) (y : (⟨2, ![8192, 256]⟩ : Shape).Idx) :
    after (s := ⟨2, ![8192, 256]⟩) (e := .f32) (fun k d => addBox d (o + 1024 * k + 1024) 1024 0 256 F) T n y
      = T y + if o + 1024 ≤ (y 0).val ∧ (y 0).val < o + 1024 + 1024 * n then F (y 0).val (y 1).val else 0 := by
  induction n with
  | zero => rw [if_neg (by omega), add_zero]; rfl
  | succ n ih =>
    have h1 : (y 1).val < 256 := (y 1).isLt
    refine (addBox_at _ (o + 1024 * n + 1024) 1024 0 256 F y).trans ?_
    rw [ih]
    by_cases h : o + 1024 ≤ (y 0).val ∧ (y 0).val < o + 1024 + 1024 * n
    · rw [if_pos h, if_neg (by omega), if_pos (by omega), add_zero]
    · rw [if_neg h, add_zero]
      by_cases h' : o + 1024 * n + 1024 ≤ (y 0).val ∧ (y 0).val < o + 1024 * n + 1024 + 1024
      · rw [if_pos ⟨h', by omega, by omega⟩, if_pos (by omega)]
      · rw [if_neg (fun e => h' e.1), if_neg (by omega)]

end Boxes

theorem pay35_zero (y : S8192x256.Idx) : k0_pay35 (F := Ideal) y = 0 := by
  pointwise [k0_pay35]
theorem pay36_zero (y : S1024x256.Idx) : k0_pay36 (F := Ideal) y = 0 := by
  pointwise [k0_pay36]
theorem pay37_zero (y : S1024x256.Idx) : k0_pay37 (F := Ideal) y = 0 := by
  pointwise [k0_pay37]
theorem pay1_id (x : Vec Ideal S1024x256 .f32) (y : S1024x256.Idx) : k0_pay1 (F := Ideal) x y = x y := by
  pointwise [k0_pay1]
theorem pay2_id (x : Vec Ideal S1024x256 .f32) (y : S1024x256.Idx) : k0_pay2 (F := Ideal) x y = x y := by
  pointwise [k0_pay2]

section Terms

variable (x0 : Vec Ideal S8192x256 .bf16) (x1 x2 : Vec Ideal S1024x256 .bf16) (x3 : Vec Ideal S8192x256 .bf16)

theorem wgt_zero {kj co r R : ℕ} (h : R < kj * 1024 + r) : wgt x0 x1 kj co r R = 0 := if_neg (by omega)
theorem tV_zero {kj r C R : ℕ} (h : R < kj * 1024 + r) : tV x0 x1 x3 kj r C R = 0 := by unfold tV; rw [wgt_zero x0 x1 h, zero_mul]
theorem tK_zero {kj r C R : ℕ} (h : R < kj * 1024 + r) : tK x0 x1 x2 x3 kj r C R = 0 := by unfold tK dst; rw [wgt_zero x0 x1 h, zero_mul, zero_mul]
theorem tQ_zero {kj r C R : ℕ} (h : R < kj * 1024 + r) : tQ x0 x1 x2 x3 kj R C r = 0 := by unfold tQ dst; rw [wgt_zero x0 x1 h, zero_mul, zero_mul]

/-- The straight pieces of a key tile and the loop's blocks are the sum over all query rows. -/
theorem join (f : ℕ → EReal) (kj r : ℕ) (hkj : kj < 8) (hr : r < 1024) (hz : ∀ R, R < kj * 1024 + r → f R = 0) :
    ((0 : EReal) + (if 0 ≤ r ∧ r < 0 + 512 then blockSum f (1024 * kj) 512 else 0) + (if 0 ≤ r ∧ r < 0 + 512 then blockSum f (1024 * kj + 512) 512 else 0)
      + (if 512 ≤ r ∧ r < 512 + 512 then blockSum f (1024 * kj + 512) 512 else 0))
      + ∑ k ∈ Finset.range (7 - kj), blockSum f (1024 * kj + 1024 * k + 1024) 1024 = ∑ R ∈ Finset.range 8192, f R := by
  have hl : ∑ k ∈ Finset.range (7 - kj), blockSum f (1024 * kj + 1024 * k + 1024) 1024 = ∑ R ∈ Finset.Ico (1024 * kj + 1024) 8192, f R := by
    rw [show (8192 : ℕ) = (1024 * kj + 1024) + 1024 * (7 - kj) by omega, ← blocks_Ico]
    exact Finset.sum_congr rfl fun k _ => by rw [show 1024 * kj + 1024 * k + 1024 = 1024 * kj + 1024 + 1024 * k by omega]
  rw [hl, zero_add]
  by_cases h : r < 512
  · rw [if_pos (by omega), if_pos (by omega), if_neg (by omega), add_zero, blockSum_Ico, blockSum_Ico,
      Finset.sum_Ico_consecutive f (by omega) (by omega), Finset.sum_Ico_consecutive f (by omega) (by omega)]
    exact (sum_from f (1024 * kj) 8192 (by omega) fun R hR => hz R (by omega)).symm
  · rw [if_neg (by omega), if_neg (by omega), if_pos (by omega), add_zero, zero_add, blockSum_Ico,
      Finset.sum_Ico_consecutive f (by omega) (by omega)]
    exact (sum_from f (1024 * kj + 512) 8192 (by omega) fun R hR => hz R (by omega)).symm

theorem coord_lt (i : grid0.Coords) : (i 1).val < 8 := (i 1).isLt

/-- The value gradient of a key tile is the sum over all query rows. -/
theorem finV_at (i : grid0.Coords) (y : S1024x256.Idx) : finV x0 x1 x3 i y = ∑ R ∈ Finset.range 8192, tV x0 x1 x3 (i 1).val (y 0).val (y 1).val R := by
  unfold finV
  refine (after_same _ _ _ y).trans ?_
  unfold diagV addV
  rw [addBox_pair, addBox_pair, addBox_pair, pay37_zero, nTrips_eq]
  exact join _ _ _ (coord_lt i) (y 0).isLt fun R hR => tV_zero x0 x1 x3 hR

/-- The key gradient of a key tile is the sum over all query rows. -/
theorem finK_at (i : grid0.Coords) (y : S1024x256.Idx) : finK x0 x1 x2 x3 i y = ∑ R ∈ Finset.range 8192, tK x0 x1 x2 x3 (i 1).val (y 0).val (y 1).val R := by
  unfold finK
  refine (after_same _ _ _ y).trans ?_
  unfold diagK addK
  rw [addBox_pair, addBox_pair, addBox_pair, pay36_zero, nTrips_eq]
  exact join _ _ _ (coord_lt i) (y 0).isLt fun R hR => tK_zero x0 x1 x2 x3 hR

/-- The query gradient gains the sum over the key tile's rows. -/
theorem finQ_at (i : grid0.Coords) (S : Vec Ideal S8192x256 .f32) (y : S8192x256.Idx) :
    finQ x0 x1 x2 x3 i S y = S y + ∑ r ∈ Finset.range 1024, tQ x0 x1 x2 x3 (i 1).val (y 0).val (y 1).val r := by
  have hk := coord_lt i
  have hR : (y 0).val < 8192 := (y 0).isLt
  have hz : ∀ r, (y 0).val < (i 1).val * 1024 + r → tQ x0 x1 x2 x3 (i 1).val (y 0).val (y 1).val r = 0 := fun r h => tQ_zero x0 x1 x2 x3 h
  unfold finQ
  refine (after_rows (1024 * (i 1).val) _ _ _ y).trans ?_
  unfold diagQ addQ
  rw [addBox_pair, addBox_pair, addBox_pair, nTrips_eq, add_assoc, add_assoc, add_assoc]
  refine congrArg (S y + ·) ?_
  have hb : ∀ o n, blockSum (tQ x0 x1 x2 x3 (i 1).val (y 0).val (y 1).val) o n = ∑ r ∈ Finset.Ico o (o + n), tQ x0 x1 x2 x3 (i 1).val (y 0).val (y 1).val r := fun o n => blockSum_Ico _ o n
  generalize tQ x0 x1 x2 x3 (i 1).val (y 0).val (y 1).val = f at hz hb ⊢
  simp only [hb]
  rcases Nat.lt_or_ge (y 0).val (1024 * (i 1).val) with h | h
  · rw [if_neg (by omega), if_neg (by omega), if_neg (by omega), if_neg (by omega)]
    simp only [add_zero]
    exact (Finset.sum_eq_zero fun r _ => hz r (by omega)).symm
  rcases Nat.lt_or_ge (y 0).val (1024 * (i 1).val + 512) with h1 | h1
  · rw [if_pos (by omega), if_neg (by omega), if_neg (by omega), if_neg (by omega)]
    simp only [add_zero]
    rw [Finset.range_eq_Ico, ← Finset.sum_Ico_consecutive f (m := 0) (n := 512) (k := 1024) (by omega) (by omega),
      Finset.sum_eq_zero (s := Finset.Ico 512 1024) (fun r hr => hz r (by have := (Finset.mem_Ico.mp hr).1; omega)), add_zero]
  rcases Nat.lt_or_ge (y 0).val (1024 * (i 1).val + 1024) with h2 | h2
  · rw [if_neg (by omega), if_pos (by omega), if_pos (by omega), if_neg (by omega)]
    simp only [add_zero, zero_add]
    rw [Finset.range_eq_Ico, Finset.sum_Ico_consecutive f (by omega) (by omega)]
  · rw [if_neg (by omega), if_neg (by omega), if_neg (by omega), if_pos (by omega)]
    simp only [add_zero, zero_add]
    rw [Finset.range_eq_Ico]

end Terms

end Cert.FlashIdeal.Hand

end
-- ==== Proof.FlWin.lean ====
module

public import proofs.«01_k».proof.Proof.FlRun
public import proofs.«01_k».proof.Proof.FlSum
public import Idealize.ShloMosaic.Lib.Pipeline.ValueKit

@[expose] public section

set_option maxRecDepth 16384

noncomputable section

/-! The blocks of the four operands, by their arrays, and the three result arrays, by their blocks. -/

namespace Cert.FlashIdeal.Hand

open Idealize.ShloMosaic Idealize.ShloMosaic.TcCoe Idealize.ShloMosaic.Tactic Idealize.SL Idealize.SL.Sem
open Cert.FlashIdeal Cert.FlashIdeal.Gen

variable (m : (ℓ : Loc nD τ sig) → Buf (Elt Ideal) ℓ) (c : Dev nD)

theorem coord1 (t : Fin cfg0.N) : (grid0.coords t 1).val = t.val % 8 :=
  (Pipeline.Grid.coords_val t 1 (by decide) rfl : (grid0.coords t 1).val = t.val / 1 % 8).trans (by rw [Nat.div_one])

/-- Every window's block index at a point: a pair of heads and a tile of keys. -/
theorem idx : ∀ t : Fin cfg0.N, win0_0.index t = ![0, t.val / 8] ∧ win0_1.index t = ![t.val % 8, t.val / 8] ∧ win0_2.index t = ![t.val % 8, t.val / 8]
    ∧ win0_3.index t = ![0, t.val / 8] ∧ win0_4.index t = ![0, t.val / 8] ∧ win0_5.index t = ![t.val % 8, t.val / 8] ∧ win0_6.index t = ![t.val % 8, 4 + t.val / 8] :=
  (by decide +kernel : ∀ t : Fin grid0.N, _)

theorem pt_lt (t : Fin cfg0.N) : t.val < 32 := Nat.lt_of_lt_of_eq t.isLt N_0

theorem bq_at (t : Fin cfg0.N) (R : Fin 8192) (C : Fin 256) :
    bq m c t (ix2 R C) = (V m c main_v38 : FVec Ideal S8192x1024 .bf16) (ix2 R ⟨t.val / 8 * 256 + C.val, by have := pt_lt t; omega⟩) := by
  show (V m c main_v38 : FVec Ideal S8192x1024 .bf16) (((cfg0.win 0).blk t).view.emb (ix2 R C)) = _
  refine congrArg (V m c main_v38 : FVec Ideal S8192x1024 .bf16) ?_
  blk_ext! [idx t]

theorem bk_at (t : Fin cfg0.N) (r : Fin 1024) (C : Fin 256) :
    bk m c t (ix2 r C) = (V m c main_v43 : FVec Ideal S8192x1024 .bf16) (ix2 ⟨t.val % 8 * 1024 + r.val, by omega⟩ ⟨t.val / 8 * 256 + C.val, by have := pt_lt t; omega⟩) := by
  show (V m c main_v43 : FVec Ideal S8192x1024 .bf16) (((cfg0.win 1).blk t).view.emb (ix2 r C)) = _
  refine congrArg (V m c main_v43 : FVec Ideal S8192x1024 .bf16) ?_
  blk_ext! [idx t]

theorem bv_at (t : Fin cfg0.N) (r : Fin 1024) (C : Fin 256) :
    bv m c t (ix2 r C) = (V m c main_v48 : FVec Ideal S8192x1024 .bf16) (ix2 ⟨t.val % 8 * 1024 + r.val, by omega⟩ ⟨t.val / 8 * 256 + C.val, by have := pt_lt t; omega⟩) := by
  show (V m c main_v48 : FVec Ideal S8192x1024 .bf16) (((cfg0.win 2).blk t).view.emb (ix2 r C)) = _
  refine congrArg (V m c main_v48 : FVec Ideal S8192x1024 .bf16) ?_
  blk_ext! [idx t]

theorem bdo_at (t : Fin cfg0.N) (R : Fin 8192) (C : Fin 256) :
    bdo m c t (ix2 R C) = (V m c main_v59 : FVec Ideal S8192x1024 .bf16) (ix2 R ⟨t.val / 8 * 256 + C.val, by have := pt_lt t; omega⟩) := by
  show (V m c main_v59 : FVec Ideal S8192x1024 .bf16) (((cfg0.win 3).blk t).view.emb (ix2 R C)) = _
  refine congrArg (V m c main_v59 : FVec Ideal S8192x1024 .bf16) ?_
  blk_ext! [idx t]

/-- The key gradient's array, when its blocks are a function's. -/
theorem arr5 (G : FVec Ideal S8192x1024 .bf16)
    (h : ∀ (t : Fin cfg0.N) (r : Fin 1024) (C : Fin 256), finK (bq m c t) (bk m c t) (bv m c t) (bdo m c t) (grid0.coords t) (ix2 r C)
      = G (ix2 ⟨t.val % 8 * 1024 + r.val, by omega⟩ ⟨t.val / 8 * 256 + C.val, by have := pt_lt t; omega⟩)) :
    (dats m 0 c).arrAt 5 cfg0.N = G := by
  refine (dats m 0 c).arrAt_eq_of_covers 5 _ (by decide +kernel) fun t _ y => ?_
  blk_simp
  rw [after_5]
  refine (pay1_id _ _).trans ?_
  refine (congrArg (finK _ _ _ _ _) (eq_ix2 y)).trans ((h t (y 0) (y 1)).trans ?_)
  refine congrArg G ?_
  blk_ext! [idx t]

/-- The query gradient's array, when its blocks after the last tile of keys are a function's. -/
theorem arr4 (G : FVec Ideal S8192x1024 .f32)
    (h : ∀ (t : Fin cfg0.N) (R : Fin 8192) (C : Fin 256), t.val % 8 = 7 → runQ m c t.val (ix2 R C)
      = G (ix2 R ⟨t.val / 8 * 256 + C.val, by have := pt_lt t; omega⟩)) :
    (dats m 0 c).arrAt 4 cfg0.N = G := by
  refine (dats m 0 c).arrAt_eq_of_covers 4 _ (by decide +kernel) fun t hf y => ?_
  blk_simp
  rw [after_4]
  refine (congrArg (runQ m c t.val) (eq_ix2 y)).trans ((h t (y 0) (y 1) ?_).trans ?_)
  · exact (flush0_4 t).mp hf
  refine congrArg G ?_
  blk_ext! [idx t]

/-- The value gradient's array, in its second half. -/
theorem arr6 (G : FVec Ideal S8192x2048 .bf16)
    (h : ∀ (t : Fin cfg0.N) (r : Fin 1024) (C : Fin 256), finV (bq m c t) (bk m c t) (bdo m c t) (grid0.coords t) (ix2 r C)
      = G (ix2 ⟨t.val % 8 * 1024 + r.val, by omega⟩ ⟨(4 + t.val / 8) * 256 + C.val, by have := pt_lt t; omega⟩)) (i : S8192x2048.Idx) (hi : 1024 ≤ (i 1).val) :
    (dats m 0 c).arrAt 6 cfg0.N i = G i := by
  refine ((dats m 0 c).arrAt_apply_of_coversWhere 6 _ (P := fun i : S8192x2048.Idx => 1024 ≤ (i 1).val) (fun β => 4 ≤ β (1 : Fin 2)) (by decide +kernel) (fun t hf y => ?_)
    (fun j => by blk_simp [Pipeline.Window.cell_apply]; omega) i).trans (if_pos hi)
  blk_simp
  rw [after_6]
  refine (pay2_id _ _).trans ?_
  refine (congrArg (finV _ _ _ _) (eq_ix2 y)).trans ((h t (y 0) (y 1)).trans ?_)
  refine congrArg G ?_
  blk_ext! [idx t]

end Cert.FlashIdeal.Hand
-- ==== Proof.FlRef.lean ====
module

public import proofs.«01_k».proof.Proof.Gen.FlashRefIdeal.Run
public import Idealize.ShloMosaic.Lib.Pointwise
public import Idealize.ShloMosaic.Lib.Claim
public import Idealize.ShloMosaic.Lib.WordCmp

@[expose] public section

set_option maxRecDepth 16384

noncomputable section

namespace Cert.FlashRefIdeal.Hand

open Idealize.ShloMosaic Idealize.ShloMosaic.TcCoe Idealize.ShloMosaic.Tactic
open Cert.FlashRefIdeal Cert.FlashRefIdeal.Gen

/-- The causal mask. -/
def mask : Vec Ideal S8x8192x8192 .i1 := broadcastInDim S8x8192x8192 ![0, 1, 2] bcast_S1x8192x8192_S8x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))

theorem mask_at (h : Fin 8) (R r : Fin 8192) : mask (ix3 h R r) = if r.val ≤ R.val then 1#1 else 0#1 := by
  unfold mask
  pointwise
  have := R.isLt; have := r.isLt
  by_cases e : r.val ≤ R.val
  · rw [if_pos e]; exact (WordCmp.cmpi_sle_ofNat_eq_one_iff (by omega) (by omega)).mpr e
  · rw [if_neg e]; exact (WordCmp.cmpi_sle_ofNat_eq_zero_iff (by omega) (by omega)).mpr (by omega)

abbrev neginf : FVec Ideal S_ .f32 := constant S_ .f32 0xFF800000#32
abbrev zero : FVec Ideal S_ .f32 := constant S_ .f32 0x00000000#32

abbrev Qs := FVec Ideal S8192x8x96 .f32
abbrev Vs := FVec Ideal S8192x8x64 .f32
abbrev Ss := FVec Ideal S8x8192x8192 .f32

/-- The masked scores. -/
def scores (q k : Qs) : Ss :=
  select mask (Host.dotGeneral dot_S8192x8x96_S8192x8x96_S8x8192x8192_2_2_0_0_1_1 none q k) (broadcastInDim S8x8192x8192 ![] bcast_S_S8x8192x8192 (id neginf))
theorem scores_at (q k : Qs) (h : Fin 8) (R r : Fin 8192) :
    scores q k (ix3 h R r) = if r.val ≤ R.val then ∑ d : Fin 96, q (ix3 R h d) * k (ix3 r h d) else ⊥ := by
  unfold scores
  pointwise [id]
  rw [mask_at]
  have hb : Ideal.ofBits .f32 0xFF800000#32 = (⊥ : EReal) := by simp [Ideal.ofBits, Ideal.ieee]
  rw [hb]
  split
  · rfl
  · rfl

/-- From −∞, the greatest of a row of an array of any sizes. -/
theorem reduce_max_at {a b n : ℕ} (x : FVec Ideal ⟨3, ![a, b, n]⟩ .f32) (h' : (⟨3, ![a, b, n]⟩ : Shape).ReducesTo [2] ⟨2, ![a, b]⟩)
    (hu : 0 < (⟨0, ![]⟩ : Shape).numel) (i : Fin a) (j : Fin b) :
    Host.reduce FloatOps.maximumf x (constant (⟨0, ![]⟩ : Shape) .f32 0xFF800000#32) h' hu (ix2 i j) = Finset.univ.sup fun k : Fin n => x (ix3 i j k) := by
  have h : (⟨3, ![a, b, n]⟩ : Shape).Reduces [2] ⟨2, ![a, b]⟩ := ⟨h'.1, Nat.zero_lt_two, h'.2⟩
  rw [Host.reduce_eq_fold_single FloatOps.maximumf x _ h' h hu]
  have hb : (constant (⟨0, ![]⟩ : Shape) .f32 0xFF800000#32 : FVec Ideal ⟨0, ![]⟩ .f32) (Shape.Idx.first hu) = (⊥ : EReal) := by
    show Ideal.ofBits .f32 0xFF800000#32 = ⊥
    simp [Ideal.ofBits, Ideal.ieee]
  rw [hb]
  have hf : (x ∘ h.lift (ix2 i j)) = fun k : Fin n => x (ix3 i j k) := funext fun k => congrArg x (by
    funext c; apply Fin.ext; fin_cases c <;> rfl)
  exact congrArg (fun f => Finset.fold max (⊥ : EReal) f (Finset.univ : Finset (Fin n))) hf

/-- A row's greatest score. -/
def rowMax (s : Ss) : FVec Ideal S8x8192 .f32 := Host.reduce FloatOps.maximumf s neginf reducesTo_S8x8192x8192_S8x8192_d2 h_S_
theorem rowMax_at (s : Ss) (h : Fin 8) (R : Fin 8192) : rowMax s (ix2 h R) = Finset.univ.sup fun r : Fin 8192 => s (ix3 h R r) :=
  reduce_max_at s _ _ h R

/-- The same, not below −∞. -/
def tops (s : Ss) : FVec Ideal S8x8192 .f32 := maximumf (broadcastInDim S8x8192 ![] bcast_S_S8x8192 neginf) (rowMax s)
theorem max_neginf (t : FVec Ideal S8x8192 .f32) : maximumf (broadcastInDim S8x8192 ![] bcast_S_S8x8192 neginf) t = t := by
  funext j
  show max (Ideal.ofBits .f32 0xFF800000#32) (t j) = t j
  have hb : Ideal.ofBits .f32 0xFF800000#32 = (⊥ : EReal) := by simp [Ideal.ofBits, Ideal.ieee]
  rw [hb]
  exact max_eq_right bot_le
theorem tops_eq (s : Ss) : tops s = rowMax s := max_neginf (rowMax s)

/-- The exponentials. -/
def exps (s : Ss) (t : FVec Ideal S8x8192 .f32) : Ss := Host.exp (subf s (broadcastInDim S8x8192x8192 ![0, 1, 2] bcast_S8x8192x1_S8x8192x8192_0_1_2 (broadcastInDim S8x8192x1 ![0, 1] bcast_S8x8192_S8x8192x1_0_1 t)))
theorem exps_at (s : Ss) (t : FVec Ideal S8x8192 .f32) (h : Fin 8) (R r : Fin 8192) : exps s t (ix3 h R r) = Ideal.exp (s (ix3 h R r) - t (ix2 h R)) := by
  unfold exps
  pointwise

/-- A row's sum of exponentials. -/
def sums (e : Ss) : FVec Ideal S8x8192x1 .f32 := broadcastInDim S8x8192x1 ![0, 1] bcast_S8x8192_S8x8192x1_0_1 (Host.reduceAdd e zero reducesTo_S8x8192x8192_S8x8192_d2 h_S_)
theorem sums_at (e : Ss) (h : Fin 8) (R : Fin 8192) (z : Fin 1) : sums e (ix3 h R z) = ∑ r : Fin 8192, e (ix3 h R r) := by
  unfold sums
  pointwise

abbrev wide (l : FVec Ideal S8x8192x1 .f32) : Ss := broadcastInDim S8x8192x8192 ![0, 1, 2] bcast_S8x8192x1_S8x8192x8192_0_1_2 l

/-- The softmax's weights. -/
def probs (e : Ss) : Ss := Host.divf e (wide (sums e))
theorem probs_at (e : Ss) (h : Fin 8) (R r : Fin 8192) : probs e (ix3 h R r) = Ideal.div (e (ix3 h R r)) (sums e (ix3 h R 0)) := by
  unfold probs
  pointwise

/-- The inner products of cotangent rows and value rows. -/
def dps (v dO : Vs) : Ss := Host.dotGeneral dot_S8x64x8192_S8192x8x64_S8x8192x8192_1_2_2_0_0_1 none (transpose S8x64x8192 [1, 2, 0] dO transposes_S8192x8x64_S8x64x8192_1_2_0) v
theorem dps_at (v dO : Vs) (h : Fin 8) (R r : Fin 8192) : dps v dO (ix3 h R r) = ∑ d : Fin 64, dO (ix3 R h d) * v (ix3 r h d) := by
  unfold dps
  pointwise

/-- A row's correction. -/
def corr (e dp : Ss) : FVec Ideal S8x8192 .f32 :=
  Host.reduceAdd (Host.negf (shapeCast S8x8192x1 (Host.reduceAdd (mulf (mulf dp (wide (Host.divf (broadcastInDim S8x8192x1 ![] bcast_S_S8x8192x1 (constant S_ .f32 0x3F800000#32)) (mulf (sums e) (sums e))))) e) zero reducesTo_S8x8192x8192_S8x8192_d2 h_S_) shapeCasts_S8x8192_S8x8192x1)) zero reducesTo_S8x8192x1_S8x8192_d2 h_S_
theorem corr_at (e dp : Ss) (h : Fin 8) (R : Fin 8192) :
    corr e dp (ix2 h R) = -∑ r : Fin 8192, dp (ix3 h R r) * Ideal.div 1 (sums e (ix3 h R 0) * sums e (ix3 h R 0)) * e (ix3 h R r) := by
  unfold corr
  pointwise
  rw [Fin.sum_univ_one]

/-- The scores' cotangents. -/
def dss (e dp : Ss) : Ss :=
  select mask (mulf (addf (Host.divf dp (wide (sums e))) (broadcastInDim S8x8192x8192 ![0, 1] bcast_S8x8192_S8x8192x8192_0_1 (corr e dp))) e) (broadcastInDim S8x8192x8192 ![] bcast_S_S8x8192x8192 zero)
theorem dss_at (e dp : Ss) (h : Fin 8) (R r : Fin 8192) :
    dss e dp (ix3 h R r) = if r.val ≤ R.val then (Ideal.div (dp (ix3 h R r)) (sums e (ix3 h R 0)) + corr e dp (ix2 h R)) * e (ix3 h R r) else 0 := by
  unfold dss
  pointwise
  rw [mask_at]
  split
  · rfl
  · rfl

abbrev izero : FVec Ideal S_ .f32 := sitofp .f32 (constantI S_ 32 0#32 : Vec Ideal S_ .i32)

/-- The query gradient, placed. -/
def outQ (ds : Ss) (k : Qs) : FVec Ideal S8192x1024 .f32 :=
  pad S8192x1024 ![0, 0] ![0, 0] ![0, 0] (shapeCast S8192x1024 (pad S8192x8x128 ![0, 0, 0] ![0, 0, 32] ![0, 0, 0] (transpose S8192x8x96 [1, 0, 2] (Host.dotGeneral dot_S8x8192x8192_S8192x8x96_S8x8192x96_2_0_1_2_0_1 none ds k) transposes_S8x8192x96_S8192x8x96_1_0_2) izero pads_S8192x8x96_S8192x8x128_000_000_0320 h_S_) shapeCasts_S8192x8x128_S8192x1024) izero pads_S8192x1024_S8192x1024_000_000 h_S_
theorem outQ_at (ds : Ss) (k : Qs) (R : Fin 8192) (h : Fin 8) (d : Fin 96) :
    outQ ds k (ix2 R ⟨128 * h.val + d.val, by omega⟩) = ∑ r : Fin 8192, ds (ix3 h R r) * k (ix3 r h d) := by
  unfold outQ
  pointwise
  have := h.isLt; have := d.isLt
  rw [dif_pos (by omega), dif_pos (by omega)]
  have e : (⟨(128 * h.val + d.val) % 128, by omega⟩ : Fin 96) = d := Fin.ext (by show (128 * h.val + d.val) % 128 = d.val; omega)
  simp only [e]

/-- The key gradient, placed. -/
def outK (ds : Ss) (q : Qs) : FVec Ideal S8192x1024 .bf16 :=
  truncf .bf16 (pad S8192x1024 ![0, 0] ![0, 0] ![0, 0] (shapeCast S8192x1024 (pad S8192x8x128 ![0, 0, 0] ![0, 0, 32] ![0, 0, 0] (transpose S8192x8x96 [1, 0, 2] (Host.dotGeneral dot_S8x8192x8192_S8192x8x96_S8x8192x96_1_0_2_2_0_1 none ds q) transposes_S8x8192x96_S8192x8x96_1_0_2) izero pads_S8192x8x96_S8192x8x128_000_000_0320 h_S_) shapeCasts_S8192x8x128_S8192x1024) izero pads_S8192x1024_S8192x1024_000_000 h_S_) bitsLt_bf16_f32
theorem outK_at (ds : Ss) (q : Qs) (r : Fin 8192) (h : Fin 8) (d : Fin 96) :
    outK ds q (ix2 r ⟨128 * h.val + d.val, by omega⟩) = ∑ R : Fin 8192, ds (ix3 h R r) * q (ix3 R h d) := by
  unfold outK
  pointwise
  have := h.isLt; have := d.isLt
  rw [dif_pos (by omega), dif_pos (by omega)]
  have e : (⟨(128 * h.val + d.val) % 128, by omega⟩ : Fin 96) = d := Fin.ext (by show (128 * h.val + d.val) % 128 = d.val; omega)
  simp only [e]

/-- The value gradient, placed. -/
def outV (p : Ss) (dO : Vs) : FVec Ideal S8192x2048 .bf16 :=
  truncf .bf16 (pad S8192x2048 ![0, 1024] ![0, 0] ![0, 0] (shapeCast S8192x1024 (pad S8192x8x128 ![0, 0, 0] ![0, 0, 64] ![0, 0, 0] (transpose S8192x8x64 [2, 0, 1] (Host.dotGeneral dot_S8x64x8192_S8x8192x8192_S8x64x8192_2_1_1_2_0_0 none (transpose S8x64x8192 [1, 2, 0] dO transposes_S8192x8x64_S8x64x8192_1_2_0) p) transposes_S8x64x8192_S8192x8x64_2_0_1) izero pads_S8192x8x64_S8192x8x128_000_000_0640 h_S_) shapeCasts_S8192x8x128_S8192x1024) izero pads_S8192x1024_S8192x2048_000_102400 h_S_) bitsLt_bf16_f32
theorem outV_at (p : Ss) (dO : Vs) (r : Fin 8192) (h : Fin 8) (d : Fin 64) :
    outV p dO (ix2 r ⟨1024 + (128 * h.val + d.val), by omega⟩) = ∑ R : Fin 8192, dO (ix3 R h d) * p (ix3 h R r) := by
  unfold outV
  pointwise
  have := h.isLt; have := d.isLt
  rw [dif_pos (by omega), dif_pos (by omega)]
  have e : (⟨(128 * h.val + d.val) % 128, by omega⟩ : Fin 64) = d := Fin.ext (by show (128 * h.val + d.val) % 128 = d.val; omega)
  simp only [e]

end Cert.FlashRefIdeal.Hand
-- ==== Proof.FlHost.lean ====
module

public import proofs.«01_k».proof.Proof.Gen.FlashIdeal.Frame
public import proofs.«01_k».proof.Proof.FlRef

@[expose] public section

set_option maxRecDepth 16384

noncomputable section

namespace Cert.FlashIdeal.Hand

open Idealize.ShloMosaic Idealize.ShloMosaic.TcCoe Idealize.ShloMosaic.Tactic
open Cert.FlashIdeal Cert.FlashIdeal.Gen
open Cert.FlashRefIdeal.Hand (Qs Vs Ss)

/-- Every row's saved log-sum. -/
def logSums (t : FVec Ideal S8x8192 .f32) (l : FVec Ideal S8x8192x1 .f32) : FVec Ideal S8192x8x1 .f32 :=
  broadcastInDim S8192x8x1 ![0, 1] bcast_S8192x8_S8192x8x1_0_1 (transpose S8192x8 [1, 0] (shapeCast S8x8192 (addf (broadcastInDim S8x8192x1 ![0, 1] bcast_S8x8192_S8x8192x1_0_1 t) (Host.log l)) shapeCasts_S8x8192x1_S8x8192) transposes_S8x8192_S8192x8_1_0)
theorem logSums_at (t : FVec Ideal S8x8192 .f32) (l : FVec Ideal S8x8192x1 .f32) (R : Fin 8192) (h : Fin 8) (z : Fin 1) :
    logSums t l (ix3 R h z) = t (ix2 h R) + Ideal.log (l (ix3 h R 0)) := by
  unfold logSums
  pointwise

/-- The attention's output. -/
def outs (v : Vs) (p : Ss) : Vs :=
  transpose S8192x8x64 [2, 0, 1] (Host.dotGeneral dot_S8192x8x64_S8x8192x8192_S8x64x8192_0_2_2_1_1_0 none v p) transposes_S8x64x8192_S8192x8x64_2_0_1
theorem outs_at (v : Vs) (p : Ss) (R : Fin 8192) (h : Fin 8) (d : Fin 64) : outs v p (ix3 R h d) = ∑ r : Fin 8192, v (ix3 r h d) * p (ix3 h R r) := by
  unfold outs
  pointwise

/-- Every row's inner product of cotangent and output. -/
def deltas (dO o : Vs) : FVec Ideal S8192x8x1 .f32 :=
  broadcastInDim S8192x8x1 ![0, 1] bcast_S8192x8_S8192x8x1_0_1 (Host.reduceAdd (mulf dO o) (constant S_ .f32 0x00000000#32) reducesTo_S8192x8x64_S8192x8_d2 h_S_)
theorem deltas_at (dO o : Vs) (R : Fin 8192) (h : Fin 8) (z : Fin 1) : deltas dO o (ix3 R h z) = ∑ d : Fin 64, dO (ix3 R h d) * o (ix3 R h d) := by
  unfold deltas
  pointwise

/-- What a statistic leaves after its bf16 part, and after both parts. -/
def rest (s : FVec Ideal S8192x8x1 .f32) : FVec Ideal S8192x8x1 .f32 := subf s (extf .f32 (truncf .bf16 s bitsLt_bf16_f32) bitsLt_bf16_f32)

theorem zero_bf16 : (FloatOps.sitofp .bf16 (0#32 : BitVec 32) : Ideal .bf16) = (0 : EReal) := by show (((0#32 : BitVec 32).toInt : ℝ) : EReal) = 0; simp
theorem zero_f32 : (FloatOps.sitofp .f32 (0#32 : BitVec 32) : Ideal .f32) = (0 : EReal) := by show (((0#32 : BitVec 32).toInt : ℝ) : EReal) = 0; simp

theorem minus_one : Ideal.ofBits .f32 0xBF800000#32 = ((-1 : ℝ) : EReal) := by
  have h : (8388608 : EReal) * (((2 ^ 23 : ℝ)⁻¹ : ℝ) : EReal) = 1 := by
    rw [show (8388608 : EReal) = ((8388608 : ℝ) : EReal) from rfl, ← EReal.coe_mul]; norm_num
  simp [Ideal.ofBits, Ideal.ieee]
  exact h

/-- A column among a head's own, three single ones, and a filler. -/
theorem pick4 {n : ℕ} (A : Fin n → EReal) (B C D : Fin 1 → EReal) (z : EReal) (e : ℕ) :
    (if h1 : e < n + 3 then if h2 : e < n then A ⟨e, h2⟩ else if h3 : e - n < 1 then B ⟨e - n, h3⟩ else
        if h4 : e - n - 1 < 1 then C ⟨e - n - 1, h4⟩ else D ⟨e - n - 1 - 1, by omega⟩ else z)
      = if h : e < n then A ⟨e, h⟩ else if e = n then B 0 else if e = n + 1 then C 0 else if e = n + 2 then D 0 else z := by
  by_cases c1 : e < n
  · rw [dif_pos (by omega), dif_pos c1, dif_pos c1]
  · rw [dif_neg c1]
    by_cases c2 : e < n + 3
    · rw [dif_pos c2, dif_neg c1]
      by_cases c3 : e = n
      · rw [dif_pos (by omega), if_pos c3]; exact congrArg B (Subsingleton.elim _ _)
      · rw [dif_neg (by omega), if_neg c3]
        by_cases c4 : e = n + 1
        · rw [dif_pos (by omega), if_pos c4]; exact congrArg C (Subsingleton.elim _ _)
        · rw [dif_neg (by omega), if_neg c4, if_pos (by omega)]; exact congrArg D (Subsingleton.elim _ _)
    · rw [dif_neg c2, if_neg (by omega), if_neg (by omega), if_neg (by omega)]

/-- A column among a head's own, three equal ones, and a filler. -/
theorem pick2 {n : ℕ} (A : Fin n → EReal) (b z : EReal) (e : ℕ) :
    (if h1 : e < n + 3 then if h2 : e < n then A ⟨e, h2⟩ else b else z) = if h : e < n then A ⟨e, h⟩ else if e < n + 3 then b else z := by
  by_cases c1 : e < n
  · rw [dif_pos (by omega), dif_pos c1, dif_pos c1]
  · by_cases c2 : e < n + 3
    · rw [dif_pos c2, dif_neg c1, dif_neg c1, if_pos c2]
    · rw [dif_neg c2, dif_neg c1, if_neg c2]

/-- The query's columns. -/
def colsQ (q : Qs) (s : FVec Ideal S8192x8x1 .f32) : FVec Ideal S8192x1024 .bf16 :=
  shapeCast S8192x1024 (pad S8192x8x128 ![0, 0, 0] ![0, 0, 29] ![0, 0, 0]
    (concatenate S8192x8x99 2 [⟨S8192x8x96, (truncf .bf16 q bitsLt_bf16_f32 : FVec Ideal S8192x8x96 .bf16)⟩, ⟨S8192x8x1, (truncf .bf16 s bitsLt_bf16_f32 : FVec Ideal S8192x8x1 .bf16)⟩, ⟨S8192x8x1, (truncf .bf16 (rest s) bitsLt_bf16_f32 : FVec Ideal S8192x8x1 .bf16)⟩, ⟨S8192x8x1, (truncf .bf16 (rest (rest s)) bitsLt_bf16_f32 : FVec Ideal S8192x8x1 .bf16)⟩] concatenates_S8192x8x96_S8192x8x1_S8192x8x1_S8192x8x1_S8192x8x99_d2)
    (sitofp .bf16 (constantI S_ 32 0#32 : Vec Ideal S_ .i32)) pads_S8192x8x99_S8192x8x128_000_000_0290 h_S_) shapeCasts_S8192x8x128_S8192x1024
theorem colsQ_at (q : Qs) (s : FVec Ideal S8192x8x1 .f32) (R : Fin 8192) (h : Fin 8) (e : Fin 128) :
    colsQ q s (ix2 R ⟨128 * h.val + e.val, by omega⟩) = if he : e.val < 96 then q (ix3 R h ⟨e.val, he⟩) else if e.val = 96 then s (ix3 R h 0) else
      if e.val = 97 then rest s (ix3 R h 0) else if e.val = 98 then rest (rest s) (ix3 R h 0) else 0 := by
  unfold colsQ
  pointwise
  rw [zero_bf16]
  exact pick4 (n := 96) (fun d => q (ix3 R h d)) (fun z => s (ix3 R h z)) (fun z => rest s (ix3 R h z)) (fun z => rest (rest s) (ix3 R h z)) 0 e.val

/-- The cotangent's columns. -/
def colsD (d : Vs) (s : FVec Ideal S8192x8x1 .f32) : FVec Ideal S8192x1024 .bf16 :=
  shapeCast S8192x1024 (pad S8192x8x128 ![0, 0, 0] ![0, 0, 61] ![0, 0, 0]
    (concatenate S8192x8x67 2 [⟨S8192x8x64, (truncf .bf16 d bitsLt_bf16_f32 : FVec Ideal S8192x8x64 .bf16)⟩, ⟨S8192x8x1, (truncf .bf16 s bitsLt_bf16_f32 : FVec Ideal S8192x8x1 .bf16)⟩, ⟨S8192x8x1, (truncf .bf16 (rest s) bitsLt_bf16_f32 : FVec Ideal S8192x8x1 .bf16)⟩, ⟨S8192x8x1, (truncf .bf16 (rest (rest s)) bitsLt_bf16_f32 : FVec Ideal S8192x8x1 .bf16)⟩] concatenates_S8192x8x64_S8192x8x1_S8192x8x1_S8192x8x1_S8192x8x67_d2)
    (sitofp .bf16 (constantI S_ 32 0#32 : Vec Ideal S_ .i32)) pads_S8192x8x67_S8192x8x128_000_000_0610 h_S_) shapeCasts_S8192x8x128_S8192x1024

theorem colsD_at (d : Vs) (s : FVec Ideal S8192x8x1 .f32) (R : Fin 8192) (h : Fin 8) (e : Fin 128) :
    colsD d s (ix2 R ⟨128 * h.val + e.val, by omega⟩) = if he : e.val < 64 then d (ix3 R h ⟨e.val, he⟩) else if e.val = 64 then s (ix3 R h 0) else
      if e.val = 65 then rest s (ix3 R h 0) else if e.val = 66 then rest (rest s) (ix3 R h 0) else 0 := by
  unfold colsD
  pointwise
  rw [zero_bf16]
  exact pick4 (n := 64) (fun x => d (ix3 R h x)) (fun z => s (ix3 R h z)) (fun z => rest s (ix3 R h z)) (fun z => rest (rest s) (ix3 R h z)) 0 e.val

/-- The key's columns. -/
def colsK (k : Qs) : FVec Ideal S8192x1024 .bf16 :=
  truncf .bf16 (shapeCast S8192x1024 (pad S8192x8x128 ![0, 0, 0] ![0, 0, 29] ![0, 0, 0]
    (concatenate S8192x8x99 2 [⟨S8192x8x96, k⟩, ⟨S8192x8x3, (broadcastInDim S8192x8x3 ![] bcast_S_S8192x8x3 (constant S_ .f32 0xBF800000#32 : FVec Ideal S_ .f32))⟩] concatenates_S8192x8x96_S8192x8x3_S8192x8x99_d2)
    (sitofp .f32 (constantI S_ 32 0#32 : Vec Ideal S_ .i32)) pads_S8192x8x99_S8192x8x128_000_000_0290 h_S_) shapeCasts_S8192x8x128_S8192x1024) bitsLt_bf16_f32
theorem colsK_at (k : Qs) (r : Fin 8192) (h : Fin 8) (e : Fin 128) :
    colsK k (ix2 r ⟨128 * h.val + e.val, by omega⟩) = if he : e.val < 96 then k (ix3 r h ⟨e.val, he⟩) else if e.val < 99 then ((-1 : ℝ) : EReal) else 0 := by
  unfold colsK
  pointwise
  rw [minus_one, zero_f32]
  exact pick2 (n := 96) (fun d => k (ix3 r h d)) _ 0 e.val

/-- The value's columns. -/
def colsV (v : Vs) : FVec Ideal S8192x1024 .bf16 :=
  truncf .bf16 (shapeCast S8192x1024 (pad S8192x8x128 ![0, 0, 0] ![0, 0, 61] ![0, 0, 0]
    (concatenate S8192x8x67 2 [⟨S8192x8x64, v⟩, ⟨S8192x8x3, (broadcastInDim S8192x8x3 ![] bcast_S_S8192x8x3 (constant S_ .f32 0xBF800000#32 : FVec Ideal S_ .f32))⟩] concatenates_S8192x8x64_S8192x8x3_S8192x8x67_d2)
    (sitofp .f32 (constantI S_ 32 0#32 : Vec Ideal S_ .i32)) pads_S8192x8x67_S8192x8x128_000_000_0610 h_S_) shapeCasts_S8192x8x128_S8192x1024) bitsLt_bf16_f32
theorem colsV_at (v : Vs) (r : Fin 8192) (h : Fin 8) (e : Fin 128) :
    colsV v (ix2 r ⟨128 * h.val + e.val, by omega⟩) = if he : e.val < 64 then v (ix3 r h ⟨e.val, he⟩) else if e.val < 67 then ((-1 : ℝ) : EReal) else 0 := by
  unfold colsV
  pointwise
  rw [minus_one, zero_f32]
  exact pick2 (n := 64) (fun d => v (ix3 r h d)) _ 0 e.val

end Cert.FlashIdeal.Hand
-- ==== Proof.FlEntry.lean ====
module

public import proofs.«01_k».proof.Proof.FlHost

@[expose] public section

set_option maxRecDepth 16384

noncomputable section

namespace Cert.FlashIdeal.Hand

open Idealize.ShloMosaic Idealize.ShloMosaic.TcCoe Idealize.ShloMosaic.Tactic Idealize.ShloMosaic.StableHlo
open Cert.FlashIdeal Cert.FlashIdeal.Gen
open Cert.FlashRefIdeal.Hand (Qs Vs Ss scores rowMax exps sums probs)
open Idealize.SL Idealize.SL.Sem

/-- The exponentials the saved statistics are formed from. -/
def expK (q k : Qs) : Ss := exps (scores q k) (rowMax (scores q k))
/-- The saved log-sums of the forward's inputs. -/
def lseK (q k : Qs) : FVec Ideal S8192x8x1 .f32 := logSums (rowMax (scores q k)) (sums (expK q k))
/-- The rows' sums of cotangent times output. -/
def dltK (q k : Qs) (v d : Vs) : FVec Ideal S8192x8x1 .f32 := deltas d (outs v (probs (expK q k)))

variable (m : (ℓ : Loc nD τ sig) → Buf (Elt Ideal) ℓ) (c : Dev nD)

/-- Arrays joined along an axis, piece by piece. -/
theorem joined4 {t : Shape} {a : Fin t.rank} {s₁ s₂ s₃ s₄ : Shape} {α : Type} {x₁ y₁ : s₁.Idx → α} {x₂ y₂ : s₂.Idx → α} {x₃ y₃ : s₃.Idx → α} {x₄ y₄ : s₄.Idx → α}
    (h : Shape.Concatenates [s₁, s₂, s₃, s₄] t a) (e₁ : x₁ = y₁) (e₂ : x₂ = y₂) (e₃ : x₃ = y₃) (e₄ : x₄ = y₄) :
    concatenate t a [⟨s₁, x₁⟩, ⟨s₂, x₂⟩, ⟨s₃, x₃⟩, ⟨s₄, x₄⟩] h = concatenate t a [⟨s₁, y₁⟩, ⟨s₂, y₂⟩, ⟨s₃, y₃⟩, ⟨s₄, y₄⟩] h := by
  subst e₁; subst e₂; subst e₃; subst e₄; rfl

/-- The same for two arrays. -/
theorem joined2 {t : Shape} {a : Fin t.rank} {s₁ s₂ : Shape} {α : Type} {x₁ y₁ : s₁.Idx → α} {x₂ y₂ : s₂.Idx → α}
    (h : Shape.Concatenates [s₁, s₂] t a) (e₁ : x₁ = y₁) (e₂ : x₂ = y₂) :
    concatenate t a [⟨s₁, x₁⟩, ⟨s₂, x₂⟩] h = concatenate t a [⟨s₁, y₁⟩, ⟨s₂, y₂⟩] h := by
  subst e₁; subst e₂; rfl

/-- A buffer's contents after some operations, the buffer named. -/
theorem at_ref (σ : Valuation τ sig (Elt Ideal)) (b : DevRef τ sig) {y : b.ty.Contents (Elt Ideal)} (h : σ b = y) : σ b = y := h

set_option maxHeartbeats 4000000 in
theorem V_q : V m c main_v38 = colsQ (m ((c : Thread nD τ).loc main_arg0)) (lseK (m ((c : Thread nD τ).loc main_arg0)) (m ((c : Thread nD τ).loc main_arg1))) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x99 .bf16 => shapeCast S8192x1024 (pad S8192x8x128 ![0, 0, 0] ![0, 0, 29] ![0, 0, 0] z (sitofp .bf16 (constantI S_ 32 0#32 : Vec Ideal S_ .i32)) pads_S8192x8x99_S8192x8x128_000_000_0290 h_S_) shapeCasts_S8192x8x128_S8192x1024) (joined4 _ ?_ ?_ ?_ ?_)
  · refine at_ref _ (Proc.tc.devRef main_v35) ?_
    after_results_simp
  · refine at_ref _ (Proc.tc.devRef main_v28) ?_
    after_results_simp
    rfl
  · refine at_ref _ (Proc.tc.devRef main_v31) ?_
    after_results_simp
    rfl
  · refine at_ref _ (Proc.tc.devRef main_v34) ?_
    after_results_simp
    rfl

set_option maxHeartbeats 4000000 in
theorem V_d : V m c main_v59 = colsD (m ((c : Thread nD τ).loc main_arg3)) (dltK (m ((c : Thread nD τ).loc main_arg0)) (m ((c : Thread nD τ).loc main_arg1)) (m ((c : Thread nD τ).loc main_arg2)) (m ((c : Thread nD τ).loc main_arg3))) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x67 .bf16 => shapeCast S8192x1024 (pad S8192x8x128 ![0, 0, 0] ![0, 0, 61] ![0, 0, 0] z (sitofp .bf16 (constantI S_ 32 0#32 : Vec Ideal S_ .i32)) pads_S8192x8x67_S8192x8x128_000_000_0610 h_S_) shapeCasts_S8192x8x128_S8192x1024) (joined4 _ ?_ ?_ ?_ ?_)
  · refine at_ref _ (Proc.tc.devRef main_v56) ?_
    after_results_simp
  · refine at_ref _ (Proc.tc.devRef main_v49) ?_
    after_results_simp
    rfl
  · refine at_ref _ (Proc.tc.devRef main_v52) ?_
    after_results_simp
    rfl
  · refine at_ref _ (Proc.tc.devRef main_v55) ?_
    after_results_simp
    rfl

set_option maxHeartbeats 4000000 in
theorem V_k : V m c main_v43 = colsK (m ((c : Thread nD τ).loc main_arg1)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x99 .f32 => (truncf .bf16 (shapeCast S8192x1024 (pad S8192x8x128 ![0, 0, 0] ![0, 0, 29] ![0, 0, 0] z (sitofp .f32 (constantI S_ 32 0#32 : Vec Ideal S_ .i32)) pads_S8192x8x99_S8192x8x128_000_000_0290 h_S_) shapeCasts_S8192x8x128_S8192x1024) bitsLt_bf16_f32 : FVec Ideal S8192x1024 .bf16)) (joined2 _ ?_ ?_)
  · refine at_ref _ (Proc.tc.devRef main_arg1) ?_
    after_results_simp
  · refine at_ref _ (Proc.tc.devRef main_v39) ?_
    after_results_simp

set_option maxHeartbeats 4000000 in
theorem V_v : V m c main_v48 = colsV (m ((c : Thread nD τ).loc main_arg2)) := by
  show StableHlo.after _ _ _ = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x67 .f32 => (truncf .bf16 (shapeCast S8192x1024 (pad S8192x8x128 ![0, 0, 0] ![0, 0, 61] ![0, 0, 0] z (sitofp .f32 (constantI S_ 32 0#32 : Vec Ideal S_ .i32)) pads_S8192x8x67_S8192x8x128_000_000_0610 h_S_) shapeCasts_S8192x8x128_S8192x1024) bitsLt_bf16_f32 : FVec Ideal S8192x1024 .bf16)) (joined2 _ ?_ ?_)
  · refine at_ref _ (Proc.tc.devRef main_arg2) ?_
    after_results_simp
  · refine at_ref _ (Proc.tc.devRef main_v44) ?_
    after_results_simp

end Cert.FlashIdeal.Hand
-- ==== Proof.FlRefOut.lean ====
module

public import proofs.«01_k».proof.Proof.FlRef
public import Idealize.ShloMosaic.Lib.Pointwise
public import Idealize.ShloMosaic.Lib.Claim
public import Idealize.ShloMosaic.Lib.WordCmp

@[expose] public section

set_option maxRecDepth 16384

noncomputable section

namespace Cert.FlashRefIdeal.Hand

open Idealize.ShloMosaic Idealize.ShloMosaic.TcCoe Idealize.ShloMosaic.Tactic
open Cert.FlashRefIdeal Cert.FlashRefIdeal.Gen

/-- The exponentials the reference forms. -/
def expR (q k : Qs) : Ss := exps (scores q k) (tops (scores q k))

open Idealize.SL Idealize.SL.Sem
variable (m : (ℓ : Loc nD τ sig) → Buf (Elt Ideal) ℓ) (c : Dev nD)

theorem out0_eq : Cert.FlashRefIdeal.Value.res_out0 m c = outQ (dss (expR (m ((c.tc : Thread nD τ).loc main_arg0)) (m ((c.tc : Thread nD τ).loc main_arg1))) (dps (m ((c.tc : Thread nD τ).loc main_arg2)) (m ((c.tc : Thread nD τ).loc main_arg3)))) (m ((c.tc : Thread nD τ).loc main_arg1)) := by
  show Value.res_main_v62 m c = _
  unfold Value.res_main_v62
  rfl
theorem out1_eq : Cert.FlashRefIdeal.Value.res_out1 m c = outK (dss (expR (m ((c.tc : Thread nD τ).loc main_arg0)) (m ((c.tc : Thread nD τ).loc main_arg1))) (dps (m ((c.tc : Thread nD τ).loc main_arg2)) (m ((c.tc : Thread nD τ).loc main_arg3)))) (m ((c.tc : Thread nD τ).loc main_arg0)) := by
  show Value.res_main_v66 m c = _
  unfold Value.res_main_v66
  rfl
theorem out2_eq : Cert.FlashRefIdeal.Value.res_out2 m c = outV (probs (expR (m ((c.tc : Thread nD τ).loc main_arg0)) (m ((c.tc : Thread nD τ).loc main_arg1)))) (m ((c.tc : Thread nD τ).loc main_arg3)) := by
  show Value.res_main_v70 m c = _
  unfold Value.res_main_v70
  rfl

end Cert.FlashRefIdeal.Hand
-- ==== Proof.FlMath.lean ====
module

public import Mathlib.Analysis.SpecialFunctions.Log.Basic
public import Mathlib.Data.EReal.Operations
public import Mathlib.Data.EReal.Inv
public import Mathlib.Algebra.BigOperators.Field
public import Mathlib.Algebra.Order.BigOperators.Group.Finset

@[expose] public section

noncomputable section

/-! The softmax attention's gradients over the reals. -/

namespace Flash

open Finset

/-- A sum of real numbers is the same number among the extended reals. -/
theorem coe_sum {ι : Type*} (s : Finset ι) (f : ι → ℝ) : ((∑ i ∈ s, f i : ℝ) : EReal) = ∑ i ∈ s, (f i : EReal) := by
  classical
  induction s using Finset.induction_on with
  | empty => rw [sum_empty, sum_empty]; rfl
  | insert a s ha ih => rw [sum_insert ha, sum_insert ha, EReal.coe_add, ih]

variable (Q K : Fin 8192 → Fin 8 → Fin 96 → ℝ) (V D : Fin 8192 → Fin 8 → Fin 64 → ℝ)

/-- The score of query R against key r. -/
def sc (h : Fin 8) (R r : Fin 8192) : ℝ := ∑ d, Q R h d * K r h d

/-- The greatest score of query R among the keys it sees. -/
def top (h : Fin 8) (R : Fin 8192) : ℝ :=
  (univ.sup fun r : Fin 8192 => if r.val ≤ R.val then ((sc Q K h R r : ℝ) : EReal) else ⊥).toReal

theorem top_coe (h : Fin 8) (R : Fin 8192) :
    (univ.sup fun r : Fin 8192 => if r.val ≤ R.val then ((sc Q K h R r : ℝ) : EReal) else ⊥) = (top Q K h R : EReal) := by
  refine (EReal.coe_toReal ?_ ?_).symm
  · refine ne_of_lt ((Finset.sup_lt_iff bot_lt_top).mpr fun r _ => ?_)
    split
    · exact EReal.coe_lt_top _
    · exact bot_lt_top
  · refine ne_of_gt (lt_of_lt_of_le (EReal.bot_lt_coe (sc Q K h R R)) ?_)
    have := Finset.le_sup (f := fun r : Fin 8192 => if r.val ≤ R.val then ((sc Q K h R r : ℝ) : EReal) else ⊥) (mem_univ R)
    simpa only [le_refl, if_true] using this

/-- A key's exponential, zero for a key the query does not see. -/
def ex (h : Fin 8) (R r : Fin 8192) : ℝ := if r.val ≤ R.val then Real.exp (sc Q K h R r - top Q K h R) else 0

/-- A query's sum of exponentials. -/
def tot (h : Fin 8) (R : Fin 8192) : ℝ := ∑ r, ex Q K h R r

theorem tot_pos (h : Fin 8) (R : Fin 8192) : 0 < tot Q K h R := by
  refine sum_pos' (fun r _ => ?_) ⟨R, mem_univ R, ?_⟩
  · unfold ex; split
    · exact (Real.exp_pos _).le
    · exact le_rfl
  · unfold ex; rw [if_pos le_rfl]; exact Real.exp_pos _

/-- The softmax's weight. -/
def pr (h : Fin 8) (R r : Fin 8192) : ℝ := ex Q K h R r / tot Q K h R

/-- The weight, recomputed from the score and the saved log-sum. -/
theorem pr_of_exp (h : Fin 8) (R r : Fin 8192) (le : r.val ≤ R.val) :
    Real.exp (sc Q K h R r - (top Q K h R + Real.log (tot Q K h R))) = pr Q K h R r := by
  unfold pr ex
  rw [if_pos le, ← sub_sub, Real.exp_sub, Real.exp_log (tot_pos Q K h R)]

theorem pr_unseen (h : Fin 8) (R r : Fin 8192) (le : ¬ r.val ≤ R.val) : pr Q K h R r = 0 := by
  unfold pr ex
  rw [if_neg le, zero_div]

/-- The weight's cotangent. -/
def dp (h : Fin 8) (R r : Fin 8192) : ℝ := ∑ d, D R h d * V r h d

/-- A query's weighted sum of cotangents. -/
def dl (h : Fin 8) (R : Fin 8192) : ℝ := ∑ r, dp V D h R r * pr Q K h R r

/-- The same from the output: the inner product of the output's cotangent and the output. -/
theorem dl_of_out (h : Fin 8) (R : Fin 8192) : ∑ d, D R h d * ∑ r, V r h d * pr Q K h R r = dl Q K V D h R := by
  unfold dl dp
  simp only [mul_sum, sum_mul]
  rw [sum_comm]
  exact sum_congr rfl fun r _ => sum_congr rfl fun d _ => by ring

/-- The score's cotangent. -/
def ds (h : Fin 8) (R r : Fin 8192) : ℝ := pr Q K h R r * (dp V D h R r - dl Q K V D h R)

/-- The same in the order the division's rule gives it. -/
theorem ds_of_quotient (h : Fin 8) (R r : Fin 8192) :
    (dp V D h R r * (1 / tot Q K h R) + -∑ x, dp V D h R x * (1 / (tot Q K h R * tot Q K h R)) * ex Q K h R x) * ex Q K h R r = ds Q K V D h R r := by
  have e : ∑ x, dp V D h R x * (1 / (tot Q K h R * tot Q K h R)) * ex Q K h R x = dl Q K V D h R * (1 / tot Q K h R) := by
    unfold dl
    rw [sum_mul]
    refine sum_congr rfl fun x _ => ?_
    unfold pr
    have := (tot_pos Q K h R).ne'
    field_simp
  rw [e]
  unfold ds pr
  ring

/-- The query's gradient. -/
def gq (R : Fin 8192) (h : Fin 8) (d : Fin 96) : ℝ := ∑ r, ds Q K V D h R r * K r h d

/-- The key's gradient. -/
def gk (r : Fin 8192) (h : Fin 8) (d : Fin 96) : ℝ := ∑ R, ds Q K V D h R r * Q R h d

/-- The value's gradient. -/
def gv (r : Fin 8192) (h : Fin 8) (d : Fin 64) : ℝ := ∑ R, D R h d * pr Q K h R r

end Flash
-- ==== Proof.FlRefVal.lean ====
module

public import proofs.«01_k».proof.Proof.FlRefOut
public import proofs.«01_k».proof.Proof.FlMath

@[expose] public section

set_option maxRecDepth 16384

noncomputable section

/-! The reference's stages at real arguments. -/

namespace Cert.FlashRefIdeal.Hand

open Idealize.ShloMosaic
open Flash (sc top ex tot pr dp dl ds gq gk gv)

variable {Q K : Fin 8192 → Fin 8 → Fin 96 → ℝ} {V D : Fin 8192 → Fin 8 → Fin 64 → ℝ} {q k : Qs} {v d : Vs}

/-- An array holds a table of real numbers. -/
abbrev Holds {n : ℕ} (x : (⟨3, ![8192, 8, n]⟩ : Shape).Idx → EReal) (X : Fin 8192 → Fin 8 → Fin n → ℝ) : Prop := ∀ R h e, x (ix3 R h e) = ((X R h e : ℝ) : EReal)

theorem scores_real (hq : Holds q Q) (hk : Holds k K) (h : Fin 8) (R r : Fin 8192) :
    scores q k (ix3 h R r) = if r.val ≤ R.val then ((sc Q K h R r : ℝ) : EReal) else ⊥ := by
  rw [scores_at]
  unfold sc
  simp only [hq _ _ _, hk _ _ _, ← EReal.coe_mul, ← Flash.coe_sum]

theorem rowMax_real (hq : Holds q Q) (hk : Holds k K) (h : Fin 8) (R : Fin 8192) : rowMax (scores q k) (ix2 h R) = ((top Q K h R : ℝ) : EReal) := by
  rw [rowMax_at, ← Flash.top_coe]
  exact congrArg _ (funext fun r => scores_real hq hk h R r)

theorem exps_real (hq : Holds q Q) (hk : Holds k K) (h : Fin 8) (R r : Fin 8192) :
    exps (scores q k) (rowMax (scores q k)) (ix3 h R r) = ((ex Q K h R r : ℝ) : EReal) := by
  rw [exps_at, scores_real hq hk, rowMax_real hq hk]
  unfold ex
  split
  · rw [← EReal.coe_sub, Ideal.exp_coe]
  · rw [EReal.bot_sub, Ideal.exp_bot]; rfl

variable {e : Ss} {p : Ss}

theorem sums_real (he : ∀ h R r, e (ix3 h R r) = ((ex Q K h R r : ℝ) : EReal)) (h : Fin 8) (R : Fin 8192) (z : Fin 1) : sums e (ix3 h R z) = ((tot Q K h R : ℝ) : EReal) := by
  rw [sums_at]
  unfold tot
  simp only [he, ← Flash.coe_sum]

theorem probs_real (he : ∀ h R r, e (ix3 h R r) = ((ex Q K h R r : ℝ) : EReal)) (h : Fin 8) (R r : Fin 8192) : probs e (ix3 h R r) = ((pr Q K h R r : ℝ) : EReal) := by
  rw [probs_at, sums_real he, he, Ideal.div_coe (Flash.tot_pos Q K h R).ne', ← EReal.coe_mul]
  unfold pr
  rw [div_eq_mul_one_div (ex Q K h R r)]

theorem dps_real (hv : Holds v V) (hd : Holds d D) (h : Fin 8) (R r : Fin 8192) : dps v d (ix3 h R r) = ((dp V D h R r : ℝ) : EReal) := by
  rw [dps_at]
  unfold dp
  simp only [hv _ _ _, hd _ _ _, ← EReal.coe_mul, ← Flash.coe_sum]

theorem dss_real (he : ∀ h R r, e (ix3 h R r) = ((ex Q K h R r : ℝ) : EReal)) (hp : ∀ h R r, p (ix3 h R r) = ((dp V D h R r : ℝ) : EReal)) (h : Fin 8) (R r : Fin 8192) :
    dss e p (ix3 h R r) = ((ds Q K V D h R r : ℝ) : EReal) := by
  have h0 := (Flash.tot_pos Q K h R).ne'
  rw [dss_at, corr_at, sums_real he, ← EReal.coe_mul, Ideal.div_coe h0, Ideal.div_coe (mul_ne_zero h0 h0), one_mul]
  simp only [he, hp, ← EReal.coe_mul, ← Flash.coe_sum, ← EReal.coe_neg, ← EReal.coe_add]
  rw [Flash.ds_of_quotient]
  split
  · rfl
  · rename_i hn
    unfold ds
    rw [Flash.pr_unseen _ _ _ _ _ hn, zero_mul]; rfl

variable (hq : Holds q Q) (hk : Holds k K) (hv : Holds v V) (hd : Holds d D)
include hq hk

theorem expR_real (h : Fin 8) (R r : Fin 8192) : expR q k (ix3 h R r) = ((ex Q K h R r : ℝ) : EReal) := by
  unfold expR
  rw [tops_eq]
  exact exps_real hq hk h R r

include hv hd

theorem outQ_real (R : Fin 8192) (h : Fin 8) (x : Fin 96) :
    outQ (dss (expR q k) (dps v d)) k (ix2 R ⟨128 * h.val + x.val, by omega⟩) = ((gq Q K V D R h x : ℝ) : EReal) := by
  rw [outQ_at]
  unfold gq
  simp only [dss_real (expR_real hq hk) (dps_real hv hd), hk _ _ _, ← EReal.coe_mul, ← Flash.coe_sum]

theorem outK_real (r : Fin 8192) (h : Fin 8) (x : Fin 96) :
    outK (dss (expR q k) (dps v d)) q (ix2 r ⟨128 * h.val + x.val, by omega⟩) = ((gk Q K V D r h x : ℝ) : EReal) := by
  rw [outK_at]
  unfold gk
  simp only [dss_real (expR_real hq hk) (dps_real hv hd), hq _ _ _, ← EReal.coe_mul, ← Flash.coe_sum]

omit hv in
theorem outV_real (r : Fin 8192) (h : Fin 8) (x : Fin 64) :
    outV (probs (expR q k)) d (ix2 r ⟨1024 + (128 * h.val + x.val), by omega⟩) = ((gv Q K D r h x : ℝ) : EReal) := by
  rw [outV_at]
  unfold gv
  simp only [probs_real (expR_real hq hk), hd _ _ _, ← EReal.coe_mul, ← Flash.coe_sum]

end Cert.FlashRefIdeal.Hand
-- ==== Proof.FlCols.lean ====
module

public import proofs.«01_k».proof.Proof.FlEntry
public import proofs.«01_k».proof.Proof.FlRefVal

@[expose] public section

set_option maxRecDepth 16384

noncomputable section

/-! The kernel's operands at real arguments, and the inner products of their rows. -/

namespace Cert.FlashIdeal.Hand

open Idealize.ShloMosaic
open Cert.FlashRefIdeal.Hand
open Flash (sc top ex tot pr dp dl ds gq gk gv)

/-- The first operand's column: a head's own, minus one three times, zeros. -/
def colA {n : ℕ} (A : Fin n → ℝ) (e : ℕ) : ℝ := if h : e < n then A ⟨e, h⟩ else if e < n + 3 then -1 else 0
/-- The second operand's column: a head's own, a statistic, zeros. -/
def colB {n : ℕ} (B : Fin n → ℝ) (S : ℝ) (e : ℕ) : ℝ := if h : e < n then B ⟨e, h⟩ else if e = n then S else 0

theorem sum_cols {n k : ℕ} (A B : Fin n → ℝ) (S : ℝ) : ∑ t : Fin (n + (k + 1)), colA A t.val * colB B S t.val = (∑ d, A d * B d) - S := by
  rw [Fin.sum_univ_add, sub_eq_add_neg]
  congr 1
  · refine Finset.sum_congr rfl fun d _ => ?_
    unfold colA colB
    simp
  · rw [Fin.sum_univ_succ]
    have h0 : colA A (n + 0) * colB B S (n + 0) = -S := by
      unfold colA colB
      simp
    have h1 : ∀ i : Fin k, colA A (Fin.natAdd n i.succ).val * colB B S (Fin.natAdd n i.succ).val = 0 := by
      intro i
      unfold colB
      rw [Fin.val_natAdd, Fin.val_succ, dif_neg (by omega), if_neg (by omega), mul_zero]
    rw [Finset.sum_eq_zero fun i _ => h1 i, add_zero]
    exact h0

variable {Q K : Fin 8192 → Fin 8 → Fin 96 → ℝ} {V D : Fin 8192 → Fin 8 → Fin 64 → ℝ} {q k : Qs} {v d : Vs}

theorem rest_real (s : FVec Ideal S8192x8x1 .f32) (i : S8192x8x1.Idx) (S : ℝ) (h : s i = (S : EReal)) : rest s i = ((0 : ℝ) : EReal) := by
  show s i - s i = _
  rw [h, ← EReal.coe_sub, sub_self]

theorem lseK_real (hq : Holds q Q) (hk : Holds k K) (R : Fin 8192) (h : Fin 8) (z : Fin 1) :
    lseK q k (ix3 R h z) = ((top Q K h R + Real.log (tot Q K h R) : ℝ) : EReal) := by
  unfold lseK
  have he : ∀ h R r, expK q k (ix3 h R r) = ((ex Q K h R r : ℝ) : EReal) := fun h R r => exps_real hq hk h R r
  rw [logSums_at, rowMax_real hq hk, sums_real he, Ideal.log_coe, if_neg (not_le.mpr (Flash.tot_pos Q K h R)), ← EReal.coe_add]

theorem dltK_real (hq : Holds q Q) (hk : Holds k K) (hv : Holds v V) (hd : Holds d D) (R : Fin 8192) (h : Fin 8) (z : Fin 1) :
    dltK q k v d (ix3 R h z) = ((dl Q K V D h R : ℝ) : EReal) := by
  unfold dltK
  have he : ∀ h R r, expK q k (ix3 h R r) = ((ex Q K h R r : ℝ) : EReal) := fun h R r => exps_real hq hk h R r
  rw [deltas_at, ← Flash.dl_of_out]
  simp only [outs_at, probs_real he, hv _ _ _, hd _ _ _, ← EReal.coe_mul, ← Flash.coe_sum]

theorem colsK_real (hk : Holds k K) (r : Fin 8192) (h : Fin 8) (e : Fin 128) :
    colsK k (ix2 r ⟨128 * h.val + e.val, by omega⟩) = ((colA (K r h) e.val : ℝ) : EReal) := by
  rw [colsK_at]
  unfold colA
  by_cases c1 : e.val < 96
  · rw [dif_pos c1, dif_pos c1, hk]
  · rw [dif_neg c1, dif_neg c1]
    by_cases c2 : e.val < 99
    · rw [if_pos c2, if_pos c2]
    · rw [if_neg c2, if_neg c2]; rfl

theorem colsV_real (hv : Holds v V) (r : Fin 8192) (h : Fin 8) (e : Fin 128) :
    colsV v (ix2 r ⟨128 * h.val + e.val, by omega⟩) = ((colA (V r h) e.val : ℝ) : EReal) := by
  rw [colsV_at]
  unfold colA
  by_cases c1 : e.val < 64
  · rw [dif_pos c1, dif_pos c1, hv]
  · rw [dif_neg c1, dif_neg c1]
    by_cases c2 : e.val < 67
    · rw [if_pos c2, if_pos c2]
    · rw [if_neg c2, if_neg c2]; rfl

theorem colsQ_real (hq : Holds q Q) (s : FVec Ideal S8192x8x1 .f32) (S : ℝ) (R : Fin 8192) (h : Fin 8) (hs : s (ix3 R h 0) = (S : EReal)) (e : Fin 128) :
    colsQ q s (ix2 R ⟨128 * h.val + e.val, by omega⟩) = ((colB (Q R h) S e.val : ℝ) : EReal) := by
  rw [colsQ_at, rest_real (rest s) _ 0 (rest_real s _ S hs), rest_real s _ S hs, hs]
  unfold colB
  by_cases c1 : e.val < 96
  · rw [dif_pos c1, dif_pos c1, hq]
  · rw [dif_neg c1, dif_neg c1]
    by_cases c2 : e.val = 96
    · rw [if_pos c2, if_pos c2]
    · rw [if_neg c2, if_neg c2]
      split
      · rfl
      · split <;> rfl

theorem colsD_real (hd : Holds d D) (s : FVec Ideal S8192x8x1 .f32) (S : ℝ) (R : Fin 8192) (h : Fin 8) (hs : s (ix3 R h 0) = (S : EReal)) (e : Fin 128) :
    colsD d s (ix2 R ⟨128 * h.val + e.val, by omega⟩) = ((colB (D R h) S e.val : ℝ) : EReal) := by
  rw [colsD_at, rest_real (rest s) _ 0 (rest_real s _ S hs), rest_real s _ S hs, hs]
  unfold colB
  by_cases c1 : e.val < 64
  · rw [dif_pos c1, dif_pos c1, hd]
  · rw [dif_neg c1, dif_neg c1]
    by_cases c2 : e.val = 64
    · rw [if_pos c2, if_pos c2]
    · rw [if_neg c2, if_neg c2]
      split
      · rfl
      · split <;> rfl

/-- The inner product of a key row and a query row: the score less the log-sum. -/
theorem score_real (hq : Holds q Q) (hk : Holds k K) (h : Fin 8) (R r : Fin 8192) :
    ∑ t : Fin 128, colsK k (ix2 r ⟨128 * h.val + t.val, by omega⟩) * colsQ q (lseK q k) (ix2 R ⟨128 * h.val + t.val, by omega⟩)
      = ((sc Q K h R r - (top Q K h R + Real.log (tot Q K h R)) : ℝ) : EReal) := by
  simp only [colsK_real hk, colsQ_real hq (lseK q k) _ R h (lseK_real hq hk R h 0), ← EReal.coe_mul, ← Flash.coe_sum]
  congr 1
  refine (sum_cols (n := 96) (k := 31) (K r h) (Q R h) _).trans ?_
  unfold sc
  congr 1
  exact Finset.sum_congr rfl fun e _ => mul_comm _ _

/-- The inner product of a value row and a cotangent row: the weight's cotangent less the row's sum. -/
theorem cot_real (hq : Holds q Q) (hk : Holds k K) (hv : Holds v V) (hd : Holds d D) (h : Fin 8) (R r : Fin 8192) :
    ∑ t : Fin 128, colsV v (ix2 r ⟨128 * h.val + t.val, by omega⟩) * colsD d (dltK q k v d) (ix2 R ⟨128 * h.val + t.val, by omega⟩)
      = ((dp V D h R r - dl Q K V D h R : ℝ) : EReal) := by
  simp only [colsV_real hv, colsD_real hd (dltK q k v d) _ R h (dltK_real hq hk hv hd R h 0), ← EReal.coe_mul, ← Flash.coe_sum]
  congr 1
  refine (sum_cols (n := 64) (k := 63) (V r h) (D R h) _).trans ?_
  unfold dp
  congr 1
  exact Finset.sum_congr rfl fun e _ => mul_comm _ _

end Cert.FlashIdeal.Hand
-- ==== Proof.FlFinal.lean ====
module

public import proofs.«01_k».proof.Proof.FlWin
public import proofs.«01_k».proof.Proof.FlCols

@[expose] public section

set_option maxRecDepth 16384

noncomputable section

/-! The three result arrays at real arguments. -/

namespace Cert.FlashIdeal.Hand

open Idealize.ShloMosaic Idealize.ShloMosaic.TcCoe Idealize.SL Idealize.SL.Sem
open Cert.FlashIdeal Cert.FlashIdeal.Gen
open Cert.FlashRefIdeal.Hand (Holds)
open Flash (sc top ex tot pr dp dl ds gq gk gv)

variable (m : (ℓ : Loc nD τ sig) → Buf (Elt Ideal) ℓ) (c : Dev nD)
variable (Q K : Fin 8192 → Fin 8 → Fin 96 → ℝ) (V D : Fin 8192 → Fin 8 → Fin 64 → ℝ)

/-- The four arguments hold the four tables. -/
def Args : Prop := Holds (m ((c : Thread nD τ).loc main_arg0) : FVec Ideal S8192x8x96 .f32) Q ∧ Holds (m ((c : Thread nD τ).loc main_arg1) : FVec Ideal S8192x8x96 .f32) K
  ∧ Holds (m ((c : Thread nD τ).loc main_arg2) : FVec Ideal S8192x8x64 .f32) V ∧ Holds (m ((c : Thread nD τ).loc main_arg3) : FVec Ideal S8192x8x64 .f32) D

/-- The head a column of a point's block belongs to. -/
def hd (t : Fin cfg0.N) (C : Fin 256) : Fin 8 := ⟨2 * (t.val / 8) + C.val / 128, by have := pt_lt t; omega⟩

/-- A row's log-sum. -/
def ls (R : Fin 8192) (h : Fin 8) : ℝ := top Q K h R + Real.log (tot Q K h R)

/-- The key's row a row of a point's block is. -/
def row (t : Fin cfg0.N) (r : Fin 1024) : Fin 8192 := ⟨t.val % 8 * 1024 + r.val, by omega⟩

variable {m c Q K V D}

theorem at_q (hA : Args m c Q K V D) (t : Fin cfg0.N) (R : Fin 8192) (C : Fin 256) :
    at2 (bq m c t) R.val C.val = ((colB (Q R (hd t C)) (ls Q K R (hd t C)) (C.val % 128) : ℝ) : EReal) := by
  rw [at2_of _ R.isLt C.isLt, bq_at, V_q]
  refine Eq.trans (congrArg _ ?_) (colsQ_real hA.1 _ _ R (hd t C) (lseK_real hA.1 hA.2.1 R (hd t C) 0) ⟨C.val % 128, Nat.mod_lt _ (by omega)⟩)
  refine congrArg (ix2 R) (Fin.ext ?_)
  show t.val / 8 * 256 + C.val = 128 * (2 * (t.val / 8) + C.val / 128) + C.val % 128
  omega

theorem at_d (hA : Args m c Q K V D) (t : Fin cfg0.N) (R : Fin 8192) (C : Fin 256) :
    at2 (bdo m c t) R.val C.val = ((colB (D R (hd t C)) (dl Q K V D (hd t C) R) (C.val % 128) : ℝ) : EReal) := by
  rw [at2_of _ R.isLt C.isLt, bdo_at, V_d]
  refine Eq.trans (congrArg _ ?_) (colsD_real hA.2.2.2 _ _ R (hd t C) (dltK_real hA.1 hA.2.1 hA.2.2.1 hA.2.2.2 R (hd t C) 0) ⟨C.val % 128, Nat.mod_lt _ (by omega)⟩)
  refine congrArg (ix2 R) (Fin.ext ?_)
  show t.val / 8 * 256 + C.val = 128 * (2 * (t.val / 8) + C.val / 128) + C.val % 128
  omega

theorem at_k (hA : Args m c Q K V D) (t : Fin cfg0.N) (r : Fin 1024) (C : Fin 256) :
    at2 (bk m c t) r.val C.val = ((colA (K (row t r) (hd t C)) (C.val % 128) : ℝ) : EReal) := by
  rw [at2_of _ r.isLt C.isLt, bk_at, V_k]
  refine Eq.trans (congrArg _ ?_) (colsK_real hA.2.1 (row t r) (hd t C) ⟨C.val % 128, Nat.mod_lt _ (by omega)⟩)
  refine congrArg (ix2 (row t r)) (Fin.ext ?_)
  show t.val / 8 * 256 + C.val = 128 * (2 * (t.val / 8) + C.val / 128) + C.val % 128
  omega

theorem at_v (hA : Args m c Q K V D) (t : Fin cfg0.N) (r : Fin 1024) (C : Fin 256) :
    at2 (bv m c t) r.val C.val = ((colA (V (row t r) (hd t C)) (C.val % 128) : ℝ) : EReal) := by
  rw [at2_of _ r.isLt C.isLt, bv_at, V_v]
  refine Eq.trans (congrArg _ ?_) (colsV_real hA.2.2.1 (row t r) (hd t C) ⟨C.val % 128, Nat.mod_lt _ (by omega)⟩)
  refine congrArg (ix2 (row t r)) (Fin.ext ?_)
  show t.val / 8 * 256 + C.val = 128 * (2 * (t.val / 8) + C.val / 128) + C.val % 128
  omega

/-- A lane of a column's head, as a column of the block. -/
theorem lane (C : Fin 256) (x : Fin 128) : lane0 C.val + x.val < 256 := by unfold lane0; omega
theorem lane_mod (C : Fin 256) (x : Fin 128) : (lane0 C.val + x.val) % 128 = x.val := by unfold lane0; omega
theorem lane_hd (t : Fin cfg0.N) (C : Fin 256) (x : Fin 128) : hd t ⟨lane0 C.val + x.val, lane C x⟩ = hd t C :=
  Fin.ext (by show 2 * (t.val / 8) + (lane0 C.val + x.val) / 128 = 2 * (t.val / 8) + C.val / 128; unfold lane0; omega)

theorem wgt_real (hA : Args m c Q K V D) (t : Fin cfg0.N) (C : Fin 256) (r : Fin 1024) (R : Fin 8192) :
    wgt (bq m c t) (bk m c t) (t.val % 8) (lane0 C.val) r.val R.val = ((pr Q K (hd t C) R (row t r) : ℝ) : EReal) := by
  have e : dotN (bk m c t) (bq m c t) (lane0 C.val) r.val R.val = ((sc Q K (hd t C) R (row t r) - (top Q K (hd t C) R + Real.log (tot Q K (hd t C) R)) : ℝ) : EReal) := by
    unfold dotN
    have hx : ∀ x : Fin 128, at2 (bk m c t) r.val (lane0 C.val + x.val) * at2 (bq m c t) R.val (lane0 C.val + x.val)
        = ((colA (K (row t r) (hd t C)) x.val * colB (Q R (hd t C)) (ls Q K R (hd t C)) x.val : ℝ) : EReal) := fun x => by
      have h1 := at_k hA t r ⟨lane0 C.val + x.val, lane C x⟩
      have h2 := at_q hA t R ⟨lane0 C.val + x.val, lane C x⟩
      rw [lane_hd] at h1 h2
      simp only [lane_mod] at h1 h2
      rw [h1, h2, ← EReal.coe_mul]
    rw [Finset.sum_congr rfl fun x _ => hx x, ← Flash.coe_sum]
    congr 1
    refine (sum_cols (n := 96) (k := 31) (K (row t r) (hd t C)) (Q R (hd t C)) _).trans ?_
    unfold sc ls
    congr 1
    exact Finset.sum_congr rfl fun e _ => mul_comm _ _
  unfold wgt
  rw [e]
  by_cases le : t.val % 8 * 1024 + r.val ≤ R.val
  · rw [if_pos le, Ideal.exp_coe, Flash.pr_of_exp Q K (hd t C) R (row t r) le]
  · rw [if_neg le, Flash.pr_unseen Q K (hd t C) R (row t r) le]; rfl

theorem dst_real (hA : Args m c Q K V D) (t : Fin cfg0.N) (C : Fin 256) (r : Fin 1024) (R : Fin 8192) :
    dst (bq m c t) (bk m c t) (bv m c t) (bdo m c t) (t.val % 8) (lane0 C.val) r.val R.val = ((ds Q K V D (hd t C) R (row t r) : ℝ) : EReal) := by
  have e : dotN (bv m c t) (bdo m c t) (lane0 C.val) r.val R.val = ((dp V D (hd t C) R (row t r) - dl Q K V D (hd t C) R : ℝ) : EReal) := by
    unfold dotN
    have hx : ∀ x : Fin 128, at2 (bv m c t) r.val (lane0 C.val + x.val) * at2 (bdo m c t) R.val (lane0 C.val + x.val)
        = ((colA (V (row t r) (hd t C)) x.val * colB (D R (hd t C)) (dl Q K V D (hd t C) R) x.val : ℝ) : EReal) := fun x => by
      have h1 := at_v hA t r ⟨lane0 C.val + x.val, lane C x⟩
      have h2 := at_d hA t R ⟨lane0 C.val + x.val, lane C x⟩
      rw [lane_hd] at h1 h2
      simp only [lane_mod] at h1 h2
      rw [h1, h2, ← EReal.coe_mul]
    rw [Finset.sum_congr rfl fun x _ => hx x, ← Flash.coe_sum]
    congr 1
    refine (sum_cols (n := 64) (k := 63) (V (row t r) (hd t C)) (D R (hd t C)) _).trans ?_
    unfold dp
    congr 1
    exact Finset.sum_congr rfl fun e _ => mul_comm _ _
  unfold dst
  rw [wgt_real hA, e, ← EReal.coe_mul]
  rfl

/-- Any column of the value gradient's array, filler columns too. -/
def allV (Q K : Fin 8192 → Fin 8 → Fin 96 → ℝ) (V D : Fin 8192 → Fin 8 → Fin 64 → ℝ) (h : Fin 8) (r : Fin 8192) (e : ℕ) : ℝ := ∑ R, pr Q K h R r * colB (D R h) (dl Q K V D h R) e
/-- Any column of the key gradient's array. -/
def allK (Q K : Fin 8192 → Fin 8 → Fin 96 → ℝ) (V D : Fin 8192 → Fin 8 → Fin 64 → ℝ) (h : Fin 8) (r : Fin 8192) (e : ℕ) : ℝ := ∑ R, ds Q K V D h R r * colB (Q R h) (ls Q K R h) e
/-- The first `n` keys' part of any column of the query gradient's array. -/
def someQ (Q K : Fin 8192 → Fin 8 → Fin 96 → ℝ) (V D : Fin 8192 → Fin 8 → Fin 64 → ℝ) (h : Fin 8) (R : Fin 8192) (e n : ℕ) : ℝ :=
  ∑ r ∈ Finset.range n, if hr : r < 8192 then ds Q K V D h R ⟨r, hr⟩ * colA (K ⟨r, hr⟩ h) e else 0

theorem finV_real (hA : Args m c Q K V D) (t : Fin cfg0.N) (r : Fin 1024) (C : Fin 256) :
    finV (bq m c t) (bk m c t) (bdo m c t) (grid0.coords t) (ix2 r C) = ((allV Q K V D (hd t C) (row t r) (C.val % 128) : ℝ) : EReal) := by
  rw [finV_at, coord1, Finset.sum_range]
  unfold allV
  rw [Flash.coe_sum]
  refine Finset.sum_congr rfl fun R _ => ?_
  show tV _ _ _ _ r.val C.val R.val = _
  unfold tV
  rw [wgt_real hA, at_d hA, ← EReal.coe_mul]

theorem finK_real (hA : Args m c Q K V D) (t : Fin cfg0.N) (r : Fin 1024) (C : Fin 256) :
    finK (bq m c t) (bk m c t) (bv m c t) (bdo m c t) (grid0.coords t) (ix2 r C) = ((allK Q K V D (hd t C) (row t r) (C.val % 128) : ℝ) : EReal) := by
  rw [finK_at, coord1, Finset.sum_range]
  unfold allK
  rw [Flash.coe_sum]
  refine Finset.sum_congr rfl fun R _ => ?_
  show tK _ _ _ _ _ r.val C.val R.val = _
  unfold tK
  rw [dst_real hA, at_q hA, ← EReal.coe_mul]

theorem stepQ (hA : Args m c Q K V D) (t : Fin cfg0.N) (R : Fin 8192) (C : Fin 256) :
    (∑ r ∈ Finset.range 1024, tQ (bq m c t) (bk m c t) (bv m c t) (bdo m c t) (grid0.coords t 1).val R.val C.val r)
      = ((someQ Q K V D (hd t C) R (C.val % 128) (t.val % 8 * 1024 + 1024) - someQ Q K V D (hd t C) R (C.val % 128) (t.val % 8 * 1024) : ℝ) : EReal) := by
  unfold someQ
  rw [Finset.sum_range_add, add_sub_cancel_left, Flash.coe_sum, coord1]
  refine Finset.sum_congr rfl fun r hr => ?_
  have hr' : r < 1024 := Finset.mem_range.mp hr
  rw [dif_pos (show t.val % 8 * 1024 + r < 8192 by omega)]
  unfold tQ
  rw [dst_real hA t C ⟨r, hr'⟩ R, at_k hA t ⟨r, hr'⟩ C, ← EReal.coe_mul]
  rfl

theorem runQ_real (hA : Args m c Q K V D) (n : ℕ) : ∀ (t : Fin cfg0.N) (R : Fin 8192) (C : Fin 256), t.val % 8 = n →
    runQ m c t.val (ix2 R C) = ((someQ Q K V D (hd t C) R (C.val % 128) (t.val % 8 * 1024 + 1024) : ℝ) : EReal) := by
  induction n with
  | zero =>
    intro t R C h
    rw [runQ_first m c t h, finQ_at, pay35_zero, zero_add]
    refine (stepQ hA t R C).trans ?_
    have : someQ Q K V D (hd t C) R (C.val % 128) (t.val % 8 * 1024) = 0 := by
      rw [h]; unfold someQ; simp
    rw [this, sub_zero]
  | succ n ih =>
    intro t R C h
    have ht := pt_lt t
    rw [runQ_next m c t (by omega), finQ_at]
    have hp : t.val - 1 < cfg0.N := by have := t.isLt; omega
    have e := ih ⟨t.val - 1, hp⟩ R C (show (t.val - 1) % 8 = n by omega)
    have hh : hd ⟨t.val - 1, hp⟩ C = hd t C := Fin.ext (by show 2 * ((t.val - 1) / 8) + C.val / 128 = 2 * (t.val / 8) + C.val / 128; omega)
    have hm : (t.val - 1) % 8 * 1024 + 1024 = t.val % 8 * 1024 := by omega
    rw [hh] at e
    refine (congrArg₂ (fun a b : EReal => a + b) e (stepQ hA t R C)).trans ?_
    show ((someQ Q K V D (hd t C) R (C.val % 128) ((t.val - 1) % 8 * 1024 + 1024) : ℝ) : EReal) + _ = _
    rw [hm, ← EReal.coe_add]
    congr 1
    ring

/-- The query gradient's array. -/
theorem final4 (hA : Args m c Q K V D) (R : Fin 8192) (h : Fin 8) (x : Fin 96) :
    ((dats m 0 c).arrAt 4 cfg0.N : FVec Ideal S8192x1024 .f32) (ix2 R ⟨128 * h.val + x.val, by omega⟩) = ((gq Q K V D R h x : ℝ) : EReal) := by
  rw [arr4 m c (fun i => ((someQ Q K V D ⟨(i 1).val / 128, by have : (i 1).val < 1024 := (i 1).isLt; omega⟩ (i 0) ((i 1).val % 128) 8192 : ℝ) : EReal)) fun t R C h7 => by
    rw [runQ_real hA 7 t R C h7, h7]
    show _ = ((someQ Q K V D ⟨(t.val / 8 * 256 + C.val) / 128, _⟩ R ((t.val / 8 * 256 + C.val) % 128) 8192 : ℝ) : EReal)
    have e1 : (t.val / 8 * 256 + C.val) % 128 = C.val % 128 := by omega
    have e2 : (⟨(t.val / 8 * 256 + C.val) / 128, by have := pt_lt t; omega⟩ : Fin 8) = hd t C := Fin.ext (by show _ = 2 * (t.val / 8) + C.val / 128; show (t.val / 8 * 256 + C.val) / 128 = _; omega)
    rw [e1, e2]]
  show ((someQ Q K V D ⟨(128 * h.val + x.val) / 128, _⟩ R ((128 * h.val + x.val) % 128) 8192 : ℝ) : EReal) = _
  have e1 : (128 * h.val + x.val) % 128 = x.val := by omega
  have e2 : (⟨(128 * h.val + x.val) / 128, by omega⟩ : Fin 8) = h := Fin.ext (by show (128 * h.val + x.val) / 128 = _; omega)
  rw [e1, e2]
  refine congrArg (fun z : ℝ => (z : EReal)) ?_
  unfold someQ gq
  rw [Finset.sum_range]
  refine Finset.sum_congr rfl fun r _ => ?_
  rw [dif_pos r.isLt]
  unfold colA
  rw [dif_pos x.isLt]

/-- The key gradient's array. -/
theorem final5 (hA : Args m c Q K V D) (r : Fin 8192) (h : Fin 8) (x : Fin 96) :
    ((dats m 0 c).arrAt 5 cfg0.N : FVec Ideal S8192x1024 .bf16) (ix2 r ⟨128 * h.val + x.val, by omega⟩) = ((gk Q K V D r h x : ℝ) : EReal) := by
  rw [arr5 m c (fun i => ((allK Q K V D ⟨(i 1).val / 128, by have : (i 1).val < 1024 := (i 1).isLt; omega⟩ (i 0) ((i 1).val % 128) : ℝ) : EReal)) fun t r C => by
    rw [finK_real hA t r C]
    show _ = ((allK Q K V D ⟨(t.val / 8 * 256 + C.val) / 128, _⟩ (row t r) ((t.val / 8 * 256 + C.val) % 128) : ℝ) : EReal)
    have e1 : (t.val / 8 * 256 + C.val) % 128 = C.val % 128 := by omega
    have e2 : (⟨(t.val / 8 * 256 + C.val) / 128, by have := pt_lt t; omega⟩ : Fin 8) = hd t C := Fin.ext (by show (t.val / 8 * 256 + C.val) / 128 = 2 * (t.val / 8) + C.val / 128; omega)
    rw [e1, e2]]
  show ((allK Q K V D ⟨(128 * h.val + x.val) / 128, _⟩ r ((128 * h.val + x.val) % 128) : ℝ) : EReal) = _
  have e1 : (128 * h.val + x.val) % 128 = x.val := by omega
  have e2 : (⟨(128 * h.val + x.val) / 128, by omega⟩ : Fin 8) = h := Fin.ext (by show (128 * h.val + x.val) / 128 = _; omega)
  rw [e1, e2]
  refine congrArg (fun z : ℝ => (z : EReal)) ?_
  unfold allK gk
  refine Finset.sum_congr rfl fun R _ => ?_
  unfold colB
  rw [dif_pos x.isLt]

/-- The value gradient's array, in its second half. -/
theorem final6 (hA : Args m c Q K V D) (r : Fin 8192) (h : Fin 8) (x : Fin 64) :
    ((dats m 0 c).arrAt 6 cfg0.N : FVec Ideal S8192x2048 .bf16) (ix2 r ⟨1024 + (128 * h.val + x.val), by omega⟩) = ((gv Q K D r h x : ℝ) : EReal) := by
  rw [arr6 m c (fun i => ((allV Q K V D ⟨(i 1).val / 128 % 8, by omega⟩ (i 0) ((i 1).val % 128) : ℝ) : EReal)) (fun t r C => by
    rw [finV_real hA t r C]
    show _ = ((allV Q K V D ⟨((4 + t.val / 8) * 256 + C.val) / 128 % 8, _⟩ (row t r) (((4 + t.val / 8) * 256 + C.val) % 128) : ℝ) : EReal)
    have e1 : ((4 + t.val / 8) * 256 + C.val) % 128 = C.val % 128 := by omega
    have e2 : (⟨((4 + t.val / 8) * 256 + C.val) / 128 % 8, by omega⟩ : Fin 8) = hd t C := Fin.ext (by have := pt_lt t; show ((4 + t.val / 8) * 256 + C.val) / 128 % 8 = 2 * (t.val / 8) + C.val / 128; omega)
    rw [e1, e2]) _ (by show 1024 ≤ 1024 + (128 * h.val + x.val); omega)]
  show ((allV Q K V D ⟨(1024 + (128 * h.val + x.val)) / 128 % 8, _⟩ r ((1024 + (128 * h.val + x.val)) % 128) : ℝ) : EReal) = _
  have e1 : (1024 + (128 * h.val + x.val)) % 128 = x.val := by omega
  have e2 : (⟨(1024 + (128 * h.val + x.val)) / 128 % 8, by omega⟩ : Fin 8) = h := Fin.ext (by show (1024 + (128 * h.val + x.val)) / 128 % 8 = _; omega)
  rw [e1, e2]
  refine congrArg (fun z : ℝ => (z : EReal)) ?_
  unfold allV gv
  refine Finset.sum_congr rfl fun R _ => ?_
  unfold colB
  rw [dif_pos x.isLt, mul_comm]

end Cert.FlashIdeal.Hand
-- ==== Proof.FlashValue.lean ====
module

public import proofs.«01_k».proof.Defs
public import proofs.«01_k».proof.Proof.Gen.Pre_flash_finite
public import proofs.«01_k».proof.Proof.Gen.On_flash_on
public import proofs.«01_k».proof.Proof.FlFinal
public import proofs.«01_k».proof.Proof.FlRefOut
public import proofs.«01_k».proof.Proof.FlRefVal

@[expose] public section

set_option maxRecDepth 16384

noncomputable section

/-! The attention's backward call and its reference leave the same arrays. -/

namespace Cert.FlashValue

open Idealize.ShloMosaic Idealize.ShloMosaic.TcCoe Idealize.SL Idealize.SL.Sem
open Cert.FlashRefIdeal.Hand (Holds)
open Cert.FlashIdeal.Hand (Args)

/-- What is smaller in absolute value than infinity is a real. -/
theorem real_of_abs {x : EReal} (h : max x (-x) < ⊤) : x = ((x.toReal : ℝ) : EReal) := by
  have h1 : x ≠ ⊤ := fun e => by subst e; simp at h
  have h2 : x ≠ ⊥ := fun e => by subst e; simp at h
  exact (EReal.coe_toReal h1 h2).symm

/-- A table of reals read off an array. -/
def tab {e : ℕ} (x : FVec Ideal ⟨3, ![8192, 8, e]⟩ .f32) : Fin 8192 → Fin 8 → Fin e → ℝ := fun R h i => EReal.toReal (x (ix3 R h i))

theorem inf_bits : Ideal.ofBits .f32 0x7F800000#32 = ⊤ := by simp [Ideal.ofBits, Ideal.ieee]

theorem fin_of {S : Shape} (x : FVec Ideal S .f32) (b : (⟨0, ![]⟩ : Shape).BroadcastsInDim S (![] : Fin 0 → Fin S.rank))
    (h : cmpf .olt (Host.absf x) (broadcastInDim S ![] b (constant (F := Ideal) ⟨0, ![]⟩ .f32 0x7F800000#32)) = fun _ => 1#1) (i : S.Idx) :
    x i = ((EReal.toReal (x i) : ℝ) : EReal) := by
  have hi := congrFun h i
  refine real_of_abs ?_
  by_contra hn
  have e : (cmpf .olt (Host.absf x) (broadcastInDim S ![] b (constant (F := Ideal) ⟨0, ![]⟩ .f32 0x7F800000#32))) i = 0#1 := by
    show BitVec.ofBool (decide (max (x i) (-(x i)) < Ideal.ofBits .f32 0x7F800000#32)) = 0#1
    rw [inf_bits, decide_eq_false hn]
    rfl
  rw [e] at hi
  exact absurd hi (by decide)

variable {m : (ℓ : Loc Cert.FlashIdeal.nD Cert.FlashIdeal.τ Cert.FlashIdeal.sig) → Buf (Elt Ideal) ℓ}

theorem args_of (hp : Cert.Pre_FlashIdeal_flash_finite m) (c : Dev Cert.FlashIdeal.nD) :
    Args m c (tab (m ((c : Thread Cert.FlashIdeal.nD Cert.FlashIdeal.τ).loc Cert.FlashIdeal.main_arg0))) (tab (m ((c : Thread Cert.FlashIdeal.nD Cert.FlashIdeal.τ).loc Cert.FlashIdeal.main_arg1)))
      (tab (m ((c : Thread Cert.FlashIdeal.nD Cert.FlashIdeal.τ).loc Cert.FlashIdeal.main_arg2))) (tab (m ((c : Thread Cert.FlashIdeal.nD Cert.FlashIdeal.τ).loc Cert.FlashIdeal.main_arg3))) := by
  obtain ⟨h0, h1, h2, h3⟩ := hp c
  exact ⟨fun R h e => fin_of _ _ h0 (ix3 R h e), fun R h e => fin_of _ _ h1 (ix3 R h e), fun R h e => fin_of _ _ h2 (ix3 R h e), fun R h e => fin_of _ _ h3 (ix3 R h e)⟩

/-- The last seven bits of a small number are its remainder. -/
theorem and_127 (n : ℕ) : IntOp.andi (BitVec.ofNat 32 n) 127#32 = BitVec.ofNat 32 (n % 128) := by
  apply BitVec.eq_of_toNat_eq
  show (BitVec.ofNat 32 n &&& 127#32).toNat = _
  rw [BitVec.toNat_and, BitVec.toNat_ofNat, BitVec.toNat_ofNat]
  show n % 2 ^ 32 &&& 2 ^ 7 - 1 = _
  rw [Nat.and_two_pow_sub_one_eq_mod, BitVec.toNat_ofNat]
  omega

/-- A column of an array of eight heads. -/
theorem col_split (C : Fin 1024) : C = ⟨128 * (C.val / 128) + C.val % 128, by have := C.isLt; omega⟩ := Fin.ext (Nat.div_add_mod _ _).symm

/-- A column of the second half of an array of twice eight heads. -/
theorem col_split2 (C : Fin 2048) (h : 1024 ≤ C.val) : C = ⟨1024 + (128 * ((C.val - 1024) / 128) + C.val % 128), by have := C.isLt; omega⟩ :=
  Fin.ext (by show C.val = 1024 + (128 * ((C.val - 1024) / 128) + C.val % 128); omega)

/-- The mask of the query's and the key's gradient selects each head's own columns. -/
theorem on_q (x0 x1 : FVec Ideal Cert.On_flash_on.S8192x8x96 .f32) (x2 x3 : FVec Ideal Cert.On_flash_on.S8192x8x64 .f32) (R : Fin 8192) (C : Fin 1024)
    (h : (Cert.On_flash_on.fn (F := Ideal) x0 x1 x2 x3).1 (ix2 R C) = 1#1) : C.val % 128 < 96 := by
  by_contra hn
  have h' : IntOp.cmpi .slt (IntOp.andi (BitVec.ofNat 32 C.val) 127#32) 96#32 = 1#1 := h
  rw [and_127] at h'
  revert h'
  word_cmp

theorem on_k (x0 x1 : FVec Ideal Cert.On_flash_on.S8192x8x96 .f32) (x2 x3 : FVec Ideal Cert.On_flash_on.S8192x8x64 .f32) (R : Fin 8192) (C : Fin 1024)
    (h : (Cert.On_flash_on.fn (F := Ideal) x0 x1 x2 x3).2.1 (ix2 R C) = 1#1) : C.val % 128 < 96 := on_q x0 x1 x2 x3 R C h

/-- The mask of the value's gradient selects each head's own columns of the second half. -/
theorem on_v (x0 x1 : FVec Ideal Cert.On_flash_on.S8192x8x96 .f32) (x2 x3 : FVec Ideal Cert.On_flash_on.S8192x8x64 .f32) (R : Fin 8192) (C : Fin 2048)
    (h : (Cert.On_flash_on.fn (F := Ideal) x0 x1 x2 x3).2.2 (ix2 R C) = 1#1) : 1024 ≤ C.val ∧ C.val % 128 < 64 := by
  by_contra hn
  have hC := C.isLt
  have h' : IntOp.andi (IntOp.cmpi .sge (BitVec.ofNat 32 C.val) 1024#32) (IntOp.cmpi .slt (IntOp.andi (BitVec.ofNat 32 C.val) 127#32) 64#32) = 1#1 := h
  rw [and_127] at h'
  revert h'
  word_cmp

set_option maxHeartbeats 1000000 in
/-- The three gradients agree on the columns that carry a head. -/
theorem algebraic : Cert.algebraic_FlashIdeal_FlashRefIdeal_on_flash_on_pre_flash_finite := by
  intro m g m' g' hpre hagree
  refine ⟨fun c => (Cert.FlashIdeal.Hand.dats m 0 c).arrAt 4 (Cert.FlashIdeal.cfgs 0).N, fun c => (Cert.FlashIdeal.Hand.dats m 0 c).arrAt 5 (Cert.FlashIdeal.cfgs 0).N,
    fun c => (Cert.FlashIdeal.Hand.dats m 0 c).arrAt 6 (Cert.FlashIdeal.cfgs 0).N, ?_, ?_⟩
  · refine (θ_run Cert.FlashIdeal.defs _ _).mono (fun r h c => ?_) (Cert.FlashIdeal.Hand.run_all m g)
    have ha := (h.1 c).1
    exact ⟨fun i _ => congrFun (ha 4) i, fun i _ => congrFun (ha 5) i, fun i _ => congrFun (ha 6) i, ((h.1 c).2 Cert.FlashIdeal.main_arg0 (Pipeline.mem_restRefs_of Cert.FlashIdeal.main_arg0 (by decide) (by decide))).trans (Cert.FlashIdeal.Gen.V_main_arg0 m c),
      ((h.1 c).2 Cert.FlashIdeal.main_arg1 (Pipeline.mem_restRefs_of Cert.FlashIdeal.main_arg1 (by decide) (by decide))).trans (Cert.FlashIdeal.Gen.V_main_arg1 m c),
      ((h.1 c).2 Cert.FlashIdeal.main_arg2 (Pipeline.mem_restRefs_of Cert.FlashIdeal.main_arg2 (by decide) (by decide))).trans (Cert.FlashIdeal.Gen.V_main_arg2 m c),
      ((h.1 c).2 Cert.FlashIdeal.main_arg3 (Pipeline.mem_restRefs_of Cert.FlashIdeal.main_arg3 (by decide) (by decide))).trans (Cert.FlashIdeal.Gen.V_main_arg3 m c)⟩
  · refine (θ_run Cert.FlashRefIdeal.defs _ _).mono (fun r h c => ?_) (Cert.FlashRefIdeal.Value.run m' g')
    obtain ⟨h0, h1, h2, hr⟩ := h c
    obtain ⟨e0, e1, e2, e3⟩ := hagree c
    have hA := args_of hpre c
    refine ⟨fun i hi => ?_, fun i hi => ?_, fun i hi => ?_, hr⟩
    · rw [h0, show Cert.FlashRefIdeal.Value.res_main_v62 m' c = _ from Cert.FlashRefIdeal.Hand.out0_eq m' c, e0, e1, e2, e3]
      rw [eq_ix2 i] at hi ⊢
      have hc := on_q _ _ _ _ _ _ hi
      have hlt : (i 1).val < 1024 := (i 1).isLt
      have ei := col_split (i 1)
      have a := Cert.FlashRefIdeal.Hand.outQ_real hA.1 hA.2.1 hA.2.2.1 hA.2.2.2 (i 0) ⟨(i 1).val / 128, by omega⟩ ⟨(i 1).val % 128, hc⟩
      have b := Cert.FlashIdeal.Hand.final4 hA (i 0) ⟨(i 1).val / 128, by omega⟩ ⟨(i 1).val % 128, hc⟩
      rw [ei]
      exact a.trans b.symm
    · rw [h1, show Cert.FlashRefIdeal.Value.res_main_v66 m' c = _ from Cert.FlashRefIdeal.Hand.out1_eq m' c, e0, e1, e2, e3]
      rw [eq_ix2 i] at hi ⊢
      have hc := on_k _ _ _ _ _ _ hi
      have hlt : (i 1).val < 1024 := (i 1).isLt
      have ei := col_split (i 1)
      have a := Cert.FlashRefIdeal.Hand.outK_real hA.1 hA.2.1 hA.2.2.1 hA.2.2.2 (i 0) ⟨(i 1).val / 128, by omega⟩ ⟨(i 1).val % 128, hc⟩
      have b := Cert.FlashIdeal.Hand.final5 hA (i 0) ⟨(i 1).val / 128, by omega⟩ ⟨(i 1).val % 128, hc⟩
      rw [ei]
      exact a.trans b.symm
    · rw [h2, show Cert.FlashRefIdeal.Value.res_main_v70 m' c = _ from Cert.FlashRefIdeal.Hand.out2_eq m' c, e0, e1, e3]
      rw [eq_ix2 i] at hi ⊢
      obtain ⟨hg, hc⟩ := on_v _ _ _ _ _ _ hi
      have hlt : (i 1).val < 2048 := (i 1).isLt
      have ei := col_split2 (i 1) hg
      have a := Cert.FlashRefIdeal.Hand.outV_real hA.1 hA.2.1 hA.2.2.2 (i 0) ⟨((i 1).val - 1024) / 128, by omega⟩ ⟨(i 1).val % 128, hc⟩
      have b := Cert.FlashIdeal.Hand.final6 hA (i 0) ⟨((i 1).val - 1024) / 128, by omega⟩ ⟨(i 1).val % 128, hc⟩
      rw [ei]
      exact a.trans b.symm

/-- The reference runs, keeps its arguments and leaves no semaphore raised. -/
theorem frameRef : Cert.quiescent_FlashRefIdeal := fun m ρ _ =>
  (θ_run Cert.FlashRefIdeal.defs _ _).mono (fun r h => ⟨fun c => (h c).2.2.2, sem_eq_zero_of_no_sems (by decide) r.2⟩) (Cert.FlashRefIdeal.Value.run m ρ)

/-- The number standing for −∞ is named so in the idealized kernel. -/
theorem preserves : Cert.preserves_Flash_FlashIdeal :=
  IdealRules.named_const.statement Cert.FlashIdeal.κ "mask" .f32 0xF149F2CA#32 ⊥ rfl

end Cert.FlashValue
-- ==== Proof.FfStep.lean ====
/- One step of the attention's forward body: a block of queries meets a tile of keys, at any width of the tile. The running maximum and the running sums after the step, at an index. -/
module

public import proofs.«01_k».proof.Proof.Gen.FlashFIdeal.Skeleton
public import proofs.«01_k».proof.Proof.FlStep
public import Idealize.ShloMosaic.Lib.MatmulPlain
public import Idealize.ShloMosaic.Lib.Pointwise
public import Idealize.ShloMosaic.Lib.WordCmp

@[expose] public section

set_option maxRecDepth 16384

noncomputable section

namespace Cert.FlashFIdeal.Hand

open Idealize.ShloMosaic Idealize.ShloMosaic.TcCoe Idealize.SL.Sem
open Cert.FlashFIdeal.Gen

/-- A tile of `W` keys, 128 lanes wide. -/
abbrev KV (W : ℕ) : Shape := ⟨2, ![W, 128]⟩
/-- The scores of 512 queries and `W` keys. -/
abbrev SC (W : ℕ) : Shape := ⟨2, ![512, W]⟩

variable {W : ℕ}

/-- The products of queries and keys. -/
def mulQK (q : FVec Ideal S512x128 .bf16) (k : FVec Ideal (KV W) .bf16) : FVec Ideal (SC W) .f32 :=
  matmul (φ₁ := .bf16) (φ₂ := .bf16) (DotDims.transposedRhs 512 128 W) none q k (constant (SC W) .f32 0x00000000#32)
/-- The products of weights and values. -/
def mulPV (w : FVec Ideal (SC W) .bf16) (v : FVec Ideal (KV W) .bf16) : FVec Ideal S512x128 .f32 :=
  matmul (φ₁ := .bf16) (φ₂ := .bf16) (DotDims.plain 512 W 128) none w v (constant S512x128 .f32 0x00000000#32)

theorem zero_acc : Ideal.ofBits .f32 0x00000000#32 = (0 : EReal) := by simp [Ideal.ofBits, Ideal.ieee]

theorem mulQK_at (q : FVec Ideal S512x128 .bf16) (k : FVec Ideal (KV W) .bf16) (p : Fin 512) (j : Fin W) :
    mulQK q k (ix2 p j) = ∑ t : Fin 128, q (ix2 p t) * k (ix2 j t) :=
  (Ideal.matmul_transposedRhs_apply none q k (constant (SC W) .f32 0x00000000#32) p j).trans
    ((congrArg (fun z : EReal => z + ∑ t : Fin 128, q (ix2 p t) * k (ix2 j t)) zero_acc).trans (zero_add _))
theorem mulPV_at (w : FVec Ideal (SC W) .bf16) (v : FVec Ideal (KV W) .bf16) (p : Fin 512) (l : Fin 128) :
    mulPV w v (ix2 p l) = ∑ k : Fin W, w (ix2 p k) * v (ix2 k l) :=
  (Ideal.matmul_plain_apply none w v (constant S512x128 .f32 0x00000000#32) p l).trans
    ((congrArg (fun z : EReal => z + ∑ k : Fin W, w (ix2 p k) * v (ix2 k l)) zero_acc).trans (zero_add _))

/-- The scores of a tile that lies wholly before the queries. -/
def sWide (kc : (KV W).ShapeCasts (KV W)) (q : Vec Ideal S512x128 .bf16) (k : Vec Ideal (KV W) .bf16) : FVec Ideal (SC W) .f32 :=
  mulQK (shapeCast S512x128 q shapeCasts_S512x128_S512x128) (shapeCast (KV W) k kc)

/-- The scores of the tile that ends on the diagonal, `off` keys before the queries' first, with the mask. -/
def sDiag (kc : (KV W).ShapeCasts (KV W)) (j0 : (SC W).Iotas .tc 32 [0]) (j1 : (SC W).Iotas .tc 32 [1]) (off : BitVec 32)
    (q : Vec Ideal S512x128 .bf16) (k : Vec Ideal (KV W) .bf16) : FVec Ideal (SC W) .f32 :=
  select (cmpi .sle (iota .tc (SC W) 32 [1] j1) (addi (iota .tc (SC W) 32 [0] j0) (broadcast (SC W) off))) (sWide kc q k)
    (broadcast (SC W) (Named.named (F := Ideal) κ "mask" (φ := .f32) 0xF149F2CA#32))

/-- The running maximum after the step. -/
def newM (red : (SC W).Reduces [1] S512) (s : FVec Ideal (SC W) .f32) (m : Vec Ideal S1x512x1 .f32) : FVec Ideal S512x1 .f32 :=
  maximumf (shapeCast S512x1 m shapeCasts_S1x512x1_S512x1) (shapeCast S512x1 (multiReduction .maximumf [1] S512 s 0xFF800000#32 red (.inl rfl) rfl) shapeCasts_S512_S512x1)

/-- What the step stores of the maximum. -/
def payM (red : (SC W).Reduces [1] S512) (s : FVec Ideal (SC W) .f32) (m : Vec Ideal S1x512x1 .f32) : FVec Ideal S1x512x1 .f32 :=
  shapeCast S1x512x1 (newM red s m) shapeCasts_S512x1_S1x512x1

/-- What the step stores of the sums. -/
def payA (red : (SC W).Reduces [1] S512) (bc : S512x1.Broadcasts (SC W)) (kc : (KV W).ShapeCasts (KV W)) (s : FVec Ideal (SC W) .f32) (m : Vec Ideal S1x512x1 .f32)
    (a : Vec Ideal S1x512x128 .f32) (v : Vec Ideal (KV W) .bf16) : FVec Ideal S1x512x128 .f32 :=
  shapeCast S1x512x128 (addf (mulf (broadcastTo S512x128 (exp (subf (shapeCast S512x1 m shapeCasts_S1x512x1_S512x1) (newM red s m))) broadcasts_S512x1_S512x128) (shapeCast S512x128 a shapeCasts_S1x512x128_S512x128))
    (mulPV (truncf .bf16 (exp (subf s (broadcastTo (SC W) (newM red s m) bc))) bitsLt_bf16_f32) (shapeCast (KV W) v kc))) shapeCasts_S512x128_S1x512x128

theorem mask_word {a b off : ℕ} (ha : a < 2 ^ 31) (hb : b + off < 2 ^ 31) (z : EReal) :
    Scalar.select (IntOp.cmpi CmpIPredicate.sle (BitVec.ofNat 32 a) (BitVec.ofNat 32 b + BitVec.ofNat 32 off)) z
      (Named.named (F := Ideal) κ "mask" (φ := .f32) 0xF149F2CA#32) = if a ≤ b + off then z else ⊥ := by
  rw [← BitVec.ofNat_add]
  by_cases h : a ≤ b + off
  · rw [(WordCmp.cmpi_sle_ofNat_eq_one_iff ha hb).2 h, if_pos h]; rfl
  · have hz : IntOp.cmpi CmpIPredicate.sle (BitVec.ofNat 32 a) (BitVec.ofNat 32 (b + off)) = 0#1 :=
      (WordCmp.cmpi_sle_ofNat_eq_zero_iff ha hb).2 (by omega)
    rw [hz, if_neg h]; rfl

theorem sWide_at (kc : (KV W).ShapeCasts (KV W)) (q : Vec Ideal S512x128 .bf16) (k : Vec Ideal (KV W) .bf16) (p : Fin 512) (j : Fin W) :
    sWide kc q k (ix2 p j) = ∑ t : Fin 128, q (ix2 p t) * k (ix2 j t) := by
  unfold sWide
  pointwise [mulQK_at]

theorem sDiag_at (kc : (KV W).ShapeCasts (KV W)) (j0 : (SC W).Iotas .tc 32 [0]) (j1 : (SC W).Iotas .tc 32 [1]) (off : ℕ) (hW : W < 2 ^ 30) (ho : off < 2 ^ 30)
    (q : Vec Ideal S512x128 .bf16) (k : Vec Ideal (KV W) .bf16) (p : Fin 512) (j : Fin W) :
    sDiag kc j0 j1 (BitVec.ofNat 32 off) q k (ix2 p j) = if j.val ≤ p.val + off then ∑ t : Fin 128, q (ix2 p t) * k (ix2 j t) else ⊥ := by
  have hj := j.isLt
  have hp := p.isLt
  rw [← sWide_at kc q k p j]
  refine Eq.trans ?_ (mask_word (a := j.val) (b := p.val) (off := off) (by omega) (by omega) _)
  unfold sDiag
  pointwise
  rfl

theorem neg_inf : Ideal.ofBits .f32 0xFF800000#32 = (⊥ : EReal) := by simp [Ideal.ofBits, Ideal.ieee]

theorem fold_max {n : ℕ} (f : Fin n → EReal) : Finset.fold max (Ideal.ofBits .f32 0xFF800000#32) f Finset.univ = Finset.univ.sup f := by
  rw [neg_inf]; rfl

theorem newM_at (red : (SC W).Reduces [1] S512) (s : FVec Ideal (SC W) .f32) (m : Vec Ideal S1x512x1 .f32) (p : Fin 512) (z : Fin 1) :
    newM red s m (ix2 p z) = max (m (ix3 0 p 0)) (Finset.univ.sup fun k : Fin W => s (ix2 p k)) := by
  unfold newM
  pointwise
  rw [fold_max]

theorem payM_at (red : (SC W).Reduces [1] S512) (s : FVec Ideal (SC W) .f32) (m : Vec Ideal S1x512x1 .f32) (a : Fin 1) (p : Fin 512) (z : Fin 1) :
    payM red s m (ix3 a p z) = max (m (ix3 0 p 0)) (Finset.univ.sup fun k : Fin W => s (ix2 p k)) := by
  rw [← newM_at red s m p 0]
  unfold payM
  pointwise

theorem payA_at (red : (SC W).Reduces [1] S512) (bc : S512x1.Broadcasts (SC W)) (kc : (KV W).ShapeCasts (KV W)) (s : FVec Ideal (SC W) .f32) (m : Vec Ideal S1x512x1 .f32)
    (a : Vec Ideal S1x512x128 .f32) (v : Vec Ideal (KV W) .bf16) (z : Fin 1) (p : Fin 512) (l : Fin 128) :
    payA red bc kc s m a v (ix3 z p l) = Ideal.exp (m (ix3 0 p 0) - newM red s m (ix2 p 0)) * a (ix3 0 p l) + ∑ k : Fin W, Ideal.exp (s (ix2 p k) - newM red s m (ix2 p 0)) * v (ix2 k l) := by
  unfold payA
  pointwise [mulPV_at]

end Cert.FlashFIdeal.Hand
end
-- ==== Proof.FfBoth.lean ====
/- The step of the forward body as a program of its own, at any width of the key tile: both heads of the pair, one after the other. The wide tile's trip and the eight tiles on the diagonal are this program. -/
module

public import proofs.«01_k».proof.Proof.FfStep

@[expose] public section

set_option maxRecDepth 16384

noncomputable section

namespace Cert.FlashFIdeal.Hand

open Idealize.ShloMosaic Idealize.ShloMosaic.TcCoe Idealize.SL.Sem
open Cert.FlashFIdeal.Gen

variable {W : ℕ}

/-- The step: for each head of the pair read the queries, the tile of keys, the maximum, the sums and the tile of values, and put the new sums and the new maximum. -/
def both (sc : Vec Ideal S512x128 .bf16 → Vec Ideal (KV W) .bf16 → FVec Ideal (SC W) .f32) (red : (SC W).Reduces [1] S512) (bc : S512x1.Broadcasts (SC W)) (kc : (KV W).ShapeCasts (KV W)) (hk : 0 < (KV W).numel)
    (o0 o1 : Fin 2 → ℕ) (i0 : ∀ a, o0 a + (KV W).size a ≤ S8192x256.size a) (i1 : ∀ a, o1 a + (KV W).size a ≤ S8192x256.size a) (arg2 : Memref sig .tc .vmem S512x256 .bf16) (arg3 : Memref sig .tc .vmem S8192x256 .bf16) (arg4 : Memref sig .tc .vmem S8192x256 .bf16) (arg7 : Memref sig .tc .vmem S2x512x1 .f32) (arg8 : Memref sig .tc .vmem S2x512x128 .f32) :
    Prog (TpuEff nD τ sig (Elt Ideal) Λ₀ .tc) PUnit := do
  let q0 : Vec Ideal S512x128 .bf16 ← Prog.lift (.load arg2 (Rect.unit (s := S512x256) ![0, 0] S512x128.size inb_S512x256_S512x128_0_0).toLoadRect (View.loadsAt_vmem h_S512x128))
  let k0 : Vec Ideal (KV W) .bf16 ← Prog.lift (.load arg3 (Rect.unit (s := S8192x256) o0 (KV W).size i0).toLoadRect (View.loadsAt_vmem hk))
  let m0 : Vec Ideal S1x512x1 .f32 ← Prog.lift (.load arg7 (Rect.unit (s := S2x512x1) ![0, 0, 0] S1x512x1.size inb_S2x512x1_S1x512x1_0_0_0).toLoadRect (View.loadsAt_vmem h_S1x512x1))
  let a0 : Vec Ideal S1x512x128 .f32 ← Prog.lift (.load arg8 (Rect.unit (s := S2x512x128) ![0, 0, 0] S1x512x128.size inb_S2x512x128_S1x512x128_0_0_0).toLoadRect (View.loadsAt_vmem h_S1x512x128))
  let v0 : Vec Ideal (KV W) .bf16 ← Prog.lift (.load arg4 (Rect.unit (s := S8192x256) o0 (KV W).size i0).toLoadRect (View.loadsAt_vmem hk))
  let b0 : Vec Ideal S1x512x128 .f32 ← Prog.lift (.load arg8 (Rect.unit (s := S2x512x128) ![0, 0, 0] S1x512x128.size inb_S2x512x128_S1x512x128_0_0_0).toLoadRect (View.loadsAt_vmem h_S1x512x128))
  Prog.lift (.store arg8 (Rect.unit (s := S2x512x128) ![0, 0, 0] S1x512x128.size inb_S2x512x128_S1x512x128_0_0_0) (payA red bc kc (sc q0 k0) m0 a0 v0) Finset.univ (View.stores_vmem_bits_univ h_S1x512x128 rfl) (.inl rfl))
  let n0 : Vec Ideal S1x512x1 .f32 ← Prog.lift (.load arg7 (Rect.unit (s := S2x512x1) ![0, 0, 0] S1x512x1.size inb_S2x512x1_S1x512x1_0_0_0).toLoadRect (View.loadsAt_vmem h_S1x512x1))
  Prog.lift (.store arg7 (Rect.unit (s := S2x512x1) ![0, 0, 0] S1x512x1.size inb_S2x512x1_S1x512x1_0_0_0) (payM red (sc q0 k0) m0) Finset.univ (View.stores_vmem_bits_univ h_S1x512x1 rfl) (.inl rfl))
  let q1 : Vec Ideal S512x128 .bf16 ← Prog.lift (.load arg2 (Rect.unit (s := S512x256) ![0, 128] S512x128.size inb_S512x256_S512x128_0_128).toLoadRect (View.loadsAt_vmem h_S512x128))
  let k1 : Vec Ideal (KV W) .bf16 ← Prog.lift (.load arg3 (Rect.unit (s := S8192x256) o1 (KV W).size i1).toLoadRect (View.loadsAt_vmem hk))
  let m1 : Vec Ideal S1x512x1 .f32 ← Prog.lift (.load arg7 (Rect.unit (s := S2x512x1) ![1, 0, 0] S1x512x1.size inb_S2x512x1_S1x512x1_1_0_0).toLoadRect (View.loadsAt_vmem h_S1x512x1))
  let a1 : Vec Ideal S1x512x128 .f32 ← Prog.lift (.load arg8 (Rect.unit (s := S2x512x128) ![1, 0, 0] S1x512x128.size inb_S2x512x128_S1x512x128_1_0_0).toLoadRect (View.loadsAt_vmem h_S1x512x128))
  let v1 : Vec Ideal (KV W) .bf16 ← Prog.lift (.load arg4 (Rect.unit (s := S8192x256) o1 (KV W).size i1).toLoadRect (View.loadsAt_vmem hk))
  let b1 : Vec Ideal S1x512x128 .f32 ← Prog.lift (.load arg8 (Rect.unit (s := S2x512x128) ![1, 0, 0] S1x512x128.size inb_S2x512x128_S1x512x128_1_0_0).toLoadRect (View.loadsAt_vmem h_S1x512x128))
  Prog.lift (.store arg8 (Rect.unit (s := S2x512x128) ![1, 0, 0] S1x512x128.size inb_S2x512x128_S1x512x128_1_0_0) (payA red bc kc (sc q1 k1) m1 a1 v1) Finset.univ (View.stores_vmem_bits_univ h_S1x512x128 rfl) (.inl rfl))
  let n1 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (payM red (sc q1 k1) m1) Finset.univ (View.stores_vmem_bits_univ h_S1x512x1 rfl) (.inl rfl))
  pure ⟨⟩

section
variable (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S2x512x1 .f32) (harg7 : arg7.IsWhole) (arg8 : Memref sig .tc .vmem S2x512x128 .f32) (harg8 : arg8.IsWhole)

/-- A trip of the loop over the wide tiles. -/
theorem trip_both (k : Fin (k0_t1_loop i).trips) :
    k0_t1_body (F := Ideal) i arg2 harg2 arg3 harg3 arg4 harg4 arg5 harg5 arg6 harg6 arg7 harg7 arg8 harg8 k () = both (W := 4096) (sWide shapeCasts_S4096x128_S4096x128) reduces_S512x4096_S512 broadcasts_S512x1_S512x4096 shapeCasts_S4096x128_S4096x128 h_S4096x128 (k0_off1 i k) (k0_off2 i k) (k0_off1_inb i k) (k0_off2_inb i k) arg2 arg3 arg4 arg7 arg8 := by
  unfold k0_t1_body
  rw [k0_part1_eq_skeleton]
  rfl

/-- The body's step where 0 half-tiles lie between the wide tiles and the diagonal. -/
def tile1 (v24 : BitVec 32) (h : k0_cond1 i = 1#1) : Prog (TpuEff nD τ sig (Elt Ideal) Λ₀ .tc) PUnit := do
  let ⟨v149, v167⟩ : Σ' (v149 : BitVec 32), FVec Ideal S512x1 .f32 ← k0_part3 i arg2 harg2 arg3 harg3 arg4 harg4 arg5 harg5 arg6 harg6 arg7 harg7 arg8 harg8 v24 h
  let v206 : FVec Ideal S512x1 .f32 ← k0_part4 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay95 v206) Finset.univ (View.stores_vmem_bits_univ h_S1x512x1 rfl) (.inl rfl))
  pure ⟨⟩

theorem tile1_both (v24 : BitVec 32) (h : k0_cond1 i = 1#1) :
    tile1 i arg2 harg2 arg3 harg3 arg4 harg4 arg5 harg5 arg6 harg6 arg7 harg7 arg8 harg8 v24 h = both (W := 512) (sDiag shapeCasts_S512x128_S512x128 iota_S512x512_d0_w32 iota_S512x512_d1_w32 0#32) reduces_S512x512_S512 broadcasts_S512x1_S512x512 shapeCasts_S512x128_S512x128 h_S512x128 (k0_off5 i) (k0_off6 i) (k0_off5_inb i h) (k0_off6_inb i h) arg2 arg3 arg4 arg7 arg8 := by
  unfold tile1
  rw [k0_part3_eq_skeleton]
  simp only [k0_part4_eq_skeleton]
  rfl

/-- The body's step where 1 half-tiles lie between the wide tiles and the diagonal. -/
def tile2 (v24 : BitVec 32) (h : k0_cond2 i = 1#1) : Prog (TpuEff nD τ sig (Elt Ideal) Λ₀ .tc) PUnit := do
  let ⟨v149, v167⟩ : Σ' (v149 : BitVec 32), FVec Ideal S512x1 .f32 ← k0_part5 i arg2 harg2 arg3 harg3 arg4 harg4 arg5 harg5 arg6 harg6 arg7 harg7 arg8 harg8 v24 h
  let v206 : FVec Ideal S512x1 .f32 ← k0_part6 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay96 v206) Finset.univ (View.stores_vmem_bits_univ h_S1x512x1 rfl) (.inl rfl))
  pure ⟨⟩

theorem tile2_both (v24 : BitVec 32) (h : k0_cond2 i = 1#1) :
    tile2 i arg2 harg2 arg3 harg3 arg4 harg4 arg5 harg5 arg6 harg6 arg7 harg7 arg8 harg8 v24 h = both (W := 1024) (sDiag shapeCasts_S1024x128_S1024x128 iota_S512x1024_d0_w32 iota_S512x1024_d1_w32 512#32) reduces_S512x1024_S512 broadcasts_S512x1_S512x1024 shapeCasts_S1024x128_S1024x128 h_S1024x128 (k0_off7 i) (k0_off8 i) (k0_off7_inb i h) (k0_off8_inb i h) arg2 arg3 arg4 arg7 arg8 := by
  unfold tile2
  rw [k0_part5_eq_skeleton]
  simp only [k0_part6_eq_skeleton]
  rfl

/-- The body's step where 2 half-tiles lie between the wide tiles and the diagonal. -/
def tile3 (v24 : BitVec 32) (h : k0_cond3 i = 1#1) : Prog (TpuEff nD τ sig (Elt Ideal) Λ₀ .tc) PUnit := do
  let ⟨v149, v167⟩ : Σ' (v149 : BitVec 32), FVec Ideal S512x1 .f32 ← k0_part7 i arg2 harg2 arg3 harg3 arg4 harg4 arg5 harg5 arg6 harg6 arg7 harg7 arg8 harg8 v24 h
  let v206 : FVec Ideal S512x1 .f32 ← k0_part8 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay97 v206) Finset.univ (View.stores_vmem_bits_univ h_S1x512x1 rfl) (.inl rfl))
  pure ⟨⟩

theorem tile3_both (v24 : BitVec 32) (h : k0_cond3 i = 1#1) :
    tile3 i arg2 harg2 arg3 harg3 arg4 harg4 arg5 harg5 arg6 harg6 arg7 harg7 arg8 harg8 v24 h = both (W := 1536) (sDiag shapeCasts_S1536x128_S1536x128 iota_S512x1536_d0_w32 iota_S512x1536_d1_w32 1024#32) reduces_S512x1536_S512 broadcasts_S512x1_S512x1536 shapeCasts_S1536x128_S1536x128 h_S1536x128 (k0_off9 i) (k0_off10 i) (k0_off9_inb i h) (k0_off10_inb i h) arg2 arg3 arg4 arg7 arg8 := by
  unfold tile3
  rw [k0_part7_eq_skeleton]
  simp only [k0_part8_eq_skeleton]
  rfl

/-- The body's step where 3 half-tiles lie between the wide tiles and the diagonal. -/
def tile4 (v24 : BitVec 32) (h : k0_cond4 i = 1#1) : Prog (TpuEff nD τ sig (Elt Ideal) Λ₀ .tc) PUnit := do
  let ⟨v149, v167⟩ : Σ' (v149 : BitVec 32), FVec Ideal S512x1 .f32 ← k0_part9 i arg2 harg2 arg3 harg3 arg4 harg4 arg5 harg5 arg6 harg6 arg7 harg7 arg8 harg8 v24 h
  let v206 : FVec Ideal S512x1 .f32 ← k0_part10 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay98 v206) Finset.univ (View.stores_vmem_bits_univ h_S1x512x1 rfl) (.inl rfl))
  pure ⟨⟩

theorem tile4_both (v24 : BitVec 32) (h : k0_cond4 i = 1#1) :
    tile4 i arg2 harg2 arg3 harg3 arg4 harg4 arg5 harg5 arg6 harg6 arg7 harg7 arg8 harg8 v24 h = both (W := 2048) (sDiag shapeCasts_S2048x128_S2048x128 iota_S512x2048_d0_w32 iota_S512x2048_d1_w32 1536#32) reduces_S512x2048_S512 broadcasts_S512x1_S512x2048 shapeCasts_S2048x128_S2048x128 h_S2048x128 (k0_off11 i) (k0_off12 i) (k0_off11_inb i h) (k0_off12_inb i h) arg2 arg3 arg4 arg7 arg8 := by
  unfold tile4
  rw [k0_part9_eq_skeleton]
  simp only [k0_part10_eq_skeleton]
  rfl

/-- The body's step where 4 half-tiles lie between the wide tiles and the diagonal. -/
def tile5 (v24 : BitVec 32) (h : k0_cond5 i = 1#1) : Prog (TpuEff nD τ sig (Elt Ideal) Λ₀ .tc) PUnit := do
  let ⟨v149, v167⟩ : Σ' (v149 : BitVec 32), FVec Ideal S512x1 .f32 ← k0_part11 i arg2 harg2 arg3 harg3 arg4 harg4 arg5 harg5 arg6 harg6 arg7 harg7 arg8 harg8 v24 h
  let v206 : FVec Ideal S512x1 .f32 ← k0_part12 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay99 v206) Finset.univ (View.stores_vmem_bits_univ h_S1x512x1 rfl) (.inl rfl))
  pure ⟨⟩

theorem tile5_both (v24 : BitVec 32) (h : k0_cond5 i = 1#1) :
    tile5 i arg2 harg2 arg3 harg3 arg4 harg4 arg5 harg5 arg6 harg6 arg7 harg7 arg8 harg8 v24 h = both (W := 2560) (sDiag shapeCasts_S2560x128_S2560x128 iota_S512x2560_d0_w32 iota_S512x2560_d1_w32 2048#32) reduces_S512x2560_S512 broadcasts_S512x1_S512x2560 shapeCasts_S2560x128_S2560x128 h_S2560x128 (k0_off13 i) (k0_off14 i) (k0_off13_inb i h) (k0_off14_inb i h) arg2 arg3 arg4 arg7 arg8 := by
  unfold tile5
  rw [k0_part11_eq_skeleton]
  simp only [k0_part12_eq_skeleton]
  rfl

/-- The body's step where 5 half-tiles lie between the wide tiles and the diagonal. -/
def tile6 (v24 : BitVec 32) (h : k0_cond6 i = 1#1) : Prog (TpuEff nD τ sig (Elt Ideal) Λ₀ .tc) PUnit := do
  let ⟨v149, v167⟩ : Σ' (v149 : BitVec 32), FVec Ideal S512x1 .f32 ← k0_part13 i arg2 harg2 arg3 harg3 arg4 harg4 arg5 harg5 arg6 harg6 arg7 harg7 arg8 harg8 v24 h
  let v206 : FVec Ideal S512x1 .f32 ← k0_part14 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay100 v206) Finset.univ (View.stores_vmem_bits_univ h_S1x512x1 rfl) (.inl rfl))
  pure ⟨⟩

theorem tile6_both (v24 : BitVec 32) (h : k0_cond6 i = 1#1) :
    tile6 i arg2 harg2 arg3 harg3 arg4 harg4 arg5 harg5 arg6 harg6 arg7 harg7 arg8 harg8 v24 h = both (W := 3072) (sDiag shapeCasts_S3072x128_S3072x128 iota_S512x3072_d0_w32 iota_S512x3072_d1_w32 2560#32) reduces_S512x3072_S512 broadcasts_S512x1_S512x3072 shapeCasts_S3072x128_S3072x128 h_S3072x128 (k0_off15 i) (k0_off16 i) (k0_off15_inb i h) (k0_off16_inb i h) arg2 arg3 arg4 arg7 arg8 := by
  unfold tile6
  rw [k0_part13_eq_skeleton]
  simp only [k0_part14_eq_skeleton]
  rfl

/-- The body's step where 6 half-tiles lie between the wide tiles and the diagonal. -/
def tile7 (v24 : BitVec 32) (h : k0_cond7 i = 1#1) : Prog (TpuEff nD τ sig (Elt Ideal) Λ₀ .tc) PUnit := do
  let ⟨v149, v167⟩ : Σ' (v149 : BitVec 32), FVec Ideal S512x1 .f32 ← k0_part15 i arg2 harg2 arg3 harg3 arg4 harg4 arg5 harg5 arg6 harg6 arg7 harg7 arg8 harg8 v24 h
  let v206 : FVec Ideal S512x1 .f32 ← k0_part16 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay101 v206) Finset.univ (View.stores_vmem_bits_univ h_S1x512x1 rfl) (.inl rfl))
  pure ⟨⟩

theorem tile7_both (v24 : BitVec 32) (h : k0_cond7 i = 1#1) :
    tile7 i arg2 harg2 arg3 harg3 arg4 harg4 arg5 harg5 arg6 harg6 arg7 harg7 arg8 harg8 v24 h = both (W := 3584) (sDiag shapeCasts_S3584x128_S3584x128 iota_S512x3584_d0_w32 iota_S512x3584_d1_w32 3072#32) reduces_S512x3584_S512 broadcasts_S512x1_S512x3584 shapeCasts_S3584x128_S3584x128 h_S3584x128 (k0_off17 i) (k0_off18 i) (k0_off17_inb i h) (k0_off18_inb i h) arg2 arg3 arg4 arg7 arg8 := by
  unfold tile7
  rw [k0_part15_eq_skeleton]
  simp only [k0_part16_eq_skeleton]
  rfl

/-- The body's step where 7 half-tiles lie between the wide tiles and the diagonal. -/
def tile8 (v24 : BitVec 32) (h : k0_cond8 i = 1#1) : Prog (TpuEff nD τ sig (Elt Ideal) Λ₀ .tc) PUnit := do
  let ⟨v149, v167⟩ : Σ' (v149 : BitVec 32), FVec Ideal S512x1 .f32 ← k0_part17 i arg2 harg2 arg3 harg3 arg4 harg4 arg5 harg5 arg6 harg6 arg7 harg7 arg8 harg8 v24 h
  let v206 : FVec Ideal S512x1 .f32 ← k0_part18 i arg2 harg2 arg3 harg3 arg4 harg4 arg5 harg5 arg6 harg6 arg7 harg7 arg8 harg8 h v149 v167
  let v225 : Vec Ideal S1x512x1 .f32 ← Prog.lift (.load arg7 (Rect.unit (s := S2x512x1) ![1, 0, 0] S1x512x1.size inb_S2x512x1_S1x512x1_1_0_0).toLoadRect (View.loadsAt_vmem h_S1x512x1))
  Prog.lift (.store arg7 (Rect.unit (s := S2x512x1) ![1, 0, 0] S1x512x1.size inb_S2x512x1_S1x512x1_1_0_0) (k0_pay102 v206) Finset.univ (View.stores_vmem_bits_univ h_S1x512x1 rfl) (.inl rfl))
  pure ⟨⟩

theorem tile8_both (v24 : BitVec 32) (h : k0_cond8 i = 1#1) :
    tile8 i arg2 harg2 arg3 harg3 arg4 harg4 arg5 harg5 arg6 harg6 arg7 harg7 arg8 harg8 v24 h = both (W := 4096) (sDiag shapeCasts_S4096x128_S4096x128 iota_S512x4096_d0_w32 iota_S512x4096_d1_w32 3584#32) reduces_S512x4096_S512 broadcasts_S512x1_S512x4096 shapeCasts_S4096x128_S4096x128 h_S4096x128 (k0_off19 i) (k0_off20 i) (k0_off19_inb i h) (k0_off20_inb i h) arg2 arg3 arg4 arg7 arg8 := by
  unfold tile8
  rw [k0_part17_eq_skeleton]
  simp only [k0_part18_eq_skeleton]
  rfl

end

end Cert.FlashFIdeal.Hand
end
-- ==== Proof.FfTrip.lean ====
/- What the step of the forward body leaves: the maximum and the sums of both heads updated, everything else as it was. -/
module

public import proofs.«01_k».proof.Proof.Gen.FlashFIdeal.Frame
public import proofs.«01_k».proof.Proof.FfBoth

@[expose] public section

set_option maxRecDepth 16384

noncomputable section

namespace Cert.FlashFIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashFIdeal.Gen
open Cert.FlashIdeal.Hand (load_win)

local notation "𝕄" => MT nD τ sig Unit (Elt Ideal) ℕ (UR sig nD τ) ℕ

variable {W : ℕ}

/-- The five blocks that a step touches, each held at its contents. -/
abbrev Held (c : Dev nD) (arg2 : Memref sig .tc .vmem S512x256 .bf16) (arg3 : Memref sig .tc .vmem S8192x256 .bf16) (arg4 : Memref sig .tc .vmem S8192x256 .bf16) (arg7 : Memref sig .tc .vmem S2x512x1 .f32) (arg8 : Memref sig .tc .vmem S2x512x128 .f32)
    (x0 : Vec Ideal S512x256 .bf16) (x1 : Vec Ideal S8192x256 .bf16) (x2 : Vec Ideal S8192x256 .bf16) (d7 : Vec Ideal S2x512x1 .f32) (d8 : Vec Ideal S2x512x128 .f32) : sProp 𝕄 :=
  iprop(owns (c : Thread nD τ) arg2 fullShare x0 ∗ owns (c : Thread nD τ) arg3 fullShare x1 ∗ owns (c : Thread nD τ) arg4 fullShare x2 ∗ owns (c : Thread nD τ) arg7 fullShare d7 ∗ owns (c : Thread nD τ) arg8 fullShare d8)

/-- A head's queries. -/
abbrev qWin0 (x0 : Vec Ideal S512x256 .bf16) : Vec Ideal S512x128 .bf16 := VecWindow.window x0 ![0, 0] S512x128.size inb_S512x256_S512x128_0_0
abbrev qWin1 (x0 : Vec Ideal S512x256 .bf16) : Vec Ideal S512x128 .bf16 := VecWindow.window x0 ![0, 128] S512x128.size inb_S512x256_S512x128_0_128
/-- A tile of keys or values. -/
abbrev kWin (x : Vec Ideal S8192x256 .bf16) (o : Fin 2 → ℕ) (i : ∀ a, o a + (KV W).size a ≤ S8192x256.size a) : Vec Ideal (KV W) .bf16 := VecWindow.window x o (KV W).size i
abbrev mWin0 (d : Vec Ideal S2x512x1 .f32) : Vec Ideal S1x512x1 .f32 := VecWindow.window d ![0, 0, 0] S1x512x1.size inb_S2x512x1_S1x512x1_0_0_0
abbrev mWin1 (d : Vec Ideal S2x512x1 .f32) : Vec Ideal S1x512x1 .f32 := VecWindow.window d ![1, 0, 0] S1x512x1.size inb_S2x512x1_S1x512x1_1_0_0
abbrev aWin0 (d : Vec Ideal S2x512x128 .f32) : Vec Ideal S1x512x128 .f32 := VecWindow.window d ![0, 0, 0] S1x512x128.size inb_S2x512x128_S1x512x128_0_0_0
abbrev aWin1 (d : Vec Ideal S2x512x128 .f32) : Vec Ideal S1x512x128 .f32 := VecWindow.window d ![1, 0, 0] S1x512x128.size inb_S2x512x128_S1x512x128_1_0_0
/-- Both heads' rows put, the first's and then the second's. -/
abbrev put2 {b : ℕ} (d : (⟨3, ![2, 512, b]⟩ : Shape).Idx → EReal) (w0 w1 : (⟨3, ![1, 512, b]⟩ : Shape).Idx → EReal) : (⟨3, ![2, 512, b]⟩ : Shape).Idx → EReal :=
  VecWindow.put (VecWindow.put d ![0, 0, 0] (⟨3, ![1, 512, b]⟩ : Shape).size w0) ![1, 0, 0] (⟨3, ![1, 512, b]⟩ : Shape).size w1

set_option maxHeartbeats 2000000 in
theorem both_held (sc : Vec Ideal S512x128 .bf16 → Vec Ideal (KV W) .bf16 → FVec Ideal (SC W) .f32) (red : (SC W).Reduces [1] S512) (bc : S512x1.Broadcasts (SC W)) (kc : (KV W).ShapeCasts (KV W)) (hk : 0 < (KV W).numel)
    (o0 o1 : Fin 2 → ℕ) (i0 : ∀ a, o0 a + (KV W).size a ≤ S8192x256.size a) (i1 : ∀ a, o1 a + (KV W).size a ≤ S8192x256.size a) (c : Dev nD) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg7 : Memref sig .tc .vmem S2x512x1 .f32) (harg7 : arg7.IsWhole) (arg8 : Memref sig .tc .vmem S2x512x128 .f32) (harg8 : arg8.IsWhole) (E : Set ℕ)
    (x0 : Vec Ideal S512x256 .bf16) (x1 : Vec Ideal S8192x256 .bf16) (x2 : Vec Ideal S8192x256 .bf16) (d7 : Vec Ideal S2x512x1 .f32) (d8 : Vec Ideal S2x512x128 .f32) :
    Held c arg2 arg3 arg4 arg7 arg8 x0 x1 x2 d7 d8
      ⊢ wp frame (wpE (defs₀ (F := Ideal)) Variants.none c none) E (both sc red bc kc hk o0 o1 i0 i1 arg2 arg3 arg4 arg7 arg8)
       (fun _ => Held c arg2 arg3 arg4 arg7 arg8 x0 x1 x2
         (put2 d7 (payM red (sc (qWin0 x0) (kWin x1 o0 i0)) (mWin0 d7)) (payM red (sc (qWin1 x0) (kWin x1 o1 i1)) (mWin1 d7)))
         (put2 d8 (payA red bc kc (sc (qWin0 x0) (kWin x1 o0 i0)) (mWin0 d7) (aWin0 d8) (kWin x2 o0 i0)) (payA red bc kc (sc (qWin1 x0) (kWin x1 o1 i1)) (mWin1 d7) (aWin1 d8) (kWin x2 o1 i1)))) := by
    unfold both Held owns
    iintro ⟨⟨%f0, %hf0, H0⟩, ⟨%f1, %hf1, H1⟩, ⟨%f2, %hf2, H2⟩, ⟨%fs0, %hfs0, HS0⟩, ⟨%fs1, %hfs1, HS1⟩⟩
    obtain rfl := harg2.eq_unread hf0; obtain rfl := harg3.eq_unread hf1; obtain rfl := harg4.eq_unread hf2
    obtain rfl := harg7.eq_unread hfs0; obtain rfl := harg8.eq_unread hfs1
    sl_exec
    sl_step
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    have hq0 := load_win arg2 harg2 x0 inb_S512x256_S512x128_0_0 rfl inb_S512x256_S512x128_0_0
    have hq1 := load_win arg2 harg2 x0 inb_S512x256_S512x128_0_128 rfl inb_S512x256_S512x128_0_128
    have hk0 := load_win arg3 harg3 x1 i0 rfl i0
    have hk1 := load_win arg3 harg3 x1 i1 rfl i1
    have hv0 := load_win arg4 harg4 x2 i0 rfl i0
    have hv1 := load_win arg4 harg4 x2 i1 rfl i1
    have hm0 := load_win arg7 harg7 d7 inb_S2x512x1_S1x512x1_0_0_0 rfl inb_S2x512x1_S1x512x1_0_0_0
    have hm1 := load_win arg7 harg7 d7 inb_S2x512x1_S1x512x1_1_0_0 rfl inb_S2x512x1_S1x512x1_1_0_0
    have ha0 := load_win arg8 harg8 d8 inb_S2x512x128_S1x512x128_0_0_0 rfl inb_S2x512x128_S1x512x128_0_0_0
    have ha1 := load_win arg8 harg8 d8 inb_S2x512x128_S1x512x128_1_0_0 rfl inb_S2x512x128_S1x512x128_1_0_0
    isplitl [HS0]
    · iexists _; isplitr; swap; · iexact HS0
      ipureintro
      rw [View.read_writes_cons_put _ _ _ _ _ rfl, View.read_writes_cons_put _ _ _ _ _ rfl, View.writes_nil, harg7.read_unread,
        hq0, hq1, hk0, hk1, hm0, show both_held.sl.m1 c arg7 harg7 d7 = _ from hm1]
    iexists _; isplitr; swap; · iexact HS1
    ipureintro
    rw [View.read_writes_cons_put _ _ _ _ _ rfl, View.read_writes_cons_put _ _ _ _ _ rfl, View.writes_nil, harg8.read_unread,
      hq0, hq1, hk0, hk1, hv0, hv1, hm0, ha0, show both_held.sl.m1 c arg7 harg7 d7 = _ from hm1, show both_held.sl.a1 c arg8 harg8 d8 = _ from ha1]

end Cert.FlashFIdeal.Hand
end
-- ==== Proof.FfRow.lean ====
/- The forward body as four programs in a row: the two cleared, the wide tiles, the tile on the diagonal, the two results put. -/
module

public import proofs.«01_k».proof.Proof.FfTrip

@[expose] public section

set_option maxRecDepth 16384

noncomputable section

namespace Cert.FlashFIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashFIdeal.Gen
open Cert.FlashIdeal.Hand (load_win)

local notation "𝕄" => MT nD τ sig Unit (Elt Ideal) ℕ (UR sig nD τ) ℕ

/-- How many wide tiles lie before a block of queries, as the body's word. -/
def word24 (i : grid0.Coords) : BitVec 32 :=
  let arg1 : BitVec 32 := BitVec.ofNat 32 (i 1).val
  let v8 : BitVec 32 := Scalar.divsi arg1 8#32
  let v9 : BitVec 1 := Scalar.cmpi .sgt arg1 0#32
  let v10 : BitVec 32 := Scalar.extui v9
  let v11 : BitVec 1 := Scalar.cmpi .slt arg1 0#32
  let v12 : BitVec 32 := Scalar.extui v11
  let v13 : BitVec 32 := Scalar.subi v10 v12
  let v14 : BitVec 1 := Scalar.cmpi .sgt 8#32 0#32
  let v15 : BitVec 32 := Scalar.extui v14
  let v16 : BitVec 1 := Scalar.cmpi .slt 8#32 0#32
  let v17 : BitVec 32 := Scalar.extui v16
  let v18 : BitVec 32 := Scalar.subi v15 v17
  let v19 : BitVec 1 := Scalar.cmpi .ne v13 v18
  let v20 : BitVec 32 := Scalar.remsi arg1 8#32
  let v21 : BitVec 1 := Scalar.cmpi .ne v20 0#32
  let v22 : BitVec 1 := Scalar.andi v19 v21
  let v23 : BitVec 32 := Scalar.subi v8 1#32
  Scalar.select v22 v23 v8

/-- The last trip's bound of the body's second loop, as its word. -/
def word29 (i : grid0.Coords) : BitVec 32 := Scalar.addi 0#32 (Scalar.muli (Scalar.divsi (Scalar.subi (word24 i) 0#32) 1#32) 1#32)

/-- The maximum and the sums cleared. -/
def clear (arg7 : Memref sig .tc .vmem S2x512x1 .f32) (arg8 : Memref sig .tc .vmem S2x512x128 .f32) : Prog (TpuEff nD τ sig (Elt Ideal) Λ₀ .tc) PUnit := do
  let v1 : Vec Ideal S2x512x1 .f32 ← Prog.lift (.load arg7 (Rect.unit (s := S2x512x1) ![0, 0, 0] S2x512x1.size inb_S2x512x1_S2x512x1_0_0_0).toLoadRect (View.loadsAt_vmem h_S2x512x1))
  Prog.lift (.store arg7 (Rect.unit (s := S2x512x1) ![0, 0, 0] S2x512x1.size inb_S2x512x1_S2x512x1_0_0_0) (k0_pay83 (F := Ideal)) Finset.univ (View.stores_vmem_bits_univ h_S2x512x1 rfl) (.inl rfl))
  let v5 : Vec Ideal S2x512x128 .f32 ← Prog.lift (.load arg8 (Rect.unit (s := S2x512x128) ![0, 0, 0] S2x512x128.size inb_S2x512x128_S2x512x128_0_0_0).toLoadRect (View.loadsAt_vmem h_S2x512x128))
  Prog.lift (.store arg8 (Rect.unit (s := S2x512x128) ![0, 0, 0] S2x512x128.size inb_S2x512x128_S2x512x128_0_0_0) (k0_pay84 (F := Ideal)) Finset.univ (View.stores_vmem_bits_univ h_S2x512x128 rfl) (.inl rfl))
  pure ⟨⟩

/-- The two loops over the wide tiles; the second has no trip. -/
def wides (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S2x512x1 .f32) (harg7 : arg7.IsWhole) (arg8 : Memref sig .tc .vmem S2x512x128 .f32) (harg8 : arg8.IsWhole) : Prog (TpuEff nD τ sig (Elt Ideal) Λ₀ .tc) PUnit := do
  Scf.Loop.for (k0_t1_loop i) (k0_t1_ok i) ⟨⟩ (k0_t1_body (F := Ideal) i arg2 harg2 arg3 harg3 arg4 harg4 arg5 harg5 arg6 harg6 arg7 harg7 arg8 harg8)
  Scf.Loop.for (k0_t2_loop i) (k0_t2_ok i) ⟨⟩ (k0_t2_body (F := Ideal) i arg2 harg2 arg3 harg3 arg4 harg4 arg5 harg5 arg6 harg6 arg7 harg7 arg8 harg8 (word29 i))

/-- The two results put. -/
def tail (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S2x512x1 .f32) (harg7 : arg7.IsWhole) (arg8 : Memref sig .tc .vmem S2x512x128 .f32) (harg8 : arg8.IsWhole) : Prog (TpuEff nD τ sig (Elt Ideal) Λ₀ .tc) PUnit := do
  let v70 : Vec Ideal S1x512x128 .f32 ← Prog.lift (.load arg8 (Rect.unit (s := S2x512x128) ![0, 0, 0] S1x512x128.size inb_S2x512x128_S1x512x128_0_0_0).toLoadRect (View.loadsAt_vmem h_S1x512x128))
  let v78 : Vec Ideal S512x128 .bf16 ← Prog.lift (.load arg5 (Rect.unit (s := S512x256) ![0, 0] S512x128.size inb_S512x256_S512x128_0_0).toLoadRect (View.loadsAt_vmem h_S512x128))
  Prog.lift (.store arg5 (Rect.unit (s := S512x256) ![0, 0] S512x128.size inb_S512x256_S512x128_0_0) (k0_pay105 v70) Finset.univ (View.stores_vmem h_S512x128 (harg5.storeExact_slice rfl _ packedbf16_S512x256_S512x128_0_0) (fun _ => rfl)) (.inl rfl))
  let v79 : Vec Ideal S512x128 .bf16 ← Prog.lift (.load arg2 (Rect.unit (s := S512x256) ![0, 0] S512x128.size inb_S512x256_S512x128_0_0).toLoadRect (View.loadsAt_vmem h_S512x128))
  let v81 : Vec Ideal S1x512x1 .f32 ← Prog.lift (.load arg7 (Rect.unit (s := S2x512x1) ![0, 0, 0] S1x512x1.size inb_S2x512x1_S1x512x1_0_0_0).toLoadRect (View.loadsAt_vmem h_S1x512x1))
  let v108 : Vec Ideal S512x128 .bf16 ← Prog.lift (.load arg6 (Rect.unit (s := S512x256) ![0, 0] S512x128.size inb_S512x256_S512x128_0_0).toLoadRect (View.loadsAt_vmem h_S512x128))
  Prog.lift (.store arg6 (Rect.unit (s := S512x256) ![0, 0] S512x128.size inb_S512x256_S512x128_0_0) (k0_pay113 (k0_pay110 v70 v79 v81) k0_pay111 (k0_pay112 v70 v81)) Finset.univ (View.stores_vmem h_S512x128 (harg6.storeExact_slice rfl _ packedbf16_S512x256_S512x128_0_0) (fun _ => rfl)) (.inl rfl))
  let v109 : Vec Ideal S1x512x128 .f32 ← Prog.lift (.load arg8 (Rect.unit (s := S2x512x128) ![1, 0, 0] S1x512x128.size inb_S2x512x128_S1x512x128_1_0_0).toLoadRect (View.loadsAt_vmem h_S1x512x128))
  let v117 : Vec Ideal S512x128 .bf16 ← Prog.lift (.load arg5 (Rect.unit (s := S512x256) ![0, 128] S512x128.size inb_S512x256_S512x128_0_128).toLoadRect (View.loadsAt_vmem h_S512x128))
  Prog.lift (.store arg5 (Rect.unit (s := S512x256) ![0, 128] S512x128.size inb_S512x256_S512x128_0_128) (k0_pay116 v109) Finset.univ (View.stores_vmem h_S512x128 (harg5.storeExact_slice rfl _ packedbf16_S512x256_S512x128_0_128) (fun _ => rfl)) (.inl rfl))
  let v118 : Vec Ideal S512x128 .bf16 ← Prog.lift (.load arg2 (Rect.unit (s := S512x256) ![0, 128] S512x128.size inb_S512x256_S512x128_0_128).toLoadRect (View.loadsAt_vmem h_S512x128))
  let v120 : Vec Ideal S1x512x1 .f32 ← Prog.lift (.load arg7 (Rect.unit (s := S2x512x1) ![1, 0, 0] S1x512x1.size inb_S2x512x1_S1x512x1_1_0_0).toLoadRect (View.loadsAt_vmem h_S1x512x1))
  let v147 : Vec Ideal S512x128 .bf16 ← Prog.lift (.load arg6 (Rect.unit (s := S512x256) ![0, 128] S512x128.size inb_S512x256_S512x128_0_128).toLoadRect (View.loadsAt_vmem h_S512x128))
  Prog.lift (.store arg6 (Rect.unit (s := S512x256) ![0, 128] S512x128.size inb_S512x256_S512x128_0_128) (k0_pay117 v109 v118 v120) Finset.univ (View.stores_vmem h_S512x128 (harg6.storeExact_slice rfl _ packedbf16_S512x256_S512x128_0_128) (fun _ => rfl)) (.inl rfl))
  pure ⟨⟩

theorem cond1_iff : ∀ i : grid0.Coords, k0_cond1 i = 1#1 ↔ (i 1).val % 8 = 0 := by decide +kernel
theorem cond2_iff : ∀ i : grid0.Coords, k0_cond2 i = 1#1 ↔ (i 1).val % 8 = 1 := by decide +kernel
theorem cond3_iff : ∀ i : grid0.Coords, k0_cond3 i = 1#1 ↔ (i 1).val % 8 = 2 := by decide +kernel
theorem cond4_iff : ∀ i : grid0.Coords, k0_cond4 i = 1#1 ↔ (i 1).val % 8 = 3 := by decide +kernel
theorem cond5_iff : ∀ i : grid0.Coords, k0_cond5 i = 1#1 ↔ (i 1).val % 8 = 4 := by decide +kernel
theorem cond6_iff : ∀ i : grid0.Coords, k0_cond6 i = 1#1 ↔ (i 1).val % 8 = 5 := by decide +kernel
theorem cond7_iff : ∀ i : grid0.Coords, k0_cond7 i = 1#1 ↔ (i 1).val % 8 = 6 := by decide +kernel
theorem cond8_iff : ∀ i : grid0.Coords, k0_cond8 i = 1#1 ↔ (i 1).val % 8 = 7 := by decide +kernel

section
variable (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S2x512x1 .f32) (harg7 : arg7.IsWhole) (arg8 : Memref sig .tc .vmem S2x512x128 .f32) (harg8 : arg8.IsWhole)

/-- The four in a row, the tile on the diagonal being `T`. -/
def row (T : Prog (TpuEff nD τ sig (Elt Ideal) Λ₀ .tc) PUnit) : Prog (TpuEff nD τ sig (Elt Ideal) Λ₀ .tc) PUnit := do
  clear arg7 arg8
  wides i arg2 harg2 arg3 harg3 arg4 harg4 arg5 harg5 arg6 harg6 arg7 harg7 arg8 harg8
  T
  tail arg2 harg2 arg3 harg3 arg4 harg4 arg5 harg5 arg6 harg6 arg7 harg7 arg8 harg8

theorem row1 (h : (i 1).val % 8 = 0) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile1 i arg2 harg2 arg3 harg3 arg4 harg4 arg5 harg5 arg6 harg6 arg7 harg7 arg8 harg8 (word24 i) ((cond1_iff i).2 h)) := by
  have h1 : k0_cond1 i = 1#1 := (cond1_iff i).2 h
  have h2 : ¬ k0_cond2 i = 1#1 := fun hc => by have := (cond2_iff i).1 hc; omega
  have h3 : ¬ k0_cond3 i = 1#1 := fun hc => by have := (cond3_iff i).1 hc; omega
  have h4 : ¬ k0_cond4 i = 1#1 := fun hc => by have := (cond4_iff i).1 hc; omega
  have h5 : ¬ k0_cond5 i = 1#1 := fun hc => by have := (cond5_iff i).1 hc; omega
  have h6 : ¬ k0_cond6 i = 1#1 := fun hc => by have := (cond6_iff i).1 hc; omega
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile1
  simp only [dif_pos h1, dif_neg h2, dif_neg h3, dif_neg h4, dif_neg h5, dif_neg h6, dif_neg h7, dif_neg h8, bind_assoc, pure_bind]
  rfl

theorem row2 (h : (i 1).val % 8 = 1) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile2 i arg2 harg2 arg3 harg3 arg4 harg4 arg5 harg5 arg6 harg6 arg7 harg7 arg8 harg8 (word24 i) ((cond2_iff i).2 h)) := by
  have h1 : ¬ k0_cond1 i = 1#1 := fun hc => by have := (cond1_iff i).1 hc; omega
  have h2 : k0_cond2 i = 1#1 := (cond2_iff i).2 h
  have h3 : ¬ k0_cond3 i = 1#1 := fun hc => by have := (cond3_iff i).1 hc; omega
  have h4 : ¬ k0_cond4 i = 1#1 := fun hc => by have := (cond4_iff i).1 hc; omega
  have h5 : ¬ k0_cond5 i = 1#1 := fun hc => by have := (cond5_iff i).1 hc; omega
  have h6 : ¬ k0_cond6 i = 1#1 := fun hc => by have := (cond6_iff i).1 hc; omega
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile2
  simp only [dif_neg h1, dif_pos h2, dif_neg h3, dif_neg h4, dif_neg h5, dif_neg h6, dif_neg h7, dif_neg h8, bind_assoc, pure_bind]
  rfl

theorem row3 (h : (i 1).val % 8 = 2) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile3 i arg2 harg2 arg3 harg3 arg4 harg4 arg5 harg5 arg6 harg6 arg7 harg7 arg8 harg8 (word24 i) ((cond3_iff i).2 h)) := by
  have h1 : ¬ k0_cond1 i = 1#1 := fun hc => by have := (cond1_iff i).1 hc; omega
  have h2 : ¬ k0_cond2 i = 1#1 := fun hc => by have := (cond2_iff i).1 hc; omega
  have h3 : k0_cond3 i = 1#1 := (cond3_iff i).2 h
  have h4 : ¬ k0_cond4 i = 1#1 := fun hc => by have := (cond4_iff i).1 hc; omega
  have h5 : ¬ k0_cond5 i = 1#1 := fun hc => by have := (cond5_iff i).1 hc; omega
  have h6 : ¬ k0_cond6 i = 1#1 := fun hc => by have := (cond6_iff i).1 hc; omega
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile3
  simp only [dif_neg h1, dif_neg h2, dif_pos h3, dif_neg h4, dif_neg h5, dif_neg h6, dif_neg h7, dif_neg h8, bind_assoc, pure_bind]
  rfl

theorem row4 (h : (i 1).val % 8 = 3) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile4 i arg2 harg2 arg3 harg3 arg4 harg4 arg5 harg5 arg6 harg6 arg7 harg7 arg8 harg8 (word24 i) ((cond4_iff i).2 h)) := by
  have h1 : ¬ k0_cond1 i = 1#1 := fun hc => by have := (cond1_iff i).1 hc; omega
  have h2 : ¬ k0_cond2 i = 1#1 := fun hc => by have := (cond2_iff i).1 hc; omega
  have h3 : ¬ k0_cond3 i = 1#1 := fun hc => by have := (cond3_iff i).1 hc; omega
  have h4 : k0_cond4 i = 1#1 := (cond4_iff i).2 h
  have h5 : ¬ k0_cond5 i = 1#1 := fun hc => by have := (cond5_iff i).1 hc; omega
  have h6 : ¬ k0_cond6 i = 1#1 := fun hc => by have := (cond6_iff i).1 hc; omega
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile4
  simp only [dif_neg h1, dif_neg h2, dif_neg h3, dif_pos h4, dif_neg h5, dif_neg h6, dif_neg h7, dif_neg h8, bind_assoc, pure_bind]
  rfl

theorem row5 (h : (i 1).val % 8 = 4) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile5 i arg2 harg2 arg3 harg3 arg4 harg4 arg5 harg5 arg6 harg6 arg7 harg7 arg8 harg8 (word24 i) ((cond5_iff i).2 h)) := by
  have h1 : ¬ k0_cond1 i = 1#1 := fun hc => by have := (cond1_iff i).1 hc; omega
  have h2 : ¬ k0_cond2 i = 1#1 := fun hc => by have := (cond2_iff i).1 hc; omega
  have h3 : ¬ k0_cond3 i = 1#1 := fun hc => by have := (cond3_iff i).1 hc; omega
  have h4 : ¬ k0_cond4 i = 1#1 := fun hc => by have := (cond4_iff i).1 hc; omega
  have h5 : k0_cond5 i = 1#1 := (cond5_iff i).2 h
  have h6 : ¬ k0_cond6 i = 1#1 := fun hc => by have := (cond6_iff i).1 hc; omega
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile5
  simp only [dif_neg h1, dif_neg h2, dif_neg h3, dif_neg h4, dif_pos h5, dif_neg h6, dif_neg h7, dif_neg h8, bind_assoc, pure_bind]
  rfl

theorem row6 (h : (i 1).val % 8 = 5) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile6 i arg2 harg2 arg3 harg3 arg4 harg4 arg5 harg5 arg6 harg6 arg7 harg7 arg8 harg8 (word24 i) ((cond6_iff i).2 h)) := by
  have h1 : ¬ k0_cond1 i = 1#1 := fun hc => by have := (cond1_iff i).1 hc; omega
  have h2 : ¬ k0_cond2 i = 1#1 := fun hc => by have := (cond2_iff i).1 hc; omega
  have h3 : ¬ k0_cond3 i = 1#1 := fun hc => by have := (cond3_iff i).1 hc; omega
  have h4 : ¬ k0_cond4 i = 1#1 := fun hc => by have := (cond4_iff i).1 hc; omega
  have h5 : ¬ k0_cond5 i = 1#1 := fun hc => by have := (cond5_iff i).1 hc; omega
  have h6 : k0_cond6 i = 1#1 := (cond6_iff i).2 h
  have h7 : ¬ k0_cond7 i = 1#1 := fun hc => by have := (cond7_iff i).1 hc; omega
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile6
  simp only [dif_neg h1, dif_neg h2, dif_neg h3, dif_neg h4, dif_neg h5, dif_pos h6, dif_neg h7, dif_neg h8, bind_assoc, pure_bind]
  rfl

theorem row7 (h : (i 1).val % 8 = 6) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile7 i arg2 harg2 arg3 harg3 arg4 harg4 arg5 harg5 arg6 harg6 arg7 harg7 arg8 harg8 (word24 i) ((cond7_iff i).2 h)) := by
  have h1 : ¬ k0_cond1 i = 1#1 := fun hc => by have := (cond1_iff i).1 hc; omega
  have h2 : ¬ k0_cond2 i = 1#1 := fun hc => by have := (cond2_iff i).1 hc; omega
  have h3 : ¬ k0_cond3 i = 1#1 := fun hc => by have := (cond3_iff i).1 hc; omega
  have h4 : ¬ k0_cond4 i = 1#1 := fun hc => by have := (cond4_iff i).1 hc; omega
  have h5 : ¬ k0_cond5 i = 1#1 := fun hc => by have := (cond5_iff i).1 hc; omega
  have h6 : ¬ k0_cond6 i = 1#1 := fun hc => by have := (cond6_iff i).1 hc; omega
  have h7 : k0_cond7 i = 1#1 := (cond7_iff i).2 h
  have h8 : ¬ k0_cond8 i = 1#1 := fun hc => by have := (cond8_iff i).1 hc; omega
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile7
  simp only [dif_neg h1, dif_neg h2, dif_neg h3, dif_neg h4, dif_neg h5, dif_neg h6, dif_pos h7, dif_neg h8, bind_assoc, pure_bind]
  rfl

theorem row8 (h : (i 1).val % 8 = 7) :
    cc0_mla_flash_fwd_skel (F := Ideal) i arg2 harg2 arg3 harg3 arg4 harg4 arg5 harg5 arg6 harg6 arg7 harg7 arg8 harg8 = row i arg2 harg2 arg3 harg3 arg4 harg4 arg5 harg5 arg6 harg6 arg7 harg7 arg8 harg8 (tile8 i arg2 harg2 arg3 harg3 arg4 harg4 arg5 harg5 arg6 harg6 arg7 harg7 arg8 harg8 (word24 i) ((cond8_iff i).2 h)) := by
  have h1 : ¬ k0_cond1 i = 1#1 := fun hc => by have := (cond1_iff i).1 hc; omega
  have h2 : ¬ k0_cond2 i = 1#1 := fun hc => by have := (cond2_iff i).1 hc; omega
  have h3 : ¬ k0_cond3 i = 1#1 := fun hc => by have := (cond3_iff i).1 hc; omega
  have h4 : ¬ k0_cond4 i = 1#1 := fun hc => by have := (cond4_iff i).1 hc; omega
  have h5 : ¬ k0_cond5 i = 1#1 := fun hc => by have := (cond5_iff i).1 hc; omega
  have h6 : ¬ k0_cond6 i = 1#1 := fun hc => by have := (cond6_iff i).1 hc; omega
  have h7 : ¬ k0_cond7 i = 1#1 := fun hc => by have := (cond7_iff i).1 hc; omega
  have h8 : k0_cond8 i = 1#1 := (cond8_iff i).2 h
  unfold cc0_mla_flash_fwd_skel
  rw [k0_part19_eq_skeleton]
  simp only [k0_part20_eq_skeleton, k0_part21_eq_skeleton, k0_part22_eq_skeleton]
  unfold k0_part20_skel k0_part21_skel k0_part19_skel k0_part22_skel row clear wides tail tile8
  simp only [dif_neg h1, dif_neg h2, dif_neg h3, dif_neg h4, dif_neg h5, dif_neg h6, dif_neg h7, dif_pos h8, bind_assoc, pure_bind]
  rfl

end

end Cert.FlashFIdeal.Hand
end
-- ==== Proof.FfSem.lean ====
/- The step of the forward body in plain terms: from a maximum and sums per head and query, the new maximum over the tile's scores and the new sums. -/
module

public import proofs.«01_k».proof.Proof.FfTrip

@[expose] public section

set_option maxRecDepth 16384

noncomputable section

namespace Cert.FlashFIdeal.Hand

open Idealize.ShloMosaic Idealize.ShloMosaic.TcCoe
open Cert.FlashFIdeal.Gen
open Cert.FlashIdeal.Hand (at2 at2_of window_at)

/-- The score of query `p` of the block and key `j` of the tile that begins at key `n`, for head `h` of the pair; −∞ where the key lies behind the query. -/
def score (x0 : Vec Ideal S512x256 .bf16) (x1 : Vec Ideal S8192x256 .bf16) (n off h p j : ℕ) : EReal :=
  if j ≤ p + off then ∑ t : Fin 128, at2 x0 p (128 * h + t.val) * at2 x1 (n + j) (128 * h + t.val) else ⊥

/-- The greatest of the maximum and the tile's scores. -/
def nextM (x0 : Vec Ideal S512x256 .bf16) (x1 : Vec Ideal S8192x256 .bf16) (n off W : ℕ) (d : Vec Ideal S2x512x1 .f32) : Vec Ideal S2x512x1 .f32 := fun y =>
  max (d y) (Finset.univ.sup fun j : Fin W => score x0 x1 n off (y 0).val (y 1).val j.val)

/-- The sums, scaled to the new maximum, and the tile's weighted values. -/
def nextA (x0 : Vec Ideal S512x256 .bf16) (x1 x2 : Vec Ideal S8192x256 .bf16) (n off W : ℕ) (d : Vec Ideal S2x512x1 .f32) (a : Vec Ideal S2x512x128 .f32) : Vec Ideal S2x512x128 .f32 := fun y =>
  Ideal.exp (d (ix3 (y 0) (y 1) 0) - nextM x0 x1 n off W d (ix3 (y 0) (y 1) 0)) * a y
    + ∑ j : Fin W, Ideal.exp (score x0 x1 n off (y 0).val (y 1).val j.val - nextM x0 x1 n off W d (ix3 (y 0) (y 1) 0)) * at2 x2 (n + j.val) (128 * (y 0).val + (y 2).val)

theorem put2_at0 {b : ℕ} (d : (⟨3, ![2, 512, b]⟩ : Shape).Idx → EReal) (w0 w1 : (⟨3, ![1, 512, b]⟩ : Shape).Idx → EReal) (p : Fin 512) (l : Fin b) :
    put2 d w0 w1 (ix3 0 p l) = w0 (ix3 0 p l) := by
  refine (dif_neg fun hm => ?_).trans ((dif_pos fun a => ?_).trans (congrArg w0 ?_))
  · exact absurd (hm 0).1 (by show ¬ (1 : ℕ) ≤ 0; omega)
  · have := p.isLt; have := l.isLt
    fin_cases a
    · exact ⟨Nat.le_refl 0, Nat.lt_succ_self 0⟩
    · exact ⟨Nat.zero_le _, by show p.val < 0 + 512; omega⟩
    · exact ⟨Nat.zero_le _, by show l.val < 0 + b; omega⟩
  · funext a; apply Fin.ext; fin_cases a <;> rfl

theorem put2_at1 {b : ℕ} (d : (⟨3, ![2, 512, b]⟩ : Shape).Idx → EReal) (w0 w1 : (⟨3, ![1, 512, b]⟩ : Shape).Idx → EReal) (p : Fin 512) (l : Fin b) :
    put2 d w0 w1 (ix3 1 p l) = w1 (ix3 0 p l) := by
  refine (dif_pos fun a => ?_).trans (congrArg w1 ?_)
  · have := p.isLt; have := l.isLt
    fin_cases a
    · exact ⟨Nat.le_refl 1, Nat.lt_succ_self 1⟩
    · exact ⟨Nat.zero_le _, by show p.val < 0 + 512; omega⟩
    · exact ⟨Nat.zero_le _, by show l.val < 0 + b; omega⟩
  · funext a; apply Fin.ext; fin_cases a <;> rfl

theorem ext2 {b : ℕ} {f g : (⟨3, ![2, 512, b]⟩ : Shape).Idx → EReal} (h0 : ∀ (p : Fin 512) (l : Fin b), f (ix3 0 p l) = g (ix3 0 p l)) (h1 : ∀ (p : Fin 512) (l : Fin b), f (ix3 1 p l) = g (ix3 1 p l)) : f = g := by
  have key : ∀ (h : Fin 2) (p : Fin 512) (l : Fin b), f (ix3 h p l) = g (ix3 h p l) := fun h p l => by
    fin_cases h
    · exact h0 p l
    · exact h1 p l
  funext y
  exact (congrArg f (eq_ix3 y)).trans ((key (y 0) (y 1) (y 2)).trans (congrArg g (eq_ix3 y)).symm)

theorem mWin0_at (d : Vec Ideal S2x512x1 .f32) (p : Fin 512) : mWin0 d (ix3 0 p 0) = d (ix3 0 p 0) := congrArg d (by funext a; apply Fin.ext; fin_cases a <;> simp [Rect.unit, Rect.emb, ix3])
theorem mWin1_at (d : Vec Ideal S2x512x1 .f32) (p : Fin 512) : mWin1 d (ix3 0 p 0) = d (ix3 1 p 0) := congrArg d (by funext a; apply Fin.ext; fin_cases a <;> simp [Rect.unit, Rect.emb, ix3])
theorem aWin0_at (d : Vec Ideal S2x512x128 .f32) (p : Fin 512) (l : Fin 128) : aWin0 d (ix3 0 p l) = d (ix3 0 p l) := congrArg d (by funext a; apply Fin.ext; fin_cases a <;> simp [Rect.unit, Rect.emb, ix3])
theorem aWin1_at (d : Vec Ideal S2x512x128 .f32) (p : Fin 512) (l : Fin 128) : aWin1 d (ix3 0 p l) = d (ix3 1 p l) := congrArg d (by funext a; apply Fin.ext; fin_cases a <;> simp [Rect.unit, Rect.emb, ix3])

variable {W : ℕ}

/-- That a tile's scores, as the body computes them, are a mask `off` over the products. -/
def Scores (sc : Vec Ideal S512x128 .bf16 → Vec Ideal (KV W) .bf16 → FVec Ideal (SC W) .f32) (off : ℕ) : Prop :=
  ∀ q k (p : Fin 512) (j : Fin W), sc q k (ix2 p j) = if j.val ≤ p.val + off then ∑ t : Fin 128, q (ix2 p t) * k (ix2 j t) else (⊥ : EReal)

theorem scores_wide (kc : (KV W).ShapeCasts (KV W)) : Scores (sWide kc) W := fun q k p j => by
  rw [sWide_at, if_pos (by have := j.isLt; omega)]

theorem scores_diag (kc : (KV W).ShapeCasts (KV W)) (j0 : (SC W).Iotas .tc 32 [0]) (j1 : (SC W).Iotas .tc 32 [1]) (off : ℕ) (hW : W < 2 ^ 30) (ho : off < 2 ^ 30) :
    Scores (sDiag kc j0 j1 (BitVec.ofNat 32 off)) off := fun q k p j => sDiag_at kc j0 j1 off hW ho q k p j

section
variable {sc : Vec Ideal S512x128 .bf16 → Vec Ideal (KV W) .bf16 → FVec Ideal (SC W) .f32} {off n : ℕ} (hs : Scores sc off)
  (x0 : Vec Ideal S512x256 .bf16) (x1 x2 : Vec Ideal S8192x256 .bf16)
include hs

theorem score0 (i0 : ∀ a, (![n, 0] : Fin 2 → ℕ) a + (KV W).size a ≤ S8192x256.size a) (p : Fin 512) (j : Fin W) :
    sc (qWin0 x0) (kWin x1 ![n, 0] i0) (ix2 p j) = score x0 x1 n off 0 p.val j.val := by
  rw [hs]
  unfold score
  refine if_congr Iff.rfl (Finset.sum_congr rfl fun t _ => ?_) rfl
  exact Ideal.mul_congr ((window_at x0 inb_S512x256_S512x128_0_0 p t).trans (by rw [Nat.zero_add, Nat.zero_add])) ((window_at x1 i0 j t).trans (by rw [Nat.zero_add]))

theorem score1 (i1 : ∀ a, (![n, 128] : Fin 2 → ℕ) a + (KV W).size a ≤ S8192x256.size a) (p : Fin 512) (j : Fin W) :
    sc (qWin1 x0) (kWin x1 ![n, 128] i1) (ix2 p j) = score x0 x1 n off 1 p.val j.val := by
  rw [hs]
  unfold score
  refine if_congr Iff.rfl (Finset.sum_congr rfl fun t _ => ?_) rfl
  exact Ideal.mul_congr ((window_at x0 inb_S512x256_S512x128_0_128 p t).trans (by rw [Nat.zero_add])) ((window_at x1 i1 j t).trans rfl)

theorem putM (red : (SC W).Reduces [1] S512) (i0 : ∀ a, (![n, 0] : Fin 2 → ℕ) a + (KV W).size a ≤ S8192x256.size a) (i1 : ∀ a, (![n, 128] : Fin 2 → ℕ) a + (KV W).size a ≤ S8192x256.size a) (d : Vec Ideal S2x512x1 .f32) :
    put2 d (payM red (sc (qWin0 x0) (kWin x1 ![n, 0] i0)) (mWin0 d)) (payM red (sc (qWin1 x0) (kWin x1 ![n, 128] i1)) (mWin1 d)) = nextM x0 x1 n off W d := by
  refine ext2 (fun p l => ?_) fun p l => ?_
  · obtain rfl : l = 0 := Subsingleton.elim _ _
    rw [put2_at0, payM_at, mWin0_at]
    exact congrArg (fun f => max (d (ix3 0 p 0)) (Finset.univ.sup f)) (funext fun j => score0 hs x0 x1 i0 p j)
  · obtain rfl : l = 0 := Subsingleton.elim _ _
    rw [put2_at1, payM_at, mWin1_at]
    exact congrArg (fun f => max (d (ix3 1 p 0)) (Finset.univ.sup f)) (funext fun j => score1 hs x0 x1 i1 p j)

theorem putA (red : (SC W).Reduces [1] S512) (bc : S512x1.Broadcasts (SC W)) (kc : (KV W).ShapeCasts (KV W)) (i0 : ∀ a, (![n, 0] : Fin 2 → ℕ) a + (KV W).size a ≤ S8192x256.size a) (i1 : ∀ a, (![n, 128] : Fin 2 → ℕ) a + (KV W).size a ≤ S8192x256.size a)
    (d : Vec Ideal S2x512x1 .f32) (a : Vec Ideal S2x512x128 .f32) :
    put2 a (payA red bc kc (sc (qWin0 x0) (kWin x1 ![n, 0] i0)) (mWin0 d) (aWin0 a) (kWin x2 ![n, 0] i0)) (payA red bc kc (sc (qWin1 x0) (kWin x1 ![n, 128] i1)) (mWin1 d) (aWin1 a) (kWin x2 ![n, 128] i1)) = nextA x0 x1 x2 n off W d a := by
  refine ext2 (fun p l => ?_) fun p l => ?_
  · have hM : newM red (sc (qWin0 x0) (kWin x1 ![n, 0] i0)) (mWin0 d) (ix2 p 0) = nextM x0 x1 n off W d (ix3 0 p 0) := by
      rw [newM_at, mWin0_at]
      exact congrArg (fun f => max (d (ix3 0 p 0)) (Finset.univ.sup f)) (funext fun j => score0 hs x0 x1 i0 p j)
    rw [put2_at0, payA_at, hM, mWin0_at, aWin0_at]
    refine congrArg (fun z : EReal => Ideal.exp (d (ix3 0 p 0) - nextM x0 x1 n off W d (ix3 0 p 0)) * a (ix3 0 p l) + z) (Finset.sum_congr rfl fun j _ => ?_)
    rw [score0 hs x0 x1 i0 p j]
    exact Ideal.mul_congr rfl ((window_at x2 i0 j l).trans (by rw [Nat.zero_add]; exact congrArg (at2 x2 (n + j.val)) (by show l.val = 128 * 0 + l.val; omega)))
  · have hM : newM red (sc (qWin1 x0) (kWin x1 ![n, 128] i1)) (mWin1 d) (ix2 p 0) = nextM x0 x1 n off W d (ix3 1 p 0) := by
      rw [newM_at, mWin1_at]
      exact congrArg (fun f => max (d (ix3 1 p 0)) (Finset.univ.sup f)) (funext fun j => score1 hs x0 x1 i1 p j)
    rw [put2_at1, payA_at, hM, mWin1_at, aWin1_at]
    refine congrArg (fun z : EReal => Ideal.exp (d (ix3 1 p 0) - nextM x0 x1 n off W d (ix3 1 p 0)) * a (ix3 1 p l) + z) (Finset.sum_congr rfl fun j _ => ?_)
    rw [score1 hs x0 x1 i1 p j]
    exact Ideal.mul_congr rfl (window_at x2 i1 j l)

end

end Cert.FlashFIdeal.Hand
end
-- ==== Proof.FfBody.lean ====
/- The forward body at any point of the grid: what it leaves in its two results, from the three blocks it reads. -/
module

public import proofs.«01_k».proof.Proof.FfRow
public import proofs.«01_k».proof.Proof.FfSem

@[expose] public section

set_option maxRecDepth 16384

noncomputable section

namespace Cert.FlashFIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FlashFIdeal.Gen
open Cert.FlashIdeal.Hand (load_win)

local notation "𝕄" => MT nD τ sig Unit (Elt Ideal) ℕ (UR sig nD τ) ℕ

/-- Two heads' 128 lanes side by side. -/
def lanes (w0 w1 : S512x128.Idx → EReal) : S512x256.Idx → EReal := fun y =>
  if h : (y 1).val < 128 then w0 (ix2 (y 0) ⟨(y 1).val, h⟩) else w1 (ix2 (y 0) ⟨(y 1).val - 128, by have h1 : (y 1).val < 256 := (y 1).isLt; omega⟩)

theorem put_lanes (d : S512x256.Idx → EReal) (w0 w1 : S512x128.Idx → EReal) :
    VecWindow.put (VecWindow.put d ![0, 0] S512x128.size w0) ![0, 128] S512x128.size w1 = lanes w0 w1 := by
  funext y
  have h0 : (y 0).val < 512 := (y 0).isLt
  have h1 : (y 1).val < 256 := (y 1).isLt
  unfold lanes
  by_cases h : (y 1).val < 128
  · rw [dif_pos h]
    refine (dif_neg fun hm => ?_).trans ((dif_pos fun a => ?_).trans (congrArg w0 ?_))
    · exact absurd (hm 1).1 (by show ¬ 128 ≤ (y 1).val; omega)
    · fin_cases a
      · exact ⟨Nat.zero_le _, by show (y 0).val < 0 + 512; omega⟩
      · exact ⟨Nat.zero_le _, by show (y 1).val < 0 + 128; omega⟩
    · funext a; apply Fin.ext; fin_cases a <;> rfl
  · rw [dif_neg h]
    refine (dif_pos fun a => ?_).trans (congrArg w1 ?_)
    · fin_cases a
      · exact ⟨Nat.zero_le _, by show (y 0).val < 0 + 512; omega⟩
      · exact ⟨by show 128 ≤ (y 1).val; omega, by show (y 1).val < 128 + 128; omega⟩
    · funext a; apply Fin.ext; fin_cases a <;> rfl

section States
variable (i : grid0.Coords) (x0 : Vec Ideal S512x256 .bf16) (x1 x2 : Vec Ideal S8192x256 .bf16)

/-- The maximum and the sums behind the wide tiles. -/
def midM : Vec Ideal S2x512x1 .f32 := if (i 1).val / 8 = 0 then k0_pay83 (F := Ideal) else nextM x0 x1 0 4096 4096 (k0_pay83 (F := Ideal))
def midA : Vec Ideal S2x512x128 .f32 := if (i 1).val / 8 = 0 then k0_pay84 (F := Ideal) else nextA x0 x1 x2 0 4096 4096 (k0_pay83 (F := Ideal)) (k0_pay84 (F := Ideal))

/-- Behind the tile on the diagonal. -/
def finM : Vec Ideal S2x512x1 .f32 := nextM x0 x1 (4096 * ((i 1).val / 8)) (512 * ((i 1).val % 8)) (512 * ((i 1).val % 8 + 1)) (midM i x0 x1)
def finA : Vec Ideal S2x512x128 .f32 := nextA x0 x1 x2 (4096 * ((i 1).val / 8)) (512 * ((i 1).val % 8)) (512 * ((i 1).val % 8 + 1)) (midM i x0 x1) (midA i x0 x1 x2)

/-- The attention's block. -/
def outO : Vec Ideal S512x256 .bf16 := lanes (k0_pay105 (aWin0 (finA i x0 x1 x2))) (k0_pay116 (aWin1 (finA i x0 x1 x2)))
/-- The queries' block with the rows' log-sums. -/
def outQ : Vec Ideal S512x256 .bf16 := lanes (k0_pay113 (k0_pay110 (aWin0 (finA i x0 x1 x2)) (qWin0 x0) (mWin0 (finM i x0 x1))) k0_pay111 (k0_pay112 (aWin0 (finA i x0 x1 x2)) (mWin0 (finM i x0 x1))))
  (k0_pay117 (aWin1 (finA i x0 x1 x2)) (qWin1 x0) (mWin1 (finM i x0 x1)))
end States

theorem k0_off1_eq : ∀ (i : grid0.Coords) (k : Fin (k0_t1_loop i).trips), k0_off1 i k = ![0, 0] := by decide +kernel
theorem k0_off2_eq : ∀ (i : grid0.Coords) (k : Fin (k0_t1_loop i).trips), k0_off2 i k = ![0, 128] := by decide +kernel
theorem k0_off5_eq : ∀ i : grid0.Coords, k0_off5 i = ![4096 * ((i 1).val / 8), 0] := by decide +kernel
theorem k0_off6_eq : ∀ i : grid0.Coords, k0_off6 i = ![4096 * ((i 1).val / 8), 128] := by decide +kernel
theorem k0_off7_eq : ∀ i : grid0.Coords, k0_off7 i = ![4096 * ((i 1).val / 8), 0] := by decide +kernel
theorem k0_off8_eq : ∀ i : grid0.Coords, k0_off8 i = ![4096 * ((i 1).val / 8), 128] := by decide +kernel
theorem k0_off9_eq : ∀ i : grid0.Coords, k0_off9 i = ![4096 * ((i 1).val / 8), 0] := by decide +kernel
theorem k0_off10_eq : ∀ i : grid0.Coords, k0_off10 i = ![4096 * ((i 1).val / 8), 128] := by decide +kernel
theorem k0_off11_eq : ∀ i : grid0.Coords, k0_off11 i = ![4096 * ((i 1).val / 8), 0] := by decide +kernel
theorem k0_off12_eq : ∀ i : grid0.Coords, k0_off12 i = ![4096 * ((i 1).val / 8), 128] := by decide +kernel
theorem k0_off13_eq : ∀ i : grid0.Coords, k0_off13 i = ![4096 * ((i 1).val / 8), 0] := by decide +kernel
theorem k0_off14_eq : ∀ i : grid0.Coords, k0_off14 i = ![4096 * ((i 1).val / 8), 128] := by decide +kernel
theorem k0_off15_eq : ∀ i : grid0.Coords, k0_off15 i = ![4096 * ((i 1).val / 8), 0] := by decide +kernel
theorem k0_off16_eq : ∀ i : grid0.Coords, k0_off16 i = ![4096 * ((i 1).val / 8), 128] := by decide +kernel
theorem k0_off17_eq : ∀ i : grid0.Coords, k0_off17 i = ![4096 * ((i 1).val / 8), 0] := by decide +kernel
theorem k0_off18_eq : ∀ i : grid0.Coords, k0_off18 i = ![4096 * ((i 1).val / 8), 128] := by decide +kernel
theorem k0_off19_eq : ∀ i : grid0.Coords, k0_off19 i = ![4096 * ((i 1).val / 8), 0] := by decide +kernel
theorem k0_off20_eq : ∀ i : grid0.Coords, k0_off20 i = ![4096 * ((i 1).val / 8), 128] := by decide +kernel
theorem trips1 : ∀ i : grid0.Coords, (k0_t1_loop i).trips = (i 1).val / 8 := by decide +kernel
theorem trips2 : ∀ i : grid0.Coords, (k0_t2_loop i).trips = 0 := by decide +kernel

section
variable {W : ℕ} {sc : Vec Ideal S512x128 .bf16 → Vec Ideal (KV W) .bf16 → FVec Ideal (SC W) .f32} {off n : ℕ} (hs : Scores sc off)
include hs

/-- The step in plain terms. -/
theorem both_next (red : (SC W).Reduces [1] S512) (bc : S512x1.Broadcasts (SC W)) (kc : (KV W).ShapeCasts (KV W)) (hk : 0 < (KV W).numel)
    (o0 o1 : Fin 2 → ℕ) (e0 : o0 = ![n, 0]) (e1 : o1 = ![n, 128]) (i0 : ∀ a, o0 a + (KV W).size a ≤ S8192x256.size a) (i1 : ∀ a, o1 a + (KV W).size a ≤ S8192x256.size a) (c : Dev nD)
    (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg7 : Memref sig .tc .vmem S2x512x1 .f32) (harg7 : arg7.IsWhole) (arg8 : Memref sig .tc .vmem S2x512x128 .f32) (harg8 : arg8.IsWhole) (E : Set ℕ)
    (x0 : Vec Ideal S512x256 .bf16) (x1 : Vec Ideal S8192x256 .bf16) (x2 : Vec Ideal S8192x256 .bf16) (d7 : Vec Ideal S2x512x1 .f32) (d8 : Vec Ideal S2x512x128 .f32) :
    Held c arg2 arg3 arg4 arg7 arg8 x0 x1 x2 d7 d8
      ⊢ wp frame (wpE (defs₀ (F := Ideal)) Variants.none c none) E (both sc red bc kc hk o0 o1 i0 i1 arg2 arg3 arg4 arg7 arg8)
       (fun _ => Held c arg2 arg3 arg4 arg7 arg8 x0 x1 x2 (nextM x0 x1 n off W d7) (nextA x0 x1 x2 n off W d7 d8)) := by
  subst e0 e1
  rw [← putM hs x0 x1 red i0 i1 d7, ← putA hs x0 x1 x2 red bc kc i0 i1 d7 d8]
  exact both_held sc red bc kc hk _ _ i0 i1 c arg2 harg2 arg3 harg3 arg4 harg4 arg7 harg7 arg8 harg8 E x0 x1 x2 d7 d8
end

section
variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S512x256 .bf16) (harg5 : arg5.IsWhole) (arg6 : Memref sig .tc .vmem S512x256 .bf16) (harg6 : arg6.IsWhole) (arg7 : Memref sig .tc .vmem S2x512x1 .f32) (harg7 : arg7.IsWhole) (arg8 : Memref sig .tc .vmem S2x512x128 .f32) (harg8 : arg8.IsWhole) (E : Set ℕ) (x0 : Vec Ideal S512x256 .bf16) (x1 : Vec Ideal S8192x256 .bf16) (x2 : Vec Ideal S8192x256 .bf16) (d7 : Vec Ideal S2x512x1 .f32) (d8 : Vec Ideal S2x512x128 .f32)

include harg7 harg8 in
theorem clear_held : Held c arg2 arg3 arg4 arg7 arg8 x0 x1 x2 d7 d8
      ⊢ wp frame (wpE (defs₀ (F := Ideal)) Variants.none c none) E (clear arg7 arg8) (fun _ => Held c arg2 arg3 arg4 arg7 arg8 x0 x1 x2 (k0_pay83 (F := Ideal)) (k0_pay84 (F := Ideal))) := by
  unfold clear Held owns
  iintro ⟨⟨%f0, %hf0, H0⟩, ⟨%f1, %hf1, H1⟩, ⟨%f2, %hf2, H2⟩, ⟨%fs0, %hfs0, HS0⟩, ⟨%fs1, %hfs1, HS1⟩⟩
  obtain rfl := harg7.eq_unread hfs0; obtain rfl := harg8.eq_unread hfs1
  sl_exec
  sl_step
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro
    exact View.read_writes_full _ _ _ _ _
  iexists _; isplitr; swap; · iexact HS1
  ipureintro
  exact View.read_writes_full _ _ _ _ _

theorem wides_held : Held c arg2 arg3 arg4 arg7 arg8 x0 x1 x2 (k0_pay83 (F := Ideal)) (k0_pay84 (F := Ideal))
      ⊢ wp frame (wpE (defs₀ (F := Ideal)) Variants.none c none) E (wides i arg2 harg2 arg3 harg3 arg4 harg4 arg5 harg5 arg6 harg6 arg7 harg7 arg8 harg8) (fun _ => Held c arg2 arg3 arg4 arg7 arg8 x0 x1 x2 (midM i x0 x1) (midA i x0 x1 x2)) := by
  unfold wides
  rw [wp_bind]
  have h1 : Held c arg2 arg3 arg4 arg7 arg8 x0 x1 x2 (k0_pay83 (F := Ideal)) (k0_pay84 (F := Ideal))
      ⊢ wp frame (wpE (defs₀ (F := Ideal)) Variants.none c none) E (Scf.Loop.for (k0_t1_loop i) (k0_t1_ok i) ⟨⟩ (k0_t1_body (F := Ideal) i arg2 harg2 arg3 harg3 arg4 harg4 arg5 harg5 arg6 harg6 arg7 harg7 arg8 harg8)) (fun _ => Held c arg2 arg3 arg4 arg7 arg8 x0 x1 x2 (midM i x0 x1) (midA i x0 x1 x2)) := by
    let I : ℕ → PUnit → sProp 𝕄 := fun k _ => if k = 0 then Held c arg2 arg3 arg4 arg7 arg8 x0 x1 x2 (k0_pay83 (F := Ideal)) (k0_pay84 (F := Ideal))
      else Held c arg2 arg3 arg4 arg7 arg8 x0 x1 x2 (nextM x0 x1 0 4096 4096 (k0_pay83 (F := Ideal))) (nextA x0 x1 x2 0 4096 4096 (k0_pay83 (F := Ideal)) (k0_pay84 (F := Ideal)))
    have hq : (i 1).val < 16 := (i 1).isLt
    have hb : ∀ (k : Fin (k0_t1_loop i).trips) (acc : PUnit), I k.val acc ⊢ wp frame (wpE (defs₀ (F := Ideal)) Variants.none c none) E (k0_t1_body (F := Ideal) i arg2 harg2 arg3 harg3 arg4 harg4 arg5 harg5 arg6 harg6 arg7 harg7 arg8 harg8 k acc) (I (k.val + 1)) := fun k acc => by
      have hk : k.val < (i 1).val / 8 := Nat.lt_of_lt_of_eq k.isLt (trips1 i)
      have hk0 : k.val = 0 := by omega
      show (if k.val = 0 then _ else _) ⊢ _
      rw [if_pos hk0, show I (k.val + 1) = fun _ => _ from funext fun _ => if_neg (Nat.succ_ne_zero _)]
      rw [trip_both]
      exact both_next (scores_wide _) _ _ _ _ _ _ (k0_off1_eq i k) (k0_off2_eq i k) _ _ c arg2 harg2 arg3 harg3 arg4 harg4 arg7 harg7 arg8 harg8 E x0 x1 x2 _ _
    have hw := Scf.wp_for (Q := I (k0_t1_loop i).trips) frame (wpE (defs₀ (F := Ideal)) Variants.none c none) E (k0_t1_loop i).lb (k0_t1_loop i).ub (k0_t1_loop i).st (k0_t1_ok i) () (k0_t1_body (F := Ideal) i arg2 harg2 arg3 harg3 arg4 harg4 arg5 harg5 arg6 harg6 arg7 harg7 arg8 harg8) I hb
    have hI : I (k0_t1_loop i).trips = fun _ => Held c arg2 arg3 arg4 arg7 arg8 x0 x1 x2 (midM i x0 x1) (midA i x0 x1 x2) := by
      funext u
      rw [trips1]
      unfold midM midA
      by_cases h : (i 1).val / 8 = 0
      · rw [if_pos h, if_pos h]; exact if_pos h
      · rw [if_neg h, if_neg h]; exact if_neg h
    rw [← hI]
    rw [show I 0 () = Held c arg2 arg3 arg4 arg7 arg8 x0 x1 x2 (k0_pay83 (F := Ideal)) (k0_pay84 (F := Ideal)) from if_pos rfl] at hw
    iintro H
    iapply hw
    isplitl [H]
    · iexact H
    iintro %acc HI
    iexact HI
  refine h1.trans (wp_mono _ _ _ fun _ => ?_)
  iintro H
  iapply (Scf.wp_for (Q := fun _ => Held c arg2 arg3 arg4 arg7 arg8 x0 x1 x2 (midM i x0 x1) (midA i x0 x1 x2)) frame (wpE (defs₀ (F := Ideal)) Variants.none c none) E (k0_t2_loop i).lb (k0_t2_loop i).ub (k0_t2_loop i).st (k0_t2_ok i) () (k0_t2_body (F := Ideal) i arg2 harg2 arg3 harg3 arg4 harg4 arg5 harg5 arg6 harg6 arg7 harg7 arg8 harg8 (word29 i))
    (fun _ _ => Held c arg2 arg3 arg4 arg7 arg8 x0 x1 x2 (midM i x0 x1) (midA i x0 x1 x2)) fun k _ => absurd (Nat.lt_of_lt_of_eq k.isLt (trips2 i)) (Nat.not_lt_zero _))
  isplitl [H]
  · iexact H
  iintro %acc HI
  iexact HI

theorem tail_held (y5 y6 : Vec Ideal S512x256 .bf16) : iprop(Held c arg2 arg3 arg4 arg7 arg8 x0 x1 x2 d7 d8 ∗ owns (c : Thread nD τ) arg5 fullShare y5 ∗ owns (c : Thread nD τ) arg6 fullShare y6)
      ⊢ wp frame (wpE (defs₀ (F := Ideal)) Variants.none c none) E (tail arg2 harg2 arg3 harg3 arg4 harg4 arg5 harg5 arg6 harg6 arg7 harg7 arg8 harg8) (fun _ => iprop(Held c arg2 arg3 arg4 arg7 arg8 x0 x1 x2 d7 d8
        ∗ owns (c : Thread nD τ) arg5 fullShare (lanes (k0_pay105 (aWin0 d8)) (k0_pay116 (aWin1 d8)))
        ∗ owns (c : Thread nD τ) arg6 fullShare (lanes (k0_pay113 (k0_pay110 (aWin0 d8) (qWin0 x0) (mWin0 d7)) k0_pay111 (k0_pay112 (aWin0 d8) (mWin0 d7))) (k0_pay117 (aWin1 d8) (qWin1 x0) (mWin1 d7))))) := by
  unfold tail Held owns
  iintro ⟨⟨⟨%f0, %hf0, H0⟩, ⟨%f1, %hf1, H1⟩, ⟨%f2, %hf2, H2⟩, ⟨%fs0, %hfs0, HS0⟩, ⟨%fs1, %hfs1, HS1⟩⟩, ⟨%f5, %hf5, H5⟩, ⟨%f6, %hf6, H6⟩⟩
  obtain rfl := harg2.eq_unread hf0; obtain rfl := harg7.eq_unread hfs0; obtain rfl := harg8.eq_unread hfs1
  obtain rfl := harg5.eq_unread hf5; obtain rfl := harg6.eq_unread hf6
  sl_exec
  sl_step
  have hq0 := load_win arg2 harg2 x0 inb_S512x256_S512x128_0_0 rfl inb_S512x256_S512x128_0_0
  have hq1 := load_win arg2 harg2 x0 inb_S512x256_S512x128_0_128 rfl inb_S512x256_S512x128_0_128
  have hm0 := load_win arg7 harg7 d7 inb_S2x512x1_S1x512x1_0_0_0 rfl inb_S2x512x1_S1x512x1_0_0_0
  have hm1 := load_win arg7 harg7 d7 inb_S2x512x1_S1x512x1_1_0_0 rfl inb_S2x512x1_S1x512x1_1_0_0
  have ha0 := load_win arg8 harg8 d8 inb_S2x512x128_S1x512x128_0_0_0 rfl inb_S2x512x128_S1x512x128_0_0_0
  have ha1 := load_win arg8 harg8 d8 inb_S2x512x128_S1x512x128_1_0_0 rfl inb_S2x512x128_S1x512x128_1_0_0
  isplitl [H0 H1 H2 HS0 HS1]
  · isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [HS0]
    · iexists _; isplitr; · ipureintro; exact hfs0
      iexact HS0
    iexists _; isplitr; · ipureintro; exact hfs1
    iexact HS1
  isplitl [H5]
  · iexists _; isplitr; swap; · iexact H5
    ipureintro
    rw [View.read_writes_cons_put _ _ _ _ _ rfl, View.read_writes_cons_put _ _ _ _ _ rfl, View.writes_nil, harg5.read_unread, ha0, ha1]
    exact put_lanes _ _ _
  iexists _; isplitr; swap; · iexact H6
  ipureintro
  rw [View.read_writes_cons_put _ _ _ _ _ rfl, View.read_writes_cons_put _ _ _ _ _ rfl, View.writes_nil, harg6.read_unread, ha0, ha1, hq0, hq1, hm0, hm1]
  exact put_lanes _ _ _

/-- The four programs in a row. -/
theorem row_run (T : Prog (TpuEff nD τ sig (Elt Ideal) Λ₀ .tc) PUnit) (y5 y6 : Vec Ideal S512x256 .bf16)
    (hT : Held c arg2 arg3 arg4 arg7 arg8 x0 x1 x2 (midM i x0 x1) (midA i x0 x1 x2) ⊢ wp frame (wpE (defs₀ (F := Ideal)) Variants.none c none) E T (fun _ => Held c arg2 arg3 arg4 arg7 arg8 x0 x1 x2 (finM i x0 x1) (finA i x0 x1 x2))) :
    iprop(Held c arg2 arg3 arg4 arg7 arg8 x0 x1 x2 d7 d8 ∗ owns (c : Thread nD τ) arg5 fullShare y5 ∗ owns (c : Thread nD τ) arg6 fullShare y6)
      ⊢ wp frame (wpE (defs₀ (F := Ideal)) Variants.none c none) E (row i arg2 harg2 arg3 harg3 arg4 harg4 arg5 harg5 arg6 harg6 arg7 harg7 arg8 harg8 T) (fun _ => iprop(Held c arg2 arg3 arg4 arg7 arg8 x0 x1 x2 (finM i x0 x1) (finA i x0 x1 x2)
        ∗ owns (c : Thread nD τ) arg5 fullShare (outO i x0 x1 x2) ∗ owns (c : Thread nD τ) arg6 fullShare (outQ i x0 x1 x2))) := by
  unfold row
  rw [wp_bind]
  refine (sep_mono_left (clear_held c arg2 arg3 arg4 arg7 harg7 arg8 harg8 E x0 x1 x2 d7 d8)).trans ((wp_frame_r _ _ _).trans (wp_mono _ _ _ fun _ => ?_))
  rw [wp_bind]
  refine (sep_mono_left (wides_held c i arg2 harg2 arg3 harg3 arg4 harg4 arg5 harg5 arg6 harg6 arg7 harg7 arg8 harg8 E x0 x1 x2)).trans ((wp_frame_r _ _ _).trans (wp_mono _ _ _ fun _ => ?_))
  rw [wp_bind]
  refine (sep_mono_left hT).trans ((wp_frame_r _ _ _).trans (wp_mono _ _ _ fun _ => ?_))
  exact tail_held c arg2 harg2 arg3 harg3 arg4 harg4 arg5 harg5 arg6 harg6 arg7 harg7 arg8 harg8 E x0 x1 x2 _ _ y5 y6

theorem tile1_held (h : (i 1).val % 8 = 0) (hc : k0_cond1 i = 1#1) :
    Held c arg2 arg3 arg4 arg7 arg8 x0 x1 x2 (midM i x0 x1) (midA i x0 x1 x2) ⊢ wp frame (wpE (defs₀ (F := Ideal)) Variants.none c none) E (tile1 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile1_both, h]
  exact both_next (scores_diag _ _ _ 0 (by decide) (by decide)) _ _ _ _ _ _ (k0_off5_eq i) (k0_off6_eq i) _ _ c arg2 harg2 arg3 harg3 arg4 harg4 arg7 harg7 arg8 harg8 E x0 x1 x2 _ _

theorem tile2_held (h : (i 1).val % 8 = 1) (hc : k0_cond2 i = 1#1) :
    Held c arg2 arg3 arg4 arg7 arg8 x0 x1 x2 (midM i x0 x1) (midA i x0 x1 x2) ⊢ wp frame (wpE (defs₀ (F := Ideal)) Variants.none c none) E (tile2 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile2_both, h]
  exact both_next (scores_diag _ _ _ 512 (by decide) (by decide)) _ _ _ _ _ _ (k0_off7_eq i) (k0_off8_eq i) _ _ c arg2 harg2 arg3 harg3 arg4 harg4 arg7 harg7 arg8 harg8 E x0 x1 x2 _ _

theorem tile3_held (h : (i 1).val % 8 = 2) (hc : k0_cond3 i = 1#1) :
    Held c arg2 arg3 arg4 arg7 arg8 x0 x1 x2 (midM i x0 x1) (midA i x0 x1 x2) ⊢ wp frame (wpE (defs₀ (F := Ideal)) Variants.none c none) E (tile3 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile3_both, h]
  exact both_next (scores_diag _ _ _ 1024 (by decide) (by decide)) _ _ _ _ _ _ (k0_off9_eq i) (k0_off10_eq i) _ _ c arg2 harg2 arg3 harg3 arg4 harg4 arg7 harg7 arg8 harg8 E x0 x1 x2 _ _

theorem tile4_held (h : (i 1).val % 8 = 3) (hc : k0_cond4 i = 1#1) :
    Held c arg2 arg3 arg4 arg7 arg8 x0 x1 x2 (midM i x0 x1) (midA i x0 x1 x2) ⊢ wp frame (wpE (defs₀ (F := Ideal)) Variants.none c none) E (tile4 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile4_both, h]
  exact both_next (scores_diag _ _ _ 1536 (by decide) (by decide)) _ _ _ _ _ _ (k0_off11_eq i) (k0_off12_eq i) _ _ c arg2 harg2 arg3 harg3 arg4 harg4 arg7 harg7 arg8 harg8 E x0 x1 x2 _ _

theorem tile5_held (h : (i 1).val % 8 = 4) (hc : k0_cond5 i = 1#1) :
    Held c arg2 arg3 arg4 arg7 arg8 x0 x1 x2 (midM i x0 x1) (midA i x0 x1 x2) ⊢ wp frame (wpE (defs₀ (F := Ideal)) Variants.none c none) E (tile5 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile5_both, h]
  exact both_next (scores_diag _ _ _ 2048 (by decide) (by decide)) _ _ _ _ _ _ (k0_off13_eq i) (k0_off14_eq i) _ _ c arg2 harg2 arg3 harg3 arg4 harg4 arg7 harg7 arg8 harg8 E x0 x1 x2 _ _

theorem tile6_held (h : (i 1).val % 8 = 5) (hc : k0_cond6 i = 1#1) :
    Held c arg2 arg3 arg4 arg7 arg8 x0 x1 x2 (midM i x0 x1) (midA i x0 x1 x2) ⊢ wp frame (wpE (defs₀ (F := Ideal)) Variants.none c none) E (tile6 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile6_both, h]
  exact both_next (scores_diag _ _ _ 2560 (by decide) (by decide)) _ _ _ _ _ _ (k0_off15_eq i) (k0_off16_eq i) _ _ c arg2 harg2 arg3 harg3 arg4 harg4 arg7 harg7 arg8 harg8 E x0 x1 x2 _ _

theorem tile7_held (h : (i 1).val % 8 = 6) (hc : k0_cond7 i = 1#1) :
    Held c arg2 arg3 arg4 arg7 arg8 x0 x1 x2 (midM i x0 x1) (midA i x0 x1 x2) ⊢ wp frame (wpE (defs₀ (F := Ideal)) Variants.none c none) E (tile7 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile7_both, h]
  exact both_next (scores_diag _ _ _ 3072 (by decide) (by decide)) _ _ _ _ _ _ (k0_off17_eq i) (k0_off18_eq i) _ _ c arg2 harg2 arg3 harg3 arg4 harg4 arg7 harg7 arg8 harg8 E x0 x1 x2 _ _

theorem tile8_held (h : (i 1).val % 8 = 7) (hc : k0_cond8 i = 1#1) :
    Held c arg2 arg3 arg4 arg7 arg8 x0 x1 x2 (midM i x0 x1) (midA i x0 x1 x2) ⊢ wp frame (wpE (defs₀ (F := Ideal)) Variants.none c none) E (tile8 i arg2 harg2 arg3 harg3 arg4 harg4 arg5 harg5 arg6 harg6 arg7 harg7 arg8 harg8 (word24 i) hc) (fun _ => Held c arg2 arg3 arg4 arg7 arg8 x0 x1 x2 (finM i x0 x1) (finA i x0 x1 x2)) := by
  unfold finM finA
  rw [tile8_both, h]
  exact both_next (scores_diag _ _ _ 3584 (by decide) (by decide)) _ _ _ _ _ _ (k0_off19_eq i) (k0_off20_eq i) _ _ c arg2 harg2 arg3 harg3 arg4 harg4 arg7 harg7 arg8 harg8 E x0 x1 x2 _ _

/-- The body. -/
theorem body_run (y5 y6 : Vec Ideal S512x256 .bf16) :
    iprop(Held c arg2 arg3 arg4 arg7 arg8 x0 x1 x2 d7 d8 ∗ owns (c : Thread nD τ) arg5 fullShare y5 ∗ owns (c : Thread nD τ) arg6 fullShare y6)
      ⊢ wp frame (wpE (defs₀ (F := Ideal)) Variants.none c none) E (cc0_mla_flash_fwd (F := Ideal) i arg2 harg2 arg3 harg3 arg4 harg4 arg5 harg5 arg6 harg6 arg7 harg7 arg8 harg8) (fun _ => iprop(Held c arg2 arg3 arg4 arg7 arg8 x0 x1 x2 (finM i x0 x1) (finA i x0 x1 x2)
        ∗ owns (c : Thread nD τ) arg5 fullShare (outO i x0 x1 x2) ∗ owns (c : Thread nD τ) arg6 fullShare (outQ i x0 x1 x2))) := by
  rw [cc0_mla_flash_fwd_eq_skeleton]
  have h8 : (i 1).val % 8 < 8 := Nat.mod_lt _ (by decide)
  obtain h | h | h | h | h | h | h | h : (i 1).val % 8 = 0 ∨ (i 1).val % 8 = 1 ∨ (i 1).val % 8 = 2 ∨ (i 1).val % 8 = 3 ∨ (i 1).val % 8 = 4 ∨ (i 1).val % 8 = 5 ∨ (i 1).val % 8 = 6 ∨ (i 1).val % 8 = 7 := by omega
  · rw [row1 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile1_held c i arg2 harg2 arg3 harg3 arg4 harg4 arg5 harg5 arg6 harg6 arg7 harg7 arg8 harg8 E x0 x1 x2 h _)
  · rw [row2 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile2_held c i arg2 harg2 arg3 harg3 arg4 harg4 arg5 harg5 arg6 harg6 arg7 harg7 arg8 harg8 E x0 x1 x2 h _)
  · rw [row3 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile3_held c i arg2 harg2 arg3 harg3 arg4 harg4 arg5 harg5 arg6 harg6 arg7 harg7 arg8 harg8 E x0 x1 x2 h _)
  · rw [row4 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile4_held c i arg2 harg2 arg3 harg3 arg4 harg4 arg5 harg5 arg6 harg6 arg7 harg7 arg8 harg8 E x0 x1 x2 h _)
  · rw [row5 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile5_held c i arg2 harg2 arg3 harg3 arg4 harg4 arg5 harg5 arg6 harg6 arg7 harg7 arg8 harg8 E x0 x1 x2 h _)
  · rw [row6 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile6_held c i arg2 harg2 arg3 harg3 arg4 harg4 arg5 harg5 arg6 harg6 arg7 harg7 arg8 harg8 E x0 x1 x2 h _)
  · rw [row7 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile7_held c i arg2 harg2 arg3 harg3 arg4 harg4 arg5 harg5 arg6 harg6 arg7 harg7 arg8 harg8 E x0 x1 x2 h _)
  · rw [row8 i arg2 harg2 arg3 harg3 arg4 harg4 arg5 harg5 arg6 harg6 arg7 harg7 arg8 harg8 h]
    exact row_run c i arg2 harg2 arg3 harg3 arg4 harg4 arg5 harg5 arg6 harg6 arg7 harg7 arg8 harg8 E x0 x1 x2 d7 d8 _ y5 y6 (tile8_held c i arg2 harg2 arg3 harg3 arg4 harg4 arg5 harg5 arg6 harg6 arg7 harg7 arg8 harg8 E x0 x1 x2 h _)

end

end Cert.FlashFIdeal.Hand
end
-- ==== Proof.FfRun.lean ====
/- The run of the forward call: what its body leaves at each point, and the whole grid. -/
module

public import proofs.«01_k».proof.Proof.FfBody
public import proofs.«01_k».proof.Proof.Gen.FlashFIdeal.Frame

@[expose] public section

set_option maxRecDepth 16384

noncomputable section

namespace Cert.FlashFIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.FlashFIdeal.Gen (V iblk launch0 hmain bodyAt0 st0_0 st0_1 st0_2 st0_3 st0_4 before0_0_of before0_1_of before0_2_of scopedRest0_eq bigSep_W0 N_0)

local notation "𝕄" => MT nD τ sig Unit (Elt Ideal) ℕ (UR sig nD τ) ℕ

variable (m : (ℓ : Loc nD τ sig) → Buf (Elt Ideal) ℓ) (ρ : Dev nD → PrngReg) (c : Dev nD)

/-- The blocks of the three operands at a point. -/
abbrev fq (t : Fin cfg0.N) : Vec Ideal S512x256 .bf16 := iblk m c 0 t
abbrev fk (t : Fin cfg0.N) : Vec Ideal S8192x256 .bf16 := iblk m c 1 t
abbrev fv (t : Fin cfg0.N) : Vec Ideal S8192x256 .bf16 := iblk m c 2 t

/-- Operands stay; each point stores both results whole. -/
def datf (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (grid0.coords t) (fq m c t) (fk m c t) (fv m c t)
    | ⟨4, _⟩ => outQ (grid0.coords t) (fq m c t) (fk m c t) (fv m c t)
  Φ _ := Pipeline.ΦA spec0 c
  q _ := fullShare
  owed _ := 0

theorem start_eq (c : Dev nD) (w : Fin cfg0.W) : (datf m 0 c).A w = V m c (Pipeline.arrRef spec0 w) := by
  dsimp only [datf]

theorem left_0 (t : Fin cfg0.N) : (datf m 0 c).after 0 t = iblk m c 0 t := by dsimp only [datf]
theorem left_1 (t : Fin cfg0.N) : (datf m 0 c).after 1 t = iblk m c 1 t := by dsimp only [datf]
theorem left_2 (t : Fin cfg0.N) : (datf m 0 c).after 2 t = iblk m c 2 t := by dsimp only [datf]
theorem left_3 (t : Fin cfg0.N) : (datf m 0 c).after 3 t = outO (grid0.coords t) (fq m c t) (fk m c t) (fv m c t) := by dsimp only [datf]
theorem left_4 (t : Fin cfg0.N) : (datf m 0 c).after 4 t = outQ (grid0.coords t) (fq m c t) (fk m c t) (fv m c t) := by dsimp only [datf]

theorem found_0 (t : Fin cfg0.N) (d) : (datf m 0 c).before 0 t d = iblk m c 0 t := before0_0_of m (datf m 0 c) (start_eq m c 0) (left_0 m c) t d
theorem found_1 (t : Fin cfg0.N) (d) : (datf m 0 c).before 1 t d = iblk m c 1 t := before0_1_of m (datf m 0 c) (start_eq m c 1) (left_1 m c) t d
theorem found_2 (t : Fin cfg0.N) (d) : (datf m 0 c).before 2 t d = iblk m c 2 t := before0_2_of m (datf m 0 c) (start_eq m c 2) (left_2 m c) t d

theorem scratch_eq : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What a point finds. -/
def found (t : Fin cfg0.N) : sProp 𝕄 :=
  iprop((datf m 0 c).Φ t.castSucc ∗ (datf m 0 c).owesAt () t.castSucc
    ∗ (∃ d, owns (c : Thread nD τ) (st0_0 t) fullShare ((datf m 0 c).before 0 t d))
    ∗ (∃ d, owns (c : Thread nD τ) (st0_1 t) fullShare ((datf m 0 c).before 1 t d))
    ∗ (∃ d, owns (c : Thread nD τ) (st0_2 t) fullShare ((datf m 0 c).before 2 t d))
    ∗ (∃ d, owns (c : Thread nD τ) (st0_3 t) fullShare ((datf m 0 c).before 3 t d))
    ∗ (∃ d, owns (c : Thread nD τ) (st0_4 t) fullShare ((datf m 0 c).before 4 t d)))

/-- What it leaves. -/
def left (t : Fin cfg0.N) : sProp 𝕄 :=
  iprop((datf m 0 c).Φ t.succ ∗ (datf m 0 c).owesAt () t.succ
    ∗ owns (c : Thread nD τ) (st0_0 t) fullShare ((datf m 0 c).after 0 t)
    ∗ owns (c : Thread nD τ) (st0_1 t) fullShare ((datf m 0 c).after 1 t)
    ∗ owns (c : Thread nD τ) (st0_2 t) fullShare ((datf m 0 c).after 2 t)
    ∗ owns (c : Thread nD τ) (st0_3 t) fullShare ((datf m 0 c).after 3 t)
    ∗ owns (c : Thread nD τ) (st0_4 t) fullShare ((datf m 0 c).after 4 t))

set_option maxHeartbeats 1600000 in
/-- The body from the one to the other. -/
theorem point_run (t : Fin cfg0.N) :
    found m c t ⊢ wp frame (wpE (defs₀ (F := Ideal)) Variants.none c none) Set.univ (bodyAt0 t) (fun _ => left m c t) := by
  unfold found left bodyAt0
  simp only [found_0, found_1, found_2]
  rw [show (datf m 0 c).Φ t.succ = (datf m 0 c).Φ t.castSucc from rfl,
    show (datf m 0 c).owesAt () t.succ = (datf m 0 c).owesAt () t.castSucc from rfl,
    left_0, left_1, left_2, left_3, left_4]
  rw [show (datf m 0 c).Φ t.castSucc = Pipeline.ΦA spec0 c from rfl, scratch_eq]
  iintro ⟨⟨⟨⟨%d7, HS0⟩, ⟨%d8, HS1⟩⟩, Hg⟩, Ho, ⟨%d0, H0⟩, ⟨%d1, H1⟩, ⟨%d2, H2⟩, ⟨%d5, H5⟩, ⟨%d6, H6⟩⟩
  iapply wp_wand_r
  isplitl [H0 H1 H2 H5 H6 HS0 HS1]
  · iapply (body_run c (grid0.coords t) _ _ _ _ _ _ _ _ _ _ _ _ _ _ Set.univ (iblk m c 0 t) (iblk m c 1 t) (iblk m c 2 t) d7 d8 _ _)
    unfold Held
    isplitl [H0 H1 H2 HS0 HS1]
    · isplitl [H0]; · iexact H0
      isplitl [H1]; · iexact H1
      isplitl [H2]; · iexact H2
      isplitl [HS0]; · iexact HS0
      iexact HS1
    isplitl [H5]; · iexact H5
    iexact H6
  unfold Held
  iintro %u ⟨⟨H0, H1, H2, HS0, HS1⟩, H5, H6⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H5]; · iexact H5
  iexact H6

theorem body_eq (t : Fin cfg0.N) : defs₀ (F := Ideal) .tc cfg0.body (cfg0.bodyArgs t (cfg0.slots t)) = bodyAt0 t := by
  unfold defs₀; rw [Defs.onTc_tc]

theorem duty : BodyObligation (datf m 0 c) (defs₀ (F := Ideal)) Variants.none () Set.univ := fun t => by
  rw [bigSep_W0, bigSep_W0, body_eq]
  exact triple_restated (point_run m c t) rfl .rfl fun _ => .rfl

set_option backward.isDefEq.respectTransparency.types false in
/-- Both result arrays as the points leave them, nothing pending. -/
theorem grid_run : θ_run defs (onTc (τ := τ) (main (F := Ideal))) (s₀ m ρ) (fun r => Pipeline.FramePost cfgs (datf m) 0 (V m) r ∧ r.2.sem = fun _ => 0) :=
  Pipeline.θ_run_frame (Q' := _) cfgs (datf m) (0 : Fin 1) launch0 defs₀ Variants.none m ρ main
    (hbody := fun c => (duty m c).loose) (hshare := fun c => (datf m 0 c).share_full fun _ => rfl)
    (howed := fun _ _ => rfl) (V := V m) (hmain := hmain m Variants.none) (hA := start_eq m) (hΦ := fun _ _ => rfl)

end Cert.FlashFIdeal.Hand
end
-- ==== Proof.FfHost.lean ====
/- The forward call's operands by the arguments. -/
module

public import proofs.«01_k».proof.Proof.FfRun
public import proofs.«01_k».proof.Proof.FlCols
public import Idealize.ShloMosaic.Lib.Pipeline.ValueKit

@[expose] public section

set_option maxRecDepth 16384

noncomputable section

namespace Cert.FlashFIdeal.Hand

open Idealize.ShloMosaic Idealize.ShloMosaic.TcCoe Idealize.ShloMosaic.Tactic Idealize.ShloMosaic.StableHlo Idealize.SL Idealize.SL.Sem
open Cert.FlashFIdeal.Gen
open Cert.FlashRefIdeal.Hand (Qs Vs Holds)
open Cert.FlashIdeal.Hand (colsK colsV joined2 colA colB colsK_real colsV_real zero_f32)

/-- The query's columns, padded. -/
def colsF (q : Qs) : FVec Ideal S8192x1024 .bf16 :=
  truncf .bf16 (shapeCast S8192x1024 (pad S8192x8x128 ![0, 0, 0] ![0, 0, 32] ![0, 0, 0] q (sitofp .f32 (constantI S_ 32 0#32 : Vec Ideal S_ .i32)) pads_S8192x8x96_S8192x8x128_000_000_0320 h_S_) shapeCasts_S8192x8x128_S8192x1024) bitsLt_bf16_f32
theorem colsF_at (q : Qs) (R : Fin 8192) (h : Fin 8) (e : Fin 128) :
    colsF q (ix2 R ⟨128 * h.val + e.val, by omega⟩) = if he : e.val < 96 then q (ix3 R h ⟨e.val, he⟩) else 0 := by
  unfold colsF
  pointwise
  rw [zero_f32]
theorem colsF_real {q : Qs} {Q : Fin 8192 → Fin 8 → Fin 96 → ℝ} (hq : Holds q Q) (R : Fin 8192) (h : Fin 8) (e : Fin 128) :
    colsF q (ix2 R ⟨128 * h.val + e.val, by omega⟩) = ((colB (Q R h) 0 e.val : ℝ) : EReal) := by
  rw [colsF_at]
  unfold colB
  by_cases c1 : e.val < 96
  · rw [dif_pos c1, dif_pos c1, hq]
  · rw [dif_neg c1, dif_neg c1, ite_self]; rfl

/-- A buffer after some operations, named. -/
theorem at_buf (σ : Valuation τ sig (Elt Ideal)) (b : DevRef τ sig) {y : b.ty.Contents (Elt Ideal)} (h : σ b = y) : σ b = y := h

variable (m : (ℓ : Loc nD τ sig) → Buf (Elt Ideal) ℓ) (c : Dev nD)

set_option maxHeartbeats 4000000 in
theorem V_qf : V m c main_v2 = colsF (m ((c : Thread nD τ).loc main_arg0)) := by
  show StableHlo.after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  rfl

set_option maxHeartbeats 4000000 in
theorem V_kf : V m c main_v7 = colsK (m ((c : Thread nD τ).loc main_arg1)) := by
  show StableHlo.after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x99 .f32 => (truncf .bf16 (shapeCast S8192x1024 (pad S8192x8x128 ![0, 0, 0] ![0, 0, 29] ![0, 0, 0] z (sitofp .f32 (constantI S_ 32 0#32 : Vec Ideal S_ .i32)) pads_S8192x8x99_S8192x8x128_000_000_0290 h_S_) shapeCasts_S8192x8x128_S8192x1024) bitsLt_bf16_f32 : FVec Ideal S8192x1024 .bf16)) (joined2 _ ?_ ?_)
  · refine at_buf _ (Proc.tc.devRef main_arg1) ?_
    after_results_simp
  · refine at_buf _ (Proc.tc.devRef main_v3) ?_
    after_results_simp

set_option maxHeartbeats 4000000 in
theorem V_vf : V m c main_v12 = colsV (m ((c : Thread nD τ).loc main_arg2)) := by
  show StableHlo.after _ _ _ = _
  simp only [hostOps0, hostOps0_1, hostOps0_2, hostOps0_3, hostOps0_4, hostOps0_5, hostOps0_6, List.flatten_cons, List.flatten_nil, List.append_nil, List.cons_append,
      List.nil_append, TRef.binary, TRef.nullary, TRef.ternary, TRef.unary, TRef.toBuf, TRef.ofBuf, cast_eq]
  after_results_simp
  refine congrArg (fun z : FVec Ideal S8192x8x67 .f32 => (truncf .bf16 (shapeCast S8192x1024 (pad S8192x8x128 ![0, 0, 0] ![0, 0, 61] ![0, 0, 0] z (sitofp .f32 (constantI S_ 32 0#32 : Vec Ideal S_ .i32)) pads_S8192x8x67_S8192x8x128_000_000_0610 h_S_) shapeCasts_S8192x8x128_S8192x1024) bitsLt_bf16_f32 : FVec Ideal S8192x1024 .bf16)) (joined2 _ ?_ ?_)
  · refine at_buf _ (Proc.tc.devRef main_arg2) ?_
    after_results_simp
  · refine at_buf _ (Proc.tc.devRef main_v8) ?_
    after_results_simp

/-- A point is a pair of heads and a block of 512 queries. -/
theorem at_col (t : Fin cfg0.N) : (grid0.coords t 1).val = t.val % 16 :=
  (Pipeline.Grid.coords_val t 1 (by decide) rfl : (grid0.coords t 1).val = t.val / 1 % 16).trans (by rw [Nat.div_one])
theorem pts (t : Fin cfg0.N) : t.val < 64 := Nat.lt_of_lt_of_eq t.isLt N_0

theorem places : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val % 16, t.val / 16] :=
  (by decide +kernel : ∀ t : Fin grid0.N, _)

theorem fq_at (t : Fin cfg0.N) (p : Fin 512) (C : Fin 256) :
    fq m c t (ix2 p C) = (V m c main_v2 : FVec Ideal S8192x1024 .bf16) (ix2 ⟨t.val % 16 * 512 + p.val, by omega⟩ ⟨t.val / 16 * 256 + C.val, by have := pts t; omega⟩) := by
  show (V m c main_v2 : FVec Ideal S8192x1024 .bf16) (((cfg0.win 0).blk t).view.emb (ix2 p C)) = _
  refine congrArg (V m c main_v2 : FVec Ideal S8192x1024 .bf16) ?_
  blk_ext! [places t]

theorem fk_at (t : Fin cfg0.N) (r : Fin 8192) (C : Fin 256) :
    fk m c t (ix2 r C) = (V m c main_v7 : FVec Ideal S8192x1024 .bf16) (ix2 r ⟨t.val / 16 * 256 + C.val, by have := pts t; omega⟩) := by
  show (V m c main_v7 : FVec Ideal S8192x1024 .bf16) (((cfg0.win 1).blk t).view.emb (ix2 r C)) = _
  refine congrArg (V m c main_v7 : FVec Ideal S8192x1024 .bf16) ?_
  blk_ext! [places t]

theorem fv_at (t : Fin cfg0.N) (r : Fin 8192) (C : Fin 256) :
    fv m c t (ix2 r C) = (V m c main_v12 : FVec Ideal S8192x1024 .bf16) (ix2 r ⟨t.val / 16 * 256 + C.val, by have := pts t; omega⟩) := by
  show (V m c main_v12 : FVec Ideal S8192x1024 .bf16) (((cfg0.win 2).blk t).view.emb (ix2 r C)) = _
  refine congrArg (V m c main_v12 : FVec Ideal S8192x1024 .bf16) ?_
  blk_ext! [places t]

/-- The query augmented, when its blocks are a function's. -/
theorem arr_q (G : FVec Ideal S8192x1024 .bf16)
    (h : ∀ (t : Fin cfg0.N) (p : Fin 512) (C : Fin 256), outQ (grid0.coords t) (fq m c t) (fk m c t) (fv m c t) (ix2 p C)
      = G (ix2 ⟨t.val % 16 * 512 + p.val, by omega⟩ ⟨t.val / 16 * 256 + C.val, by have := pts t; omega⟩)) :
    (datf m 0 c).arrAt 4 cfg0.N = G := by
  refine (datf m 0 c).arrAt_eq_of_covers 4 _ (by decide +kernel) fun t _ y => ?_
  blk_simp
  rw [left_4]
  refine (congrArg (outQ _ _ _ _) (eq_ix2 y)).trans ((h t (y 0) (y 1)).trans ?_)
  refine congrArg G ?_
  blk_ext! [places t]

/-- The output likewise. -/
theorem arr_o (G : FVec Ideal S8192x1024 .bf16)
    (h : ∀ (t : Fin cfg0.N) (p : Fin 512) (C : Fin 256), outO (grid0.coords t) (fq m c t) (fk m c t) (fv m c t) (ix2 p C)
      = G (ix2 ⟨t.val % 16 * 512 + p.val, by omega⟩ ⟨t.val / 16 * 256 + C.val, by have := pts t; omega⟩)) :
    (datf m 0 c).arrAt 3 cfg0.N = G := by
  refine (datf m 0 c).arrAt_eq_of_covers 3 _ (by decide +kernel) fun t _ y => ?_
  blk_simp
  rw [left_3]
  refine (congrArg (outO _ _ _ _) (eq_ix2 y)).trans ((h t (y 0) (y 1)).trans ?_)
  refine congrArg G ?_
  blk_ext! [places t]

end Cert.FlashFIdeal.Hand
end
-- ==== Proof.FfOut.lean ====
/- What the body stores, element by element, from its maximum and sums. -/
module

public import proofs.«01_k».proof.Proof.FfBody
public import Idealize.ShloMosaic.Lib.WordCmp

@[expose] public section

set_option maxRecDepth 16384

noncomputable section

namespace Cert.FlashFIdeal.Hand

open Idealize.ShloMosaic Idealize.ShloMosaic.TcCoe Idealize.ShloMosaic.Tactic
open Cert.FlashFIdeal.Gen

theorem start_max (y : S2x512x1.Idx) : k0_pay83 (F := Ideal) y = (⊥ : EReal) := by
  unfold k0_pay83
  pointwise
  rfl
theorem start_sum (y : S2x512x128.Idx) : k0_pay84 (F := Ideal) y = (0 : EReal) := by
  unfold k0_pay84
  pointwise

variable (a : Vec Ideal S1x512x128 .f32) (q : Vec Ideal S512x128 .bf16) (mm : Vec Ideal S1x512x1 .f32) (p : Fin 512) (l : Fin 128)

theorem payO0_at : k0_pay105 a (ix2 p l) = Ideal.div (a (ix3 0 p l)) (0 - a (ix3 0 p 64)) := by
  pointwise [k0_pay105, k0_pay104, k0_pay103]
theorem payO1_at : k0_pay116 a (ix2 p l) = Ideal.div (a (ix3 0 p l)) (0 - a (ix3 0 p 64)) := by
  pointwise [k0_pay116, k0_pay115, k0_pay114]

theorem select_col (l n : ℕ) (hl : l < 128) (hn : n < 128) (x y : EReal) : Scalar.select (IntOp.cmpi .eq (BitVec.ofNat 32 l) (BitVec.ofNat 32 n)) x y = if l = n then x else y := by
  by_cases h : l = n
  · rw [if_pos h, (WordCmp.cmpi_eq_ofNat_eq_one_iff (by omega) (by omega)).mpr h]; rfl
  · rw [if_neg h, (WordCmp.cmpi_eq_ofNat_eq_zero_iff (by omega) (by omega)).mpr h]; rfl

/-- A row's log-sum as the body forms it. -/
def logSum : EReal := mm (ix3 0 p 0) + Ideal.log (0 - a (ix3 0 p 64))

theorem payQ0_at : k0_pay113 (k0_pay110 a q mm) k0_pay111 (k0_pay112 a mm) (ix2 p l)
    = if l.val = 98 then (logSum a mm p - logSum a mm p) - (logSum a mm p - logSum a mm p) else if l.val = 97 then logSum a mm p - logSum a mm p else if l.val = 96 then logSum a mm p else q (ix2 p l) := by
  pointwise [k0_pay113, k0_pay110, k0_pay111, k0_pay112, k0_pay109, k0_pay108, k0_pay107, k0_pay106, k0_pay104, k0_pay103, logSum]
  rw [select_col _ _ l.isLt (by decide), select_col _ _ l.isLt (by decide), select_col _ _ l.isLt (by decide)]
theorem payQ1_at : k0_pay117 a q mm (ix2 p l)
    = if l.val = 98 then (logSum a mm p - logSum a mm p) - (logSum a mm p - logSum a mm p) else if l.val = 97 then logSum a mm p - logSum a mm p else if l.val = 96 then logSum a mm p else q (ix2 p l) := by
  pointwise [k0_pay117, k0_pay115, k0_pay114, logSum]
  rw [select_col _ _ l.isLt (by decide), select_col _ _ l.isLt (by decide), select_col _ _ l.isLt (by decide)]

end Cert.FlashFIdeal.Hand
end
-- ==== Proof.FfMath.lean ====
/- Softmax sums over growing ranges of keys: the greatest score and the weighted sums, and the step to a longer range. -/
module

public import proofs.«01_k».proof.Proof.FfSem
public import proofs.«01_k».proof.Proof.FlMath

@[expose] public section

noncomputable section

namespace Flash

open Finset
open Idealize.ShloMosaic

/-- The greatest score of the first `N` keys. -/
def mx (s : ℕ → ℝ) (N : ℕ) : EReal := (range N).sup fun j => ((s j : ℝ) : EReal)

/-- The first `N` keys' values, weighted by the exponentials against the greatest score. -/
def ac (s v : ℕ → ℝ) (N : ℕ) : ℝ := ∑ j ∈ range N, Real.exp (s j - (mx s N).toReal) * v j

theorem mx_zero (s : ℕ → ℝ) : mx s 0 = ⊥ := rfl
theorem ac_zero (s v : ℕ → ℝ) : ac s v 0 = 0 := rfl

theorem mx_coe (s : ℕ → ℝ) {N : ℕ} (h : 0 < N) : mx s N = (((mx s N).toReal : ℝ) : EReal) := by
  refine (EReal.coe_toReal ?_ ?_).symm
  · exact ne_of_lt ((Finset.sup_lt_iff bot_lt_top).mpr fun j _ => EReal.coe_lt_top _)
  · exact ne_of_gt (lt_of_lt_of_le (EReal.bot_lt_coe (s 0)) (Finset.le_sup (f := fun j => ((s j : ℝ) : EReal)) (mem_range.mpr h)))

/-- One more tile of keys, of which the first `M` are seen: the greatest score. -/
theorem mx_step (s : ℕ → ℝ) (N M W b : ℕ) (hM : M ≤ W) (hb : ∀ j, j < W → (j ≤ b ↔ j < M)) :
    max (mx s N) (univ.sup fun j : Fin W => if j.val ≤ b then ((s (N + j.val) : ℝ) : EReal) else ⊥) = mx s (N + M) := by
  refine le_antisymm (max_le ?_ ?_) ?_
  · exact Finset.sup_mono (range_mono (Nat.le_add_right _ _))
  · refine Finset.sup_le fun j _ => ?_
    split
    · rename_i h
      exact Finset.le_sup (f := fun j => ((s j : ℝ) : EReal)) (mem_range.mpr (Nat.add_lt_add_left ((hb _ j.isLt).mp h) N))
    · exact bot_le
  · refine Finset.sup_le fun j hj => ?_
    have hj' := mem_range.mp hj
    by_cases h : j < N
    · exact le_max_of_le_left (Finset.le_sup (f := fun j => ((s j : ℝ) : EReal)) (mem_range.mpr h))
    · have hw : j - N < W := by omega
      refine le_max_of_le_right (le_trans (le_of_eq ?_) (Finset.le_sup (mem_univ (⟨j - N, hw⟩ : Fin W))))
      show _ = if j - N ≤ b then ((s (N + (j - N)) : ℝ) : EReal) else ⊥
      rw [if_pos ((hb _ hw).mpr (by omega)), Nat.add_sub_cancel' (by omega : N ≤ j)]

/-- The same step for the weighted sums. -/
theorem ac_step (s v : ℕ → ℝ) (N M W b : ℕ) (h0 : 0 < M) (hM : M ≤ W) (hb : ∀ j, j < W → (j ≤ b ↔ j < M)) :
    Ideal.exp (mx s N - mx s (N + M)) * ((ac s v N : ℝ) : EReal)
      + ∑ j : Fin W, Ideal.exp ((if j.val ≤ b then ((s (N + j.val) : ℝ) : EReal) else ⊥) - mx s (N + M)) * ((v (N + j.val) : ℝ) : EReal) = ((ac s v (N + M) : ℝ) : EReal) := by
  have hT := mx_coe s (N := N + M) (by omega)
  have e1 : Ideal.exp (mx s N - mx s (N + M)) * ((ac s v N : ℝ) : EReal) = ((∑ j ∈ range N, Real.exp (s j - (mx s (N + M)).toReal) * v j : ℝ) : EReal) := by
    obtain rfl | hN := Nat.eq_zero_or_pos N
    · rw [ac_zero, range_zero, sum_empty, EReal.coe_zero, mul_zero]
    · rw [hT, mx_coe s hN, ← EReal.coe_sub, Ideal.exp_coe, ← EReal.coe_mul, EReal.toReal_coe]
      refine congrArg (fun z : ℝ => (z : EReal)) ?_
      unfold ac
      rw [mul_sum]
      refine sum_congr rfl fun j _ => ?_
      rw [← mul_assoc, ← Real.exp_add]
      congr 2
      ring
  have e2 : ∑ j : Fin W, Ideal.exp ((if j.val ≤ b then ((s (N + j.val) : ℝ) : EReal) else ⊥) - mx s (N + M)) * ((v (N + j.val) : ℝ) : EReal)
      = ((∑ j ∈ range M, Real.exp (s (N + j) - (mx s (N + M)).toReal) * v (N + j) : ℝ) : EReal) := by
    have e3 : ∀ j : Fin W, Ideal.exp ((if j.val ≤ b then ((s (N + j.val) : ℝ) : EReal) else ⊥) - mx s (N + M)) * ((v (N + j.val) : ℝ) : EReal)
        = ((if j.val < M then Real.exp (s (N + j.val) - (mx s (N + M)).toReal) * v (N + j.val) else 0 : ℝ) : EReal) := fun j => by
      rw [hT]
      by_cases h : j.val ≤ b
      · rw [if_pos h, if_pos ((hb _ j.isLt).mp h), ← EReal.coe_sub, Ideal.exp_coe, ← EReal.coe_mul, EReal.toReal_coe]
      · rw [if_neg h, if_neg fun h' => h ((hb _ j.isLt).mpr h'), EReal.bot_sub, Ideal.exp_bot, zero_mul]; rfl
    rw [sum_congr rfl fun j _ => e3 j, ← coe_sum]
    refine congrArg (fun z : ℝ => (z : EReal)) ?_
    rw [Fin.sum_univ_eq_sum_range (fun j => if j < M then Real.exp (s (N + j) - (mx s (N + M)).toReal) * v (N + j) else 0) W, ← sum_filter]
    refine sum_congr ?_ fun _ _ => rfl
    ext j
    rw [mem_filter, mem_range, mem_range]
    omega
  rw [e1, e2, ← EReal.coe_add]
  refine congrArg (fun z : ℝ => (z : EReal)) ?_
  unfold ac
  rw [sum_range_add]

variable (Q K : Fin 8192 → Fin 8 → Fin 96 → ℝ)

/-- A query's scores by the key's number. -/
def sn (h : Fin 8) (R : Fin 8192) (r : ℕ) : ℝ := if hr : r < 8192 then sc Q K h R ⟨r, hr⟩ else 0

theorem mx_top (h : Fin 8) (R : Fin 8192) : mx (sn Q K h R) (R.val + 1) = ((top Q K h R : ℝ) : EReal) := by
  rw [← top_coe]
  refine le_antisymm (Finset.sup_le fun j hj => ?_) (Finset.sup_le fun r _ => ?_)
  · have hj' := mem_range.mp hj
    have hr : j < 8192 := by have := R.isLt; omega
    refine le_trans (le_of_eq ?_) (Finset.le_sup (mem_univ (⟨j, hr⟩ : Fin 8192)))
    show _ = if j ≤ R.val then ((sc Q K h R ⟨j, hr⟩ : ℝ) : EReal) else ⊥
    rw [if_pos (by omega)]
    unfold sn
    rw [dif_pos hr]
  · split
    · rename_i hle
      refine le_trans (le_of_eq ?_) (Finset.le_sup (f := fun j => ((sn Q K h R j : ℝ) : EReal)) (mem_range.mpr (Nat.lt_succ_of_le hle)))
      unfold sn
      rw [dif_pos r.isLt]
    · exact bot_le

theorem ac_ex (h : Fin 8) (R : Fin 8192) (v : ℕ → ℝ) : ac (sn Q K h R) v (R.val + 1) = ∑ r : Fin 8192, ex Q K h R r * v r.val := by
  unfold ac ex
  rw [mx_top, EReal.toReal_coe]
  have e : ∀ r : Fin 8192, (if r.val ≤ R.val then Real.exp (sc Q K h R r - top Q K h R) else 0) * v r.val
      = if r.val ≤ R.val then Real.exp (sn Q K h R r.val - top Q K h R) * v r.val else 0 := fun r => by
    unfold sn
    rw [dif_pos r.isLt, ite_mul, zero_mul]
  rw [sum_congr rfl fun r _ => e r, Fin.sum_univ_eq_sum_range (fun r => if r ≤ R.val then Real.exp (sn Q K h R r - top Q K h R) * v r else 0) 8192, ← sum_filter]
  refine sum_congr ?_ fun _ _ => rfl
  ext j
  rw [mem_filter, mem_range, mem_range]
  have := R.isLt
  omega

end Flash
end
-- ==== Proof.FfPoint.lean ====
/- What a point of the forward call leaves, at real arguments. -/
module

public import proofs.«01_k».proof.Proof.FfHost
public import proofs.«01_k».proof.Proof.FfOut
public import proofs.«01_k».proof.Proof.FfMath

@[expose] public section

set_option maxRecDepth 16384

noncomputable section

namespace Cert.FlashFIdeal.Hand

open Idealize.ShloMosaic Idealize.ShloMosaic.TcCoe Idealize.SL Idealize.SL.Sem
open Cert.FlashFIdeal.Gen (V)
open Cert.FlashRefIdeal.Hand (Qs Vs Holds)
open Cert.FlashIdeal.Hand (colA colB colsK_real colsV_real at2 at2_of sum_cols)
open Flash (sc top ex tot pr mx ac sn)

variable (m : (ℓ : Loc nD τ sig) → Buf (Elt Ideal) ℓ) (c : Dev nD)
variable (Q K : Fin 8192 → Fin 8 → Fin 96 → ℝ) (W : Fin 8192 → Fin 8 → Fin 64 → ℝ)

/-- The three arguments hold the three tables. -/
def Given : Prop := Holds (m ((c : Thread nD τ).loc main_arg0) : FVec Ideal S8192x8x96 .f32) Q ∧ Holds (m ((c : Thread nD τ).loc main_arg1) : FVec Ideal S8192x8x96 .f32) K
  ∧ Holds (m ((c : Thread nD τ).loc main_arg2) : FVec Ideal S8192x8x64 .f32) W

/-- The head and the query a row of a point's block belongs to. -/
def head (t : Fin cfg0.N) (h : Fin 2) : Fin 8 := ⟨2 * (t.val / 16) + h.val, by have := pts t; omega⟩
def query (t : Fin cfg0.N) (p : Fin 512) : Fin 8192 := ⟨t.val % 16 * 512 + p.val, by omega⟩

variable {m c Q K W}

theorem at_q (hA : Given m c Q K W) (t : Fin cfg0.N) (p : Fin 512) (h : Fin 2) (e : Fin 128) :
    at2 (fq m c t) p.val (128 * h.val + e.val) = ((colB (Q (query t p) (head t h)) 0 e.val : ℝ) : EReal) := by
  rw [at2_of _ p.isLt (by omega : 128 * h.val + e.val < 256), fq_at, V_qf]
  refine Eq.trans (congrArg _ ?_) (colsF_real hA.1 (query t p) (head t h) e)
  refine congrArg (ix2 (query t p)) (Fin.ext ?_)
  show t.val / 16 * 256 + (128 * h.val + e.val) = 128 * (2 * (t.val / 16) + h.val) + e.val
  omega

theorem at_k (hA : Given m c Q K W) (t : Fin cfg0.N) (r : Fin 8192) (h : Fin 2) (e : Fin 128) :
    at2 (fk m c t) r.val (128 * h.val + e.val) = ((colA (K r (head t h)) e.val : ℝ) : EReal) := by
  rw [at2_of _ r.isLt (by omega : 128 * h.val + e.val < 256), fk_at, V_kf]
  refine Eq.trans (congrArg _ ?_) (colsK_real hA.2.1 r (head t h) e)
  refine congrArg (ix2 r) (Fin.ext ?_)
  show t.val / 16 * 256 + (128 * h.val + e.val) = 128 * (2 * (t.val / 16) + h.val) + e.val
  omega

theorem at_v (hA : Given m c Q K W) (t : Fin cfg0.N) (r : Fin 8192) (h : Fin 2) (e : Fin 128) :
    at2 (fv m c t) r.val (128 * h.val + e.val) = ((colA (W r (head t h)) e.val : ℝ) : EReal) := by
  rw [at2_of _ r.isLt (by omega : 128 * h.val + e.val < 256), fv_at, V_vf]
  refine Eq.trans (congrArg _ ?_) (colsV_real hA.2.2 r (head t h) e)
  refine congrArg (ix2 r) (Fin.ext ?_)
  show t.val / 16 * 256 + (128 * h.val + e.val) = 128 * (2 * (t.val / 16) + h.val) + e.val
  omega

/-- A score is the inner product of the query and the key. -/
theorem score_real (hA : Given m c Q K W) (t : Fin cfg0.N) (p : Fin 512) (h : Fin 2) (n off j : ℕ) (hj : n + j < 8192) :
    score (fq m c t) (fk m c t) n off h.val p.val j = if j ≤ p.val + off then ((sn Q K (head t h) (query t p) (n + j) : ℝ) : EReal) else ⊥ := by
  unfold score
  refine if_congr Iff.rfl ?_ rfl
  unfold sn sc
  rw [dif_pos hj]
  have e : ∀ x : Fin 128, at2 (fq m c t) p.val (128 * h.val + x.val) * at2 (fk m c t) (n + j) (128 * h.val + x.val)
      = ((colA (K ⟨n + j, hj⟩ (head t h)) x.val * colB (Q (query t p) (head t h)) 0 x.val : ℝ) : EReal) := fun x => by
    rw [at_q hA t p h x, show at2 (fk m c t) (n + j) _ = _ from at_k hA t ⟨n + j, hj⟩ h x, ← EReal.coe_mul, mul_comm (G := ℝ)]
  rw [Finset.sum_congr rfl fun x _ => e x, ← Flash.coe_sum]
  refine congrArg (fun z : ℝ => (z : EReal)) ?_
  refine (sum_cols (n := 96) (k := 31) _ _ 0).trans ?_
  rw [sub_zero]
  exact Finset.sum_congr rfl fun d _ => mul_comm (G := ℝ) _ _

/-- A value's column by the key's number. -/
def vn (W : Fin 8192 → Fin 8 → Fin 64 → ℝ) (h : Fin 8) (l r : ℕ) : ℝ := if hr : r < 8192 then colA (W ⟨r, hr⟩ h) l else 0

section Step
variable (hA : Given m c Q K W) (t : Fin cfg0.N) (p : Fin 512) (h : Fin 2) (N off T M : ℕ) (hN : N + T ≤ 8192) (hM : M ≤ T) (hb : ∀ j, j < T → (j ≤ p.val + off ↔ j < M))
  (d : Vec Ideal S2x512x1 .f32) (hd : d (ix3 h p 0) = mx (sn Q K (head t h) (query t p)) N)
include hA hN hM hb hd

theorem next_max : nextM (fq m c t) (fk m c t) N off T d (ix3 h p 0) = mx (sn Q K (head t h) (query t p)) (N + M) := by
  refine Eq.trans ?_ (Flash.mx_step _ N M T (p.val + off) hM hb)
  rw [← hd]
  exact congrArg (max (d (ix3 h p 0))) (congrArg (Finset.sup Finset.univ) (funext fun j : Fin T => score_real hA t p h N off j.val (by have := j.isLt; omega)))

theorem next_sum (h0 : 0 < M) (a : Vec Ideal S2x512x128 .f32) (l : Fin 128) (ha : a (ix3 h p l) = ((ac (sn Q K (head t h) (query t p)) (vn W (head t h) l.val) N : ℝ) : EReal)) :
    nextA (fq m c t) (fk m c t) (fv m c t) N off T d a (ix3 h p l) = ((ac (sn Q K (head t h) (query t p)) (vn W (head t h) l.val) (N + M) : ℝ) : EReal) := by
  refine Eq.trans ?_ (Flash.ac_step _ _ N M T (p.val + off) h0 hM hb)
  have hm := next_max hA t p h N off T M hN hM hb d hd
  show Ideal.exp (d (ix3 h p 0) - nextM (fq m c t) (fk m c t) N off T d (ix3 h p 0)) * a (ix3 h p l)
    + ∑ j : Fin T, Ideal.exp (score (fq m c t) (fk m c t) N off h.val p.val j.val - nextM (fq m c t) (fk m c t) N off T d (ix3 h p 0)) * at2 (fv m c t) (N + j.val) (128 * h.val + l.val) = _
  rw [hm, hd, ha]
  refine congrArg (fun z : EReal => _ + z) (Finset.sum_congr rfl fun j _ => ?_)
  have hj : N + j.val < 8192 := by have := j.isLt; omega
  rw [score_real hA t p h N off j.val hj, show at2 (fv m c t) (N + j.val) _ = _ from at_v hA t ⟨N + j.val, hj⟩ h l]
  unfold vn
  rw [dif_pos hj]
end Step

section Row
variable (hA : Given m c Q K W) (t : Fin cfg0.N) (p : Fin 512) (h : Fin 2)
include hA

theorem mid_max : midM (grid0.coords t) (fq m c t) (fk m c t) (ix3 h p 0) = mx (sn Q K (head t h) (query t p)) (4096 * (t.val % 16 / 8)) := by
  unfold midM
  rw [at_col]
  by_cases h0 : t.val % 16 / 8 = 0
  · rw [if_pos h0, start_max, h0]; rfl
  · rw [if_neg h0, next_max hA t p h 0 4096 4096 4096 (by decide) (le_refl _) (fun j hj => ⟨fun _ => hj, fun _ => by omega⟩) _ (start_max _)]
    refine congrArg _ ?_
    omega

theorem mid_sum (l : Fin 128) : midA (grid0.coords t) (fq m c t) (fk m c t) (fv m c t) (ix3 h p l) = ((ac (sn Q K (head t h) (query t p)) (vn W (head t h) l.val) (4096 * (t.val % 16 / 8)) : ℝ) : EReal) := by
  unfold midA
  rw [at_col]
  by_cases h0 : t.val % 16 / 8 = 0
  · rw [if_pos h0, start_sum, h0]; rfl
  · rw [if_neg h0, next_sum hA t p h 0 4096 4096 4096 (by decide) (le_refl _) (fun j hj => ⟨fun _ => hj, fun _ => by omega⟩) _ (start_max _) (by decide) _ l (start_sum _)]
    refine congrArg (fun n => ((ac (sn Q K (head t h) (query t p)) (vn W (head t h) l.val) n : ℝ) : EReal)) ?_
    omega

omit hA in
theorem keys (t : Fin cfg0.N) (p : Fin 512) : 4096 * (t.val % 16 / 8) + (512 * (t.val % 16 % 8) + p.val + 1) = (query t p).val + 1 := by
  show _ = t.val % 16 * 512 + p.val + 1
  omega

theorem fin_max : finM (grid0.coords t) (fq m c t) (fk m c t) (ix3 h p 0) = ((top Q K (head t h) (query t p) : ℝ) : EReal) := by
  unfold finM
  rw [at_col, next_max hA t p h _ _ _ (512 * (t.val % 16 % 8) + p.val + 1) (by omega) (by have := p.isLt; omega) (fun j hj => by omega) _ (mid_max hA t p h), keys, Flash.mx_top]

theorem fin_sum (l : Fin 128) : finA (grid0.coords t) (fq m c t) (fk m c t) (fv m c t) (ix3 h p l)
    = ((∑ r : Fin 8192, ex Q K (head t h) (query t p) r * colA (W r (head t h)) l.val : ℝ) : EReal) := by
  unfold finA
  rw [at_col, next_sum hA t p h _ _ _ (512 * (t.val % 16 % 8) + p.val + 1) (by omega) (by have := p.isLt; omega) (fun j hj => by omega) _ (mid_max hA t p h) (by omega) _ l (mid_sum hA t p h l), keys, Flash.ac_ex]
  refine congrArg (fun z : ℝ => (z : EReal)) (Finset.sum_congr rfl fun r _ => ?_)
  unfold vn
  rw [dif_pos r.isLt]

/-- The 65th column holds the row's total, negated. -/
theorem fin_tot : (0 : EReal) - finA (grid0.coords t) (fq m c t) (fk m c t) (fv m c t) (ix3 h p 64) = ((tot Q K (head t h) (query t p) : ℝ) : EReal) := by
  rw [fin_sum hA t p h 64, zero_sub, ← EReal.coe_neg]
  refine congrArg (fun z : ℝ => (z : EReal)) ?_
  unfold tot
  rw [← Finset.sum_neg_distrib]
  refine Finset.sum_congr rfl fun r _ => ?_
  have e : colA (W r (head t h)) (64 : Fin 128).val = -1 := by
    unfold colA
    rw [dif_neg (by decide), if_pos (by decide)]
  rw [e, mul_neg, mul_one, neg_neg]

/-- The augmented query's element. -/
theorem aug_real (a : Vec Ideal S1x512x128 .f32) (ha : ∀ l, a (ix3 0 p l) = finA (grid0.coords t) (fq m c t) (fk m c t) (fv m c t) (ix3 h p l))
    (mm : Vec Ideal S1x512x1 .f32) (hm : mm (ix3 0 p 0) = finM (grid0.coords t) (fq m c t) (fk m c t) (ix3 h p 0)) (l : Fin 128) (x : EReal) (hx : x = ((colB (Q (query t p) (head t h)) 0 l.val : ℝ) : EReal)) :
    (if l.val = 98 then (logSum a mm p - logSum a mm p) - (logSum a mm p - logSum a mm p) else if l.val = 97 then logSum a mm p - logSum a mm p else if l.val = 96 then logSum a mm p else x)
      = ((colB (Q (query t p) (head t h)) (top Q K (head t h) (query t p) + Real.log (tot Q K (head t h) (query t p))) l.val : ℝ) : EReal) := by
  have hL : logSum a mm p = ((top Q K (head t h) (query t p) + Real.log (tot Q K (head t h) (query t p)) : ℝ) : EReal) := by
    unfold logSum
    rw [ha, hm, fin_tot hA t p h, fin_max hA t p h, Ideal.log_coe, if_neg (not_le.mpr (Flash.tot_pos Q K _ _)), ← EReal.coe_add]
  rw [hL, hx, ← EReal.coe_sub, ← EReal.coe_sub]
  unfold colB
  by_cases c1 : l.val < 96
  · rw [if_neg (by omega), if_neg (by omega), if_neg (by omega), dif_pos c1, dif_pos c1]
  · rw [dif_neg c1, dif_neg c1, ite_self]
    by_cases c2 : l.val = 96
    · rw [if_neg (by omega), if_neg (by omega), if_pos c2, if_pos c2]
    · rw [if_neg c2, if_neg c2, sub_self, sub_self]
      rw [ite_self, ite_self]

end Row

end Cert.FlashFIdeal.Hand
end
-- ==== Proof.FfEnd.lean ====
/- The arrays the forward call leaves, at real arguments. -/
module

public import proofs.«01_k».proof.Proof.FfPoint

@[expose] public section

set_option maxRecDepth 16384

noncomputable section

namespace Cert.FlashFIdeal.Hand

open Idealize.ShloMosaic Idealize.ShloMosaic.TcCoe Idealize.SL Idealize.SL.Sem
open Cert.FlashRefIdeal.Hand (Holds)
open Cert.FlashIdeal.Hand (colA colB at2 at2_of)
open Flash (ex tot pr top)

section Lanes
variable (w0 w1 : S512x128.Idx → EReal) (p : Fin 512) (l : Fin 128)
theorem lanes_lo : lanes w0 w1 (ix2 p ⟨128 * (0 : Fin 2).val + l.val, by have := l.isLt; show 128 * 0 + l.val < 256; omega⟩) = w0 (ix2 p l) := by
  have h : 128 * (0 : Fin 2).val + l.val < 128 := by have := l.isLt; show 128 * 0 + l.val < 128; omega
  refine (dif_pos h).trans (congrArg w0 (congrArg (ix2 p) (Fin.ext ?_)))
  show 128 * 0 + l.val = l.val
  omega
theorem lanes_hi : lanes w0 w1 (ix2 p ⟨128 * (1 : Fin 2).val + l.val, by have := l.isLt; show 128 * 1 + l.val < 256; omega⟩) = w1 (ix2 p l) := by
  have h : ¬ 128 * (1 : Fin 2).val + l.val < 128 := by show ¬ 128 * 1 + l.val < 128; omega
  refine (dif_neg h).trans (congrArg w1 (congrArg (ix2 p) (Fin.ext ?_)))
  show 128 * 1 + l.val - 128 = l.val
  omega
end Lanes

theorem qWin0_at (x : Vec Ideal S512x256 .bf16) (p : Fin 512) (l : Fin 128) : qWin0 x (ix2 p l) = at2 x p.val (128 * (0 : Fin 2).val + l.val) := by
  rw [at2_of x p.isLt (by have := l.isLt; show 128 * 0 + l.val < 256; omega)]
  exact congrArg x (by funext a; apply Fin.ext; fin_cases a <;> simp [Rect.unit, Rect.emb, ix2])
theorem qWin1_at (x : Vec Ideal S512x256 .bf16) (p : Fin 512) (l : Fin 128) : qWin1 x (ix2 p l) = at2 x p.val (128 * (1 : Fin 2).val + l.val) := by
  rw [at2_of x p.isLt (by have := l.isLt; show 128 * 1 + l.val < 256; omega)]
  exact congrArg x (by funext a; apply Fin.ext; fin_cases a <;> simp [Rect.unit, Rect.emb, ix2])

theorem two (h : Fin 2) : h = 0 ∨ h = 1 := by omega

variable {m : (ℓ : Loc nD τ sig) → Buf (Elt Ideal) ℓ} {c : Dev nD} {Q K : Fin 8192 → Fin 8 → Fin 96 → ℝ} {W : Fin 8192 → Fin 8 → Fin 64 → ℝ} (hA : Given m c Q K W)

/-- An output: the weighted sum of a column over the weights' total. -/
def quot (Q K : Fin 8192 → Fin 8 → Fin 96 → ℝ) (W : Fin 8192 → Fin 8 → Fin 64 → ℝ) (h : Fin 8) (R : Fin 8192) (l : ℕ) : EReal :=
  Ideal.div ((∑ r : Fin 8192, ex Q K h R r * colA (W r h) l : ℝ) : EReal) ((tot Q K h R : ℝ) : EReal)
/-- An augmented query's element. -/
def augQ (Q K : Fin 8192 → Fin 8 → Fin 96 → ℝ) (h : Fin 8) (R : Fin 8192) (l : ℕ) : EReal := ((colB (Q R h) (top Q K h R + Real.log (tot Q K h R)) l : ℝ) : EReal)

include hA
theorem outO_at (t : Fin cfg0.N) (p : Fin 512) (h : Fin 2) (l : Fin 128) :
    outO (grid0.coords t) (fq m c t) (fk m c t) (fv m c t) (ix2 p ⟨128 * h.val + l.val, by omega⟩) = quot Q K W (head t h) (query t p) l.val := by
  unfold quot
  rw [← fin_sum hA t p h l, ← fin_tot hA t p h]
  unfold outO
  rcases two h with rfl | rfl
  · rw [lanes_lo, payO0_at, aWin0_at, aWin0_at]
  · rw [lanes_hi, payO1_at, aWin1_at, aWin1_at]

theorem outQ_at (t : Fin cfg0.N) (p : Fin 512) (h : Fin 2) (l : Fin 128) :
    outQ (grid0.coords t) (fq m c t) (fk m c t) (fv m c t) (ix2 p ⟨128 * h.val + l.val, by omega⟩) = augQ Q K (head t h) (query t p) l.val := by
  unfold outQ augQ
  rcases two h with rfl | rfl
  · rw [lanes_lo, payQ0_at]
    exact aug_real hA t p 0 _ (fun l => aWin0_at _ p l) _ (mWin0_at _ p) l _ ((qWin0_at _ p l).trans (at_q hA t p 0 l))
  · rw [lanes_hi, payQ1_at]
    exact aug_real hA t p 1 _ (fun l => aWin1_at _ p l) _ (mWin1_at _ p) l _ ((qWin1_at _ p l).trans (at_q hA t p 1 l))
omit hA

/-- A function of head, query and column, as an array. -/
def spread (f : Fin 8 → Fin 8192 → ℕ → EReal) : FVec Ideal S8192x1024 .bf16 := fun i => f ⟨(i 1).val / 128, by have : (i 1).val < 1024 := (i 1).isLt; omega⟩ (i 0) ((i 1).val % 128)

theorem spread_at (f : Fin 8 → Fin 8192 → ℕ → EReal) (R : Fin 8192) (h : Fin 8) (l : Fin 128) : spread f (ix2 R ⟨128 * h.val + l.val, by omega⟩) = f h R l.val := by
  show f ⟨(128 * h.val + l.val) / 128, _⟩ R ((128 * h.val + l.val) % 128) = _
  have e1 : (128 * h.val + l.val) % 128 = l.val := by omega
  have e2 : (⟨(128 * h.val + l.val) / 128, by omega⟩ : Fin 8) = h := Fin.ext (by show (128 * h.val + l.val) / 128 = _; omega)
  rw [e1, e2]

/-- A block's element by its head and column. -/
theorem spread_block (f : Fin 8 → Fin 8192 → ℕ → EReal) (o : S512x256.Idx → EReal) (t : Fin cfg0.N) (p : Fin 512)
    (ho : ∀ (h : Fin 2) (l : Fin 128), o (ix2 p ⟨128 * h.val + l.val, by omega⟩) = f (head t h) (query t p) l.val) (C : Fin 256) :
    o (ix2 p C) = spread f (ix2 ⟨t.val % 16 * 512 + p.val, by omega⟩ ⟨t.val / 16 * 256 + C.val, by have := pts t; omega⟩) := by
  have e0 : C = ⟨128 * (⟨C.val / 128, by omega⟩ : Fin 2).val + (⟨C.val % 128, by omega⟩ : Fin 128).val, by show 128 * (C.val / 128) + C.val % 128 < 256; omega⟩ := Fin.ext (Nat.div_add_mod _ _).symm
  rw [e0, ho]
  have e1 : (t.val / 16 * 256 + (128 * (C.val / 128) + C.val % 128)) % 128 = C.val % 128 := by omega
  have e2 : (⟨(t.val / 16 * 256 + (128 * (C.val / 128) + C.val % 128)) / 128, by have := pts t; omega⟩ : Fin 8) = head t ⟨C.val / 128, by omega⟩ := Fin.ext (by
    show (t.val / 16 * 256 + (128 * (C.val / 128) + C.val % 128)) / 128 = 2 * (t.val / 16) + C.val / 128
    omega)
  show _ = f ⟨(t.val / 16 * 256 + (128 * (C.val / 128) + C.val % 128)) / 128, _⟩ _ ((t.val / 16 * 256 + (128 * (C.val / 128) + C.val % 128)) % 128)
  rw [e1, e2]
  rfl

include hA
/-- The output. -/
theorem final_o (R : Fin 8192) (h : Fin 8) (d : Fin 64) :
    ((datf m 0 c).arrAt 3 cfg0.N : FVec Ideal S8192x1024 .bf16) (ix2 R ⟨128 * h.val + d.val, by omega⟩) = ((∑ r, W r h d * pr Q K h R r : ℝ) : EReal) := by
  rw [arr_o m c (spread (quot Q K W)) fun t p C => spread_block _ _ t p (fun h l => outO_at hA t p h l) C]
  refine (spread_at _ R h ⟨d.val, by omega⟩).trans ?_
  unfold quot
  rw [Ideal.div_coe (Flash.tot_pos Q K h R).ne', ← EReal.coe_mul]
  refine congrArg (fun z : ℝ => (z : EReal)) ?_
  rw [Finset.sum_mul]
  refine Finset.sum_congr rfl fun r _ => ?_
  have e : colA (W r h) d.val = W r h d := by
    unfold colA
    rw [dif_pos d.isLt]
  show ex Q K h R r * colA (W r h) d.val * _ = _
  rw [e]
  unfold pr
  ring

/-- The augmented query. -/
theorem final_q (R : Fin 8192) (h : Fin 8) (l : Fin 128) :
    ((datf m 0 c).arrAt 4 cfg0.N : FVec Ideal S8192x1024 .bf16) (ix2 R ⟨128 * h.val + l.val, by omega⟩) = ((colB (Q R h) (top Q K h R + Real.log (tot Q K h R)) l.val : ℝ) : EReal) := by
  rw [arr_q m c (spread (augQ Q K)) fun t p C => spread_block _ _ t p (fun h l => outQ_at hA t p h l) C]
  exact spread_at _ R h l

end Cert.FlashFIdeal.Hand
end
-- ==== Proof.FfRef.lean ====
/- What the forward call's reference returns, by the attention's stages. -/
module

public import proofs.«01_k».proof.Proof.Gen.FlashFRefIdeal.Run
public import proofs.«01_k».proof.Proof.FlCols
public import proofs.«01_k».proof.Proof.FlRefVal

@[expose] public section

set_option maxRecDepth 16384

noncomputable section

namespace Cert.FlashFRefIdeal.Hand

open Idealize.ShloMosaic Idealize.ShloMosaic.TcCoe Idealize.ShloMosaic.Tactic Idealize.SL Idealize.SL.Sem
open Cert.FlashFRefIdeal Cert.FlashFRefIdeal.Gen
open Cert.FlashRefIdeal.Hand (Qs Vs Ss scores rowMax exps sums probs expR Holds expR_real)
open Cert.FlashIdeal.Hand (outs outs_at zero_f32)
open Flash (sc top ex tot pr)

/-- The output, every head padded. -/
def placeO (o : Vs) : FVec Ideal S8192x1024 .bf16 :=
  truncf .bf16 (shapeCast S8192x1024 (pad S8192x8x128 ![0, 0, 0] ![0, 0, 64] ![0, 0, 0] o (sitofp .f32 (constantI S_ 32 0#32 : Vec Ideal S_ .i32)) pads_S8192x8x64_S8192x8x128_000_000_0640 h_S_) shapeCasts_S8192x8x128_S8192x1024) bitsLt_bf16_f32
theorem placeO_at (o : Vs) (R : Fin 8192) (h : Fin 8) (d : Fin 64) : placeO o (ix2 R ⟨128 * h.val + d.val, by omega⟩) = o (ix3 R h d) := by
  unfold placeO
  pointwise
  have := h.isLt; have := d.isLt
  rw [dif_pos (by omega)]
  exact congrArg (fun x => o (ix3 R h x)) (Fin.ext (by show (128 * h.val + d.val) % 128 = d.val; omega))

/-- Every row's log-sum. -/
def lseR (t : FVec Ideal S8x8192 .f32) (l : FVec Ideal S8x8192x1 .f32) : FVec Ideal S8192x8x1 .f32 :=
  transpose S8192x8x1 [1, 0, 2] (addf (broadcastInDim S8x8192x1 ![0, 1] bcast_S8x8192_S8x8192x1_0_1 t) (Host.log l)) transposes_S8x8192x1_S8192x8x1_1_0_2
theorem lseR_at (t : FVec Ideal S8x8192 .f32) (l : FVec Ideal S8x8192x1 .f32) (R : Fin 8192) (h : Fin 8) (z : Fin 1) :
    lseR t l (ix3 R h z) = t (ix2 h R) + Ideal.log (l (ix3 h R z)) := by
  obtain rfl : z = 0 := Subsingleton.elim _ _
  unfold lseR
  pointwise

/-- The queries and the log-sums, every head padded. -/
def placeQ (q : Qs) (s : FVec Ideal S8192x8x1 .f32) : FVec Ideal S8192x1024 .bf16 :=
  truncf .bf16 (shapeCast S8192x1024 (pad S8192x8x128 ![0, 0, 0] ![0, 0, 31] ![0, 0, 0] (concatenate S8192x8x97 2 [⟨S8192x8x96, q⟩, ⟨S8192x8x1, s⟩] concatenates_S8192x8x96_S8192x8x1_S8192x8x97_d2) (sitofp .f32 (constantI S_ 32 0#32 : Vec Ideal S_ .i32)) pads_S8192x8x97_S8192x8x128_000_000_0310 h_S_) shapeCasts_S8192x8x128_S8192x1024) bitsLt_bf16_f32

/-- A column among a head's own, one more, and a filler. -/
theorem pick1 {n : ℕ} (A : Fin n → EReal) (B : Fin 1 → EReal) (z : EReal) (e : ℕ) :
    (if h1 : e < n + 1 then if h2 : e < n then A ⟨e, h2⟩ else B ⟨e - n, by omega⟩ else z) = if h : e < n then A ⟨e, h⟩ else if e = n then B 0 else z := by
  by_cases c1 : e < n
  · rw [dif_pos (by omega), dif_pos c1, dif_pos c1]
  · rw [dif_neg c1]
    by_cases c2 : e = n
    · rw [dif_pos (by omega), dif_neg c1, if_pos c2]; exact congrArg B (Subsingleton.elim _ _)
    · rw [dif_neg (by omega), if_neg c2]

theorem placeQ_at (q : Qs) (s : FVec Ideal S8192x8x1 .f32) (R : Fin 8192) (h : Fin 8) (e : Fin 128) :
    placeQ q s (ix2 R ⟨128 * h.val + e.val, by omega⟩) = if he : e.val < 96 then q (ix3 R h ⟨e.val, he⟩) else if e.val = 96 then s (ix3 R h 0) else 0 := by
  unfold placeQ
  pointwise
  rw [zero_f32]
  exact pick1 (n := 96) (fun d => q (ix3 R h d)) (fun z => s (ix3 R h z)) 0 e.val

variable (m : (ℓ : Loc nD τ sig) → Buf (Elt Ideal) ℓ) (ρ : Dev nD → PrngReg)

/-- The exponentials the log-sums are formed from. -/
def expF (q k : Qs) : Ss := exps (scores q k) (rowMax (scores q k))

theorem first_eq (c : Dev nD) : Cert.FlashFRefIdeal.Value.res_out0 m c = placeO (outs (m ((c.tc : Thread nD τ).loc main_arg2)) (probs (expR (m ((c.tc : Thread nD τ).loc main_arg0)) (m ((c.tc : Thread nD τ).loc main_arg1))))) := by
  show Value.res_main_v37 m c = _
  unfold Value.res_main_v37
  rfl

/-- The reference's run. -/
theorem ref_run : θ_run defs (onTc (τ := τ) (main (F := Ideal))) ⟨m, fun _ => 0, ρ⟩ fun r => ∀ c : Dev nD,
      r.2.mem ((c.tc : Thread nD τ).loc main_v37) = placeO (outs (m ((c.tc : Thread nD τ).loc main_arg2)) (probs (expR (m ((c.tc : Thread nD τ).loc main_arg0)) (m ((c.tc : Thread nD τ).loc main_arg1)))))
      ∧ r.2.mem ((c.tc : Thread nD τ).loc main_v38) = placeQ (m ((c.tc : Thread nD τ).loc main_arg0)) (lseR (rowMax (scores (m ((c.tc : Thread nD τ).loc main_arg0)) (m ((c.tc : Thread nD τ).loc main_arg1)))) (sums (expF (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (first_eq m c), (h c).2.1.trans (by unfold placeQ; rfl), (h c).2.2⟩) (Cert.FlashFRefIdeal.Value.run m ρ)

variable {Q K : Fin 8192 → Fin 8 → Fin 96 → ℝ} {V : Fin 8192 → Fin 8 → Fin 64 → ℝ} {q k : Qs} {v : Vs} (hq : Holds q Q) (hk : Holds k K) (hv : Holds v V)
include hq hk

theorem lse_real (R : Fin 8192) (h : Fin 8) (z : Fin 1) : lseR (rowMax (scores q k)) (sums (expF q k)) (ix3 R h z) = ((top Q K h R + Real.log (tot Q K h R) : ℝ) : EReal) := by
  have he : ∀ h R r, expF q k (ix3 h R r) = ((ex Q K h R r : ℝ) : EReal) := fun h R r => Cert.FlashRefIdeal.Hand.exps_real hq hk h R r
  rw [lseR_at, Cert.FlashRefIdeal.Hand.rowMax_real hq hk, Cert.FlashRefIdeal.Hand.sums_real he, Ideal.log_coe, if_neg (not_le.mpr (Flash.tot_pos Q K h R)), ← EReal.coe_add]

include hv in
theorem out_real (R : Fin 8192) (h : Fin 8) (d : Fin 64) : placeO (outs v (probs (expR q k))) (ix2 R ⟨128 * h.val + d.val, by omega⟩) = ((∑ r, V r h d * pr Q K h R r : ℝ) : EReal) := by
  rw [placeO_at, outs_at]
  simp only [Cert.FlashRefIdeal.Hand.probs_real (expR_real hq hk), hv _ _ _, ← EReal.coe_mul, ← Flash.coe_sum]

theorem qa_real (R : Fin 8192) (h : Fin 8) (e : Fin 128) : placeQ q (lseR (rowMax (scores q k)) (sums (expF q k))) (ix2 R ⟨128 * h.val + e.val, by omega⟩)
    = ((Cert.FlashIdeal.Hand.colB (Q R h) (top Q K h R + Real.log (tot Q K h R)) e.val : ℝ) : EReal) := by
  rw [placeQ_at, lse_real hq hk]
  unfold Cert.FlashIdeal.Hand.colB
  by_cases c1 : e.val < 96
  · rw [dif_pos c1, dif_pos c1, hq]
  · rw [dif_neg c1, dif_neg c1]
    by_cases c2 : e.val = 96
    · rw [if_pos c2, if_pos c2]
    · rw [if_neg c2, if_neg c2]; rfl

end Cert.FlashFRefIdeal.Hand
end
-- ==== Proof.FlashFProof.lean ====
/- The attention's forward call and its reference leave the same arrays. -/
module

public import proofs.«01_k».proof.Defs
public import proofs.«01_k».proof.Proof.Gen.Pre_flashf_finite
public import proofs.«01_k».proof.Proof.Gen.On_flashf_on
public import proofs.«01_k».proof.Proof.FlashValue
public import proofs.«01_k».proof.Proof.FfEnd
public import proofs.«01_k».proof.Proof.FfRef

@[expose] public section

set_option maxRecDepth 16384

noncomputable section

namespace Cert.FlashFProof

open Idealize.ShloMosaic Idealize.ShloMosaic.TcCoe Idealize.SL Idealize.SL.Sem
open Cert.FlashFIdeal.Hand (Given datf grid_run final_o final_q)
open Cert.FlashFRefIdeal.Hand (ref_run out_real qa_real)
open Cert.FlashValue (tab fin_of and_127 col_split)

variable {m : (ℓ : Loc Cert.FlashFIdeal.nD Cert.FlashFIdeal.τ Cert.FlashFIdeal.sig) → Buf (Elt Ideal) ℓ}

theorem given_of (hp : Cert.Pre_FlashFIdeal_flashf_finite m) (c : Dev Cert.FlashFIdeal.nD) :
    Given m c (tab (m ((c : Thread Cert.FlashFIdeal.nD Cert.FlashFIdeal.τ).loc Cert.FlashFIdeal.main_arg0))) (tab (m ((c : Thread Cert.FlashFIdeal.nD Cert.FlashFIdeal.τ).loc Cert.FlashFIdeal.main_arg1)))
      (tab (m ((c : Thread Cert.FlashFIdeal.nD Cert.FlashFIdeal.τ).loc Cert.FlashFIdeal.main_arg2))) := by
  obtain ⟨h0, h1, h2⟩ := hp c
  exact ⟨fun R h e => fin_of _ _ h0 (ix3 R h e), fun R h e => fin_of _ _ h1 (ix3 R h e), fun R h e => fin_of _ _ h2 (ix3 R h e)⟩

/-- The mask of the output selects each head's own columns. -/
theorem on_o (x0 x1 : FVec Ideal Cert.On_flashf_on.S8192x8x96 .f32) (x2 : FVec Ideal Cert.On_flashf_on.S8192x8x64 .f32) (R : Fin 8192) (C : Fin 1024)
    (h : (Cert.On_flashf_on.fn (F := Ideal) x0 x1 x2).1 (ix2 R C) = 1#1) : C.val % 128 < 64 := by
  by_contra hn
  have h' : IntOp.cmpi .slt (IntOp.andi (BitVec.ofNat 32 C.val) 127#32) 64#32 = 1#1 := h
  rw [and_127] at h'
  revert h'
  word_cmp

set_option maxHeartbeats 1000000 in
/-- The output agrees on the columns that carry a head, the augmented query on all. -/
theorem algebraic : Cert.algebraic_FlashFIdeal_FlashFRefIdeal_on_flashf_on_pre_flashf_finite := by
  intro m g m' g' hpre hagree
  refine ⟨fun c => (datf m 0 c).arrAt 3 (Cert.FlashFIdeal.cfgs 0).N, fun c => (datf m 0 c).arrAt 4 (Cert.FlashFIdeal.cfgs 0).N, ?_, ?_⟩
  · refine (θ_run Cert.FlashFIdeal.defs _ _).mono (fun r h c => ?_) (grid_run m g)
    have kept := fun a ha hb => (h.1 c).2 a (Pipeline.mem_restRefs_of a ha hb)
    exact ⟨fun i _ => congrFun ((h.1 c).1 3) i, fun i _ => congrFun ((h.1 c).1 4) i, (kept Cert.FlashFIdeal.main_arg0 (by decide) (by decide)).trans (Cert.FlashFIdeal.Gen.V_main_arg0 m c),
      (kept Cert.FlashFIdeal.main_arg1 (by decide) (by decide)).trans (Cert.FlashFIdeal.Gen.V_main_arg1 m c), (kept Cert.FlashFIdeal.main_arg2 (by decide) (by decide)).trans (Cert.FlashFIdeal.Gen.V_main_arg2 m c)⟩
  · refine (θ_run Cert.FlashFRefIdeal.defs _ _).mono (fun r h c => ?_) (ref_run m' g')
    obtain ⟨h0, h1, hr⟩ := h c
    obtain ⟨e0, e1, e2⟩ := hagree c
    have hA := given_of hpre c
    refine ⟨fun i hi => ?_, fun i _ => ?_, hr⟩
    · rw [h0, e0, e1, e2]
      rw [eq_ix2 i] at hi ⊢
      have hc := on_o _ _ _ _ _ hi
      have hlt : (i 1).val < 1024 := (i 1).isLt
      have a := out_real hA.1 hA.2.1 hA.2.2 (i 0) ⟨(i 1).val / 128, by omega⟩ ⟨(i 1).val % 128, hc⟩
      have b := final_o hA (i 0) ⟨(i 1).val / 128, by omega⟩ ⟨(i 1).val % 128, hc⟩
      rw [col_split (i 1)]
      exact a.trans b.symm
    · rw [h1, e0, e1]
      rw [eq_ix2 i]
      have hlt : (i 1).val < 1024 := (i 1).isLt
      have a := qa_real hA.1 hA.2.1 (i 0) ⟨(i 1).val / 128, by omega⟩ ⟨(i 1).val % 128, by omega⟩
      have b := final_q hA (i 0) ⟨(i 1).val / 128, by omega⟩ ⟨(i 1).val % 128, by omega⟩
      rw [col_split (i 1)]
      exact a.trans b.symm

/-- The reference runs, keeps its arguments and leaves no semaphore raised. -/
theorem frameRef : Cert.quiescent_FlashFRefIdeal := fun m ρ _ =>
  (θ_run Cert.FlashFRefIdeal.defs _ _).mono (fun r h => ⟨fun c => (h c).2.2, sem_eq_zero_of_no_sems (by decide) r.2⟩) (Cert.FlashFRefIdeal.Value.run m ρ)

/-- The number standing for −∞ is named so in the idealized kernel. -/
theorem preserves : Cert.preserves_FlashF_FlashFIdeal :=
  IdealRules.named_const.statement Cert.FlashFIdeal.κ "mask" .f32 0xF149F2CA#32 ⊥ rfl

end Cert.FlashFProof
end
-- ==== Proof.FlBits.lean ====
module

public import proofs.«01_k».proof.Proof.Gen.Flash.Loops
public import proofs.«01_k».proof.Proof.Gen.Flash.Frame
public import Idealize.ShloMosaic.PureOps.BitExact

@[expose] public section

set_option maxRecDepth 16384

noncomputable section

/-! The frame of the rounded program: its four inputs' blocks are followed, what it leaves in the blocks it writes is not. -/

namespace Cert.Flash.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Flash.Gen

local notation "𝕄" => MT nD τ sig Unit (Elt Bits) ℕ (UR sig nD τ) ℕ

/-- The condition under which the body zeroes the query gradient's block. -/
abbrev first (i : grid0.Coords) : Prop := (Scalar.cmpi .ne (Scalar.extui (Scalar.cmpi .eq (BitVec.ofNat 32 (i 1).val) 0#32)) 0#32) = 1#1

/-- The nine blocks the body works on: the inputs at their contents, the others at any. -/
abbrev Blocks (c : Dev nD) (arg2 : Memref sig .tc .vmem S8192x256 .bf16) (arg3 : Memref sig .tc .vmem S1024x256 .bf16) (arg4 : Memref sig .tc .vmem S1024x256 .bf16) (arg5 : Memref sig .tc .vmem S8192x256 .bf16) (arg6 : Memref sig .tc .vmem S8192x256 .f32) (arg7 arg8 : Memref sig .tc .vmem S1024x256 .bf16) (arg9 arg10 : Memref sig .tc .vmem S1024x256 .f32)
    (x0 : Vec Bits S8192x256 .bf16) (x1 x2 : Vec Bits S1024x256 .bf16) (x3 : Vec Bits S8192x256 .bf16) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))

set_option maxHeartbeats 4000000 in
/-- The body at any grid point: the blocks are there again afterwards, the inputs' unchanged. -/
theorem body (c : Dev nD) (i : grid0.Coords) (arg2 : Memref sig .tc .vmem S8192x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S8192x256 .bf16) (harg5 : arg5.IsWhole) (arg6 : Memref sig .tc .vmem S8192x256 .f32) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x256 .f32) (harg9 : arg9.IsWhole) (arg10 : Memref sig .tc .vmem S1024x256 .f32) (harg10 : arg10.IsWhole)
    (x0 : Vec Bits S8192x256 .bf16) (x1 x2 : Vec Bits S1024x256 .bf16) (x3 : Vec Bits S8192x256 .bf16) (E : Set ℕ) :
    Blocks c arg2 arg3 arg4 arg5 arg6 arg7 arg8 arg9 arg10 x0 x1 x2 x3
      ⊢ wp frame (wpE (defs₀ (F := Bits)) Variants.none c none) E (cc0_mla_flash_bwd (F := Bits) i arg2 harg2 arg3 harg3 arg4 harg4 arg5 harg5 arg6 harg6 arg7 harg7 arg8 harg8 arg9 harg9 arg10 harg10)
        (fun _ => Blocks c arg2 arg3 arg4 arg5 arg6 arg7 arg8 arg9 arg10 x0 x1 x2 x3) := by
  simp only [cc0_mla_flash_bwd_eq_skeleton]; unfold cc0_mla_flash_bwd_skel
  simp only [k0_part5_eq_skeleton, k0_part6_eq_skeleton, k0_part7_eq_skeleton, k0_part8_eq_skeleton, k0_part9_eq_skeleton, k0_part10_eq_skeleton, k0_part11_eq_skeleton]
  unfold Blocks owns
  iintro ⟨⟨%f0, %hf0, H0⟩, ⟨%f1, %hf1, H1⟩, ⟨%f2, %hf2, H2⟩, ⟨%f3, %hf3, H3⟩, ⟨%d6, %f4, -, H4⟩, ⟨%d5, %f5, -, H5⟩, ⟨%d7, %f6, -, H6⟩, ⟨%ds0, %fs0, -, HS0⟩, ⟨%ds1, %fs1, -, HS1⟩⟩
  by_cases hc : first i
  all_goals
    sl_exec (disch := first | sl_exact hc)
    sl_step
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

variable (m : (ℓ : Loc nD τ sig) → Buf (Elt Bits) ℓ) (ρ : Dev nD → PrngReg) (c : Dev nD)

/-- The proof data: the inputs' blocks stay; of the three outputs nothing is said. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- The windows of which nothing is said: the outputs. -/
def outs (w : Fin cfg0.W) : Bool := match w with
  | ⟨4, _⟩ | ⟨5, _⟩ | ⟨6, _⟩ => true
  | _ => false

theorem A_eq (c : Dev nD) (w : Fin cfg0.W) : (dats m 0 c).A w = V m c (Pipeline.arrRef spec0 w) := by
  dsimp only [dats]

theorem phi_eq : (Pipeline.ΦA spec0 c : sProp 𝕄)
    = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem before_0 (t : Fin cfg0.N) (d) : (dats m 0 c).before 0 t d = iblk m c 0 t :=
  before0_0_of m (dats m 0 c) (A_eq m c 0) (fun _ => rfl) t d
theorem before_1 (t : Fin cfg0.N) (d) : (dats m 0 c).before 1 t d = iblk m c 1 t :=
  before0_1_of m (dats m 0 c) (A_eq m c 1) (fun _ => rfl) t d
theorem before_2 (t : Fin cfg0.N) (d) : (dats m 0 c).before 2 t d = iblk m c 2 t :=
  before0_2_of m (dats m 0 c) (A_eq m c 2) (fun _ => rfl) t d
theorem before_3 (t : Fin cfg0.N) (d) : (dats m 0 c).before 3 t d = iblk m c 3 t :=
  before0_3_of m (dats m 0 c) (A_eq m c 3) (fun _ => rfl) t d

/-- The staged blocks the body is called with at a point. -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))

/-- The staged blocks it returns. -/
def bodyPost (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d)
    ∗ (∃ d, owns (c : Thread nD τ) (st0_5 t) fullShare d)
    ∗ (∃ d, owns (c : Thread nD τ) (st0_6 t) fullShare d))

set_option maxHeartbeats 1600000 in
/-- The body at a point of the grid. -/
theorem sound (t : Fin cfg0.N) :
    bodyPre m c t ⊢ wp frame (wpE (defs₀ (F := Bits)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, H4, H5, H6⟩
  iapply (wp_wand_r Idealize.ShloMosaic.frame (wpE (defs₀ (F := Bits)) Variants.none (c : Thread nD τ) none) Set.univ)
  isplitl [H0 H1 H2 H3 H4 H5 H6 HS0 HS1]
  · iapply (body c (grid0.coords t) _ _ _ _ _ _ _ _ _ _ _ _ _ _ _ _ _ _ (iblk m c 0 t) (iblk m c 1 t) (iblk m c 2 t) (iblk m c 3 t) Set.univ)
    unfold Blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    iexact HS1
  · unfold Blocks
    iintro %_ ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_eq (t : Fin cfg0.N) :
    defs₀ (F := Bits) .tc cfg0.body (cfg0.bodyArgs t (cfg0.slots t)) = bodyAt0 t := by
  unfold defs₀; rw [Defs.onTc_tc]

set_option maxHeartbeats 2000000 in
theorem obligation : BodyObligation (dats m 0 c) (defs₀ (F := Bits)) Variants.none () Set.univ outs := fun t => by
  rw [bigSep_W0, bigSep_W0, row_eq]
  exact triple_restated (sound m c t) rfl .rfl fun _ => .rfl

set_option backward.isDefEq.respectTransparency.types false in
/-- The frame: the program runs, its arguments end unchanged and the machine is quiescent. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_forget (Q' := _) cfgs (dats m) (0 : Fin 1) launch0 defs₀ Variants.none outs m ρ main
    (hbody := fun c => (obligation m c).loose) (hshare := fun c => (dats m 0 c).share_full fun _ => rfl)
    (howed := fun _ _ => rfl) (V := V m) (hmain := hmain m Variants.none) (hA := A_eq m) (hΦ := fun _ _ => rfl)
    (hQ' := fun r h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c),
       ((h.1 c).2 main_arg3 (Pipeline.mem_restRefs_of main_arg3 (by decide) (by decide))).trans (V_main_arg3 m c)⟩, h.2⟩)

end Cert.Flash.Hand

end
-- ==== Proof.ReluProof.lean ====
module

public import proofs.«01_k».proof.Defs
public import proofs.«01_k».proof.Proof.Gen.ReluIdeal.Value
public import proofs.«01_k».proof.Proof.Gen.ReluRefIdeal.Run
public import Idealize.ShloMosaic.Lib.Pipeline.ValueKit
public import Idealize.ShloMosaic.Lib.Pointwise
public import Idealize.ShloMosaic.Lib.Claim

@[expose] public section

set_option maxRecDepth 16384

noncomputable section

/-! The gradient through the squared relu: the second product times twice the positive part, which the
    call takes back from its square by a root. -/

open Idealize.ShloMosaic Idealize.ShloMosaic.TcCoe Idealize.SL.Sem
open Idealize.ShloMosaic.Pipeline (Dat)

namespace Cert.ReluProof

open Cert.ReluIdeal Cert.ReluIdeal.Gen

variable (m : (ℓ : Loc nD τ sig) → Buf (Elt Ideal) ℓ)

/-- Every window's block index at a point of the grid. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] :=
  (by decide +kernel : ∀ t : Fin grid0.N, _)

/-- The gradient by the first layer's output, from its positive part. -/
def G (a : FVec Ideal S8192x4096 .f32) (w : FVec Ideal S4096x1024 .f32) (d : FVec Ideal S8192x1024 .f32) : FVec Ideal S8192x4096 .bf16 :=
  fun i => (∑ k : Fin 1024, d (ix2 (i 0) k) * w (ix2 (i 1) k)) * (2 * Ideal.sqrt (max (a i) 0 * max (a i) 0))

theorem two : Ideal.ofBits FTy.f32 1073741824#32 = 2 := by simp [Ideal.ofBits, Ideal.ieee]; rw [← EReal.coe_mul]; norm_num; rfl

/-- The squared positive part as the launch finds it. -/
def hid (a : FVec Ideal S8192x4096 .f32) : FVec Ideal S8192x4096 .bf16 := fun i => max (a i) 0 * max (a i) 0

theorem V_hid (c : Dev nD) : V m c main_v2 = hid (m ((c : Thread nD τ).loc main_arg0)) := by
  simp only [V, List.flatten_cons, List.flatten_nil, List.append_nil, hostOps0, hostOps0_1, List.cons_append, List.nil_append,
    StableHlo.TRef.binary, StableHlo.TRef.nullary, StableHlo.TRef.unary, StableHlo.TRef.toBuf, StableHlo.TRef.ofBuf, cast_eq]
  after_results_simp
  funext i; pointwise [hid]

theorem V_d (c : Dev nD) : V m c main_v3 = (m ((c : Thread nD τ).loc main_arg2) : FVec Ideal S8192x1024 .f32) := by
  simp only [V, List.flatten_cons, List.flatten_nil, List.append_nil, hostOps0, hostOps0_1, List.cons_append, List.nil_append,
    StableHlo.TRef.binary, StableHlo.TRef.nullary, StableHlo.TRef.unary, StableHlo.TRef.toBuf, StableHlo.TRef.ofBuf, cast_eq]
  after_results_simp
  funext i; pointwise []

theorem V_w (c : Dev nD) : V m c main_v4 = (m ((c : Thread nD τ).loc main_arg1) : FVec Ideal S4096x1024 .f32) := by
  simp only [V, List.flatten_cons, List.flatten_nil, List.append_nil, hostOps0, hostOps0_1, List.cons_append, List.nil_append,
    StableHlo.TRef.binary, StableHlo.TRef.nullary, StableHlo.TRef.unary, StableHlo.TRef.toBuf, StableHlo.TRef.ofBuf, cast_eq]
  after_results_simp
  funext i; pointwise []

theorem final3 (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0 out0_A_3; frame_out
  pointwise [k0_pay1, k0_pay2, G]
  rw [two]
  refine Ideal.mul_congr (Finset.sum_congr rfl fun k _ => Ideal.mul_congr ?_ ?_) (Ideal.mul_congr rfl (congrArg Ideal.sqrt ?_))
  · blk_simp [iblk]; rw [V_d]; blk_ext! [idx t]
  · blk_simp [iblk]; rw [V_w]; blk_ext! [idx t]
  · show V m c main_v2 ((win0_2.blk t).view.emb y) = _
    rw [V_hid]
    refine congrArg (hid (m ((c : Thread nD τ).loc main_arg0))) ?_
    blk_ext [idx t]

/-- The root of a squared positive part is the positive part. -/
theorem root (a : EReal) : Ideal.sqrt (max a 0 * max a 0) = max a 0 := by
  induction a with
  | bot => rw [max_eq_right bot_le, mul_zero]; exact (Ideal.sqrt_coe 0).trans (by simp)
  | top => rw [max_eq_left le_top]; rfl
  | coe r =>
    rw [show max (r : EReal) 0 = ((max r 0 : ℝ) : EReal) from (EReal.coe_strictMono.monotone.map_max (a := r) (b := 0)).symm, ← EReal.coe_mul]
    rw [Ideal.sqrt_coe, if_neg (not_lt.mpr (mul_self_nonneg _)), Real.sqrt_mul_self (le_max_right _ _)]

/-- Where the layer's output is not positive, the factor of the square is zero. -/
theorem factor (s a : EReal) : s * (2 * Ideal.sqrt (max a 0 * max a 0)) = if 0 < a then s * (2 * max a 0) else 0 := by
  rw [root]
  split
  · rfl
  · next h => rw [max_eq_right (not_lt.mp h), mul_zero, mul_zero]

set_option maxHeartbeats 1000000 in
/-- The gradient through the squared positive part: the call and the reference leave the same array. -/
theorem algebraic : Cert.algebraic_ReluIdeal_ReluRefIdeal := by
  intro m g m' g' hpre hagree
  refine ⟨fun c => (dats m 0 c).arrAt 3 (cfgs 0).N, ?_, ?_⟩
  · run_from Cert.ReluIdeal.Value.run_blocks m g
  · run_from Cert.ReluRefIdeal.Value.run m' g'
    rw [final3]
    funext i
    idx_vars i
    pointwise [G]
    rw [factor, two]

/-- The reference runs, keeps its arguments and leaves no semaphore raised. -/
theorem frameRef : Cert.quiescent_ReluRefIdeal := fun m ρ _ =>
  (θ_run Cert.ReluRefIdeal.defs _ _).mono (fun r h => ⟨fun c => (h c).2, sem_eq_zero_of_no_sems (by decide) r.2⟩) (Cert.ReluRefIdeal.Value.run m ρ)

end Cert.ReluProof
-- ==== Proof.MemNProof.lean ====
module

public import proofs.«01_k».proof.Defs
public import proofs.«01_k».proof.Proof.Gen.MemNIdeal.Value
public import proofs.«01_k».proof.Proof.Gen.MemNRefIdeal.Run
public import Idealize.ShloMosaic.Lib.Pipeline.ValueKit
public import Idealize.ShloMosaic.Lib.Pointwise
public import Idealize.ShloMosaic.Lib.Claim

/-! The gain's gradient of the memory's norm: the sum over the rows of the gradient times the
    normalised row. -/

@[expose] public section

set_option maxRecDepth 16384

noncomputable section

open Idealize.ShloMosaic Idealize.ShloMosaic.TcCoe Idealize.SL.Sem
open Idealize.ShloMosaic.Pipeline (Dat)

namespace Cert.MemNProof

open Cert.MemNIdeal Cert.MemNIdeal.Gen

variable (m : (ℓ : Loc nD τ sig) → Buf (Elt Ideal) ℓ)

/-- Every window's one block starts at the origin. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

/-- The gain's gradient. -/
def G (x d : FVec Ideal S256x1024 .f32) : FVec Ideal S1x1024 .f32 := fun i =>
  ∑ r : Fin 256, d (ix2 r (i 1)) * (x (ix2 r (i 1)) * Ideal.rsqrt (Ideal.div (∑ k : Fin 1024, x (ix2 r k) * x (ix2 r k)) (Ideal.ofBits FTy.f32 1149239296#32) + Ideal.ofBits FTy.f32 897988541#32))

/-- The first operand's block is the whole memory. -/
theorem iblk0 (c : Dev nD) (t : Fin cfg0.N) (r : Fin 256) (k : Fin 1024) : iblk m c 0 t (ix2 r k) = m ((c : Thread nD τ).loc main_arg0) (ix2 r k) := by
  blk_simp [iblk]; rw [V_main_arg0]; blk_ext [idx t]

/-- The second operand's block is the whole gradient. -/
theorem iblk1 (c : Dev nD) (t : Fin cfg0.N) (r : Fin 256) (k : Fin 1024) : iblk m c 1 t (ix2 r k) = m ((c : Thread nD τ).loc main_arg2) (ix2 r k) := by
  blk_simp [iblk]; rw [V_main_arg2]; blk_ext [idx t]

theorem out_col (t : Fin cfg0.N) (y : S1x1024.Idx) : ((win0_3.blk t).view.emb y) 1 = y 1 := by
  refine Fin.ext ?_
  blk_simp [idx t]

theorem final3 (c : Dev nD) : (dats m 0 c).arrAt 3 cfg0.N = G (m ((c : Thread nD τ).loc main_arg0)) (m ((c : Thread nD τ).loc main_arg2)) := by
  refine (dats m 0 c).arrAt_eq_of_covers 3 _ (by decide +kernel) fun t _ y => ?_
  blk_simp
  rw [after0_3]; unfold outsAt0 out0_A_3; frame_out
  pointwise [k0_pay1, k0_pay2, G]
  refine Fin.sum_fin_congr fun r => ?_
  have e : ix2 r (((win0_3.blk t).view.emb y) 1) = ix2 r (y 1) := congrArg (ix2 r) (out_col t y)
  refine Ideal.mul_congr ((iblk1 m c t r _).trans (congrArg _ e.symm)) (Ideal.mul_congr ((iblk0 m c t r _).trans (congrArg _ e.symm)) ?_)
  simp only [iblk0]

set_option maxHeartbeats 1000000 in
/-- The call and the reference leave the same gradient. -/
theorem algebraic : Cert.algebraic_MemNIdeal_MemNRefIdeal := by
  intro m g m' g' hpre hagree
  refine ⟨fun c => (dats m 0 c).arrAt 3 (cfgs 0).N, ?_, ?_⟩
  · run_from Cert.MemNIdeal.Value.run_blocks m g
  · run_from Cert.MemNRefIdeal.Value.run m' g'
    rw [final3]
    funext i
    idx_vars i
    pointwise [G]
    refine Fin.sum_fin_congr fun r => ?_
    exact mul_comm (G := EReal) _ _

/-- The reference runs, keeps its arguments and leaves no semaphore raised. -/
theorem frameRef : Cert.quiescent_MemNRefIdeal := fun m ρ _ =>
  (θ_run Cert.MemNRefIdeal.defs _ _).mono (fun r h => ⟨fun c => (h c).2, sem_eq_zero_of_no_sems (by decide) r.2⟩) (Cert.MemNRefIdeal.Value.run m ρ)

end Cert.MemNProof
-- ==== Proof.RmsMixProof.lean ====
module

public import proofs.«01_k».proof.Defs
public import proofs.«01_k».proof.Proof.Gen.RmsMixIdeal.Value
public import proofs.«01_k».proof.Proof.Gen.RmsMixRefIdeal.Run
public import Idealize.ShloMosaic.Lib.Pipeline.ValueKit
public import Idealize.ShloMosaic.Lib.Pointwise
public import Idealize.ShloMosaic.Lib.Claim

/-! The block's first rms norm. -/

@[expose] public section

set_option maxRecDepth 16384

noncomputable section

open Idealize.ShloMosaic Idealize.ShloMosaic.TcCoe Idealize.SL.Sem
open Idealize.ShloMosaic.Pipeline (Dat)

namespace Cert.RmsMixProof

open Cert.RmsMixIdeal Cert.RmsMixIdeal.Gen

variable (m : (ℓ : Loc nD τ sig) → Buf (Elt Ideal) ℓ)

/-- Every window's block index at a point of the grid. -/
theorem idx : ∀ t : Fin cfg0.N, win0_0.index t = ![t.val, 0] ∧ win0_1.index t = ![0, 0] ∧ win0_2.index t = ![t.val, 0] :=
  (by decide +kernel : ∀ t : Fin grid0.N, _)

/-- Each entry over the root of its row's mean square, times the gain. -/
def G (x : FVec Ideal S8192x1024 .f32) (g : FVec Ideal S1x1024 .f32) : FVec Ideal S8192x1024 .bf16 := fun i =>
  x i * Ideal.rsqrt (Ideal.div (∑ k : Fin 1024, x (ix2 (i 0) k) * x (ix2 (i 0) k)) (Ideal.ofBits FTy.f32 1149239296#32) + Ideal.ofBits FTy.f32 897988541#32)
    * g (ix2 0 (i 1))

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  pointwise [k0_pay1, G]
  refine Ideal.mul_congr (Ideal.mul_congr ?_ (congrArg (fun s => Ideal.rsqrt (Ideal.div s _ + _)) (Finset.sum_congr rfl fun k _ => Ideal.mul_congr ?_ ?_))) ?_
  · blk_simp [iblk]; rw [V_main_arg0]; blk_ext [idx t]
  · blk_simp [iblk]; rw [V_main_arg0]; blk_ext [idx t]
  · blk_simp [iblk]; rw [V_main_arg0]; blk_ext [idx t]
  · blk_simp [iblk]; rw [V_main_arg1]; blk_ext [idx t]

set_option maxHeartbeats 1000000 in
/-- The call and the reference leave the same rows. -/
theorem algebraic : Cert.algebraic_RmsMixIdeal_RmsMixRefIdeal := by
  intro m g m' g' hpre hagree
  refine ⟨fun c => (dats m 0 c).arrAt 2 (cfgs 0).N, ?_, ?_⟩
  · run_from Cert.RmsMixIdeal.Value.run_blocks m g
  · run_from Cert.RmsMixRefIdeal.Value.run m' g'
    rw [final2]
    funext i
    idx_vars i
    pointwise [G]

/-- The reference runs, keeps its arguments and leaves no semaphore raised. -/
theorem frameRef : Cert.quiescent_RmsMixRefIdeal := fun m ρ _ =>
  (θ_run Cert.RmsMixRefIdeal.defs _ _).mono (fun r h => ⟨fun c => (h c).2, sem_eq_zero_of_no_sems (by decide) r.2⟩) (Cert.RmsMixRefIdeal.Value.run m ρ)

end Cert.RmsMixProof
-- ==== Proof.MemFProof.lean ====
module

public import proofs.«01_k».proof.Defs
public import proofs.«01_k».proof.Proof.Gen.MemFIdeal.Value
public import proofs.«01_k».proof.Proof.Gen.MemFRefIdeal.Run
public import Idealize.ShloMosaic.Lib.Pipeline.ValueKit
public import Idealize.ShloMosaic.Lib.Pointwise
public import Idealize.ShloMosaic.Lib.Claim

/-! The memory's rms norm. -/

@[expose] public section

set_option maxRecDepth 16384

noncomputable section

open Idealize.ShloMosaic Idealize.ShloMosaic.TcCoe Idealize.SL.Sem
open Idealize.ShloMosaic.Pipeline (Dat)

namespace Cert.MemFProof

open Cert.MemFIdeal Cert.MemFIdeal.Gen

variable (m : (ℓ : Loc nD τ sig) → Buf (Elt Ideal) ℓ)

/-- Every window's block index at a point of the grid. -/
theorem idx : ∀ t : Fin cfg0.N, win0_0.index t = ![0, 0] ∧ win0_1.index t = ![0, 0] ∧ win0_2.index t = ![0, 0] :=
  (by decide +kernel : ∀ t : Fin grid0.N, _)

/-- Each entry over the root of its row's mean square, times the gain. -/
def G (x : FVec Ideal S256x1024 .f32) (g : FVec Ideal S1x1024 .f32) : FVec Ideal S256x1024 .bf16 := fun i =>
  x i * Ideal.rsqrt (Ideal.div (∑ k : Fin 1024, x (ix2 (i 0) k) * x (ix2 (i 0) k)) (Ideal.ofBits FTy.f32 1149239296#32) + Ideal.ofBits FTy.f32 897988541#32)
    * g (ix2 0 (i 1))

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  pointwise [k0_pay1, G]
  refine Ideal.mul_congr (Ideal.mul_congr ?_ (congrArg (fun s => Ideal.rsqrt (Ideal.div s _ + _)) (Finset.sum_congr rfl fun k _ => Ideal.mul_congr ?_ ?_))) ?_
  · blk_simp [iblk]; rw [V_main_arg0]; blk_ext [idx t]
  · blk_simp [iblk]; rw [V_main_arg0]; blk_ext [idx t]
  · blk_simp [iblk]; rw [V_main_arg0]; blk_ext [idx t]
  · blk_simp [iblk]; rw [V_main_arg1]; blk_ext [idx t]

set_option maxHeartbeats 1000000 in
/-- The call and the reference leave the same rows. -/
theorem algebraic : Cert.algebraic_MemFIdeal_MemFRefIdeal := by
  intro m g m' g' hpre hagree
  refine ⟨fun c => (dats m 0 c).arrAt 2 (cfgs 0).N, ?_, ?_⟩
  · run_from Cert.MemFIdeal.Value.run_blocks m g
  · run_from Cert.MemFRefIdeal.Value.run m' g'
    rw [final2]
    funext i
    idx_vars i
    pointwise [G]

/-- The reference runs, keeps its arguments and leaves no semaphore raised. -/
theorem frameRef : Cert.quiescent_MemFRefIdeal := fun m ρ _ =>
  (θ_run Cert.MemFRefIdeal.defs _ _).mono (fun r h => ⟨fun c => (h c).2, sem_eq_zero_of_no_sems (by decide) r.2⟩) (Cert.MemFRefIdeal.Value.run m ρ)

end Cert.MemFProof
-- ==== Proof.LoraFProof.lean ====
module

public import proofs.«01_k».proof.Defs
public import proofs.«01_k».proof.Proof.Gen.LoraFIdeal.Value
public import proofs.«01_k».proof.Proof.Gen.LoraFRefIdeal.Run
public import Idealize.ShloMosaic.Lib.Pipeline.ValueKit
public import Idealize.ShloMosaic.Lib.Pointwise
public import Idealize.ShloMosaic.Lib.Claim

/-! The two low-rank rms norms. -/

@[expose] public section

set_option maxRecDepth 16384

noncomputable section

open Idealize.ShloMosaic Idealize.ShloMosaic.TcCoe Idealize.SL.Sem
open Idealize.ShloMosaic.Pipeline (Dat)

namespace Cert.LoraFProof

open Cert.LoraFIdeal Cert.LoraFIdeal.Gen

variable (m : (ℓ : Loc nD τ sig) → Buf (Elt Ideal) ℓ)

/-- Every window's block index at a point of the grid. -/
theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![t.val, 0] :=
  (by decide +kernel : ∀ t : Fin grid0.N, _)

/-- Each entry over the root of its row's mean square, times the gain. -/
def GQ (x : FVec Ideal S8192x384 .f32) (g : FVec Ideal S1x384 .f32) : FVec Ideal S8192x384 .bf16 := fun i =>
  x i * Ideal.rsqrt (Ideal.div (∑ k : Fin 384, x (ix2 (i 0) k) * x (ix2 (i 0) k)) (Ideal.ofBits FTy.f32 1136656384#32) + Ideal.ofBits FTy.f32 897988541#32)
    * g (ix2 0 (i 1))

/-- Each entry over the root of its row's mean square, times the gain. -/
def GKV (x : FVec Ideal S8192x256 .f32) (g : FVec Ideal S1x256 .f32) : FVec Ideal S8192x256 .bf16 := fun i =>
  x i * Ideal.rsqrt (Ideal.div (∑ k : Fin 256, x (ix2 (i 0) k) * x (ix2 (i 0) k)) (Ideal.ofBits FTy.f32 1132462080#32) + Ideal.ofBits FTy.f32 897988541#32)
    * g (ix2 0 (i 1))

theorem V_q (c : Dev nD) : V m c main_v0 = (m ((c : Thread nD τ).loc main_arg0) : FVec Ideal S8192x384 .f32) := by
  show StableHlo.after _ _ _ = _
  simp only [hostOps0]
  after_results_simp
  funext i; pointwise []

theorem V_kv (c : Dev nD) : V m c main_v1 = (m ((c : Thread nD τ).loc main_arg1) : FVec Ideal S8192x256 .f32) := by
  show StableHlo.after _ _ _ = _
  simp only [hostOps0]
  after_results_simp
  funext i; pointwise []

theorem final4 (c : Dev nD) : (dats m 0 c).arrAt 4 cfg0.N = GQ (m ((c : Thread nD τ).loc main_arg0)) (m ((c : Thread nD τ).loc main_arg2)) := by
  refine (dats m 0 c).arrAt_eq_of_covers 4 _ (by decide +kernel) fun t _ y => ?_
  blk_simp
  rw [after0_4]; unfold out0_4; frame_out
  pointwise [k0_pay1, GQ]
  refine Ideal.mul_congr (Ideal.mul_congr ?_ (congrArg (fun s => Ideal.rsqrt (Ideal.div s _ + _)) (Finset.sum_congr rfl fun k _ => Ideal.mul_congr ?_ ?_))) ?_
  · blk_simp [iblk]; rw [V_q]; blk_ext [idx t]
  · blk_simp [iblk]; rw [V_q]; blk_ext [idx t]
  · blk_simp [iblk]; rw [V_q]; blk_ext [idx t]
  · blk_simp [iblk]; rw [V_main_arg2]; blk_ext [idx t]

theorem final5 (c : Dev nD) : (dats m 0 c).arrAt 5 cfg0.N = GKV (m ((c : Thread nD τ).loc main_arg1)) (m ((c : Thread nD τ).loc main_arg3)) := by
  refine (dats m 0 c).arrAt_eq_of_covers 5 _ (by decide +kernel) fun t _ y => ?_
  blk_simp
  rw [after0_5]; unfold out0_5; frame_out
  pointwise [k0_pay2, GKV]
  refine Ideal.mul_congr (Ideal.mul_congr ?_ (congrArg (fun s => Ideal.rsqrt (Ideal.div s _ + _)) (Finset.sum_congr rfl fun k _ => Ideal.mul_congr ?_ ?_))) ?_
  · blk_simp [iblk]; rw [V_kv]; blk_ext [idx t]
  · blk_simp [iblk]; rw [V_kv]; blk_ext [idx t]
  · blk_simp [iblk]; rw [V_kv]; blk_ext [idx t]
  · blk_simp [iblk]; rw [V_main_arg3]; blk_ext [idx t]

set_option maxHeartbeats 1000000 in
/-- The call and the reference leave the same arrays. -/
theorem algebraic : Cert.algebraic_LoraFIdeal_LoraFRefIdeal := by
  intro m g m' g' hpre hagree
  refine ⟨fun c => (dats m 0 c).arrAt 4 (cfgs 0).N, fun c => (dats m 0 c).arrAt 5 (cfgs 0).N, ?_, ?_⟩
  · run_from Cert.LoraFIdeal.Value.run_blocks m g
  · run_from Cert.LoraFRefIdeal.Value.run m' g'
    · rw [final4]
      funext i
      idx_vars i
      pointwise [GQ]
    · rw [final5]
      funext i
      idx_vars i
      pointwise [GKV]

/-- The reference runs, keeps its arguments and leaves no semaphore raised. -/
theorem frameRef : Cert.quiescent_LoraFRefIdeal := fun m ρ _ =>
  (θ_run Cert.LoraFRefIdeal.defs _ _).mono (fun r h => ⟨fun c => (h c).2.2, sem_eq_zero_of_no_sems (by decide) r.2⟩) (Cert.LoraFRefIdeal.Value.run m ρ)

end Cert.LoraFProof
-- ==== Proof.MlpUpProof.lean ====
module

public import proofs.«01_k».proof.Defs
public import proofs.«01_k».proof.Proof.Gen.MlpUpIdeal.Value
public import proofs.«01_k».proof.Proof.Gen.MlpUpRefIdeal.Run
public import Idealize.ShloMosaic.Lib.Pipeline.ValueKit
public import Idealize.ShloMosaic.Lib.Pointwise
public import Idealize.ShloMosaic.Lib.Claim

/-! The first layer: the square of the product's positive part. -/

@[expose] public section

set_option maxRecDepth 16384

noncomputable section

open Idealize.ShloMosaic Idealize.ShloMosaic.TcCoe Idealize.SL.Sem
open Idealize.ShloMosaic.Pipeline (Dat)

namespace Cert.MlpUpProof

open Cert.MlpUpIdeal Cert.MlpUpIdeal.Gen

variable (m : (ℓ : Loc nD τ sig) → Buf (Elt Ideal) ℓ)

/-- Every window's block index at a point of the grid. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The square of the product's positive part. -/
def G (u : FVec Ideal S8192x1024 .f32) (w : FVec Ideal S1024x4096 .f32) : FVec Ideal S8192x4096 .bf16 := fun i =>
  max (∑ k : Fin 1024, u (ix2 (i 0) k) * w (ix2 k (i 1))) 0 * max (∑ k : Fin 1024, u (ix2 (i 0) k) * w (ix2 k (i 1))) 0

theorem V_u (c : Dev nD) : V m c main_v0 = (m ((c : Thread nD τ).loc main_arg0) : FVec Ideal S8192x1024 .f32) := by
  show StableHlo.after _ _ _ = _
  simp only [hostOps0]
  after_results_simp
  funext i; pointwise []

theorem V_w (c : Dev nD) : V m c main_v1 = (m ((c : Thread nD τ).loc main_arg1) : FVec Ideal S1024x4096 .f32) := by
  show StableHlo.after _ _ _ = _
  simp only [hostOps0]
  after_results_simp
  funext i; pointwise []

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; unfold outsAt0 out0_A_2; frame_out
  pointwise [k0_pay1, k0_pay2, G]
  refine congrArg (fun s : EReal => max s 0 * max s 0) (Finset.sum_congr rfl fun k _ => Ideal.mul_congr ?_ ?_)
  · blk_simp [iblk]; rw [V_u]; blk_ext! [idx t]
  · blk_simp [iblk]; rw [V_w]; blk_ext! [idx t]

set_option maxHeartbeats 1000000 in
/-- The call and the reference leave the same arrays. -/
theorem algebraic : Cert.algebraic_MlpUpIdeal_MlpUpRefIdeal := by
  intro m g m' g' hpre hagree
  refine ⟨fun c => (dats m 0 c).arrAt 2 (cfgs 0).N, ?_, ?_⟩
  · run_from Cert.MlpUpIdeal.Value.run_blocks m g
  · run_from Cert.MlpUpRefIdeal.Value.run m' g'
    rw [final2]
    funext i
    idx_vars i
    pointwise [G]

/-- The reference runs, keeps its arguments and leaves no semaphore raised. -/
theorem frameRef : Cert.quiescent_MlpUpRefIdeal := fun m ρ _ =>
  (θ_run Cert.MlpUpRefIdeal.defs _ _).mono (fun r h => ⟨fun c => (h c).2, sem_eq_zero_of_no_sems (by decide) r.2⟩) (Cert.MlpUpRefIdeal.Value.run m ρ)

end Cert.MlpUpProof
-- ==== Proof.MixOutProof.lean ====
module

public import proofs.«01_k».proof.Defs
public import proofs.«01_k».proof.Proof.Gen.MixOutIdeal.Value
public import proofs.«01_k».proof.Proof.Gen.MixOutRefIdeal.Run
public import Idealize.ShloMosaic.Lib.Pipeline.ValueKit
public import Idealize.ShloMosaic.Lib.Pointwise
public import Idealize.ShloMosaic.Lib.Claim

/-! The mixed branches' product, the residual and the next rms norm. -/

@[expose] public section

set_option maxRecDepth 16384

noncomputable section

open Idealize.ShloMosaic Idealize.ShloMosaic.TcCoe Idealize.SL.Sem
open Idealize.ShloMosaic.Pipeline (Dat)

namespace Cert.MixOutProof

open Cert.MixOutIdeal Cert.MixOutIdeal.Gen

variable (m : (ℓ : Loc nD τ sig) → Buf (Elt Ideal) ℓ)

/-- Every window's block index at a point of the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The residual and the product. -/
def H (a : FVec Ideal S8192x1024 .f32) (w : FVec Ideal S1024x1024 .f32) (x : FVec Ideal S8192x1024 .f32) : FVec Ideal S8192x1024 .f32 := fun i =>
  x i + ∑ k : Fin 1024, a (ix2 (i 0) k) * w (ix2 k (i 1))

/-- Each entry over the root of its row's mean square, times the gain. -/
def G (h : FVec Ideal S8192x1024 .f32) (g : FVec Ideal S1x1024 .f32) : FVec Ideal S8192x1024 .bf16 := fun i =>
  h i * Ideal.rsqrt (Ideal.div (∑ k : Fin 1024, h (ix2 (i 0) k) * h (ix2 (i 0) k)) (Ideal.ofBits FTy.f32 1149239296#32) + Ideal.ofBits FTy.f32 897988541#32)
    * g (ix2 0 (i 1))

theorem V_a (c : Dev nD) : V m c main_v0 = (m ((c : Thread nD τ).loc main_arg0) : FVec Ideal S8192x1024 .f32) := by
  show StableHlo.after _ _ _ = _
  simp only [hostOps0]
  after_results_simp
  funext i; pointwise []

theorem V_w (c : Dev nD) : V m c main_v1 = (m ((c : Thread nD τ).loc main_arg1) : FVec Ideal S1024x1024 .f32) := by
  show StableHlo.after _ _ _ = _
  simp only [hostOps0]
  after_results_simp
  funext i; pointwise []

/-- A row of a point's, among all rows. -/
def R (t : Fin cfg0.N) (r : Fin 1024) : Fin 8192 := ⟨t.val * 1024 + r.val, by have : t.val < 8 := t.isLt; omega⟩

/-- A point's blocks of the product's operands and of the residual. -/
abbrev ba (c : Dev nD) (t : Fin cfg0.N) : FVec Ideal S1024x1024 .bf16 := iblk m c 0 t
abbrev bw (c : Dev nD) (t : Fin cfg0.N) : FVec Ideal S1024x1024 .bf16 := iblk m c 1 t
abbrev bx (c : Dev nD) (t : Fin cfg0.N) : FVec Ideal S1024x1024 .f32 := iblk m c 2 t

/-- What a point computes at an entry of its rows is the residual and the product there. -/
theorem row (c : Dev nD) (t : Fin cfg0.N) (r : Fin 1024) (j : Fin 1024) :
    bx m c t (ix2 r j) + ∑ k : Fin 1024, ba m c t (ix2 r k) * bw m c t (ix2 k j)
      = H (m ((c : Thread nD τ).loc main_arg0)) (m ((c : Thread nD τ).loc main_arg1)) (m ((c : Thread nD τ).loc main_arg2)) (ix2 (R t r) j) := by
  unfold H
  refine congrArg₂ (fun u v : EReal => u + v) ?_ (Finset.sum_congr rfl fun k _ => Ideal.mul_congr ?_ ?_)
  · blk_simp [ba, bw, bx, iblk]; rw [V_main_arg2]; blk_ext [idx t, R]
  · blk_simp [ba, bw, bx, iblk]; rw [V_a]; blk_ext [idx t, R]
  · blk_simp [ba, bw, bx, iblk]; rw [V_w]; blk_ext [idx t, R]

theorem final4 (c : Dev nD) : (dats m 0 c).arrAt 4 cfg0.N = H (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0 out0_A_4; frame_out
  pointwise [k0_pay1, k0_pay2]
  have e : (win0_4.blk t).view.emb y = ix2 (R t (y 0)) (y 1) := by
    blk_ext [idx t, R]
  have ey : (ix2 (y 0) (y 1) : S1024x1024.Idx) = y := by funext a; fin_cases a <;> rfl
  have h := row m c t (y 0) (y 1)
  rw [ey] at h
  exact h.trans (congrArg _ e.symm)

theorem final5 (c : Dev nD) : (dats m 0 c).arrAt 5 cfg0.N = G (H (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; unfold outsAt0 out0_A_5; frame_out
  pointwise [k0_pay1, k0_pay2, k0_pay3]
  have e : (win0_5.blk t).view.emb y = ix2 (R t (y 0)) (y 1) := by
    blk_ext [idx t, R]
  rw [e]
  unfold G
  have hr (k : Fin 1024) := row m c t (y 0) k
  have ey : (ix2 (y 0) (y 1) : S1024x1024.Idx) = y := by funext a; fin_cases a <;> rfl
  have h := hr (y 1)
  rw [ey] at h
  refine Ideal.mul_congr (Ideal.mul_congr h (congrArg (fun s => Ideal.rsqrt (Ideal.div s _ + _)) (Finset.sum_congr rfl fun k _ => Ideal.mul_congr (hr k) (hr k)))) ?_
  blk_simp [ba, bw, bx, iblk]; rw [V_main_arg3]; blk_ext [idx t]

set_option maxHeartbeats 1000000 in
/-- The call and the reference leave the same arrays. -/
theorem algebraic : Cert.algebraic_MixOutIdeal_MixOutRefIdeal := by
  intro m g m' g' hpre hagree
  refine ⟨fun c => (dats m 0 c).arrAt 4 (cfgs 0).N, fun c => (dats m 0 c).arrAt 5 (cfgs 0).N, ?_, ?_⟩
  · run_from Cert.MixOutIdeal.Value.run_blocks m g
  · run_from Cert.MixOutRefIdeal.Value.run m' g'
    · rw [final4]
      funext i
      idx_vars i
      pointwise [H]
    · rw [final5]
      funext i
      idx_vars i
      pointwise [G, H]

/-- The reference runs, keeps its arguments and leaves no semaphore raised. -/
theorem frameRef : Cert.quiescent_MixOutRefIdeal := fun m ρ _ =>
  (θ_run Cert.MixOutRefIdeal.defs _ _).mono (fun r h => ⟨fun c => (h c).2.2, sem_eq_zero_of_no_sems (by decide) r.2⟩) (Cert.MixOutRefIdeal.Value.run m ρ)

end Cert.MixOutProof
-- ==== Proof.XOutProof.lean ====
module

public import proofs.«01_k».proof.Defs
public import proofs.«01_k».proof.Proof.Gen.XOutIdeal.Value
public import proofs.«01_k».proof.Proof.Gen.XOutRefIdeal.Run
public import Idealize.ShloMosaic.Lib.Pipeline.ValueKit
public import Idealize.ShloMosaic.Lib.Pointwise
public import Idealize.ShloMosaic.Lib.Claim

/-! The second attention's output product, the residual and the next rms norm. -/

@[expose] public section

set_option maxRecDepth 16384

noncomputable section

open Idealize.ShloMosaic Idealize.ShloMosaic.TcCoe Idealize.SL.Sem
open Idealize.ShloMosaic.Pipeline (Dat)

namespace Cert.XOutProof

open Cert.XOutIdeal Cert.XOutIdeal.Gen

variable (m : (ℓ : Loc nD τ sig) → Buf (Elt Ideal) ℓ)

/-- Every window's block index at a point of the grid. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- The residual and the product. -/
def H (a : FVec Ideal S8192x512 .f32) (w : FVec Ideal S512x1024 .f32) (x : FVec Ideal S8192x1024 .f32) : FVec Ideal S8192x1024 .f32 := fun i =>
  x i + ∑ k : Fin 512, a (ix2 (i 0) k) * w (ix2 k (i 1))

/-- Each entry over the root of its row's mean square, times the gain. -/
def G (h : FVec Ideal S8192x1024 .f32) (g : FVec Ideal S1x1024 .f32) : FVec Ideal S8192x1024 .bf16 := fun i =>
  h i * Ideal.rsqrt (Ideal.div (∑ k : Fin 1024, h (ix2 (i 0) k) * h (ix2 (i 0) k)) (Ideal.ofBits FTy.f32 1149239296#32) + Ideal.ofBits FTy.f32 897988541#32)
    * g (ix2 0 (i 1))

theorem V_a (c : Dev nD) : V m c main_v0 = (m ((c : Thread nD τ).loc main_arg0) : FVec Ideal S8192x512 .f32) := by
  show StableHlo.after _ _ _ = _
  simp only [hostOps0]
  after_results_simp
  funext i; pointwise []

theorem V_w (c : Dev nD) : V m c main_v1 = (m ((c : Thread nD τ).loc main_arg1) : FVec Ideal S512x1024 .f32) := by
  show StableHlo.after _ _ _ = _
  simp only [hostOps0]
  after_results_simp
  funext i; pointwise []

/-- A row of a point's, among all rows. -/
def R (t : Fin cfg0.N) (r : Fin 1024) : Fin 8192 := ⟨t.val * 1024 + r.val, by have : t.val < 8 := t.isLt; omega⟩

/-- A point's blocks of the product's operands and of the residual. -/
abbrev ba (c : Dev nD) (t : Fin cfg0.N) : FVec Ideal S1024x512 .bf16 := iblk m c 0 t
abbrev bw (c : Dev nD) (t : Fin cfg0.N) : FVec Ideal S512x1024 .bf16 := iblk m c 1 t
abbrev bx (c : Dev nD) (t : Fin cfg0.N) : FVec Ideal S1024x1024 .f32 := iblk m c 2 t

/-- What a point computes at an entry of its rows is the residual and the product there. -/
theorem row (c : Dev nD) (t : Fin cfg0.N) (r : Fin 1024) (j : Fin 1024) :
    bx m c t (ix2 r j) + ∑ k : Fin 512, ba m c t (ix2 r k) * bw m c t (ix2 k j)
      = H (m ((c : Thread nD τ).loc main_arg0)) (m ((c : Thread nD τ).loc main_arg1)) (m ((c : Thread nD τ).loc main_arg2)) (ix2 (R t r) j) := by
  unfold H
  refine congrArg₂ (fun u v : EReal => u + v) ?_ (Finset.sum_congr rfl fun k _ => Ideal.mul_congr ?_ ?_)
  · blk_simp [ba, bw, bx, iblk]; rw [V_main_arg2]; blk_ext [idx t, R]
  · blk_simp [ba, bw, bx, iblk]; rw [V_a]; blk_ext [idx t, R]
  · blk_simp [ba, bw, bx, iblk]; rw [V_w]; blk_ext [idx t, R]

theorem final4 (c : Dev nD) : (dats m 0 c).arrAt 4 cfg0.N = H (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold outsAt0 out0_A_4; frame_out
  pointwise [k0_pay1, k0_pay2]
  have e : (win0_4.blk t).view.emb y = ix2 (R t (y 0)) (y 1) := by
    blk_ext [idx t, R]
  have ey : (ix2 (y 0) (y 1) : S1024x1024.Idx) = y := by funext a; fin_cases a <;> rfl
  have h := row m c t (y 0) (y 1)
  rw [ey] at h
  exact h.trans (congrArg _ e.symm)

theorem final5 (c : Dev nD) : (dats m 0 c).arrAt 5 cfg0.N = G (H (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; unfold outsAt0 out0_A_5; frame_out
  pointwise [k0_pay1, k0_pay2, k0_pay3]
  have e : (win0_5.blk t).view.emb y = ix2 (R t (y 0)) (y 1) := by
    blk_ext [idx t, R]
  rw [e]
  unfold G
  have hr (k : Fin 1024) := row m c t (y 0) k
  have ey : (ix2 (y 0) (y 1) : S1024x1024.Idx) = y := by funext a; fin_cases a <;> rfl
  have h := hr (y 1)
  rw [ey] at h
  refine Ideal.mul_congr (Ideal.mul_congr h (congrArg (fun s => Ideal.rsqrt (Ideal.div s _ + _)) (Finset.sum_congr rfl fun k _ => Ideal.mul_congr (hr k) (hr k)))) ?_
  blk_simp [ba, bw, bx, iblk]; rw [V_main_arg3]; blk_ext [idx t]

set_option maxHeartbeats 1000000 in
/-- The call and the reference leave the same arrays. -/
theorem algebraic : Cert.algebraic_XOutIdeal_XOutRefIdeal := by
  intro m g m' g' hpre hagree
  refine ⟨fun c => (dats m 0 c).arrAt 4 (cfgs 0).N, fun c => (dats m 0 c).arrAt 5 (cfgs 0).N, ?_, ?_⟩
  · run_from Cert.XOutIdeal.Value.run_blocks m g
  · run_from Cert.XOutRefIdeal.Value.run m' g'
    · rw [final4]
      funext i
      idx_vars i
      pointwise [H]
    · rw [final5]
      funext i
      idx_vars i
      pointwise [G, H]

/-- The reference runs, keeps its arguments and leaves no semaphore raised. -/
theorem frameRef : Cert.quiescent_XOutRefIdeal := fun m ρ _ =>
  (θ_run Cert.XOutRefIdeal.defs _ _).mono (fun r h => ⟨fun c => (h c).2.2, sem_eq_zero_of_no_sems (by decide) r.2⟩) (Cert.XOutRefIdeal.Value.run m ρ)

end Cert.XOutProof
-- ==== Proof.GatesProof.lean ====
module

public import proofs.«01_k».proof.Defs
public import proofs.«01_k».proof.Proof.Gen.GatesIdeal.Value
public import proofs.«01_k».proof.Proof.Gen.GatesRefIdeal.Run
public import Idealize.ShloMosaic.Lib.Pipeline.ValueKit
public import Idealize.ShloMosaic.Lib.Pointwise
public import Idealize.ShloMosaic.Lib.Claim

/-! The gates: the logistic function of a product. -/

@[expose] public section

set_option maxRecDepth 16384

noncomputable section

open Idealize.ShloMosaic Idealize.ShloMosaic.TcCoe Idealize.SL.Sem
open Idealize.ShloMosaic.Pipeline (Dat)

namespace Cert.GatesProof

open Cert.GatesIdeal Cert.GatesIdeal.Gen

variable (m : (ℓ : Loc nD τ sig) → Buf (Elt Ideal) ℓ)

/-- Every window's block index at a point of the grid. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The logistic function of the product of the rows and the gates' columns of the weights. -/
def G (u : FVec Ideal S8192x1024 .f32) (w : FVec Ideal S1024x3744 .f32) : FVec Ideal S8192x2048 .bf16 := fun i =>
  Ideal.div 1 (1 + Ideal.exp (-∑ k : Fin 1024, u (ix2 (i 0) k) * w (ix2 k ⟨1696 + (i 1).val, by have := (i 1).isLt; change (i 1).val < 2048 at this; omega⟩)))

theorem V_u (c : Dev nD) : V m c main_v0 = (m ((c : Thread nD τ).loc main_arg0) : FVec Ideal S8192x1024 .f32) := by
  simp only [V, List.flatten_cons, List.flatten_nil, List.append_nil, hostOps0, hostOps0_1, hostOps0_2, List.cons_append, List.nil_append,
    StableHlo.TRef.binary, StableHlo.TRef.nullary, StableHlo.TRef.unary, StableHlo.TRef.toBuf, StableHlo.TRef.ofBuf, cast_eq]
  after_results_simp
  funext i; pointwise []

/-- The call's columns of the weights, as the launch finds them. -/
theorem V_w (c : Dev nD) (k : Fin 1024) (C : Fin 3840) (j : Fin 2048) (hC : C.val = 0 + j.val) :
    (V m c main_v8 : FVec Ideal S1024x3840 .bf16) (ix2 k C) = (m ((c : Thread nD τ).loc main_arg1) : FVec Ideal S1024x3744 .f32) (ix2 k ⟨1696 + j.val, by omega⟩) := by
  simp only [V, List.flatten_cons, List.flatten_nil, List.append_nil, hostOps0, hostOps0_1, hostOps0_2, List.cons_append, List.nil_append,
    StableHlo.TRef.binary, StableHlo.TRef.nullary, StableHlo.TRef.unary, StableHlo.TRef.toBuf, StableHlo.TRef.ofBuf, cast_eq]
  after_results_simp
  pointwise []
  rw [dif_pos (by omega)]
  after_results_simp
  pointwise []
  refine congrArg (fun x : Fin 3744 => (m ((c : Thread nD τ).loc main_arg1) : FVec Ideal S1024x3744 .f32) (ix2 k x)) (Fin.ext ?_)
  show _ = 1696 + j.val
  simp only [hC]
  omega

/-- A point's block of the weights. -/
theorem w_block (c : Dev nD) (t : Fin cfg0.N) (k j : Fin 1024) :
    (X0_1 m c t : FVec Ideal S1024x1024 .bf16) (ix2 k j)
      = (m ((c : Thread nD τ).loc main_arg1) : FVec Ideal S1024x3744 .f32) (ix2 k ⟨1696 + (t.val / 8 * 1024 + j.val), by have : t.val < 16 := t.isLt; omega⟩) := by
  unfold X0_1 Pipeline.Window.fill
  rw [dif_pos (moved0_1 t _)]
  have ht : t.val < 16 := t.isLt
  rw [← V_w m c k ⟨t.val / 8 * 1024 + j.val, by omega⟩ ⟨t.val / 8 * 1024 + j.val, by omega⟩ (by simp)]
  blk_simp [iblk]; blk_ext [idx t]

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; unfold outsAt0 out0_A_2; frame_out
  pointwise [k0_pay1, k0_pay2, G]
  rw [zero_sub]
  refine congrArg (fun s : EReal => Ideal.div 1 (1 + Ideal.exp (-s))) (Finset.sum_congr rfl fun k _ => Ideal.mul_congr ?_ ((w_block m c t k (y 1)).trans (congrArg _ ?_)))
  · blk_simp [iblk]; rw [V_u]; blk_ext! [idx t]
  · blk_ext! [idx t]

set_option maxHeartbeats 1000000 in
/-- The call and the reference leave the same arrays. -/
theorem algebraic : Cert.algebraic_GatesIdeal_GatesRefIdeal := by
  intro m g m' g' hpre hagree
  refine ⟨fun c => (dats m 0 c).arrAt 2 (cfgs 0).N, ?_, ?_⟩
  · run_from Cert.GatesIdeal.Value.run_blocks m g
  · run_from Cert.GatesRefIdeal.Value.run m' g'
    rw [final2]
    funext i
    idx_vars i
    pointwise [G]

/-- The reference runs, keeps its arguments and leaves no semaphore raised. -/
theorem frameRef : Cert.quiescent_GatesRefIdeal := fun m ρ _ =>
  (θ_run Cert.GatesRefIdeal.defs _ _).mono (fun r h => ⟨fun c => (h c).2, sem_eq_zero_of_no_sems (by decide) r.2⟩) (Cert.GatesRefIdeal.Value.run m ρ)

end Cert.GatesProof
-- ==== Proof.GluProof.lean ====
module

public import proofs.«01_k».proof.Defs
public import proofs.«01_k».proof.Proof.Gen.GluIdeal.Value
public import proofs.«01_k».proof.Proof.Gen.GluRefIdeal.Run
public import Idealize.ShloMosaic.Lib.Pipeline.ValueKit
public import Idealize.ShloMosaic.Lib.Pipeline.ReadBack
public import Idealize.ShloMosaic.Lib.Pointwise
public import Idealize.ShloMosaic.Lib.Claim

/-! The convolution's input: a product, and its gated linear unit. -/

@[expose] public section

set_option maxRecDepth 16384

noncomputable section

open Idealize.ShloMosaic Idealize.ShloMosaic.TcCoe Idealize.SL.Sem
open Idealize.ShloMosaic.Pipeline (Dat)

namespace Cert.GluProof

open Cert.GluIdeal Cert.GluIdeal.Gen

variable (m : (ℓ : Loc nD τ sig) → Buf (Elt Ideal) ℓ)

/-- Every window's block index at a point of the grid. -/
theorem idx : ∀ t : Fin cfg0.N, win0_0.index t = ![t.val, 0] ∧ win0_1.index t = ![0, 2] ∧ win0_2.index t = ![t.val, 0] ∧ win0_3.index t = ![t.val, 0] :=
  (by decide +kernel : ∀ t : Fin grid0.N, _)

/-- The product of the rows and the convolution's columns of the weights. -/
def P (u : FVec Ideal S8192x1024 .f32) (w : FVec Ideal S1024x3744 .f32) : FVec Ideal S8192x1024 .bf16 := fun i =>
  ∑ k : Fin 1024, u (ix2 (i 0) k) * w (ix2 k ⟨(i 1).val, by have := (i 1).isLt; change (i 1).val < 1024 at this; omega⟩)

/-- The first half of the product times the logistic function of the second. -/
def Z (p : FVec Ideal S8192x1024 .bf16) : FVec Ideal S8192x512 .bf16 := fun i =>
  p (ix2 (i 0) ⟨(i 1).val, by have := (i 1).isLt; change (i 1).val < 512 at this; omega⟩)
    * Ideal.div 1 (1 + Ideal.exp (-p (ix2 (i 0) ⟨512 + (i 1).val, by have := (i 1).isLt; change (i 1).val < 512 at this; omega⟩)))

theorem V_u (c : Dev nD) : V m c main_v0 = (m ((c : Thread nD τ).loc main_arg0) : FVec Ideal S8192x1024 .f32) := by
  simp only [V, List.flatten_cons, List.flatten_nil, List.append_nil, hostOps0, hostOps0_1, hostOps0_2, List.cons_append, List.nil_append,
    StableHlo.TRef.binary, StableHlo.TRef.nullary, StableHlo.TRef.unary, StableHlo.TRef.toBuf, StableHlo.TRef.ofBuf, cast_eq]
  after_results_simp
  funext i; pointwise []

/-- The call's columns of the weights, as the launch finds them. -/
theorem V_w (c : Dev nD) (k : Fin 1024) (C : Fin 3840) (j : Fin 1024) (hC : C.val = 2048 + j.val) :
    (V m c main_v8 : FVec Ideal S1024x3840 .bf16) (ix2 k C) = (m ((c : Thread nD τ).loc main_arg1) : FVec Ideal S1024x3744 .f32) (ix2 k ⟨0 + j.val, by omega⟩) := by
  simp only [V, List.flatten_cons, List.flatten_nil, List.append_nil, hostOps0, hostOps0_1, hostOps0_2, List.cons_append, List.nil_append,
    StableHlo.TRef.binary, StableHlo.TRef.nullary, StableHlo.TRef.unary, StableHlo.TRef.toBuf, StableHlo.TRef.ofBuf, cast_eq]
  after_results_simp
  pointwise []
  rw [dif_neg (by omega), dif_pos (by omega)]
  after_results_simp
  pointwise []
  refine congrArg (fun x : Fin 3744 => (m ((c : Thread nD τ).loc main_arg1) : FVec Ideal S1024x3744 .f32) (ix2 k x)) (Fin.ext ?_)
  show _ = j.val
  simp only [hC]
  omega

/-- A row of a point's, among all rows. -/
def R (t : Fin cfg0.N) (r : Fin 1024) : Fin 8192 := ⟨t.val * 1024 + r.val, by have : t.val < 8 := t.isLt; omega⟩

/-- A point's blocks of the rows and of the weights. -/
abbrev bu (c : Dev nD) (t : Fin cfg0.N) : FVec Ideal S1024x1024 .bf16 := iblk m c 0 t
abbrev bw (c : Dev nD) (t : Fin cfg0.N) : FVec Ideal S1024x1024 .bf16 := X0_1 m c t

theorem u_block (c : Dev nD) (t : Fin cfg0.N) (r k : Fin 1024) :
    bu m c t (ix2 r k) = (m ((c : Thread nD τ).loc main_arg0) : FVec Ideal S8192x1024 .f32) (ix2 (R t r) k) := by
  blk_simp [bu, iblk]; rw [V_u]; blk_ext [idx t, R]

theorem w_block (c : Dev nD) (t : Fin cfg0.N) (k j : Fin 1024) :
    bw m c t (ix2 k j) = (m ((c : Thread nD τ).loc main_arg1) : FVec Ideal S1024x3744 .f32) (ix2 k ⟨j.val, by omega⟩) := by
  refine Eq.trans ?_ ((V_w m c k ⟨2048 + j.val, by omega⟩ j rfl).trans (congrArg (fun x : Fin 3744 => (m ((c : Thread nD τ).loc main_arg1) : FVec Ideal S1024x3744 .f32) (ix2 k x)) (Fin.ext (Nat.zero_add _))))
  unfold bw X0_1 Pipeline.Window.fill
  rw [dif_pos (moved0_1 t _)]
  blk_simp [iblk]; blk_ext [idx t]

/-- What a point's product holds at an entry. -/
theorem prod (c : Dev nD) (t : Fin cfg0.N) (r j : Fin 1024) :
    ∑ k : Fin 1024, bu m c t (ix2 r k) * bw m c t (ix2 k j) = P (m ((c : Thread nD τ).loc main_arg0)) (m ((c : Thread nD τ).loc main_arg1)) (ix2 (R t r) j) := by
  unfold P
  exact Finset.sum_congr rfl fun k _ => Ideal.mul_congr (u_block m c t r k) (w_block m c t k j)

/-- A scratch stored whole, read through any rectangle. -/
theorem read_back (w : S1024x1024.Idx → EReal) (r : Rect S1024x1024) (x : r.shape.Idx) :
    (View.readCov (Val := Elt Ideal) (View.whole cc0_scratch0)
        [⟨Rect.unit ![0, 0] ![1024, 1024] inb_S1024x1024_S1024x1024_0_0, w⟩] r.toLoadRect x : EReal) = w (r.emb x) :=
  congrFun (View.readCov_fill (Val := Elt Ideal) (View.whole cc0_scratch0) inb_S1024x1024_S1024x1024_0_0 w [] r (by decide)) x

/-- The product stored, at an entry. -/
theorem stored (c : Dev nD) (t : Fin cfg0.N) (i : S1024x1024.Idx) :
    (k0_pay1 (bu m c t) (bw m c t) : FVec Ideal S1024x1024 .f32) i = P (m ((c : Thread nD τ).loc main_arg0)) (m ((c : Thread nD τ).loc main_arg1)) (ix2 (R t (i 0)) (i 1)) := by
  refine Eq.trans ?_ (prod m c t (i 0) (i 1))
  pointwise [k0_pay1]

theorem final2 (c : Dev nD) : (dats m 0 c).arrAt 2 cfg0.N = P (m ((c : Thread nD τ).loc main_arg0)) (m ((c : Thread nD τ).loc main_arg1)) := by
  refine (dats m 0 c).arrAt_eq_of_covers 2 _ (by decide +kernel) fun t _ y => ?_
  blk_simp
  rw [after0_2]; unfold outsAt0 out0_A_2; frame_out
  pointwise [k0_pay1, k0_pay2]
  have e : (win0_2.blk t).view.emb y = ix2 (R t (y 0)) (y 1) := by
    blk_ext [idx t, R]
  exact (prod m c t (y 0) (y 1)).trans (congrArg _ e.symm)

theorem final3 (c : Dev nD) : (dats m 0 c).arrAt 3 cfg0.N = Z (P (m ((c : Thread nD τ).loc main_arg0)) (m ((c : Thread nD τ).loc main_arg1))) := by
  refine (dats m 0 c).arrAt_eq_of_covers 3 _ (by decide +kernel) fun t _ y => ?_
  blk_simp
  rw [after0_3]; unfold outsAt0 out0_A_3; frame_out
  pointwise [k0_pay3]
  have e : (win0_3.blk t).view.emb y = ix2 (R t (y 0)) (y 1) := by
    blk_ext [idx t, R]
  rw [e, zero_sub, read_back, read_back]
  have h1 := stored m c t ((Rect.unit (s := S1024x1024) ![0, 0] ![1024, 512] inb_S1024x1024_S1024x512_0_0).emb y)
  have h2 := stored m c t ((Rect.unit (s := S1024x1024) ![0, 512] ![1024, 512] inb_S1024x1024_S1024x512_0_512).emb y)
  unfold bu bw at h1 h2
  rw [h1, h2]
  unfold Z
  refine Ideal.mul_congr (congrArg _ ?_) (congrArg (fun p : EReal => Ideal.div 1 (1 + Ideal.exp (-p))) (congrArg _ ?_))
  · blk_ext! [R]
  · blk_ext! [R]

set_option maxHeartbeats 1000000 in
/-- The call and the reference leave the same arrays. -/
theorem algebraic : Cert.algebraic_GluIdeal_GluRefIdeal := by
  intro m g m' g' hpre hagree
  refine ⟨fun c => (dats m 0 c).arrAt 2 (cfgs 0).N, fun c => (dats m 0 c).arrAt 3 (cfgs 0).N, ?_, ?_⟩
  · run_from Cert.GluIdeal.Value.run_blocks m g
  · run_from Cert.GluRefIdeal.Value.run m' g'
    · rw [final2]
      funext i
      idx_vars i
      pointwise [P]
    · rw [final3]
      funext i
      idx_vars i
      pointwise [Z, P]

/-- The reference runs, keeps its arguments and leaves no semaphore raised. -/
theorem frameRef : Cert.quiescent_GluRefIdeal := fun m ρ _ =>
  (θ_run Cert.GluRefIdeal.defs _ _).mono (fun r h => ⟨fun c => (h c).2.2, sem_eq_zero_of_no_sems (by decide) r.2⟩) (Cert.GluRefIdeal.Value.run m ρ)

end Cert.GluProof
-- ==== Proof.XqFProof.lean ====
module

public import proofs.«01_k».proof.Defs
public import proofs.«01_k».proof.Proof.Gen.XqFIdeal.Value
public import proofs.«01_k».proof.Proof.Gen.XqFRefIdeal.Run
public import Idealize.ShloMosaic.Lib.Pipeline.ValueKit
public import Idealize.ShloMosaic.Lib.Pointwise
public import Idealize.ShloMosaic.Lib.Claim

/-! The memory attention's query: a product and its scale. -/

@[expose] public section

set_option maxRecDepth 16384

noncomputable section

open Idealize.ShloMosaic Idealize.ShloMosaic.TcCoe Idealize.SL.Sem
open Idealize.ShloMosaic.Pipeline (Dat)

namespace Cert.XqFProof

open Cert.XqFIdeal Cert.XqFIdeal.Gen

variable (m : (ℓ : Loc nD τ sig) → Buf (Elt Ideal) ℓ)

/-- Every window's block index at a point of the grid. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

/-- The product, scaled. -/
def G (u : FVec Ideal S8192x1024 .f32) (w : FVec Ideal S1024x512 .f32) : FVec Ideal S8192x512 .bf16 := fun i =>
  (∑ k : Fin 1024, u (ix2 (i 0) k) * w (ix2 k (i 1))) * Ideal.ofBits FTy.f32 0x3DB504F3#32

theorem V_u (c : Dev nD) : V m c main_v0 = (m ((c : Thread nD τ).loc main_arg0) : FVec Ideal S8192x1024 .f32) := by
  show StableHlo.after _ _ _ = _
  simp only [hostOps0]
  after_results_simp
  funext i; pointwise []

theorem V_w (c : Dev nD) : V m c main_v1 = (m ((c : Thread nD τ).loc main_arg1) : FVec Ideal S1024x512 .f32) := by
  show StableHlo.after _ _ _ = _
  simp only [hostOps0]
  after_results_simp
  funext i; pointwise []

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]; unfold outsAt0 out0_A_2; frame_out
  pointwise [k0_pay1, k0_pay2, G]
  refine congrArg (fun s : EReal => s * _) (Finset.sum_congr rfl fun k _ => Ideal.mul_congr ?_ ?_)
  · blk_simp [iblk]; rw [V_u]; blk_ext! [idx t]
  · blk_simp [iblk]; rw [V_w]; blk_ext! [idx t]

set_option maxHeartbeats 1000000 in
/-- The call and the reference leave the same arrays. -/
theorem algebraic : Cert.algebraic_XqFIdeal_XqFRefIdeal := by
  intro m g m' g' hpre hagree
  refine ⟨fun c => (dats m 0 c).arrAt 2 (cfgs 0).N, ?_, ?_⟩
  · run_from Cert.XqFIdeal.Value.run_blocks m g
  · run_from Cert.XqFRefIdeal.Value.run m' g'
    rw [final2]
    funext i
    idx_vars i
    pointwise [G]

/-- The reference runs, keeps its arguments and leaves no semaphore raised. -/
theorem frameRef : Cert.quiescent_XqFRefIdeal := fun m ρ _ =>
  (θ_run Cert.XqFRefIdeal.defs _ _).mono (fun r h => ⟨fun c => (h c).2, sem_eq_zero_of_no_sems (by decide) r.2⟩) (Cert.XqFRefIdeal.Value.run m ρ)

end Cert.XqFProof
-- ==== Proof.XattnFProof.lean ====
module

public import proofs.«01_k».proof.Defs
public import proofs.«01_k».proof.Proof.Gen.XattnFIdeal.Value
public import proofs.«01_k».proof.Proof.Gen.XattnFRefIdeal.Run
public import Idealize.ShloMosaic.Lib.Pipeline.ValueKit
public import Idealize.ShloMosaic.Lib.Pointwise
public import Idealize.ShloMosaic.Lib.Claim

/-! The memory attention. -/

@[expose] public section

set_option maxRecDepth 16384

noncomputable section

open Idealize.ShloMosaic Idealize.ShloMosaic.TcCoe Idealize.SL.Sem
open Idealize.ShloMosaic.Pipeline (Dat)

namespace Cert.XattnFProof

open Cert.XattnFIdeal Cert.XattnFIdeal.Gen

variable (m : (ℓ : Loc nD τ sig) → Buf (Elt Ideal) ℓ)

/-- Every window's block index at a point of the grid. -/
theorem idx : ∀ t : Fin cfg0.N, win0_0.index t = ![t.val, 0] ∧ win0_1.index t = ![0, 0] ∧ win0_2.index t = ![t.val, 0] :=
  (by decide +kernel : ∀ t : Fin grid0.N, _)

/-- A row's softmax of its scores. -/
def weight (s : Fin 256 → EReal) (k : Fin 256) : EReal :=
  Ideal.div (Ideal.exp (s k - Finset.fold max (Ideal.ofBits FTy.f32 4286578688#32) s Finset.univ))
    (∑ j, Ideal.exp (s j - Finset.fold max (Ideal.ofBits FTy.f32 4286578688#32) s Finset.univ))

/-- A row's weighted sum: the weights are the softmax of its scores. -/
def soft (s v : Fin 256 → EReal) : EReal := ∑ k, weight s k * v k

/-- What a head's store holds. -/
theorem stored (a : FVec Ideal S512x128 .bf16) (b v : FVec Ideal S256x128 .bf16) (y : S512x128.Idx) : (k0_pay2 a b v : FVec Ideal S512x128 .bf16) y
    = soft (fun k => ∑ d : Fin 128, a (ix2 (y 0) d) * b (ix2 k d)) (fun k => v (ix2 k (y 1))) := by
  pointwise [k0_pay2, soft, weight]

theorem stored1 (a : FVec Ideal S512x128 .bf16) (b v : FVec Ideal S256x128 .bf16) : (k0_pay5 (k0_pay3 a b) (k0_pay4 v) : FVec Ideal S512x128 .bf16) = k0_pay2 a b v := rfl
theorem stored2 (a : FVec Ideal S512x128 .bf16) (b v : FVec Ideal S256x128 .bf16) : (k0_pay6 a b v : FVec Ideal S512x128 .bf16) = k0_pay2 a b v := rfl
theorem stored3 (a : FVec Ideal S512x128 .bf16) (b v : FVec Ideal S256x128 .bf16) : (k0_pay1 (k0_pay7 a b) (k0_pay8 a b) v : FVec Ideal S512x128 .bf16) = k0_pay2 a b v := rfl

/-- The columns of a head, in the query and the keys, and in the values. -/
abbrev col (h : Fin 4) (d : Fin 128) : Fin 512 := ⟨h.val * 128 + d.val, by omega⟩
abbrev kcol (h : Fin 4) (d : Fin 128) : Fin 1024 := ⟨h.val * 128 + d.val, by omega⟩
abbrev vcol (h : Fin 4) (d : Fin 128) : Fin 1024 := ⟨512 + (h.val * 128 + d.val), by omega⟩

/-- The head of a column and the column in its head. -/
abbrev hd (j : Fin 512) : Fin 4 := ⟨j.val / 128, by omega⟩
abbrev ln (j : Fin 512) : Fin 128 := ⟨j.val % 128, by omega⟩

/-- A block of rows' attention. -/
def A (n : Nat) (q : (⟨2, ![n, 512]⟩ : Shape).Idx → EReal) (kv : S256x1024.Idx → EReal) (y : (⟨2, ![n, 512]⟩ : Shape).Idx) : EReal :=
  soft (fun k => ∑ d : Fin 128, q (ix2 (y 0) (col (hd (y 1)) d)) * kv (ix2 k (kcol (hd (y 1)) d))) (fun k => kv (ix2 k (vcol (hd (y 1)) (ln (y 1)))))

/-- One head's store is the block's attention there. -/
theorem piece (q : FVec Ideal S512x512 .bf16) (kv : FVec Ideal S256x1024 .bf16) (h : Fin 4) (o : ℕ) (ho : o = h.val * 128) (ov : ℕ) (hov : ov = 512 + h.val * 128)
    (i0 : ∀ a, (![0, o] : Fin 2 → ℕ) a + S512x128.size a ≤ S512x512.size a) (i1 : ∀ a, (![0, o] : Fin 2 → ℕ) a + S256x128.size a ≤ S256x1024.size a)
    (i2 : ∀ a, (![0, ov] : Fin 2 → ℕ) a + S256x128.size a ≤ S256x1024.size a) (x : S512x128.Idx) :
    (k0_pay2 (View.ld q (Rect.unit (s := S512x512) ![0, o] S512x128.size i0)) (View.ld kv (Rect.unit (s := S256x1024) ![0, o] S256x128.size i1))
      (View.ld kv (Rect.unit (s := S256x1024) ![0, ov] S256x128.size i2)) : FVec Ideal S512x128 .bf16) x
      = A 512 q kv ((Rect.unit (s := S512x512) ![0, o] S512x128.size i0).emb x) := by
  subst ho hov
  rw [stored]
  unfold A
  have h1 : (x 1).val < 128 := (x 1).isLt
  have e1 : (((Rect.unit (s := S512x512) ![0, h.val * 128] S512x128.size i0).emb x) 1).val = h.val * 128 + (x 1).val := by
    show h.val * 128 + 1 * (x 1).val = _
    omega
  have e0 : (((Rect.unit (s := S512x512) ![0, h.val * 128] S512x128.size i0).emb x) 0).val = (x 0).val := by
    show 0 + 1 * (x 0).val = _
    omega
  have eh : hd (((Rect.unit (s := S512x512) ![0, h.val * 128] S512x128.size i0).emb x) 1) = h := Fin.ext (by
    show _ / 128 = _
    rw [e1]; omega)
  have el : ln (((Rect.unit (s := S512x512) ![0, h.val * 128] S512x128.size i0).emb x) 1) = x 1 := Fin.ext (by
    show _ % 128 = _
    rw [e1]; omega)
  rw [eh, el]
  refine congrArg₂ soft (funext fun k => Finset.sum_congr rfl fun d _ => Ideal.mul_congr (congrArg q ?_) (congrArg kv ?_)) (funext fun k => congrArg kv ?_)
  all_goals
    funext a
    fin_cases a
    all_goals refine Fin.ext ?_
  · show 0 + 1 * (x 0).val = _
    exact (e0.symm ▸ by omega)
  · show h.val * 128 + 1 * d.val = h.val * 128 + d.val
    omega
  · show 0 + 1 * k.val = k.val
    omega
  · show h.val * 128 + 1 * d.val = h.val * 128 + d.val
    omega
  · show 0 + 1 * k.val = k.val
    omega
  · show 512 + h.val * 128 + 1 * (x 1).val = 512 + (h.val * 128 + (x 1).val)
    omega

/-- What a point leaves in the output's block. -/
theorem block (q : FVec Ideal S512x512 .bf16) (kv : FVec Ideal S256x1024 .bf16) (y : S512x512.Idx) : (out0_2 (F := Ideal) q kv : FVec Ideal S512x512 .bf16) y = A 512 q kv y := by
  unfold out0_2
  rw [stored1, stored2, stored3]
  refine View.canon_apply_of_pieces (Val := Elt Ideal) (A 512 q kv) _ ?_ y (cover0_2 _ _ _ _ y)
  intro p hp x
  simp only [List.mem_cons, List.not_mem_nil, or_false] at hp
  rcases hp with rfl | rfl | rfl | rfl
  · exact piece q kv 3 384 rfl 896 rfl _ _ _ x
  · exact piece q kv 2 256 rfl 768 rfl _ _ _ x
  · exact piece q kv 1 128 rfl 640 rfl _ _ _ x
  · exact piece q kv 0 0 rfl 512 rfl _ _ _ x

abbrev mq (c : Dev nD) : FVec Ideal S8192x512 .f32 := m ((c : Thread nD τ).loc main_arg0)
abbrev mkv (c : Dev nD) : FVec Ideal S256x1024 .f32 := m ((c : Thread nD τ).loc main_arg1)

theorem V_q (c : Dev nD) (i : S8192x512.Idx) :
    (V m c main_v2 : FVec Ideal S8192x512 .bf16) i = mq m c i * Ideal.ofBits FTy.f32 1035273459#32 := by
  simp only [V, List.flatten_cons, List.flatten_nil, List.append_nil, hostOps0, List.cons_append, List.nil_append]
  after_results_simp
  pointwise []

theorem V_kv (c : Dev nD) : V m c main_v3 = mkv m c := by
  simp only [V, List.flatten_cons, List.flatten_nil, List.append_nil, hostOps0, List.cons_append, List.nil_append]
  after_results_simp
  funext i; pointwise []

/-- The attention of all rows, over the scaled query. -/
def G (q : FVec Ideal S8192x512 .f32) (kv : FVec Ideal S256x1024 .f32) : FVec Ideal S8192x512 .bf16 :=
  A 8192 (fun i => q i * Ideal.ofBits FTy.f32 1035273459#32) kv

abbrev bq (c : Dev nD) (t : Fin cfg0.N) : FVec Ideal S512x512 .bf16 := iblk m c 0 t
abbrev bkv (c : Dev nD) (t : Fin cfg0.N) : FVec Ideal S256x1024 .bf16 := iblk m c 1 t

/-- A row of a point's, among all rows. -/
def R (t : Fin cfg0.N) (r : Fin 512) : Fin 8192 := ⟨t.val * 512 + r.val, by have : t.val < 16 := t.isLt; omega⟩

theorem q_block (c : Dev nD) (t : Fin cfg0.N) (r : Fin 512) (j : Fin 512) :
    bq m c t (ix2 r j) = mq m c (ix2 (R t r) j) * Ideal.ofBits FTy.f32 1035273459#32 := by
  blk_simp [bq, iblk]; rw [V_q]; refine congrArg (fun x : EReal => x * _) ?_; blk_ext [idx t, R]

theorem kv_block (c : Dev nD) (t : Fin cfg0.N) (k : Fin 256) (j : Fin 1024) :
    bkv m c t (ix2 k j) = mkv m c (ix2 k j) := by
  blk_simp [bkv, iblk]; rw [V_kv]; blk_ext [idx t]

theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t _ y => ?_
  blk_simp
  rw [after0_2]
  have e : (win0_2.blk t).view.emb y = ix2 (R t (y 0)) (y 1) := by
    blk_ext [idx t, R]
  refine (block (bq m c t) (bkv m c t) y).trans (Eq.trans ?_ (congrArg (G _ _) e.symm))
  unfold G A
  exact congrArg₂ soft (funext fun k => Finset.sum_congr rfl fun d _ => Ideal.mul_congr (q_block m c t _ _) (kv_block m c t _ _)) (funext fun k => kv_block m c t _ _)

end Cert.XattnFProof

namespace Cert.XattnFProof.Reference

open Cert.XattnFRefIdeal Cert.XattnFRefIdeal.Gen

/-- The greatest of a row of an array of any sizes, from the constant up. -/
theorem reduce_max_at {a b n : ℕ} (x : FVec Ideal ⟨3, ![a, b, n]⟩ .f32) (h' : (⟨3, ![a, b, n]⟩ : Shape).ReducesTo [2] ⟨2, ![a, b]⟩)
    (hu : 0 < (⟨0, ![]⟩ : Shape).numel) (i : Fin a) (j : Fin b) :
    Host.reduce FloatOps.maximumf x (constant (⟨0, ![]⟩ : Shape) .f32 0xFF800000#32) h' hu (ix2 i j)
      = Finset.fold max (Ideal.ofBits FTy.f32 4286578688#32) (fun k : Fin n => x (ix3 i j k)) Finset.univ := by
  have h : (⟨3, ![a, b, n]⟩ : Shape).Reduces [2] ⟨2, ![a, b]⟩ := ⟨h'.1, Nat.zero_lt_two, h'.2⟩
  rw [Host.reduce_eq_fold_single FloatOps.maximumf x _ h' h hu]
  have hf : (x ∘ h.lift (ix2 i j)) = fun k : Fin n => x (ix3 i j k) := funext fun k => congrArg x (by
    funext c; apply Fin.ext; fin_cases c <;> rfl)
  exact congrArg (fun f => Finset.fold max (Ideal.ofBits FTy.f32 4286578688#32) f (Finset.univ : Finset (Fin n))) hf

/-- The greatest score of each row. -/
def rowMax (s : FVec Ideal S4x8192x256 .f32) : FVec Ideal S4x8192 .f32 :=
  Host.reduce FloatOps.maximumf s (constant (F := Ideal) S_ .f32 0xFF800000#32) reducesTo_S4x8192x256_S4x8192_d2 h_S_

theorem rowMax_apply (s : FVec Ideal S4x8192x256 .f32) (h : Fin 4) (r : Fin 8192) :
    rowMax s (ix2 h r) = Finset.fold max (Ideal.ofBits FTy.f32 4286578688#32) (fun j : Fin 256 => s (ix3 h r j)) Finset.univ :=
  reduce_max_at s _ _ h r

/-- The same, not below the constant. -/
def raised (t : FVec Ideal S4x8192 .f32) : FVec Ideal S4x8192 .f32 :=
  maximumf (broadcastInDim S4x8192 ![] bcast_S_S4x8192 (constant (F := Ideal) S_ .f32 0xFF800000#32)) t

theorem raised_apply (t : FVec Ideal S4x8192 .f32) (i : S4x8192.Idx) : raised t i = max (Ideal.ofBits FTy.f32 4286578688#32) (t i) := rfl

theorem max_fold (f : Fin 256 → EReal) (b : EReal) : max b (Finset.fold max b f Finset.univ) = Finset.fold max b f Finset.univ :=
  max_eq_right ((Finset.le_fold_max _).2 (Or.inl le_rfl))

/-- A score's largest in each row. -/
def top (s : FVec Ideal S4x8192x256 .f32) : FVec Ideal S4x8192 .f32 := raised (rowMax s)

theorem top_apply (s : FVec Ideal S4x8192x256 .f32) (h : Fin 4) (r : Fin 8192) :
    top s (ix2 h r) = Finset.fold max (Ideal.ofBits FTy.f32 4286578688#32) (fun j : Fin 256 => s (ix3 h r j)) Finset.univ := by
  unfold top
  rw [raised_apply, rowMax_apply, max_fold]

/-- The scores' exponentials, less a row's number. -/
abbrev ex (s : FVec Ideal S4x8192x256 .f32) (t : FVec Ideal S4x8192 .f32) : FVec Ideal S4x8192x256 .f32 :=
  Host.exp (subf s (broadcastInDim S4x8192x256 ![0, 1, 2] bcast_S4x8192x1_S4x8192x256_0_1_2 (broadcastInDim S4x8192x1 ![0, 1] bcast_S4x8192_S4x8192x1_0_1 t)))

theorem ex_apply (s : FVec Ideal S4x8192x256 .f32) (t : FVec Ideal S4x8192 .f32) (h : Fin 4) (r : Fin 8192) (k : Fin 256) :
    ex s t (ix3 h r k) = Ideal.exp (s (ix3 h r k) - t (ix2 h r)) := by
  pointwise [ex]

/-- A row's numbers over their sum. -/
abbrev normed (e : FVec Ideal S4x8192x256 .f32) : FVec Ideal S4x8192x256 .f32 :=
  Host.divf e (broadcastInDim S4x8192x256 ![0, 1, 2] bcast_S4x8192x1_S4x8192x256_0_1_2 (broadcastInDim S4x8192x1 ![0, 1] bcast_S4x8192_S4x8192x1_0_1 (Host.reduceAdd e (constant (F := Ideal) S_ .f32 0x00000000#32) reducesTo_S4x8192x256_S4x8192_d2 h_S_)))

theorem normed_apply (e : FVec Ideal S4x8192x256 .f32) (h : Fin 4) (r : Fin 8192) (k : Fin 256) :
    normed e (ix3 h r k) = Ideal.div (e (ix3 h r k)) (∑ j : Fin 256, e (ix3 h r j)) := by
  pointwise [normed]

/-- The softmax of a score, as the reference computes it. -/
abbrev prob (s : FVec Ideal S4x8192x256 .f32) : FVec Ideal S4x8192x256 .f32 := normed (ex s (top s))

theorem prob_apply (s : FVec Ideal S4x8192x256 .f32) (h : Fin 4) (r : Fin 8192) (k : Fin 256) :
    prob s (ix3 h r k) = weight (fun j => s (ix3 h r j)) k := by
  refine (normed_apply (ex s (top s)) h r k).trans ?_
  have e : ∀ j : Fin 256, ex s (top s) (ix3 h r j) = Ideal.exp (s (ix3 h r j) - Finset.fold max (Ideal.ofBits FTy.f32 4286578688#32) (fun j : Fin 256 => s (ix3 h r j)) Finset.univ) :=
    fun j => (ex_apply s (top s) h r j).trans (congrArg (fun x : EReal => Ideal.exp (s (ix3 h r j) - x)) (top_apply s h r))
  exact congrArg₂ Ideal.div (e k) (Finset.sum_congr rfl fun j _ => e j)

/-- The scores. -/
abbrev score (q : FVec Ideal S8192x512 .f32) (kv : FVec Ideal S256x1024 .f32) : FVec Ideal S4x8192x256 .f32 :=
  Host.dotGeneral dot_S8192x4x128_S256x4x128_S4x8192x256_2_2_0_0_1_1 none (mulf (shapeCast S8192x4x128 q shapeCasts_S8192x512_S8192x4x128) (broadcastInDim S8192x4x128 ![] bcast_S_S8192x4x128 (constant (F := Ideal) S_ .f32 0x3DB504F3#32)))
    (shapeCast S256x4x128 (extractStridedSlice S256x1x4x128 ![0, 0, 0, 0] (shapeCast S256x2x4x128 kv shapeCasts_S256x1024_S256x2x4x128) slices_S256x2x4x128_S256x1x4x128_0_0_0_0) shapeCasts_S256x1x4x128_S256x4x128)

theorem score_apply (q : FVec Ideal S8192x512 .f32) (kv : FVec Ideal S256x1024 .f32) (h : Fin 4) (r : Fin 8192) (k : Fin 256) : score q kv (ix3 h r k)
    = ∑ d : Fin 128, (q (ix2 r (col h d)) * Ideal.ofBits FTy.f32 1035273459#32) * kv (ix2 k (kcol h d)) := by
  pointwise [score]

/-- The values weighted. -/
abbrev out (p : FVec Ideal S4x8192x256 .f32) (kv : FVec Ideal S256x1024 .f32) : FVec Ideal S8192x512 .bf16 :=
  truncf .bf16 (shapeCast S8192x512 (transpose S8192x4x128 [2, 0, 1] (Host.dotGeneral dot_S256x4x128_S4x8192x256_S4x128x8192_0_2_2_1_1_0 none
    (shapeCast S256x4x128 (extractStridedSlice S256x1x4x128 ![0, 1, 0, 0] (shapeCast S256x2x4x128 kv shapeCasts_S256x1024_S256x2x4x128) slices_S256x2x4x128_S256x1x4x128_0_1_0_0) shapeCasts_S256x1x4x128_S256x4x128) p) transposes_S4x128x8192_S8192x4x128_2_0_1) shapeCasts_S8192x4x128_S8192x512) bitsLt_bf16_f32

theorem swap {a b c d : EReal} (h : a = d) (h' : b = c) : a * b = c * d := by
  rw [h, h', EReal.mul_comm]

theorem out_apply (p : FVec Ideal S4x8192x256 .f32) (kv : FVec Ideal S256x1024 .f32) (r : Fin 8192) (j : Fin 512) : out p kv (ix2 r j)
    = ∑ k : Fin 256, p (ix3 (hd j) r k) * kv (ix2 k (vcol (hd j) (ln j))) := by
  pointwise [out]
  refine Finset.sum_congr rfl fun k _ => swap ?_ ?_
  · exact congrArg (fun c => kv (ix2 k c)) (Fin.ext (Nat.add_assoc _ _ _))
  · rfl

theorem at_rows {f g : FVec Ideal S8192x512 .bf16} (h : ∀ (r : Fin 8192) (j : Fin 512), f (ix2 r j) = g (ix2 r j)) : f = g := by
  funext y
  idx_vars y
  exact h _ _

theorem ref_value (q : FVec Ideal S8192x512 .f32) (kv : FVec Ideal S256x1024 .f32) : out (prob (score q kv)) kv = G q kv := by
  refine at_rows fun r j => ?_
  refine (out_apply (prob (score q kv)) kv r j).trans (Finset.sum_congr rfl fun k _ => Ideal.mul_congr ?_ rfl)
  exact (prob_apply (score q kv) (hd j) r k).trans (congrArg (fun f => weight f k) (funext fun i => score_apply q kv (hd j) r i))

end Cert.XattnFProof.Reference

namespace Cert.XattnFProof

open Cert.XattnFIdeal Cert.XattnFIdeal.Gen

set_option maxHeartbeats 1000000 in
/-- The call and the reference leave the same arrays. -/
theorem algebraic : Cert.algebraic_XattnFIdeal_XattnFRefIdeal := by
  intro m g m' g' hpre hagree
  refine ⟨fun c => (dats m 0 c).arrAt 2 (cfgs 0).N, ?_, ?_⟩
  · run_from Cert.XattnFIdeal.Value.run_blocks m g
  · refine (θ_run _ _ _).mono (fun r h c => ⟨?_, (h c).2⟩) (Cert.XattnFRefIdeal.Value.run m' g')
    refine ((h c).1).trans ((Reference.ref_value _ _).trans ?_)
    refine Eq.trans ?_ (final2 m c).symm
    exact congrArg₂ G (hagree c).1 (hagree c).2

/-- The reference runs, keeps its arguments and leaves no semaphore raised. -/
theorem frameRef : Cert.quiescent_XattnFRefIdeal := fun m ρ _ =>
  (θ_run Cert.XattnFRefIdeal.defs _ _).mono (fun r h => ⟨fun c => (h c).2, sem_eq_zero_of_no_sems (by decide) r.2⟩) (Cert.XattnFRefIdeal.Value.run m ρ)

end Cert.XattnFProof
-- ==== Proof.lean ====
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.On_merge_on
public import proofs.«01_k».proof.Proof.Gen.MergeIdeal.Value
public import proofs.«01_k».proof.Proof.Gen.MergeRefIdeal.Run
public import proofs.«01_k».proof.Proof.MergeProof
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Frame
public import proofs.«01_k».proof.Proof.Gen.FlashRefIdeal
public import proofs.«01_k».proof.Proof.Gen.FlashRefIdeal.Run
public import proofs.«01_k».proof.Proof.Gen.Pre_flash_finite
public import proofs.«01_k».proof.Proof.Gen.On_flash_on
public import proofs.«01_k».proof.Proof.FlashValue
public import proofs.«01_k».proof.Proof.FlashFProof
public import proofs.«01_k».proof.Proof.FlBits
public import proofs.«01_k».proof.Proof.Gen.Relu
public import proofs.«01_k».proof.Proof.Gen.Relu.Frame
public import proofs.«01_k».proof.Proof.Gen.ReluIdeal
public import proofs.«01_k».proof.Proof.Gen.ReluIdeal.Frame
public import proofs.«01_k».proof.Proof.Gen.ReluRefIdeal
public import proofs.«01_k».proof.Proof.Gen.ReluIdeal.Value
public import proofs.«01_k».proof.Proof.Gen.ReluRefIdeal.Run
public import proofs.«01_k».proof.Proof.ReluProof
public import proofs.«01_k».proof.Proof.Gen.MemN
public import proofs.«01_k».proof.Proof.Gen.MemN.Frame
public import proofs.«01_k».proof.Proof.Gen.MemNIdeal
public import proofs.«01_k».proof.Proof.Gen.MemNIdeal.Frame
public import proofs.«01_k».proof.Proof.Gen.MemNRefIdeal
public import proofs.«01_k».proof.Proof.Gen.MemNIdeal.Value
public import proofs.«01_k».proof.Proof.Gen.MemNRefIdeal.Run
public import proofs.«01_k».proof.Proof.MemNProof
public import proofs.«01_k».proof.Proof.Gen.FlashF
public import proofs.«01_k».proof.Proof.Gen.FlashF.Frame
public import proofs.«01_k».proof.Proof.Gen.FlashFIdeal
public import proofs.«01_k».proof.Proof.Gen.FlashFIdeal.Skeleton
public import proofs.«01_k».proof.Proof.Gen.FlashFIdeal.Loops
public import proofs.«01_k».proof.Proof.Gen.FlashFIdeal.Launch
public import proofs.«01_k».proof.Proof.Gen.FlashFIdeal.Points
public import proofs.«01_k».proof.Proof.Gen.FlashFIdeal.Frame
public import proofs.«01_k».proof.Proof.Gen.FlashFRefIdeal
public import proofs.«01_k».proof.Proof.Gen.FlashFRefIdeal.Run
public import proofs.«01_k».proof.Proof.Gen.Pre_flashf_finite
public import proofs.«01_k».proof.Proof.Gen.On_flashf_on
public import Idealize.ShloMosaic.Adequacy
public import Idealize.ShloMosaic.Init
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.Taps
public import proofs.«01_k».proof.Proof.Gen.Taps.Frame
public import proofs.«01_k».proof.Proof.Gen.TapsIdeal
public import proofs.«01_k».proof.Proof.Gen.TapsIdeal.Frame
public import proofs.«01_k».proof.Proof.Gen.ConvN
public import proofs.«01_k».proof.Proof.Gen.ConvN.Frame
public import proofs.«01_k».proof.Proof.Gen.ConvNIdeal
public import proofs.«01_k».proof.Proof.Gen.ConvNIdeal.Frame
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.LoraN
public import proofs.«01_k».proof.Proof.Gen.LoraN.Frame
public import proofs.«01_k».proof.Proof.Gen.LoraNIdeal
public import proofs.«01_k».proof.Proof.Gen.LoraNIdeal.Frame
public import proofs.«01_k».proof.Proof.Gen.MlaDo
public import proofs.«01_k».proof.Proof.Gen.MlaDo.Frame
public import proofs.«01_k».proof.Proof.Gen.MlaDoIdeal
public import proofs.«01_k».proof.Proof.Gen.MlaDoIdeal.Frame
public import proofs.«01_k».proof.Proof.Gen.MlpDx
public import proofs.«01_k».proof.Proof.Gen.MlpDx.Frame
public import proofs.«01_k».proof.Proof.Gen.MlpDxIdeal
public import proofs.«01_k».proof.Proof.Gen.MlpDxIdeal.Frame
public import proofs.«01_k».proof.Proof.Gen.XqDx
public import proofs.«01_k».proof.Proof.Gen.XqDx.Frame
public import proofs.«01_k».proof.Proof.Gen.XqDxIdeal
public import proofs.«01_k».proof.Proof.Gen.XqDxIdeal.Frame
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.RmsMix
public import proofs.«01_k».proof.Proof.Gen.RmsMix.Frame
public import proofs.«01_k».proof.Proof.Gen.RmsMixIdeal
public import proofs.«01_k».proof.Proof.Gen.RmsMixIdeal.Frame
public import proofs.«01_k».proof.Proof.Gen.RmsMixIdeal.Value
public import proofs.«01_k».proof.Proof.Gen.RmsMixRefIdeal
public import proofs.«01_k».proof.Proof.Gen.RmsMixRefIdeal.Run
public import proofs.«01_k».proof.Proof.RmsMixProof
public import proofs.«01_k».proof.Proof.Gen.MemF
public import proofs.«01_k».proof.Proof.Gen.MemF.Frame
public import proofs.«01_k».proof.Proof.Gen.MemFIdeal
public import proofs.«01_k».proof.Proof.Gen.MemFIdeal.Frame
public import proofs.«01_k».proof.Proof.Gen.MemFIdeal.Value
public import proofs.«01_k».proof.Proof.Gen.MemFRefIdeal
public import proofs.«01_k».proof.Proof.Gen.MemFRefIdeal.Run
public import proofs.«01_k».proof.Proof.MemFProof
public import proofs.«01_k».proof.Proof.Gen.LoraF
public import proofs.«01_k».proof.Proof.Gen.LoraF.Frame
public import proofs.«01_k».proof.Proof.Gen.LoraFIdeal
public import proofs.«01_k».proof.Proof.Gen.LoraFIdeal.Frame
public import proofs.«01_k».proof.Proof.Gen.LoraFIdeal.Value
public import proofs.«01_k».proof.Proof.Gen.LoraFRefIdeal
public import proofs.«01_k».proof.Proof.Gen.LoraFRefIdeal.Run
public import proofs.«01_k».proof.Proof.LoraFProof
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.MlpUpProof
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.MixOutProof
public import proofs.«01_k».proof.Proof.Gen.XOut
public import proofs.«01_k».proof.Proof.Gen.XOut.Frame
public import proofs.«01_k».proof.Proof.Gen.XOutIdeal
public import proofs.«01_k».proof.Proof.Gen.XOutIdeal.Frame
public import proofs.«01_k».proof.Proof.Gen.XOutIdeal.Value
public import proofs.«01_k».proof.Proof.Gen.XOutRefIdeal
public import proofs.«01_k».proof.Proof.Gen.XOutRefIdeal.Run
public import proofs.«01_k».proof.Proof.XOutProof
public import proofs.«01_k».proof.Proof.Gen.Gates
public import proofs.«01_k».proof.Proof.Gen.Gates.Frame
public import proofs.«01_k».proof.Proof.Gen.GatesIdeal
public import proofs.«01_k».proof.Proof.Gen.GatesIdeal.Frame
public import proofs.«01_k».proof.Proof.Gen.GatesIdeal.Value
public import proofs.«01_k».proof.Proof.Gen.GatesRefIdeal
public import proofs.«01_k».proof.Proof.Gen.GatesRefIdeal.Run
public import proofs.«01_k».proof.Proof.GatesProof
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.GluProof
public import proofs.«01_k».proof.Proof.Gen.XqF
public import proofs.«01_k».proof.Proof.Gen.XqF.Frame
public import proofs.«01_k».proof.Proof.Gen.XqFIdeal
public import proofs.«01_k».proof.Proof.Gen.XqFIdeal.Frame
public import proofs.«01_k».proof.Proof.Gen.XqFIdeal.Value
public import proofs.«01_k».proof.Proof.Gen.XqFRefIdeal
public import proofs.«01_k».proof.Proof.Gen.XqFRefIdeal.Run
public import proofs.«01_k».proof.Proof.XqFProof
public import proofs.«01_k».proof.Proof.Gen.XattnF
public import proofs.«01_k».proof.Proof.Gen.XattnF.Frame
public import proofs.«01_k».proof.Proof.Gen.XattnFIdeal
public import proofs.«01_k».proof.Proof.Gen.XattnFIdeal.Frame
public import proofs.«01_k».proof.Proof.Gen.XattnFIdeal.Value
public import proofs.«01_k».proof.Proof.Gen.XattnFRefIdeal
public import proofs.«01_k».proof.Proof.Gen.XattnFRefIdeal.Run
public import proofs.«01_k».proof.Proof.XattnFProof

@[expose] public section

set_option maxRecDepth 16384

noncomputable section

/-! Every claim, from the modules that prove them. -/

namespace Cert.Proof

open Idealize.ShloMosaic Idealize.SL.Sem

theorem claim : Cert.Claim := ⟨
  Cert.Flash.Gen.facts, Cert.FlashIdeal.Gen.facts, Cert.FlashRefIdeal.Gen.facts, Cert.Merge.Gen.facts, Cert.MergeIdeal.Gen.facts,
  Cert.MergeRefIdeal.Gen.facts, Cert.Relu.Gen.facts, Cert.ReluIdeal.Gen.facts, Cert.ReluRefIdeal.Gen.facts, Cert.MemN.Gen.facts,
  Cert.MemNIdeal.Gen.facts, Cert.MemNRefIdeal.Gen.facts, Cert.FlashF.Gen.facts, Cert.FlashFIdeal.Gen.facts, Cert.FlashFRefIdeal.Gen.facts,
  Cert.Xattn.Gen.facts, Cert.XattnIdeal.Gen.facts, Cert.Taps.Gen.facts, Cert.TapsIdeal.Gen.facts, Cert.ConvN.Gen.facts, Cert.ConvNIdeal.Gen.facts,
  Cert.Rope.Gen.facts, Cert.RopeIdeal.Gen.facts, Cert.LoraN.Gen.facts, Cert.LoraNIdeal.Gen.facts, Cert.MlaDo.Gen.facts, Cert.MlaDoIdeal.Gen.facts,
  Cert.MlpDx.Gen.facts, Cert.MlpDxIdeal.Gen.facts, Cert.XqDx.Gen.facts, Cert.XqDxIdeal.Gen.facts, Cert.ProjDx.Gen.facts, Cert.ProjDxIdeal.Gen.facts,
  Cert.Loss.Gen.facts, Cert.LossIdeal.Gen.facts, Cert.RmsMix.Gen.facts, Cert.RmsMixIdeal.Gen.facts, Cert.RmsMixRefIdeal.Gen.facts, Cert.MemF.Gen.facts,
  Cert.MemFIdeal.Gen.facts, Cert.MemFRefIdeal.Gen.facts, Cert.LoraF.Gen.facts, Cert.LoraFIdeal.Gen.facts, Cert.LoraFRefIdeal.Gen.facts,
  Cert.MlpUp.Gen.facts, Cert.MlpUpIdeal.Gen.facts, Cert.MlpUpRefIdeal.Gen.facts, Cert.MixOut.Gen.facts, Cert.MixOutIdeal.Gen.facts,
  Cert.MixOutRefIdeal.Gen.facts, Cert.XOut.Gen.facts, Cert.XOutIdeal.Gen.facts, Cert.XOutRefIdeal.Gen.facts, Cert.Gates.Gen.facts,
  Cert.GatesIdeal.Gen.facts, Cert.GatesRefIdeal.Gen.facts, Cert.Glu.Gen.facts, Cert.GluIdeal.Gen.facts, Cert.GluRefIdeal.Gen.facts, Cert.XqF.Gen.facts,
  Cert.XqFIdeal.Gen.facts, Cert.XqFRefIdeal.Gen.facts, Cert.XattnF.Gen.facts, Cert.XattnFIdeal.Gen.facts, Cert.XattnFRefIdeal.Gen.facts,
  Cert.Pre_flash_finite.Gen.facts, Cert.Pre_flashf_finite.Gen.facts, Cert.On_flash_on.Gen.facts, Cert.On_merge_on.Gen.facts,
  Cert.On_flashf_on.Gen.facts, fun m ρ _ => Cert.Flash.Hand.frame m ρ, fun m ρ _ => Cert.FlashIdeal.Hand.frame m ρ,
  fun m ρ _ => Cert.FlashIdeal.Hand.frame m ρ, Cert.FlashValue.frameRef, fun m ρ _ => Cert.FlashValue.frameRef m ρ trivial,
  fun m ρ _ => Cert.Merge.Gen.frame m ρ, fun m ρ _ => Cert.MergeIdeal.Gen.frame m ρ, Cert.MergeProof.frameRef, fun m ρ _ => Cert.Relu.Gen.frame m ρ,
  fun m ρ _ => Cert.ReluIdeal.Gen.frame m ρ, Cert.ReluProof.frameRef, fun m ρ _ => Cert.MemN.Gen.frame m ρ, fun m ρ _ => Cert.MemNIdeal.Gen.frame m ρ,
  Cert.MemNProof.frameRef, fun m ρ _ => Cert.FlashF.Gen.frame m ρ, fun m ρ _ => Cert.FlashFIdeal.Gen.frame m ρ,
  fun m ρ _ => Cert.FlashFIdeal.Gen.frame m ρ, Cert.FlashFProof.frameRef, fun m ρ _ => Cert.FlashFProof.frameRef m ρ trivial,
  fun m ρ _ => Cert.Xattn.Gen.frame m ρ, fun m ρ _ => Cert.XattnIdeal.Gen.frame m ρ, fun m ρ _ => Cert.Taps.Gen.frame m ρ,
  fun m ρ _ => Cert.TapsIdeal.Gen.frame m ρ, fun m ρ _ => Cert.ConvN.Gen.frame m ρ, fun m ρ _ => Cert.ConvNIdeal.Gen.frame m ρ,
  fun m ρ _ => Cert.Rope.Gen.frame m ρ, fun m ρ _ => Cert.RopeIdeal.Gen.frame m ρ, fun m ρ _ => Cert.LoraN.Gen.frame m ρ,
  fun m ρ _ => Cert.LoraNIdeal.Gen.frame m ρ, fun m ρ _ => Cert.MlaDo.Gen.frame m ρ, fun m ρ _ => Cert.MlaDoIdeal.Gen.frame m ρ,
  fun m ρ _ => Cert.MlpDx.Gen.frame m ρ, fun m ρ _ => Cert.MlpDxIdeal.Gen.frame m ρ, fun m ρ _ => Cert.XqDx.Gen.frame m ρ,
  fun m ρ _ => Cert.XqDxIdeal.Gen.frame m ρ, fun m ρ _ => Cert.ProjDx.Gen.frame m ρ, fun m ρ _ => Cert.ProjDxIdeal.Gen.frame m ρ,
  fun m ρ _ => Cert.Loss.Gen.frame m ρ, fun m ρ _ => Cert.LossIdeal.Gen.frame m ρ, fun m ρ _ => Cert.RmsMix.Gen.frame m ρ,
  fun m ρ _ => Cert.RmsMixIdeal.Gen.frame m ρ, Cert.RmsMixProof.frameRef, fun m ρ _ => Cert.MemF.Gen.frame m ρ,
  fun m ρ _ => Cert.MemFIdeal.Gen.frame m ρ, Cert.MemFProof.frameRef, fun m ρ _ => Cert.LoraF.Gen.frame m ρ,
  fun m ρ _ => Cert.LoraFIdeal.Gen.frame m ρ, Cert.LoraFProof.frameRef, fun m ρ _ => Cert.MlpUp.Gen.frame m ρ,
  fun m ρ _ => Cert.MlpUpIdeal.Gen.frame m ρ, Cert.MlpUpProof.frameRef, fun m ρ _ => Cert.MixOut.Gen.frame m ρ,
  fun m ρ _ => Cert.MixOutIdeal.Gen.frame m ρ, Cert.MixOutProof.frameRef, fun m ρ _ => Cert.XOut.Gen.frame m ρ,
  fun m ρ _ => Cert.XOutIdeal.Gen.frame m ρ, Cert.XOutProof.frameRef, fun m ρ _ => Cert.Gates.Gen.frame m ρ,
  fun m ρ _ => Cert.GatesIdeal.Gen.frame m ρ, Cert.GatesProof.frameRef, fun m ρ _ => Cert.Glu.Gen.frame m ρ, fun m ρ _ => Cert.GluIdeal.Gen.frame m ρ,
  Cert.GluProof.frameRef, fun m ρ _ => Cert.XqF.Gen.frame m ρ, fun m ρ _ => Cert.XqFIdeal.Gen.frame m ρ, Cert.XqFProof.frameRef,
  fun m ρ _ => Cert.XattnF.Gen.frame m ρ, fun m ρ _ => Cert.XattnFIdeal.Gen.frame m ρ, Cert.XattnFProof.frameRef, Cert.FlashValue.preserves,
  Cert.FlashValue.algebraic, trivial, Cert.MergeProof.algebraic, trivial, Cert.ReluProof.algebraic, trivial, Cert.MemNProof.algebraic,
  Cert.FlashFProof.preserves, Cert.FlashFProof.algebraic, trivial, trivial, trivial, trivial, trivial, trivial, trivial, trivial, trivial, trivial,
  trivial, Cert.RmsMixProof.algebraic, trivial, Cert.MemFProof.algebraic, trivial, Cert.LoraFProof.algebraic, trivial, Cert.MlpUpProof.algebraic,
  trivial, Cert.MixOutProof.algebraic, trivial, Cert.XOutProof.algebraic, trivial, Cert.GatesProof.algebraic, trivial, Cert.GluProof.algebraic,
  trivial, Cert.XqFProof.algebraic, trivial, Cert.XattnFProof.algebraic⟩

end Cert.Proof

end
